-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_KernelUp (m : (ℓ : Loc Cert.KernelUp.nD Cert.KernelUp.τ Cert.KernelUp.sig) → Buf (Elt Bits) ℓ) : Prop :=
  True

def Pre_KernelUpIdeal (m : (ℓ : Loc Cert.KernelUpIdeal.nD Cert.KernelUpIdeal.τ Cert.KernelUpIdeal.sig) → Buf (Elt Ideal) ℓ) : Prop :=
  True

def Pre_ReferenceUpIdeal (m : (ℓ : Loc Cert.ReferenceUpIdeal.nD Cert.ReferenceUpIdeal.τ Cert.ReferenceUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelSq (m : (ℓ : Loc Cert.KernelSq.nD Cert.KernelSq.τ Cert.KernelSq.sig) → Buf (Elt Bits) ℓ) : Prop :=
  True

def Pre_KernelSqIdeal (m : (ℓ : Loc Cert.KernelSqIdeal.nD Cert.KernelSqIdeal.τ Cert.KernelSqIdeal.sig) → Buf (Elt Ideal) ℓ) : Prop :=
  True

def Pre_ReferenceSqIdeal (m : (ℓ : Loc Cert.ReferenceSqIdeal.nD Cert.ReferenceSqIdeal.τ Cert.ReferenceSqIdeal.sig) → Buf (Elt Ideal) ℓ) : Prop :=
  True

def Pre_KernelWin (m : (ℓ : Loc Cert.KernelWin.nD Cert.KernelWin.τ Cert.KernelWin.sig) → Buf (Elt Bits) ℓ) : Prop :=
  True

def Pre_KernelWinIdeal (m : (ℓ : Loc Cert.KernelWinIdeal.nD Cert.KernelWinIdeal.τ Cert.KernelWinIdeal.sig) → Buf (Elt Ideal) ℓ) : Prop :=
  True

def Pre_ReferenceWinIdeal (m : (ℓ : Loc Cert.ReferenceWinIdeal.nD Cert.ReferenceWinIdeal.τ Cert.ReferenceWinIdeal.sig) → Buf (Elt Ideal) ℓ) : Prop :=
  True

def Pre_KernelKv (m : (ℓ : Loc Cert.KernelKv.nD Cert.KernelKv.τ Cert.KernelKv.sig) → Buf (Elt Bits) ℓ) : Prop :=
  True

def Pre_KernelKvIdeal (m : (ℓ : Loc Cert.KernelKvIdeal.nD Cert.KernelKvIdeal.τ Cert.KernelKvIdeal.sig) → Buf (Elt Ideal) ℓ) : Prop :=
  True

def Pre_ReferenceKvIdeal (m : (ℓ : Loc Cert.ReferenceKvIdeal.nD Cert.ReferenceKvIdeal.τ Cert.ReferenceKvIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelFf (m : (ℓ : Loc Cert.KernelFf.nD Cert.KernelFf.τ Cert.KernelFf.sig) → Buf (Elt Bits) ℓ) : Prop :=
  True

def Pre_KernelFfIdeal (m : (ℓ : Loc Cert.KernelFfIdeal.nD Cert.KernelFfIdeal.τ Cert.KernelFfIdeal.sig) → Buf (Elt Ideal) ℓ) : Prop :=
  True

def Pre_ReferenceFfIdeal (m : (ℓ : Loc Cert.ReferenceFfIdeal.nD Cert.ReferenceFfIdeal.τ Cert.ReferenceFfIdeal.sig) → Buf (Elt Ideal) ℓ) : Prop :=
  True

def Pre_KernelLn (m : (ℓ : Loc Cert.KernelLn.nD Cert.KernelLn.τ Cert.KernelLn.sig) → Buf (Elt Bits) ℓ) : Prop :=
  True

def Pre_KernelLnIdeal (m : (ℓ : Loc Cert.KernelLnIdeal.nD Cert.KernelLnIdeal.τ Cert.KernelLnIdeal.sig) → Buf (Elt Ideal) ℓ) : Prop :=
  True

def Pre_ReferenceLnIdeal (m : (ℓ : Loc Cert.ReferenceLnIdeal.nD Cert.ReferenceLnIdeal.τ Cert.ReferenceLnIdeal.sig) → Buf (Elt Ideal) ℓ) : Prop :=
  True

def Pre_KernelMb (m : (ℓ : Loc Cert.KernelMb.nD Cert.KernelMb.τ Cert.KernelMb.sig) → Buf (Elt Bits) ℓ) : Prop :=
  True

def Pre_KernelMbIdeal (m : (ℓ : Loc Cert.KernelMbIdeal.nD Cert.KernelMbIdeal.τ Cert.KernelMbIdeal.sig) → Buf (Elt Ideal) ℓ) : Prop :=
  True

def Pre_KernelMbIdeal_finite_mb [hPre_finite_mb : Cert.Pre_finite_mb.Facts] (m : (ℓ : Loc Cert.KernelMbIdeal.nD Cert.KernelMbIdeal.τ Cert.KernelMbIdeal.sig) → Buf (Elt Ideal) ℓ) : Prop :=
  ∀ c : Dev Cert.KernelMbIdeal.nD,
    (Cert.Pre_finite_mb.fn (F := Ideal) (m ((c.tc : Thread Cert.KernelMbIdeal.nD Cert.KernelMbIdeal.τ).loc Cert.KernelMbIdeal.main_arg0)) (m ((c.tc : Thread Cert.KernelMbIdeal.nD Cert.KernelMbIdeal.τ).loc Cert.KernelMbIdeal.main_arg1)) (m ((c.tc : Thread Cert.KernelMbIdeal.nD Cert.KernelMbIdeal.τ).loc Cert.KernelMbIdeal.main_arg2)) (m ((c.tc : Thread Cert.KernelMbIdeal.nD Cert.KernelMbIdeal.τ).loc Cert.KernelMbIdeal.main_arg3)) (m ((c.tc : Thread Cert.KernelMbIdeal.nD Cert.KernelMbIdeal.τ).loc Cert.KernelMbIdeal.main_arg4))) = (fun _ => 1#1)

def Pre_ReferenceMbIdeal (m : (ℓ : Loc Cert.ReferenceMbIdeal.nD Cert.ReferenceMbIdeal.τ Cert.ReferenceMbIdeal.sig) → Buf (Elt Ideal) ℓ) : Prop :=
  True

def Pre_ReferenceMbIdeal_finite_mb [hPre_finite_mb : Cert.Pre_finite_mb.Facts] (m : (ℓ : Loc Cert.ReferenceMbIdeal.nD Cert.ReferenceMbIdeal.τ Cert.ReferenceMbIdeal.sig) → Buf (Elt Ideal) ℓ) : Prop :=
  ∀ c : Dev Cert.ReferenceMbIdeal.nD,
    (Cert.Pre_finite_mb.fn (F := Ideal) (m ((c.tc : Thread Cert.ReferenceMbIdeal.nD Cert.ReferenceMbIdeal.τ).loc Cert.ReferenceMbIdeal.main_arg0)) (m ((c.tc : Thread Cert.ReferenceMbIdeal.nD Cert.ReferenceMbIdeal.τ).loc Cert.ReferenceMbIdeal.main_arg1)) (m ((c.tc : Thread Cert.ReferenceMbIdeal.nD Cert.ReferenceMbIdeal.τ).loc Cert.ReferenceMbIdeal.main_arg2)) (m ((c.tc : Thread Cert.ReferenceMbIdeal.nD Cert.ReferenceMbIdeal.τ).loc Cert.ReferenceMbIdeal.main_arg3)) (m ((c.tc : Thread Cert.ReferenceMbIdeal.nD Cert.ReferenceMbIdeal.τ).loc Cert.ReferenceMbIdeal.main_arg4))) = (fun _ => 1#1)

def Pre_KernelMc (m : (ℓ : Loc Cert.KernelMc.nD Cert.KernelMc.τ Cert.KernelMc.sig) → Buf (Elt Bits) ℓ) : Prop :=
  True

def Pre_KernelMcIdeal (m : (ℓ : Loc Cert.KernelMcIdeal.nD Cert.KernelMcIdeal.τ Cert.KernelMcIdeal.sig) → Buf (Elt Ideal) ℓ) : Prop :=
  True

def Pre_KernelMcIdeal_finite_mc [hPre_finite_mc : Cert.Pre_finite_mc.Facts] (m : (ℓ : Loc Cert.KernelMcIdeal.nD Cert.KernelMcIdeal.τ Cert.KernelMcIdeal.sig) → Buf (Elt Ideal) ℓ) : Prop :=
  ∀ c : Dev Cert.KernelMcIdeal.nD,
    (Cert.Pre_finite_mc.fn (F := Ideal) (m ((c.tc : Thread Cert.KernelMcIdeal.nD Cert.KernelMcIdeal.τ).loc Cert.KernelMcIdeal.main_arg0)) (m ((c.tc : Thread Cert.KernelMcIdeal.nD Cert.KernelMcIdeal.τ).loc Cert.KernelMcIdeal.main_arg1)) (m ((c.tc : Thread Cert.KernelMcIdeal.nD Cert.KernelMcIdeal.τ).loc Cert.KernelMcIdeal.main_arg2)) (m ((c.tc : Thread Cert.KernelMcIdeal.nD Cert.KernelMcIdeal.τ).loc Cert.KernelMcIdeal.main_arg3)) (m ((c.tc : Thread Cert.KernelMcIdeal.nD Cert.KernelMcIdeal.τ).loc Cert.KernelMcIdeal.main_arg4)) (m ((c.tc : Thread Cert.KernelMcIdeal.nD Cert.KernelMcIdeal.τ).loc Cert.KernelMcIdeal.main_arg5))) = (fun _ => 1#1)

def Pre_ReferenceMcIdeal (m : (ℓ : Loc Cert.ReferenceMcIdeal.nD Cert.ReferenceMcIdeal.τ Cert.ReferenceMcIdeal.sig) → Buf (Elt Ideal) ℓ) : Prop :=
  True

def Pre_ReferenceMcIdeal_finite_mc [hPre_finite_mc : Cert.Pre_finite_mc.Facts] (m : (ℓ : Loc Cert.ReferenceMcIdeal.nD Cert.ReferenceMcIdeal.τ Cert.ReferenceMcIdeal.sig) → Buf (Elt Ideal) ℓ) : Prop :=
  ∀ c : Dev Cert.ReferenceMcIdeal.nD,
    (Cert.Pre_finite_mc.fn (F := Ideal) (m ((c.tc : Thread Cert.ReferenceMcIdeal.nD Cert.ReferenceMcIdeal.τ).loc Cert.ReferenceMcIdeal.main_arg0)) (m ((c.tc : Thread Cert.ReferenceMcIdeal.nD Cert.ReferenceMcIdeal.τ).loc Cert.ReferenceMcIdeal.main_arg1)) (m ((c.tc : Thread Cert.ReferenceMcIdeal.nD Cert.ReferenceMcIdeal.τ).loc Cert.ReferenceMcIdeal.main_arg2)) (m ((c.tc : Thread Cert.ReferenceMcIdeal.nD Cert.ReferenceMcIdeal.τ).loc Cert.ReferenceMcIdeal.main_arg3)) (m ((c.tc : Thread Cert.ReferenceMcIdeal.nD Cert.ReferenceMcIdeal.τ).loc Cert.ReferenceMcIdeal.main_arg4)) (m ((c.tc : Thread Cert.ReferenceMcIdeal.nD Cert.ReferenceMcIdeal.τ).loc Cert.ReferenceMcIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_KernelUp [hKernelUp : Cert.KernelUp.Facts] : Prop :=
  ∀ (m : (ℓ : Loc Cert.KernelUp.nD Cert.KernelUp.τ Cert.KernelUp.sig) → Buf (Elt Bits) ℓ) (g : Dev Cert.KernelUp.nD → PrngReg), Pre_KernelUp m →
    θ_run (Cert.KernelUp.defs (F := Bits)) (onTc (τ := Cert.KernelUp.τ) (Cert.KernelUp.main (F := Bits))) ⟨m, fun _ => 0, g⟩ (fun r => (∀ c : Dev Cert.KernelUp.nD,
      r.2.mem ((c.tc : Thread Cert.KernelUp.nD Cert.KernelUp.τ).loc Cert.KernelUp.main_arg0) = m ((c.tc : Thread Cert.KernelUp.nD Cert.KernelUp.τ).loc Cert.KernelUp.main_arg0)
      ∧ r.2.mem ((c.tc : Thread Cert.KernelUp.nD Cert.KernelUp.τ).loc Cert.KernelUp.main_arg1) = m ((c.tc : Thread Cert.KernelUp.nD Cert.KernelUp.τ).loc Cert.KernelUp.main_arg1))
      ∧ r.2.sem = fun _ => 0)

def quiescent_KernelUpIdeal [hKernelUpIdeal : Cert.KernelUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg), Pre_KernelUpIdeal m →
    θ_run (Cert.KernelUpIdeal.defs (F := Ideal)) (onTc (τ := Cert.KernelUpIdeal.τ) (Cert.KernelUpIdeal.main (F := Ideal))) ⟨m, fun _ => 0, g⟩ (fun r => (∀ c : Dev Cert.KernelUpIdeal.nD,
      r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
      ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ r.2.sem = fun _ => 0)

def quiescent_ReferenceUpIdeal [hReferenceUpIdeal : Cert.ReferenceUpIdeal.Facts] : Prop :=
  ∀ (m : (ℓ : Loc Cert.ReferenceUpIdeal.nD Cert.ReferenceUpIdeal.τ Cert.ReferenceUpIdeal.sig) → Buf (Elt Ideal) ℓ) (g : Dev Cert.ReferenceUpIdeal.nD → PrngReg), Pre_ReferenceUpIdeal m →
    θ_run (Cert.ReferenceUpIdeal.defs (F := Ideal)) (onTc (τ := Cert.ReferenceUpIdeal.τ) (Cert.ReferenceUpIdeal.main (F := Ideal))) ⟨m, fun _ => 0, g⟩ (fun r => (∀ c : Dev Cert.ReferenceUpIdeal.nD,
      r.2.mem ((c.tc : Thread Cert.ReferenceUpIdeal.nD Cert.ReferenceUpIdeal.τ).loc Cert.ReferenceUpIdeal.main_arg0) = m ((c.tc : Thread Cert.ReferenceUpIdeal.nD Cert.ReferenceUpIdeal.τ).loc Cert.ReferenceUpIdeal.main_arg0)
      ∧ r.2.mem ((c.tc : Thread Cert.ReferenceUpIdeal.nD Cert.ReferenceUpIdeal.τ).loc Cert.ReferenceUpIdeal.main_arg1) = m ((c.tc : Thread Cert.ReferenceUpIdeal.nD Cert.ReferenceUpIdeal.τ).loc Cert.ReferenceUpIdeal.main_arg1))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelSq [hKernelSq : Cert.KernelSq.Facts] : Prop :=
  ∀ (m : (ℓ : Loc Cert.KernelSq.nD Cert.KernelSq.τ Cert.KernelSq.sig) → Buf (Elt Bits) ℓ) (g : Dev Cert.KernelSq.nD → PrngReg), Pre_KernelSq m →
    θ_run (Cert.KernelSq.defs (F := Bits)) (onTc (τ := Cert.KernelSq.τ) (Cert.KernelSq.main (F := Bits))) ⟨m, fun _ => 0, g⟩ (fun r => (∀ c : Dev Cert.KernelSq.nD,
      r.2.mem ((c.tc : Thread Cert.KernelSq.nD Cert.KernelSq.τ).loc Cert.KernelSq.main_arg0) = m ((c.tc : Thread Cert.KernelSq.nD Cert.KernelSq.τ).loc Cert.KernelSq.main_arg0)
      ∧ r.2.mem ((c.tc : Thread Cert.KernelSq.nD Cert.KernelSq.τ).loc Cert.KernelSq.main_arg1) = m ((c.tc : Thread Cert.KernelSq.nD Cert.KernelSq.τ).loc Cert.KernelSq.main_arg1))
      ∧ r.2.sem = fun _ => 0)

def quiescent_KernelSqIdeal [hKernelSqIdeal : Cert.KernelSqIdeal.Facts] : Prop :=
  ∀ (m : (ℓ : Loc Cert.KernelSqIdeal.nD Cert.KernelSqIdeal.τ Cert.KernelSqIdeal.sig) → Buf (Elt Ideal) ℓ) (g : Dev Cert.KernelSqIdeal.nD → PrngReg), Pre_KernelSqIdeal m →
    θ_run (Cert.KernelSqIdeal.defs (F := Ideal)) (onTc (τ := Cert.KernelSqIdeal.τ) (Cert.KernelSqIdeal.main (F := Ideal))) ⟨m, fun _ => 0, g⟩ (fun r => (∀ c : Dev Cert.KernelSqIdeal.nD,
      r.2.mem ((c.tc : Thread Cert.KernelSqIdeal.nD Cert.KernelSqIdeal.τ).loc Cert.KernelSqIdeal.main_arg0) = m ((c.tc : Thread Cert.KernelSqIdeal.nD Cert.KernelSqIdeal.τ).loc Cert.KernelSqIdeal.main_arg0)
      ∧ r.2.mem ((c.tc : Thread Cert.KernelSqIdeal.nD Cert.KernelSqIdeal.τ).loc Cert.KernelSqIdeal.main_arg1) = m ((c.tc : Thread Cert.KernelSqIdeal.nD Cert.KernelSqIdeal.τ).loc Cert.KernelSqIdeal.main_arg1))
      ∧ r.2.sem = fun _ => 0)

def quiescent_ReferenceSqIdeal [hReferenceSqIdeal : Cert.ReferenceSqIdeal.Facts] : Prop :=
  ∀ (m : (ℓ : Loc Cert.ReferenceSqIdeal.nD Cert.ReferenceSqIdeal.τ Cert.ReferenceSqIdeal.sig) → Buf (Elt Ideal) ℓ) (g : Dev Cert.ReferenceSqIdeal.nD → PrngReg), Pre_ReferenceSqIdeal m →
    θ_run (Cert.ReferenceSqIdeal.defs (F := Ideal)) (onTc (τ := Cert.ReferenceSqIdeal.τ) (Cert.ReferenceSqIdeal.main (F := Ideal))) ⟨m, fun _ => 0, g⟩ (fun r => (∀ c : Dev Cert.ReferenceSqIdeal.nD,
      r.2.mem ((c.tc : Thread Cert.ReferenceSqIdeal.nD Cert.ReferenceSqIdeal.τ).loc Cert.ReferenceSqIdeal.main_arg0) = m ((c.tc : Thread Cert.ReferenceSqIdeal.nD Cert.ReferenceSqIdeal.τ).loc Cert.ReferenceSqIdeal.main_arg0)
      ∧ r.2.mem ((c.tc : Thread Cert.ReferenceSqIdeal.nD Cert.ReferenceSqIdeal.τ).loc Cert.ReferenceSqIdeal.main_arg1) = m ((c.tc : Thread Cert.ReferenceSqIdeal.nD Cert.ReferenceSqIdeal.τ).loc Cert.ReferenceSqIdeal.main_arg1))
      ∧ r.2.sem = fun _ => 0)

def quiescent_KernelWin [hKernelWin : Cert.KernelWin.Facts] : Prop :=
  ∀ (m : (ℓ : Loc Cert.KernelWin.nD Cert.KernelWin.τ Cert.KernelWin.sig) → Buf (Elt Bits) ℓ) (g : Dev Cert.KernelWin.nD → PrngReg), Pre_KernelWin m →
    θ_run (Cert.KernelWin.defs (F := Bits)) (onTc (τ := Cert.KernelWin.τ) (Cert.KernelWin.main (F := Bits))) ⟨m, fun _ => 0, g⟩ (fun r => (∀ c : Dev Cert.KernelWin.nD,
      r.2.mem ((c.tc : Thread Cert.KernelWin.nD Cert.KernelWin.τ).loc Cert.KernelWin.main_arg0) = m ((c.tc : Thread Cert.KernelWin.nD Cert.KernelWin.τ).loc Cert.KernelWin.main_arg0)
      ∧ r.2.mem ((c.tc : Thread Cert.KernelWin.nD Cert.KernelWin.τ).loc Cert.KernelWin.main_arg1) = m ((c.tc : Thread Cert.KernelWin.nD Cert.KernelWin.τ).loc Cert.KernelWin.main_arg1))
      ∧ r.2.sem = fun _ => 0)

def quiescent_KernelWinIdeal [hKernelWinIdeal : Cert.KernelWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg), Pre_KernelWinIdeal m →
    θ_run (Cert.KernelWinIdeal.defs (F := Ideal)) (onTc (τ := Cert.KernelWinIdeal.τ) (Cert.KernelWinIdeal.main (F := Ideal))) ⟨m, fun _ => 0, g⟩ (fun r => (∀ c : Dev Cert.KernelWinIdeal.nD,
      r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
      ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ r.2.sem = fun _ => 0)

def quiescent_ReferenceWinIdeal [hReferenceWinIdeal : Cert.ReferenceWinIdeal.Facts] : Prop :=
  ∀ (m : (ℓ : Loc Cert.ReferenceWinIdeal.nD Cert.ReferenceWinIdeal.τ Cert.ReferenceWinIdeal.sig) → Buf (Elt Ideal) ℓ) (g : Dev Cert.ReferenceWinIdeal.nD → PrngReg), Pre_ReferenceWinIdeal m →
    θ_run (Cert.ReferenceWinIdeal.defs (F := Ideal)) (onTc (τ := Cert.ReferenceWinIdeal.τ) (Cert.ReferenceWinIdeal.main (F := Ideal))) ⟨m, fun _ => 0, g⟩ (fun r => (∀ c : Dev Cert.ReferenceWinIdeal.nD,
      r.2.mem ((c.tc : Thread Cert.ReferenceWinIdeal.nD Cert.ReferenceWinIdeal.τ).loc Cert.ReferenceWinIdeal.main_arg0) = m ((c.tc : Thread Cert.ReferenceWinIdeal.nD Cert.ReferenceWinIdeal.τ).loc Cert.ReferenceWinIdeal.main_arg0)
      ∧ r.2.mem ((c.tc : Thread Cert.ReferenceWinIdeal.nD Cert.ReferenceWinIdeal.τ).loc Cert.ReferenceWinIdeal.main_arg1) = m ((c.tc : Thread Cert.ReferenceWinIdeal.nD Cert.ReferenceWinIdeal.τ).loc Cert.ReferenceWinIdeal.main_arg1))
      ∧ r.2.sem = fun _ => 0)

def quiescent_KernelKv [hKernelKv : Cert.KernelKv.Facts] : Prop :=
  ∀ (m : (ℓ : Loc Cert.KernelKv.nD Cert.KernelKv.τ Cert.KernelKv.sig) → Buf (Elt Bits) ℓ) (g : Dev Cert.KernelKv.nD → PrngReg), Pre_KernelKv m →
    θ_run (Cert.KernelKv.defs (F := Bits)) (onTc (τ := Cert.KernelKv.τ) (Cert.KernelKv.main (F := Bits))) ⟨m, fun _ => 0, g⟩ (fun r => (∀ c : Dev Cert.KernelKv.nD,
      r.2.mem ((c.tc : Thread Cert.KernelKv.nD Cert.KernelKv.τ).loc Cert.KernelKv.main_arg0) = m ((c.tc : Thread Cert.KernelKv.nD Cert.KernelKv.τ).loc Cert.KernelKv.main_arg0)
      ∧ r.2.mem ((c.tc : Thread Cert.KernelKv.nD Cert.KernelKv.τ).loc Cert.KernelKv.main_arg1) = m ((c.tc : Thread Cert.KernelKv.nD Cert.KernelKv.τ).loc Cert.KernelKv.main_arg1))
      ∧ r.2.sem = fun _ => 0)

def quiescent_KernelKvIdeal [hKernelKvIdeal : Cert.KernelKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg), Pre_KernelKvIdeal m →
    θ_run (Cert.KernelKvIdeal.defs (F := Ideal)) (onTc (τ := Cert.KernelKvIdeal.τ) (Cert.KernelKvIdeal.main (F := Ideal))) ⟨m, fun _ => 0, g⟩ (fun r => (∀ c : Dev Cert.KernelKvIdeal.nD,
      r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
      ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ r.2.sem = fun _ => 0)

def quiescent_ReferenceKvIdeal [hReferenceKvIdeal : Cert.ReferenceKvIdeal.Facts] : Prop :=
  ∀ (m : (ℓ : Loc Cert.ReferenceKvIdeal.nD Cert.ReferenceKvIdeal.τ Cert.ReferenceKvIdeal.sig) → Buf (Elt Ideal) ℓ) (g : Dev Cert.ReferenceKvIdeal.nD → PrngReg), Pre_ReferenceKvIdeal m →
    θ_run (Cert.ReferenceKvIdeal.defs (F := Ideal)) (onTc (τ := Cert.ReferenceKvIdeal.τ) (Cert.ReferenceKvIdeal.main (F := Ideal))) ⟨m, fun _ => 0, g⟩ (fun r => (∀ c : Dev Cert.ReferenceKvIdeal.nD,
      r.2.mem ((c.tc : Thread Cert.ReferenceKvIdeal.nD Cert.ReferenceKvIdeal.τ).loc Cert.ReferenceKvIdeal.main_arg0) = m ((c.tc : Thread Cert.ReferenceKvIdeal.nD Cert.ReferenceKvIdeal.τ).loc Cert.ReferenceKvIdeal.main_arg0)
      ∧ r.2.mem ((c.tc : Thread Cert.ReferenceKvIdeal.nD Cert.ReferenceKvIdeal.τ).loc Cert.ReferenceKvIdeal.main_arg1) = m ((c.tc : Thread Cert.ReferenceKvIdeal.nD Cert.ReferenceKvIdeal.τ).loc Cert.ReferenceKvIdeal.main_arg1))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1))
      ∧ r.2.sem = fun _ => 0)

def quiescent_KernelFf [hKernelFf : Cert.KernelFf.Facts] : Prop :=
  ∀ (m : (ℓ : Loc Cert.KernelFf.nD Cert.KernelFf.τ Cert.KernelFf.sig) → Buf (Elt Bits) ℓ) (g : Dev Cert.KernelFf.nD → PrngReg), Pre_KernelFf m →
    θ_run (Cert.KernelFf.defs (F := Bits)) (onTc (τ := Cert.KernelFf.τ) (Cert.KernelFf.main (F := Bits))) ⟨m, fun _ => 0, g⟩ (fun r => (∀ c : Dev Cert.KernelFf.nD,
      r.2.mem ((c.tc : Thread Cert.KernelFf.nD Cert.KernelFf.τ).loc Cert.KernelFf.main_arg0) = m ((c.tc : Thread Cert.KernelFf.nD Cert.KernelFf.τ).loc Cert.KernelFf.main_arg0)
      ∧ r.2.mem ((c.tc : Thread Cert.KernelFf.nD Cert.KernelFf.τ).loc Cert.KernelFf.main_arg1) = m ((c.tc : Thread Cert.KernelFf.nD Cert.KernelFf.τ).loc Cert.KernelFf.main_arg1))
      ∧ r.2.sem = fun _ => 0)

def quiescent_KernelFfIdeal [hKernelFfIdeal : Cert.KernelFfIdeal.Facts] : Prop :=
  ∀ (m : (ℓ : Loc Cert.KernelFfIdeal.nD Cert.KernelFfIdeal.τ Cert.KernelFfIdeal.sig) → Buf (Elt Ideal) ℓ) (g : Dev Cert.KernelFfIdeal.nD → PrngReg), Pre_KernelFfIdeal m →
    θ_run (Cert.KernelFfIdeal.defs (F := Ideal)) (onTc (τ := Cert.KernelFfIdeal.τ) (Cert.KernelFfIdeal.main (F := Ideal))) ⟨m, fun _ => 0, g⟩ (fun r => (∀ c : Dev Cert.KernelFfIdeal.nD,
      r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
      ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1))
      ∧ r.2.sem = fun _ => 0)

def quiescent_ReferenceFfIdeal [hReferenceFfIdeal : Cert.ReferenceFfIdeal.Facts] : Prop :=
  ∀ (m : (ℓ : Loc Cert.ReferenceFfIdeal.nD Cert.ReferenceFfIdeal.τ Cert.ReferenceFfIdeal.sig) → Buf (Elt Ideal) ℓ) (g : Dev Cert.ReferenceFfIdeal.nD → PrngReg), Pre_ReferenceFfIdeal m →
    θ_run (Cert.ReferenceFfIdeal.defs (F := Ideal)) (onTc (τ := Cert.ReferenceFfIdeal.τ) (Cert.ReferenceFfIdeal.main (F := Ideal))) ⟨m, fun _ => 0, g⟩ (fun r => (∀ c : Dev Cert.ReferenceFfIdeal.nD,
      r.2.mem ((c.tc : Thread Cert.ReferenceFfIdeal.nD Cert.ReferenceFfIdeal.τ).loc Cert.ReferenceFfIdeal.main_arg0) = m ((c.tc : Thread Cert.ReferenceFfIdeal.nD Cert.ReferenceFfIdeal.τ).loc Cert.ReferenceFfIdeal.main_arg0)
      ∧ r.2.mem ((c.tc : Thread Cert.ReferenceFfIdeal.nD Cert.ReferenceFfIdeal.τ).loc Cert.ReferenceFfIdeal.main_arg1) = m ((c.tc : Thread Cert.ReferenceFfIdeal.nD Cert.ReferenceFfIdeal.τ).loc Cert.ReferenceFfIdeal.main_arg1))
      ∧ r.2.sem = fun _ => 0)

def quiescent_KernelLn [hKernelLn : Cert.KernelLn.Facts] : Prop :=
  ∀ (m : (ℓ : Loc Cert.KernelLn.nD Cert.KernelLn.τ Cert.KernelLn.sig) → Buf (Elt Bits) ℓ) (g : Dev Cert.KernelLn.nD → PrngReg), Pre_KernelLn m →
    θ_run (Cert.KernelLn.defs (F := Bits)) (onTc (τ := Cert.KernelLn.τ) (Cert.KernelLn.main (F := Bits))) ⟨m, fun _ => 0, g⟩ (fun r => (∀ c : Dev Cert.KernelLn.nD,
      r.2.mem ((c.tc : Thread Cert.KernelLn.nD Cert.KernelLn.τ).loc Cert.KernelLn.main_arg0) = m ((c.tc : Thread Cert.KernelLn.nD Cert.KernelLn.τ).loc Cert.KernelLn.main_arg0)
      ∧ r.2.mem ((c.tc : Thread Cert.KernelLn.nD Cert.KernelLn.τ).loc Cert.KernelLn.main_arg1) = m ((c.tc : Thread Cert.KernelLn.nD Cert.KernelLn.τ).loc Cert.KernelLn.main_arg1)
      ∧ r.2.mem ((c.tc : Thread Cert.KernelLn.nD Cert.KernelLn.τ).loc Cert.KernelLn.main_arg2) = m ((c.tc : Thread Cert.KernelLn.nD Cert.KernelLn.τ).loc Cert.KernelLn.main_arg2)
      ∧ r.2.mem ((c.tc : Thread Cert.KernelLn.nD Cert.KernelLn.τ).loc Cert.KernelLn.main_arg3) = m ((c.tc : Thread Cert.KernelLn.nD Cert.KernelLn.τ).loc Cert.KernelLn.main_arg3)
      ∧ r.2.mem ((c.tc : Thread Cert.KernelLn.nD Cert.KernelLn.τ).loc Cert.KernelLn.main_arg4) = m ((c.tc : Thread Cert.KernelLn.nD Cert.KernelLn.τ).loc Cert.KernelLn.main_arg4))
      ∧ r.2.sem = fun _ => 0)

def quiescent_KernelLnIdeal [hKernelLnIdeal : Cert.KernelLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg), Pre_KernelLnIdeal m →
    θ_run (Cert.KernelLnIdeal.defs (F := Ideal)) (onTc (τ := Cert.KernelLnIdeal.τ) (Cert.KernelLnIdeal.main (F := Ideal))) ⟨m, fun _ => 0, g⟩ (fun r => (∀ c : Dev Cert.KernelLnIdeal.nD,
      r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
      ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
      ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
      ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3)
      ∧ r.2.mem ((c.tc : Thread Cert.KernelLnIdeal.nD Cert.KernelLnIdeal.τ).loc Cert.KernelLnIdeal.main_arg4) = m ((c.tc : Thread Cert.KernelLnIdeal.nD Cert.KernelLnIdeal.τ).loc Cert.KernelLnIdeal.main_arg4))
      ∧ r.2.sem = fun _ => 0)

def quiescent_ReferenceLnIdeal [hReferenceLnIdeal : Cert.ReferenceLnIdeal.Facts] : Prop :=
  ∀ (m : (ℓ : Loc Cert.ReferenceLnIdeal.nD Cert.ReferenceLnIdeal.τ Cert.ReferenceLnIdeal.sig) → Buf (Elt Ideal) ℓ) (g : Dev Cert.ReferenceLnIdeal.nD → PrngReg), Pre_ReferenceLnIdeal m →
    θ_run (Cert.ReferenceLnIdeal.defs (F := Ideal)) (onTc (τ := Cert.ReferenceLnIdeal.τ) (Cert.ReferenceLnIdeal.main (F := Ideal))) ⟨m, fun _ => 0, g⟩ (fun r => (∀ c : Dev Cert.ReferenceLnIdeal.nD,
      r.2.mem ((c.tc : Thread Cert.ReferenceLnIdeal.nD Cert.ReferenceLnIdeal.τ).loc Cert.ReferenceLnIdeal.main_arg0) = m ((c.tc : Thread Cert.ReferenceLnIdeal.nD Cert.ReferenceLnIdeal.τ).loc Cert.ReferenceLnIdeal.main_arg0)
      ∧ r.2.mem ((c.tc : Thread Cert.ReferenceLnIdeal.nD Cert.ReferenceLnIdeal.τ).loc Cert.ReferenceLnIdeal.main_arg1) = m ((c.tc : Thread Cert.ReferenceLnIdeal.nD Cert.ReferenceLnIdeal.τ).loc Cert.ReferenceLnIdeal.main_arg1)
      ∧ r.2.mem ((c.tc : Thread Cert.ReferenceLnIdeal.nD Cert.ReferenceLnIdeal.τ).loc Cert.ReferenceLnIdeal.main_arg2) = m ((c.tc : Thread Cert.ReferenceLnIdeal.nD Cert.ReferenceLnIdeal.τ).loc Cert.ReferenceLnIdeal.main_arg2)
      ∧ r.2.mem ((c.tc : Thread Cert.ReferenceLnIdeal.nD Cert.ReferenceLnIdeal.τ).loc Cert.ReferenceLnIdeal.main_arg3) = m ((c.tc : Thread Cert.ReferenceLnIdeal.nD Cert.ReferenceLnIdeal.τ).loc Cert.ReferenceLnIdeal.main_arg3)
      ∧ r.2.mem ((c.tc : Thread Cert.ReferenceLnIdeal.nD Cert.ReferenceLnIdeal.τ).loc Cert.ReferenceLnIdeal.main_arg4) = m ((c.tc : Thread Cert.ReferenceLnIdeal.nD Cert.ReferenceLnIdeal.τ).loc Cert.ReferenceLnIdeal.main_arg4))
      ∧ r.2.sem = fun _ => 0)

def quiescent_KernelMb [hKernelMb : Cert.KernelMb.Facts] : Prop :=
  ∀ (m : (ℓ : Loc Cert.KernelMb.nD Cert.KernelMb.τ Cert.KernelMb.sig) → Buf (Elt Bits) ℓ) (g : Dev Cert.KernelMb.nD → PrngReg), Pre_KernelMb m →
    θ_run (Cert.KernelMb.defs (F := Bits)) (onTc (τ := Cert.KernelMb.τ) (Cert.KernelMb.main (F := Bits))) ⟨m, fun _ => 0, g⟩ (fun r => (∀ c : Dev Cert.KernelMb.nD,
      r.2.mem ((c.tc : Thread Cert.KernelMb.nD Cert.KernelMb.τ).loc Cert.KernelMb.main_arg0) = m ((c.tc : Thread Cert.KernelMb.nD Cert.KernelMb.τ).loc Cert.KernelMb.main_arg0)
      ∧ r.2.mem ((c.tc : Thread Cert.KernelMb.nD Cert.KernelMb.τ).loc Cert.KernelMb.main_arg1) = m ((c.tc : Thread Cert.KernelMb.nD Cert.KernelMb.τ).loc Cert.KernelMb.main_arg1)
      ∧ r.2.mem ((c.tc : Thread Cert.KernelMb.nD Cert.KernelMb.τ).loc Cert.KernelMb.main_arg2) = m ((c.tc : Thread Cert.KernelMb.nD Cert.KernelMb.τ).loc Cert.KernelMb.main_arg2)
      ∧ r.2.mem ((c.tc : Thread Cert.KernelMb.nD Cert.KernelMb.τ).loc Cert.KernelMb.main_arg3) = m ((c.tc : Thread Cert.KernelMb.nD Cert.KernelMb.τ).loc Cert.KernelMb.main_arg3)
      ∧ r.2.mem ((c.tc : Thread Cert.KernelMb.nD Cert.KernelMb.τ).loc Cert.KernelMb.main_arg4) = m ((c.tc : Thread Cert.KernelMb.nD Cert.KernelMb.τ).loc Cert.KernelMb.main_arg4))
      ∧ r.2.sem = fun _ => 0)

def quiescent_KernelMbIdeal [hKernelMbIdeal : Cert.KernelMbIdeal.Facts] : Prop :=
  ∀ (m : (ℓ : Loc Cert.KernelMbIdeal.nD Cert.KernelMbIdeal.τ Cert.KernelMbIdeal.sig) → Buf (Elt Ideal) ℓ) (g : Dev Cert.KernelMbIdeal.nD → PrngReg), Pre_KernelMbIdeal m →
    θ_run (Cert.KernelMbIdeal.defs (F := Ideal)) (onTc (τ := Cert.KernelMbIdeal.τ) (Cert.KernelMbIdeal.main (F := Ideal))) ⟨m, fun _ => 0, g⟩ (fun r => (∀ c : Dev Cert.KernelMbIdeal.nD,
      r.2.mem ((c.tc : Thread Cert.KernelMbIdeal.nD Cert.KernelMbIdeal.τ).loc Cert.KernelMbIdeal.main_arg0) = m ((c.tc : Thread Cert.KernelMbIdeal.nD Cert.KernelMbIdeal.τ).loc Cert.KernelMbIdeal.main_arg0)
      ∧ r.2.mem ((c.tc : Thread Cert.KernelMbIdeal.nD Cert.KernelMbIdeal.τ).loc Cert.KernelMbIdeal.main_arg1) = m ((c.tc : Thread Cert.KernelMbIdeal.nD Cert.KernelMbIdeal.τ).loc Cert.KernelMbIdeal.main_arg1)
      ∧ r.2.mem ((c.tc : Thread Cert.KernelMbIdeal.nD Cert.KernelMbIdeal.τ).loc Cert.KernelMbIdeal.main_arg2) = m ((c.tc : Thread Cert.KernelMbIdeal.nD Cert.KernelMbIdeal.τ).loc Cert.KernelMbIdeal.main_arg2)
      ∧ r.2.mem ((c.tc : Thread Cert.KernelMbIdeal.nD Cert.KernelMbIdeal.τ).loc Cert.KernelMbIdeal.main_arg3) = m ((c.tc : Thread Cert.KernelMbIdeal.nD Cert.KernelMbIdeal.τ).loc Cert.KernelMbIdeal.main_arg3)
      ∧ r.2.mem ((c.tc : Thread Cert.KernelMbIdeal.nD Cert.KernelMbIdeal.τ).loc Cert.KernelMbIdeal.main_arg4) = m ((c.tc : Thread Cert.KernelMbIdeal.nD Cert.KernelMbIdeal.τ).loc Cert.KernelMbIdeal.main_arg4))
      ∧ r.2.sem = fun _ => 0)

def quiescent_KernelMbIdeal_pre_finite_mb [hKernelMbIdeal : Cert.KernelMbIdeal.Facts] [hPre_finite_mb : Cert.Pre_finite_mb.Facts] : Prop :=
  ∀ (m : (ℓ : Loc Cert.KernelMbIdeal.nD Cert.KernelMbIdeal.τ Cert.KernelMbIdeal.sig) → Buf (Elt Ideal) ℓ) (g : Dev Cert.KernelMbIdeal.nD → PrngReg), Pre_KernelMbIdeal_finite_mb m →
    θ_run (Cert.KernelMbIdeal.defs (F := Ideal)) (onTc (τ := Cert.KernelMbIdeal.τ) (Cert.KernelMbIdeal.main (F := Ideal))) ⟨m, fun _ => 0, g⟩ (fun r => (∀ c : Dev Cert.KernelMbIdeal.nD,
      r.2.mem ((c.tc : Thread Cert.KernelMbIdeal.nD Cert.KernelMbIdeal.τ).loc Cert.KernelMbIdeal.main_arg0) = m ((c.tc : Thread Cert.KernelMbIdeal.nD Cert.KernelMbIdeal.τ).loc Cert.KernelMbIdeal.main_arg0)
      ∧ r.2.mem ((c.tc : Thread Cert.KernelMbIdeal.nD Cert.KernelMbIdeal.τ).loc Cert.KernelMbIdeal.main_arg1) = m ((c.tc : Thread Cert.KernelMbIdeal.nD Cert.KernelMbIdeal.τ).loc Cert.KernelMbIdeal.main_arg1)
      ∧ r.2.mem ((c.tc : Thread Cert.KernelMbIdeal.nD Cert.KernelMbIdeal.τ).loc Cert.KernelMbIdeal.main_arg2) = m ((c.tc : Thread Cert.KernelMbIdeal.nD Cert.KernelMbIdeal.τ).loc Cert.KernelMbIdeal.main_arg2)
      ∧ r.2.mem ((c.tc : Thread Cert.KernelMbIdeal.nD Cert.KernelMbIdeal.τ).loc Cert.KernelMbIdeal.main_arg3) = m ((c.tc : Thread Cert.KernelMbIdeal.nD Cert.KernelMbIdeal.τ).loc Cert.KernelMbIdeal.main_arg3)
      ∧ r.2.mem ((c.tc : Thread Cert.KernelMbIdeal.nD Cert.KernelMbIdeal.τ).loc Cert.KernelMbIdeal.main_arg4) = m ((c.tc : Thread Cert.KernelMbIdeal.nD Cert.KernelMbIdeal.τ).loc Cert.KernelMbIdeal.main_arg4))
      ∧ r.2.sem = fun _ => 0)

def quiescent_ReferenceMbIdeal [hReferenceMbIdeal : Cert.ReferenceMbIdeal.Facts] : Prop :=
  ∀ (m : (ℓ : Loc Cert.ReferenceMbIdeal.nD Cert.ReferenceMbIdeal.τ Cert.ReferenceMbIdeal.sig) → Buf (Elt Ideal) ℓ) (g : Dev Cert.ReferenceMbIdeal.nD → PrngReg), Pre_ReferenceMbIdeal m →
    θ_run (Cert.ReferenceMbIdeal.defs (F := Ideal)) (onTc (τ := Cert.ReferenceMbIdeal.τ) (Cert.ReferenceMbIdeal.main (F := Ideal))) ⟨m, fun _ => 0, g⟩ (fun r => (∀ c : Dev Cert.ReferenceMbIdeal.nD,
      r.2.mem ((c.tc : Thread Cert.ReferenceMbIdeal.nD Cert.ReferenceMbIdeal.τ).loc Cert.ReferenceMbIdeal.main_arg0) = m ((c.tc : Thread Cert.ReferenceMbIdeal.nD Cert.ReferenceMbIdeal.τ).loc Cert.ReferenceMbIdeal.main_arg0)
      ∧ r.2.mem ((c.tc : Thread Cert.ReferenceMbIdeal.nD Cert.ReferenceMbIdeal.τ).loc Cert.ReferenceMbIdeal.main_arg1) = m ((c.tc : Thread Cert.ReferenceMbIdeal.nD Cert.ReferenceMbIdeal.τ).loc Cert.ReferenceMbIdeal.main_arg1)
      ∧ r.2.mem ((c.tc : Thread Cert.ReferenceMbIdeal.nD Cert.ReferenceMbIdeal.τ).loc Cert.ReferenceMbIdeal.main_arg2) = m ((c.tc : Thread Cert.ReferenceMbIdeal.nD Cert.ReferenceMbIdeal.τ).loc Cert.ReferenceMbIdeal.main_arg2)
      ∧ r.2.mem ((c.tc : Thread Cert.ReferenceMbIdeal.nD Cert.ReferenceMbIdeal.τ).loc Cert.ReferenceMbIdeal.main_arg3) = m ((c.tc : Thread Cert.ReferenceMbIdeal.nD Cert.ReferenceMbIdeal.τ).loc Cert.ReferenceMbIdeal.main_arg3)
      ∧ r.2.mem ((c.tc : Thread Cert.ReferenceMbIdeal.nD Cert.ReferenceMbIdeal.τ).loc Cert.ReferenceMbIdeal.main_arg4) = m ((c.tc : Thread Cert.ReferenceMbIdeal.nD Cert.ReferenceMbIdeal.τ).loc Cert.ReferenceMbIdeal.main_arg4))
      ∧ r.2.sem = fun _ => 0)

def quiescent_ReferenceMbIdeal_pre_finite_mb [hReferenceMbIdeal : Cert.ReferenceMbIdeal.Facts] [hPre_finite_mb : Cert.Pre_finite_mb.Facts] : Prop :=
  ∀ (m : (ℓ : Loc Cert.ReferenceMbIdeal.nD Cert.ReferenceMbIdeal.τ Cert.ReferenceMbIdeal.sig) → Buf (Elt Ideal) ℓ) (g : Dev Cert.ReferenceMbIdeal.nD → PrngReg), Pre_ReferenceMbIdeal_finite_mb m →
    θ_run (Cert.ReferenceMbIdeal.defs (F := Ideal)) (onTc (τ := Cert.ReferenceMbIdeal.τ) (Cert.ReferenceMbIdeal.main (F := Ideal))) ⟨m, fun _ => 0, g⟩ (fun r => (∀ c : Dev Cert.ReferenceMbIdeal.nD,
      r.2.mem ((c.tc : Thread Cert.ReferenceMbIdeal.nD Cert.ReferenceMbIdeal.τ).loc Cert.ReferenceMbIdeal.main_arg0) = m ((c.tc : Thread Cert.ReferenceMbIdeal.nD Cert.ReferenceMbIdeal.τ).loc Cert.ReferenceMbIdeal.main_arg0)
      ∧ r.2.mem ((c.tc : Thread Cert.ReferenceMbIdeal.nD Cert.ReferenceMbIdeal.τ).loc Cert.ReferenceMbIdeal.main_arg1) = m ((c.tc : Thread Cert.ReferenceMbIdeal.nD Cert.ReferenceMbIdeal.τ).loc Cert.ReferenceMbIdeal.main_arg1)
      ∧ r.2.mem ((c.tc : Thread Cert.ReferenceMbIdeal.nD Cert.ReferenceMbIdeal.τ).loc Cert.ReferenceMbIdeal.main_arg2) = m ((c.tc : Thread Cert.ReferenceMbIdeal.nD Cert.ReferenceMbIdeal.τ).loc Cert.ReferenceMbIdeal.main_arg2)
      ∧ r.2.mem ((c.tc : Thread Cert.ReferenceMbIdeal.nD Cert.ReferenceMbIdeal.τ).loc Cert.ReferenceMbIdeal.main_arg3) = m ((c.tc : Thread Cert.ReferenceMbIdeal.nD Cert.ReferenceMbIdeal.τ).loc Cert.ReferenceMbIdeal.main_arg3)
      ∧ r.2.mem ((c.tc : Thread Cert.ReferenceMbIdeal.nD Cert.ReferenceMbIdeal.τ).loc Cert.ReferenceMbIdeal.main_arg4) = m ((c.tc : Thread Cert.ReferenceMbIdeal.nD Cert.ReferenceMbIdeal.τ).loc Cert.ReferenceMbIdeal.main_arg4))
      ∧ r.2.sem = fun _ => 0)

def quiescent_KernelMc [hKernelMc : Cert.KernelMc.Facts] : Prop :=
  ∀ (m : (ℓ : Loc Cert.KernelMc.nD Cert.KernelMc.τ Cert.KernelMc.sig) → Buf (Elt Bits) ℓ) (g : Dev Cert.KernelMc.nD → PrngReg), Pre_KernelMc m →
    θ_run (Cert.KernelMc.defs (F := Bits)) (onTc (τ := Cert.KernelMc.τ) (Cert.KernelMc.main (F := Bits))) ⟨m, fun _ => 0, g⟩ (fun r => (∀ c : Dev Cert.KernelMc.nD,
      r.2.mem ((c.tc : Thread Cert.KernelMc.nD Cert.KernelMc.τ).loc Cert.KernelMc.main_arg0) = m ((c.tc : Thread Cert.KernelMc.nD Cert.KernelMc.τ).loc Cert.KernelMc.main_arg0)
      ∧ r.2.mem ((c.tc : Thread Cert.KernelMc.nD Cert.KernelMc.τ).loc Cert.KernelMc.main_arg1) = m ((c.tc : Thread Cert.KernelMc.nD Cert.KernelMc.τ).loc Cert.KernelMc.main_arg1)
      ∧ r.2.mem ((c.tc : Thread Cert.KernelMc.nD Cert.KernelMc.τ).loc Cert.KernelMc.main_arg2) = m ((c.tc : Thread Cert.KernelMc.nD Cert.KernelMc.τ).loc Cert.KernelMc.main_arg2)
      ∧ r.2.mem ((c.tc : Thread Cert.KernelMc.nD Cert.KernelMc.τ).loc Cert.KernelMc.main_arg3) = m ((c.tc : Thread Cert.KernelMc.nD Cert.KernelMc.τ).loc Cert.KernelMc.main_arg3)
      ∧ r.2.mem ((c.tc : Thread Cert.KernelMc.nD Cert.KernelMc.τ).loc Cert.KernelMc.main_arg4) = m ((c.tc : Thread Cert.KernelMc.nD Cert.KernelMc.τ).loc Cert.KernelMc.main_arg4)
      ∧ r.2.mem ((c.tc : Thread Cert.KernelMc.nD Cert.KernelMc.τ).loc Cert.KernelMc.main_arg5) = m ((c.tc : Thread Cert.KernelMc.nD Cert.KernelMc.τ).loc Cert.KernelMc.main_arg5))
      ∧ r.2.sem = fun _ => 0)

def quiescent_KernelMcIdeal [hKernelMcIdeal : Cert.KernelMcIdeal.Facts] : Prop :=
  ∀ (m : (ℓ : Loc Cert.KernelMcIdeal.nD Cert.KernelMcIdeal.τ Cert.KernelMcIdeal.sig) → Buf (Elt Ideal) ℓ) (g : Dev Cert.KernelMcIdeal.nD → PrngReg), Pre_KernelMcIdeal m →
    θ_run (Cert.KernelMcIdeal.defs (F := Ideal)) (onTc (τ := Cert.KernelMcIdeal.τ) (Cert.KernelMcIdeal.main (F := Ideal))) ⟨m, fun _ => 0, g⟩ (fun r => (∀ c : Dev Cert.KernelMcIdeal.nD,
      r.2.mem ((c.tc : Thread Cert.KernelMcIdeal.nD Cert.KernelMcIdeal.τ).loc Cert.KernelMcIdeal.main_arg0) = m ((c.tc : Thread Cert.KernelMcIdeal.nD Cert.KernelMcIdeal.τ).loc Cert.KernelMcIdeal.main_arg0)
      ∧ r.2.mem ((c.tc : Thread Cert.KernelMcIdeal.nD Cert.KernelMcIdeal.τ).loc Cert.KernelMcIdeal.main_arg1) = m ((c.tc : Thread Cert.KernelMcIdeal.nD Cert.KernelMcIdeal.τ).loc Cert.KernelMcIdeal.main_arg1)
      ∧ r.2.mem ((c.tc : Thread Cert.KernelMcIdeal.nD Cert.KernelMcIdeal.τ).loc Cert.KernelMcIdeal.main_arg2) = m ((c.tc : Thread Cert.KernelMcIdeal.nD Cert.KernelMcIdeal.τ).loc Cert.KernelMcIdeal.main_arg2)
      ∧ r.2.mem ((c.tc : Thread Cert.KernelMcIdeal.nD Cert.KernelMcIdeal.τ).loc Cert.KernelMcIdeal.main_arg3) = m ((c.tc : Thread Cert.KernelMcIdeal.nD Cert.KernelMcIdeal.τ).loc Cert.KernelMcIdeal.main_arg3)
      ∧ r.2.mem ((c.tc : Thread Cert.KernelMcIdeal.nD Cert.KernelMcIdeal.τ).loc Cert.KernelMcIdeal.main_arg4) = m ((c.tc : Thread Cert.KernelMcIdeal.nD Cert.KernelMcIdeal.τ).loc Cert.KernelMcIdeal.main_arg4)
      ∧ r.2.mem ((c.tc : Thread Cert.KernelMcIdeal.nD Cert.KernelMcIdeal.τ).loc Cert.KernelMcIdeal.main_arg5) = m ((c.tc : Thread Cert.KernelMcIdeal.nD Cert.KernelMcIdeal.τ).loc Cert.KernelMcIdeal.main_arg5))
      ∧ r.2.sem = fun _ => 0)

def quiescent_KernelMcIdeal_pre_finite_mc [hKernelMcIdeal : Cert.KernelMcIdeal.Facts] [hPre_finite_mc : Cert.Pre_finite_mc.Facts] : Prop :=
  ∀ (m : (ℓ : Loc Cert.KernelMcIdeal.nD Cert.KernelMcIdeal.τ Cert.KernelMcIdeal.sig) → Buf (Elt Ideal) ℓ) (g : Dev Cert.KernelMcIdeal.nD → PrngReg), Pre_KernelMcIdeal_finite_mc m →
    θ_run (Cert.KernelMcIdeal.defs (F := Ideal)) (onTc (τ := Cert.KernelMcIdeal.τ) (Cert.KernelMcIdeal.main (F := Ideal))) ⟨m, fun _ => 0, g⟩ (fun r => (∀ c : Dev Cert.KernelMcIdeal.nD,
      r.2.mem ((c.tc : Thread Cert.KernelMcIdeal.nD Cert.KernelMcIdeal.τ).loc Cert.KernelMcIdeal.main_arg0) = m ((c.tc : Thread Cert.KernelMcIdeal.nD Cert.KernelMcIdeal.τ).loc Cert.KernelMcIdeal.main_arg0)
      ∧ r.2.mem ((c.tc : Thread Cert.KernelMcIdeal.nD Cert.KernelMcIdeal.τ).loc Cert.KernelMcIdeal.main_arg1) = m ((c.tc : Thread Cert.KernelMcIdeal.nD Cert.KernelMcIdeal.τ).loc Cert.KernelMcIdeal.main_arg1)
      ∧ r.2.mem ((c.tc : Thread Cert.KernelMcIdeal.nD Cert.KernelMcIdeal.τ).loc Cert.KernelMcIdeal.main_arg2) = m ((c.tc : Thread Cert.KernelMcIdeal.nD Cert.KernelMcIdeal.τ).loc Cert.KernelMcIdeal.main_arg2)
      ∧ r.2.mem ((c.tc : Thread Cert.KernelMcIdeal.nD Cert.KernelMcIdeal.τ).loc Cert.KernelMcIdeal.main_arg3) = m ((c.tc : Thread Cert.KernelMcIdeal.nD Cert.KernelMcIdeal.τ).loc Cert.KernelMcIdeal.main_arg3)
      ∧ r.2.mem ((c.tc : Thread Cert.KernelMcIdeal.nD Cert.KernelMcIdeal.τ).loc Cert.KernelMcIdeal.main_arg4) = m ((c.tc : Thread Cert.KernelMcIdeal.nD Cert.KernelMcIdeal.τ).loc Cert.KernelMcIdeal.main_arg4)
      ∧ r.2.mem ((c.tc : Thread Cert.KernelMcIdeal.nD Cert.KernelMcIdeal.τ).loc Cert.KernelMcIdeal.main_arg5) = m ((c.tc : Thread Cert.KernelMcIdeal.nD Cert.KernelMcIdeal.τ).loc Cert.KernelMcIdeal.main_arg5))
      ∧ r.2.sem = fun _ => 0)

def quiescent_ReferenceMcIdeal [hReferenceMcIdeal : Cert.ReferenceMcIdeal.Facts] : Prop :=
  ∀ (m : (ℓ : Loc Cert.ReferenceMcIdeal.nD Cert.ReferenceMcIdeal.τ Cert.ReferenceMcIdeal.sig) → Buf (Elt Ideal) ℓ) (g : Dev Cert.ReferenceMcIdeal.nD → PrngReg), Pre_ReferenceMcIdeal m →
    θ_run (Cert.ReferenceMcIdeal.defs (F := Ideal)) (onTc (τ := Cert.ReferenceMcIdeal.τ) (Cert.ReferenceMcIdeal.main (F := Ideal))) ⟨m, fun _ => 0, g⟩ (fun r => (∀ c : Dev Cert.ReferenceMcIdeal.nD,
      r.2.mem ((c.tc : Thread Cert.ReferenceMcIdeal.nD Cert.ReferenceMcIdeal.τ).loc Cert.ReferenceMcIdeal.main_arg0) = m ((c.tc : Thread Cert.ReferenceMcIdeal.nD Cert.ReferenceMcIdeal.τ).loc Cert.ReferenceMcIdeal.main_arg0)
      ∧ r.2.mem ((c.tc : Thread Cert.ReferenceMcIdeal.nD Cert.ReferenceMcIdeal.τ).loc Cert.ReferenceMcIdeal.main_arg1) = m ((c.tc : Thread Cert.ReferenceMcIdeal.nD Cert.ReferenceMcIdeal.τ).loc Cert.ReferenceMcIdeal.main_arg1)
      ∧ r.2.mem ((c.tc : Thread Cert.ReferenceMcIdeal.nD Cert.ReferenceMcIdeal.τ).loc Cert.ReferenceMcIdeal.main_arg2) = m ((c.tc : Thread Cert.ReferenceMcIdeal.nD Cert.ReferenceMcIdeal.τ).loc Cert.ReferenceMcIdeal.main_arg2)
      ∧ r.2.mem ((c.tc : Thread Cert.ReferenceMcIdeal.nD Cert.ReferenceMcIdeal.τ).loc Cert.ReferenceMcIdeal.main_arg3) = m ((c.tc : Thread Cert.ReferenceMcIdeal.nD Cert.ReferenceMcIdeal.τ).loc Cert.ReferenceMcIdeal.main_arg3)
      ∧ r.2.mem ((c.tc : Thread Cert.ReferenceMcIdeal.nD Cert.ReferenceMcIdeal.τ).loc Cert.ReferenceMcIdeal.main_arg4) = m ((c.tc : Thread Cert.ReferenceMcIdeal.nD Cert.ReferenceMcIdeal.τ).loc Cert.ReferenceMcIdeal.main_arg4)
      ∧ r.2.mem ((c.tc : Thread Cert.ReferenceMcIdeal.nD Cert.ReferenceMcIdeal.τ).loc Cert.ReferenceMcIdeal.main_arg5) = m ((c.tc : Thread Cert.ReferenceMcIdeal.nD Cert.ReferenceMcIdeal.τ).loc Cert.ReferenceMcIdeal.main_arg5))
      ∧ r.2.sem = fun _ => 0)

def quiescent_ReferenceMcIdeal_pre_finite_mc [hReferenceMcIdeal : Cert.ReferenceMcIdeal.Facts] [hPre_finite_mc : Cert.Pre_finite_mc.Facts] : Prop :=
  ∀ (m : (ℓ : Loc Cert.ReferenceMcIdeal.nD Cert.ReferenceMcIdeal.τ Cert.ReferenceMcIdeal.sig) → Buf (Elt Ideal) ℓ) (g : Dev Cert.ReferenceMcIdeal.nD → PrngReg), Pre_ReferenceMcIdeal_finite_mc m →
    θ_run (Cert.ReferenceMcIdeal.defs (F := Ideal)) (onTc (τ := Cert.ReferenceMcIdeal.τ) (Cert.ReferenceMcIdeal.main (F := Ideal))) ⟨m, fun _ => 0, g⟩ (fun r => (∀ c : Dev Cert.ReferenceMcIdeal.nD,
      r.2.mem ((c.tc : Thread Cert.ReferenceMcIdeal.nD Cert.ReferenceMcIdeal.τ).loc Cert.ReferenceMcIdeal.main_arg0) = m ((c.tc : Thread Cert.ReferenceMcIdeal.nD Cert.ReferenceMcIdeal.τ).loc Cert.ReferenceMcIdeal.main_arg0)
      ∧ r.2.mem ((c.tc : Thread Cert.ReferenceMcIdeal.nD Cert.ReferenceMcIdeal.τ).loc Cert.ReferenceMcIdeal.main_arg1) = m ((c.tc : Thread Cert.ReferenceMcIdeal.nD Cert.ReferenceMcIdeal.τ).loc Cert.ReferenceMcIdeal.main_arg1)
      ∧ r.2.mem ((c.tc : Thread Cert.ReferenceMcIdeal.nD Cert.ReferenceMcIdeal.τ).loc Cert.ReferenceMcIdeal.main_arg2) = m ((c.tc : Thread Cert.ReferenceMcIdeal.nD Cert.ReferenceMcIdeal.τ).loc Cert.ReferenceMcIdeal.main_arg2)
      ∧ r.2.mem ((c.tc : Thread Cert.ReferenceMcIdeal.nD Cert.ReferenceMcIdeal.τ).loc Cert.ReferenceMcIdeal.main_arg3) = m ((c.tc : Thread Cert.ReferenceMcIdeal.nD Cert.ReferenceMcIdeal.τ).loc Cert.ReferenceMcIdeal.main_arg3)
      ∧ r.2.mem ((c.tc : Thread Cert.ReferenceMcIdeal.nD Cert.ReferenceMcIdeal.τ).loc Cert.ReferenceMcIdeal.main_arg4) = m ((c.tc : Thread Cert.ReferenceMcIdeal.nD Cert.ReferenceMcIdeal.τ).loc Cert.ReferenceMcIdeal.main_arg4)
      ∧ r.2.mem ((c.tc : Thread Cert.ReferenceMcIdeal.nD Cert.ReferenceMcIdeal.τ).loc Cert.ReferenceMcIdeal.main_arg5) = m ((c.tc : Thread Cert.ReferenceMcIdeal.nD Cert.ReferenceMcIdeal.τ).loc Cert.ReferenceMcIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v144) = v1 c
          ∧ r.2.mem ((c.tc : Thread Cert.ReferenceIdeal.nD Cert.ReferenceIdeal.τ).loc Cert.ReferenceIdeal.main_v145) = v2 c
          ∧ r.2.mem ((c.tc : Thread Cert.ReferenceIdeal.nD Cert.ReferenceIdeal.τ).loc Cert.ReferenceIdeal.main_v147) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_KernelUp_KernelUpIdeal : Prop :=
  True

def algebraic_KernelUpIdeal_ReferenceUpIdeal [hKernelUpIdeal : Cert.KernelUpIdeal.Facts] [hReferenceUpIdeal : Cert.ReferenceUpIdeal.Facts] : Prop :=
  ∀ (m : (ℓ : Loc Cert.KernelUpIdeal.nD Cert.KernelUpIdeal.τ Cert.KernelUpIdeal.sig) → Buf (Elt Ideal) ℓ) (g : Dev Cert.KernelUpIdeal.nD → PrngReg)
    (m' : (ℓ : Loc Cert.ReferenceUpIdeal.nD Cert.ReferenceUpIdeal.τ Cert.ReferenceUpIdeal.sig) → Buf (Elt Ideal) ℓ) (g' : Dev Cert.ReferenceUpIdeal.nD → PrngReg), Pre_KernelUpIdeal m →
    (∀ c : Dev Cert.KernelUpIdeal.nD,
      m' ((c.tc : Thread Cert.ReferenceUpIdeal.nD Cert.ReferenceUpIdeal.τ).loc Cert.ReferenceUpIdeal.main_arg0) = m ((c.tc : Thread Cert.KernelUpIdeal.nD Cert.KernelUpIdeal.τ).loc Cert.KernelUpIdeal.main_arg0)
      ∧ m' ((c.tc : Thread Cert.ReferenceUpIdeal.nD Cert.ReferenceUpIdeal.τ).loc Cert.ReferenceUpIdeal.main_arg1) = m ((c.tc : Thread Cert.KernelUpIdeal.nD Cert.KernelUpIdeal.τ).loc Cert.KernelUpIdeal.main_arg1)) →
    ∃ (v0 : (c : Dev Cert.KernelUpIdeal.nD) → Buf (Elt Ideal) ((c.tc : Thread Cert.KernelUpIdeal.nD Cert.KernelUpIdeal.τ).loc Cert.KernelUpIdeal.main_v0)),
      θ_run (Cert.KernelUpIdeal.defs (F := Ideal)) (onTc (τ := Cert.KernelUpIdeal.τ) (Cert.KernelUpIdeal.main (F := Ideal))) ⟨m, fun _ => 0, g⟩ (fun r => ∀ c : Dev Cert.KernelUpIdeal.nD,
          r.2.mem ((c.tc : Thread Cert.KernelUpIdeal.nD Cert.KernelUpIdeal.τ).loc Cert.KernelUpIdeal.main_v0) = v0 c
          ∧ r.2.mem ((c.tc : Thread Cert.KernelUpIdeal.nD Cert.KernelUpIdeal.τ).loc Cert.KernelUpIdeal.main_arg0) = m ((c.tc : Thread Cert.KernelUpIdeal.nD Cert.KernelUpIdeal.τ).loc Cert.KernelUpIdeal.main_arg0)
          ∧ r.2.mem ((c.tc : Thread Cert.KernelUpIdeal.nD Cert.KernelUpIdeal.τ).loc Cert.KernelUpIdeal.main_arg1) = m ((c.tc : Thread Cert.KernelUpIdeal.nD Cert.KernelUpIdeal.τ).loc Cert.KernelUpIdeal.main_arg1))
      ∧ θ_run (Cert.ReferenceUpIdeal.defs (F := Ideal)) (onTc (τ := Cert.ReferenceUpIdeal.τ) (Cert.ReferenceUpIdeal.main (F := Ideal))) ⟨m', fun _ => 0, g'⟩ (fun r => ∀ c : Dev Cert.ReferenceUpIdeal.nD,
          r.2.mem ((c.tc : Thread Cert.ReferenceUpIdeal.nD Cert.ReferenceUpIdeal.τ).loc Cert.ReferenceUpIdeal.main_v8) = v0 c
          ∧ r.2.mem ((c.tc : Thread Cert.ReferenceUpIdeal.nD Cert.ReferenceUpIdeal.τ).loc Cert.ReferenceUpIdeal.main_arg0) = m' ((c.tc : Thread Cert.ReferenceUpIdeal.nD Cert.ReferenceUpIdeal.τ).loc Cert.ReferenceUpIdeal.main_arg0)
          ∧ r.2.mem ((c.tc : Thread Cert.ReferenceUpIdeal.nD Cert.ReferenceUpIdeal.τ).loc Cert.ReferenceUpIdeal.main_arg1) = m' ((c.tc : Thread Cert.ReferenceUpIdeal.nD Cert.ReferenceUpIdeal.τ).loc Cert.ReferenceUpIdeal.main_arg1))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v7) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelSq_KernelSqIdeal : Prop :=
  True

def algebraic_KernelSqIdeal_ReferenceSqIdeal [hKernelSqIdeal : Cert.KernelSqIdeal.Facts] [hReferenceSqIdeal : Cert.ReferenceSqIdeal.Facts] : Prop :=
  ∀ (m : (ℓ : Loc Cert.KernelSqIdeal.nD Cert.KernelSqIdeal.τ Cert.KernelSqIdeal.sig) → Buf (Elt Ideal) ℓ) (g : Dev Cert.KernelSqIdeal.nD → PrngReg)
    (m' : (ℓ : Loc Cert.ReferenceSqIdeal.nD Cert.ReferenceSqIdeal.τ Cert.ReferenceSqIdeal.sig) → Buf (Elt Ideal) ℓ) (g' : Dev Cert.ReferenceSqIdeal.nD → PrngReg), Pre_KernelSqIdeal m →
    (∀ c : Dev Cert.KernelSqIdeal.nD,
      m' ((c.tc : Thread Cert.ReferenceSqIdeal.nD Cert.ReferenceSqIdeal.τ).loc Cert.ReferenceSqIdeal.main_arg0) = m ((c.tc : Thread Cert.KernelSqIdeal.nD Cert.KernelSqIdeal.τ).loc Cert.KernelSqIdeal.main_arg0)
      ∧ m' ((c.tc : Thread Cert.ReferenceSqIdeal.nD Cert.ReferenceSqIdeal.τ).loc Cert.ReferenceSqIdeal.main_arg1) = m ((c.tc : Thread Cert.KernelSqIdeal.nD Cert.KernelSqIdeal.τ).loc Cert.KernelSqIdeal.main_arg1)) →
    ∃ (v0 : (c : Dev Cert.KernelSqIdeal.nD) → Buf (Elt Ideal) ((c.tc : Thread Cert.KernelSqIdeal.nD Cert.KernelSqIdeal.τ).loc Cert.KernelSqIdeal.main_v0)),
      θ_run (Cert.KernelSqIdeal.defs (F := Ideal)) (onTc (τ := Cert.KernelSqIdeal.τ) (Cert.KernelSqIdeal.main (F := Ideal))) ⟨m, fun _ => 0, g⟩ (fun r => ∀ c : Dev Cert.KernelSqIdeal.nD,
          r.2.mem ((c.tc : Thread Cert.KernelSqIdeal.nD Cert.KernelSqIdeal.τ).loc Cert.KernelSqIdeal.main_v0) = v0 c
          ∧ r.2.mem ((c.tc : Thread Cert.KernelSqIdeal.nD Cert.KernelSqIdeal.τ).loc Cert.KernelSqIdeal.main_arg0) = m ((c.tc : Thread Cert.KernelSqIdeal.nD Cert.KernelSqIdeal.τ).loc Cert.KernelSqIdeal.main_arg0)
          ∧ r.2.mem ((c.tc : Thread Cert.KernelSqIdeal.nD Cert.KernelSqIdeal.τ).loc Cert.KernelSqIdeal.main_arg1) = m ((c.tc : Thread Cert.KernelSqIdeal.nD Cert.KernelSqIdeal.τ).loc Cert.KernelSqIdeal.main_arg1))
      ∧ θ_run (Cert.ReferenceSqIdeal.defs (F := Ideal)) (onTc (τ := Cert.ReferenceSqIdeal.τ) (Cert.ReferenceSqIdeal.main (F := Ideal))) ⟨m', fun _ => 0, g'⟩ (fun r => ∀ c : Dev Cert.ReferenceSqIdeal.nD,
          r.2.mem ((c.tc : Thread Cert.ReferenceSqIdeal.nD Cert.ReferenceSqIdeal.τ).loc Cert.ReferenceSqIdeal.main_v7) = v0 c
          ∧ r.2.mem ((c.tc : Thread Cert.ReferenceSqIdeal.nD Cert.ReferenceSqIdeal.τ).loc Cert.ReferenceSqIdeal.main_arg0) = m' ((c.tc : Thread Cert.ReferenceSqIdeal.nD Cert.ReferenceSqIdeal.τ).loc Cert.ReferenceSqIdeal.main_arg0)
          ∧ r.2.mem ((c.tc : Thread Cert.ReferenceSqIdeal.nD Cert.ReferenceSqIdeal.τ).loc Cert.ReferenceSqIdeal.main_arg1) = m' ((c.tc : Thread Cert.ReferenceSqIdeal.nD Cert.ReferenceSqIdeal.τ).loc Cert.ReferenceSqIdeal.main_arg1))

def preserves_KernelWin_KernelWinIdeal : Prop :=
  True

def algebraic_KernelWinIdeal_ReferenceWinIdeal [hKernelWinIdeal : Cert.KernelWinIdeal.Facts] [hReferenceWinIdeal : Cert.ReferenceWinIdeal.Facts] : Prop :=
  ∀ (m : (ℓ : Loc Cert.KernelWinIdeal.nD Cert.KernelWinIdeal.τ Cert.KernelWinIdeal.sig) → Buf (Elt Ideal) ℓ) (g : Dev Cert.KernelWinIdeal.nD → PrngReg)
    (m' : (ℓ : Loc Cert.ReferenceWinIdeal.nD Cert.ReferenceWinIdeal.τ Cert.ReferenceWinIdeal.sig) → Buf (Elt Ideal) ℓ) (g' : Dev Cert.ReferenceWinIdeal.nD → PrngReg), Pre_KernelWinIdeal m →
    (∀ c : Dev Cert.KernelWinIdeal.nD,
      m' ((c.tc : Thread Cert.ReferenceWinIdeal.nD Cert.ReferenceWinIdeal.τ).loc Cert.ReferenceWinIdeal.main_arg0) = m ((c.tc : Thread Cert.KernelWinIdeal.nD Cert.KernelWinIdeal.τ).loc Cert.KernelWinIdeal.main_arg0)
      ∧ m' ((c.tc : Thread Cert.ReferenceWinIdeal.nD Cert.ReferenceWinIdeal.τ).loc Cert.ReferenceWinIdeal.main_arg1) = m ((c.tc : Thread Cert.KernelWinIdeal.nD Cert.KernelWinIdeal.τ).loc Cert.KernelWinIdeal.main_arg1)) →
    ∃ (v0 : (c : Dev Cert.KernelWinIdeal.nD) → Buf (Elt Ideal) ((c.tc : Thread Cert.KernelWinIdeal.nD Cert.KernelWinIdeal.τ).loc Cert.KernelWinIdeal.main_v0)),
      θ_run (Cert.KernelWinIdeal.defs (F := Ideal)) (onTc (τ := Cert.KernelWinIdeal.τ) (Cert.KernelWinIdeal.main (F := Ideal))) ⟨m, fun _ => 0, g⟩ (fun r => ∀ c : Dev Cert.KernelWinIdeal.nD,
          r.2.mem ((c.tc : Thread Cert.KernelWinIdeal.nD Cert.KernelWinIdeal.τ).loc Cert.KernelWinIdeal.main_v0) = v0 c
          ∧ r.2.mem ((c.tc : Thread Cert.KernelWinIdeal.nD Cert.KernelWinIdeal.τ).loc Cert.KernelWinIdeal.main_arg0) = m ((c.tc : Thread Cert.KernelWinIdeal.nD Cert.KernelWinIdeal.τ).loc Cert.KernelWinIdeal.main_arg0)
          ∧ r.2.mem ((c.tc : Thread Cert.KernelWinIdeal.nD Cert.KernelWinIdeal.τ).loc Cert.KernelWinIdeal.main_arg1) = m ((c.tc : Thread Cert.KernelWinIdeal.nD Cert.KernelWinIdeal.τ).loc Cert.KernelWinIdeal.main_arg1))
      ∧ θ_run (Cert.ReferenceWinIdeal.defs (F := Ideal)) (onTc (τ := Cert.ReferenceWinIdeal.τ) (Cert.ReferenceWinIdeal.main (F := Ideal))) ⟨m', fun _ => 0, g'⟩ (fun r => ∀ c : Dev Cert.ReferenceWinIdeal.nD,
          r.2.mem ((c.tc : Thread Cert.ReferenceWinIdeal.nD Cert.ReferenceWinIdeal.τ).loc Cert.ReferenceWinIdeal.main_v7) = v0 c
          ∧ r.2.mem ((c.tc : Thread Cert.ReferenceWinIdeal.nD Cert.ReferenceWinIdeal.τ).loc Cert.ReferenceWinIdeal.main_arg0) = m' ((c.tc : Thread Cert.ReferenceWinIdeal.nD Cert.ReferenceWinIdeal.τ).loc Cert.ReferenceWinIdeal.main_arg0)
          ∧ r.2.mem ((c.tc : Thread Cert.ReferenceWinIdeal.nD Cert.ReferenceWinIdeal.τ).loc Cert.ReferenceWinIdeal.main_arg1) = m' ((c.tc : Thread Cert.ReferenceWinIdeal.nD Cert.ReferenceWinIdeal.τ).loc Cert.ReferenceWinIdeal.main_arg1))

def preserves_KernelKv_KernelKvIdeal : Prop :=
  True

def algebraic_KernelKvIdeal_ReferenceKvIdeal [hKernelKvIdeal : Cert.KernelKvIdeal.Facts] [hReferenceKvIdeal : Cert.ReferenceKvIdeal.Facts] : Prop :=
  ∀ (m : (ℓ : Loc Cert.KernelKvIdeal.nD Cert.KernelKvIdeal.τ Cert.KernelKvIdeal.sig) → Buf (Elt Ideal) ℓ) (g : Dev Cert.KernelKvIdeal.nD → PrngReg)
    (m' : (ℓ : Loc Cert.ReferenceKvIdeal.nD Cert.ReferenceKvIdeal.τ Cert.ReferenceKvIdeal.sig) → Buf (Elt Ideal) ℓ) (g' : Dev Cert.ReferenceKvIdeal.nD → PrngReg), Pre_KernelKvIdeal m →
    (∀ c : Dev Cert.KernelKvIdeal.nD,
      m' ((c.tc : Thread Cert.ReferenceKvIdeal.nD Cert.ReferenceKvIdeal.τ).loc Cert.ReferenceKvIdeal.main_arg0) = m ((c.tc : Thread Cert.KernelKvIdeal.nD Cert.KernelKvIdeal.τ).loc Cert.KernelKvIdeal.main_arg0)
      ∧ m' ((c.tc : Thread Cert.ReferenceKvIdeal.nD Cert.ReferenceKvIdeal.τ).loc Cert.ReferenceKvIdeal.main_arg1) = m ((c.tc : Thread Cert.KernelKvIdeal.nD Cert.KernelKvIdeal.τ).loc Cert.KernelKvIdeal.main_arg1)) →
    ∃ (v0 : (c : Dev Cert.KernelKvIdeal.nD) → Buf (Elt Ideal) ((c.tc : Thread Cert.KernelKvIdeal.nD Cert.KernelKvIdeal.τ).loc Cert.KernelKvIdeal.main_v0)),
      θ_run (Cert.KernelKvIdeal.defs (F := Ideal)) (onTc (τ := Cert.KernelKvIdeal.τ) (Cert.KernelKvIdeal.main (F := Ideal))) ⟨m, fun _ => 0, g⟩ (fun r => ∀ c : Dev Cert.KernelKvIdeal.nD,
          r.2.mem ((c.tc : Thread Cert.KernelKvIdeal.nD Cert.KernelKvIdeal.τ).loc Cert.KernelKvIdeal.main_v0) = v0 c
          ∧ r.2.mem ((c.tc : Thread Cert.KernelKvIdeal.nD Cert.KernelKvIdeal.τ).loc Cert.KernelKvIdeal.main_arg0) = m ((c.tc : Thread Cert.KernelKvIdeal.nD Cert.KernelKvIdeal.τ).loc Cert.KernelKvIdeal.main_arg0)
          ∧ r.2.mem ((c.tc : Thread Cert.KernelKvIdeal.nD Cert.KernelKvIdeal.τ).loc Cert.KernelKvIdeal.main_arg1) = m ((c.tc : Thread Cert.KernelKvIdeal.nD Cert.KernelKvIdeal.τ).loc Cert.KernelKvIdeal.main_arg1))
      ∧ θ_run (Cert.ReferenceKvIdeal.defs (F := Ideal)) (onTc (τ := Cert.ReferenceKvIdeal.τ) (Cert.ReferenceKvIdeal.main (F := Ideal))) ⟨m', fun _ => 0, g'⟩ (fun r => ∀ c : Dev Cert.ReferenceKvIdeal.nD,
          r.2.mem ((c.tc : Thread Cert.ReferenceKvIdeal.nD Cert.ReferenceKvIdeal.τ).loc Cert.ReferenceKvIdeal.main_v7) = v0 c
          ∧ r.2.mem ((c.tc : Thread Cert.ReferenceKvIdeal.nD Cert.ReferenceKvIdeal.τ).loc Cert.ReferenceKvIdeal.main_arg0) = m' ((c.tc : Thread Cert.ReferenceKvIdeal.nD Cert.ReferenceKvIdeal.τ).loc Cert.ReferenceKvIdeal.main_arg0)
          ∧ r.2.mem ((c.tc : Thread Cert.ReferenceKvIdeal.nD Cert.ReferenceKvIdeal.τ).loc Cert.ReferenceKvIdeal.main_arg1) = m' ((c.tc : Thread Cert.ReferenceKvIdeal.nD Cert.ReferenceKvIdeal.τ).loc Cert.ReferenceKvIdeal.main_arg1))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)) →
    ∃ (v0 : (c : Dev Cert.KernelProjIdeal.nD) → Buf (Elt Ideal) ((c.tc : Thread Cert.KernelProjIdeal.nD Cert.KernelProjIdeal.τ).loc Cert.KernelProjIdeal.main_v0)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v0) = v0 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v9) = v0 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1))

def preserves_KernelFf_KernelFfIdeal : Prop :=
  True

def algebraic_KernelFfIdeal_ReferenceFfIdeal [hKernelFfIdeal : Cert.KernelFfIdeal.Facts] [hReferenceFfIdeal : Cert.ReferenceFfIdeal.Facts] : Prop :=
  ∀ (m : (ℓ : Loc Cert.KernelFfIdeal.nD Cert.KernelFfIdeal.τ Cert.KernelFfIdeal.sig) → Buf (Elt Ideal) ℓ) (g : Dev Cert.KernelFfIdeal.nD → PrngReg)
    (m' : (ℓ : Loc Cert.ReferenceFfIdeal.nD Cert.ReferenceFfIdeal.τ Cert.ReferenceFfIdeal.sig) → Buf (Elt Ideal) ℓ) (g' : Dev Cert.ReferenceFfIdeal.nD → PrngReg), Pre_KernelFfIdeal m →
    (∀ c : Dev Cert.KernelFfIdeal.nD,
      m' ((c.tc : Thread Cert.ReferenceFfIdeal.nD Cert.ReferenceFfIdeal.τ).loc Cert.ReferenceFfIdeal.main_arg0) = m ((c.tc : Thread Cert.KernelFfIdeal.nD Cert.KernelFfIdeal.τ).loc Cert.KernelFfIdeal.main_arg0)
      ∧ m' ((c.tc : Thread Cert.ReferenceFfIdeal.nD Cert.ReferenceFfIdeal.τ).loc Cert.ReferenceFfIdeal.main_arg1) = m ((c.tc : Thread Cert.KernelFfIdeal.nD Cert.KernelFfIdeal.τ).loc Cert.KernelFfIdeal.main_arg1)) →
    ∃ (v0 : (c : Dev Cert.KernelFfIdeal.nD) → Buf (Elt Ideal) ((c.tc : Thread Cert.KernelFfIdeal.nD Cert.KernelFfIdeal.τ).loc Cert.KernelFfIdeal.main_v0_0)) (v1 : (c : Dev Cert.KernelFfIdeal.nD) → Buf (Elt Ideal) ((c.tc : Thread Cert.KernelFfIdeal.nD Cert.KernelFfIdeal.τ).loc Cert.KernelFfIdeal.main_v0_1)),
      θ_run (Cert.KernelFfIdeal.defs (F := Ideal)) (onTc (τ := Cert.KernelFfIdeal.τ) (Cert.KernelFfIdeal.main (F := Ideal))) ⟨m, fun _ => 0, g⟩ (fun r => ∀ c : Dev Cert.KernelFfIdeal.nD,
          r.2.mem ((c.tc : Thread Cert.KernelFfIdeal.nD Cert.KernelFfIdeal.τ).loc Cert.KernelFfIdeal.main_v0_0) = v0 c
          ∧ r.2.mem ((c.tc : Thread Cert.KernelFfIdeal.nD Cert.KernelFfIdeal.τ).loc Cert.KernelFfIdeal.main_v0_1) = v1 c
          ∧ r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
          ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1))
      ∧ θ_run (Cert.ReferenceFfIdeal.defs (F := Ideal)) (onTc (τ := Cert.ReferenceFfIdeal.τ) (Cert.ReferenceFfIdeal.main (F := Ideal))) ⟨m', fun _ => 0, g'⟩ (fun r => ∀ c : Dev Cert.ReferenceFfIdeal.nD,
          r.2.mem ((c.tc : Thread Cert.ReferenceFfIdeal.nD Cert.ReferenceFfIdeal.τ).loc Cert.ReferenceFfIdeal.main_v12) = v0 c
          ∧ r.2.mem ((c.tc : Thread Cert.ReferenceFfIdeal.nD Cert.ReferenceFfIdeal.τ).loc Cert.ReferenceFfIdeal.main_v17) = v1 c
          ∧ r.2.mem ((c.tc : Thread Cert.ReferenceFfIdeal.nD Cert.ReferenceFfIdeal.τ).loc Cert.ReferenceFfIdeal.main_arg0) = m' ((c.tc : Thread Cert.ReferenceFfIdeal.nD Cert.ReferenceFfIdeal.τ).loc Cert.ReferenceFfIdeal.main_arg0)
          ∧ r.2.mem ((c.tc : Thread Cert.ReferenceFfIdeal.nD Cert.ReferenceFfIdeal.τ).loc Cert.ReferenceFfIdeal.main_arg1) = m' ((c.tc : Thread Cert.ReferenceFfIdeal.nD Cert.ReferenceFfIdeal.τ).loc Cert.ReferenceFfIdeal.main_arg1))

def preserves_KernelLn_KernelLnIdeal : Prop :=
  True

def algebraic_KernelLnIdeal_ReferenceLnIdeal [hKernelLnIdeal : Cert.KernelLnIdeal.Facts] [hReferenceLnIdeal : Cert.ReferenceLnIdeal.Facts] : Prop :=
  ∀ (m : (ℓ : Loc Cert.KernelLnIdeal.nD Cert.KernelLnIdeal.τ Cert.KernelLnIdeal.sig) → Buf (Elt Ideal) ℓ) (g : Dev Cert.KernelLnIdeal.nD → PrngReg)
    (m' : (ℓ : Loc Cert.ReferenceLnIdeal.nD Cert.ReferenceLnIdeal.τ Cert.ReferenceLnIdeal.sig) → Buf (Elt Ideal) ℓ) (g' : Dev Cert.ReferenceLnIdeal.nD → PrngReg), Pre_KernelLnIdeal m →
    (∀ c : Dev Cert.KernelLnIdeal.nD,
      m' ((c.tc : Thread Cert.ReferenceLnIdeal.nD Cert.ReferenceLnIdeal.τ).loc Cert.ReferenceLnIdeal.main_arg0) = m ((c.tc : Thread Cert.KernelLnIdeal.nD Cert.KernelLnIdeal.τ).loc Cert.KernelLnIdeal.main_arg0)
      ∧ m' ((c.tc : Thread Cert.ReferenceLnIdeal.nD Cert.ReferenceLnIdeal.τ).loc Cert.ReferenceLnIdeal.main_arg1) = m ((c.tc : Thread Cert.KernelLnIdeal.nD Cert.KernelLnIdeal.τ).loc Cert.KernelLnIdeal.main_arg1)
      ∧ m' ((c.tc : Thread Cert.ReferenceLnIdeal.nD Cert.ReferenceLnIdeal.τ).loc Cert.ReferenceLnIdeal.main_arg2) = m ((c.tc : Thread Cert.KernelLnIdeal.nD Cert.KernelLnIdeal.τ).loc Cert.KernelLnIdeal.main_arg2)
      ∧ m' ((c.tc : Thread Cert.ReferenceLnIdeal.nD Cert.ReferenceLnIdeal.τ).loc Cert.ReferenceLnIdeal.main_arg3) = m ((c.tc : Thread Cert.KernelLnIdeal.nD Cert.KernelLnIdeal.τ).loc Cert.KernelLnIdeal.main_arg3)
      ∧ m' ((c.tc : Thread Cert.ReferenceLnIdeal.nD Cert.ReferenceLnIdeal.τ).loc Cert.ReferenceLnIdeal.main_arg4) = m ((c.tc : Thread Cert.KernelLnIdeal.nD Cert.KernelLnIdeal.τ).loc Cert.KernelLnIdeal.main_arg4)) →
    ∃ (v0 : (c : Dev Cert.KernelLnIdeal.nD) → Buf (Elt Ideal) ((c.tc : Thread Cert.KernelLnIdeal.nD Cert.KernelLnIdeal.τ).loc Cert.KernelLnIdeal.main_v0_0)) (v1 : (c : Dev Cert.KernelLnIdeal.nD) → Buf (Elt Ideal) ((c.tc : Thread Cert.KernelLnIdeal.nD Cert.KernelLnIdeal.τ).loc Cert.KernelLnIdeal.main_v0_1)) (v2 : (c : Dev Cert.KernelLnIdeal.nD) → Buf (Elt Ideal) ((c.tc : Thread Cert.KernelLnIdeal.nD Cert.KernelLnIdeal.τ).loc Cert.KernelLnIdeal.main_v0_2)) (v3 : (c : Dev Cert.KernelLnIdeal.nD) → Buf (Elt Ideal) ((c.tc : Thread Cert.KernelLnIdeal.nD Cert.KernelLnIdeal.τ).loc Cert.KernelLnIdeal.main_v0_3)) (v4 : (c : Dev Cert.KernelLnIdeal.nD) → Buf (Elt Ideal) ((c.tc : Thread Cert.KernelLnIdeal.nD Cert.KernelLnIdeal.τ).loc Cert.KernelLnIdeal.main_v0_4)),
      θ_run (Cert.KernelLnIdeal.defs (F := Ideal)) (onTc (τ := Cert.KernelLnIdeal.τ) (Cert.KernelLnIdeal.main (F := Ideal))) ⟨m, fun _ => 0, g⟩ (fun r => ∀ c : Dev Cert.KernelLnIdeal.nD,
          r.2.mem ((c.tc : Thread Cert.KernelLnIdeal.nD Cert.KernelLnIdeal.τ).loc Cert.KernelLnIdeal.main_v0_0) = v0 c
          ∧ r.2.mem ((c.tc : Thread Cert.KernelLnIdeal.nD Cert.KernelLnIdeal.τ).loc Cert.KernelLnIdeal.main_v0_1) = v1 c
          ∧ r.2.mem ((c.tc : Thread Cert.KernelLnIdeal.nD Cert.KernelLnIdeal.τ).loc Cert.KernelLnIdeal.main_v0_2) = v2 c
          ∧ r.2.mem ((c.tc : Thread Cert.KernelLnIdeal.nD Cert.KernelLnIdeal.τ).loc Cert.KernelLnIdeal.main_v0_3) = v3 c
          ∧ r.2.mem ((c.tc : Thread Cert.KernelLnIdeal.nD Cert.KernelLnIdeal.τ).loc Cert.KernelLnIdeal.main_v0_4) = v4 c
          ∧ r.2.mem ((c.tc : Thread Cert.KernelLnIdeal.nD Cert.KernelLnIdeal.τ).loc Cert.KernelLnIdeal.main_arg0) = m ((c.tc : Thread Cert.KernelLnIdeal.nD Cert.KernelLnIdeal.τ).loc Cert.KernelLnIdeal.main_arg0)
          ∧ r.2.mem ((c.tc : Thread Cert.KernelLnIdeal.nD Cert.KernelLnIdeal.τ).loc Cert.KernelLnIdeal.main_arg1) = m ((c.tc : Thread Cert.KernelLnIdeal.nD Cert.KernelLnIdeal.τ).loc Cert.KernelLnIdeal.main_arg1)
          ∧ r.2.mem ((c.tc : Thread Cert.KernelLnIdeal.nD Cert.KernelLnIdeal.τ).loc Cert.KernelLnIdeal.main_arg2) = m ((c.tc : Thread Cert.KernelLnIdeal.nD Cert.KernelLnIdeal.τ).loc Cert.KernelLnIdeal.main_arg2)
          ∧ r.2.mem ((c.tc : Thread Cert.KernelLnIdeal.nD Cert.KernelLnIdeal.τ).loc Cert.KernelLnIdeal.main_arg3) = m ((c.tc : Thread Cert.KernelLnIdeal.nD Cert.KernelLnIdeal.τ).loc Cert.KernelLnIdeal.main_arg3)
          ∧ r.2.mem ((c.tc : Thread Cert.KernelLnIdeal.nD Cert.KernelLnIdeal.τ).loc Cert.KernelLnIdeal.main_arg4) = m ((c.tc : Thread Cert.KernelLnIdeal.nD Cert.KernelLnIdeal.τ).loc Cert.KernelLnIdeal.main_arg4))
      ∧ θ_run (Cert.ReferenceLnIdeal.defs (F := Ideal)) (onTc (τ := Cert.ReferenceLnIdeal.τ) (Cert.ReferenceLnIdeal.main (F := Ideal))) ⟨m', fun _ => 0, g'⟩ (fun r => ∀ c : Dev Cert.ReferenceLnIdeal.nD,
          r.2.mem ((c.tc : Thread Cert.ReferenceLnIdeal.nD Cert.ReferenceLnIdeal.τ).loc Cert.ReferenceLnIdeal.main_v6) = v0 c
          ∧ r.2.mem ((c.tc : Thread Cert.ReferenceLnIdeal.nD Cert.ReferenceLnIdeal.τ).loc Cert.ReferenceLnIdeal.main_v32) = v1 c
          ∧ r.2.mem ((c.tc : Thread Cert.ReferenceLnIdeal.nD Cert.ReferenceLnIdeal.τ).loc Cert.ReferenceLnIdeal.main_v42) = v2 c
          ∧ r.2.mem ((c.tc : Thread Cert.ReferenceLnIdeal.nD Cert.ReferenceLnIdeal.τ).loc Cert.ReferenceLnIdeal.main_v28) = v3 c
          ∧ r.2.mem ((c.tc : Thread Cert.ReferenceLnIdeal.nD Cert.ReferenceLnIdeal.τ).loc Cert.ReferenceLnIdeal.main_v43) = v4 c
          ∧ r.2.mem ((c.tc : Thread Cert.ReferenceLnIdeal.nD Cert.ReferenceLnIdeal.τ).loc Cert.ReferenceLnIdeal.main_arg0) = m' ((c.tc : Thread Cert.ReferenceLnIdeal.nD Cert.ReferenceLnIdeal.τ).loc Cert.ReferenceLnIdeal.main_arg0)
          ∧ r.2.mem ((c.tc : Thread Cert.ReferenceLnIdeal.nD Cert.ReferenceLnIdeal.τ).loc Cert.ReferenceLnIdeal.main_arg1) = m' ((c.tc : Thread Cert.ReferenceLnIdeal.nD Cert.ReferenceLnIdeal.τ).loc Cert.ReferenceLnIdeal.main_arg1)
          ∧ r.2.mem ((c.tc : Thread Cert.ReferenceLnIdeal.nD Cert.ReferenceLnIdeal.τ).loc Cert.ReferenceLnIdeal.main_arg2) = m' ((c.tc : Thread Cert.ReferenceLnIdeal.nD Cert.ReferenceLnIdeal.τ).loc Cert.ReferenceLnIdeal.main_arg2)
          ∧ r.2.mem ((c.tc : Thread Cert.ReferenceLnIdeal.nD Cert.ReferenceLnIdeal.τ).loc Cert.ReferenceLnIdeal.main_arg3) = m' ((c.tc : Thread Cert.ReferenceLnIdeal.nD Cert.ReferenceLnIdeal.τ).loc Cert.ReferenceLnIdeal.main_arg3)
          ∧ r.2.mem ((c.tc : Thread Cert.ReferenceLnIdeal.nD Cert.ReferenceLnIdeal.τ).loc Cert.ReferenceLnIdeal.main_arg4) = m' ((c.tc : Thread Cert.ReferenceLnIdeal.nD Cert.ReferenceLnIdeal.τ).loc Cert.ReferenceLnIdeal.main_arg4))

def preserves_KernelMb_KernelMbIdeal : Prop :=
  True

def algebraic_KernelMbIdeal_ReferenceMbIdeal_pre_finite_mb [hKernelMbIdeal : Cert.KernelMbIdeal.Facts] [hReferenceMbIdeal : Cert.ReferenceMbIdeal.Facts] [hPre_finite_mb : Cert.Pre_finite_mb.Facts] : Prop :=
  ∀ (m : (ℓ : Loc Cert.KernelMbIdeal.nD Cert.KernelMbIdeal.τ Cert.KernelMbIdeal.sig) → Buf (Elt Ideal) ℓ) (g : Dev Cert.KernelMbIdeal.nD → PrngReg)
    (m' : (ℓ : Loc Cert.ReferenceMbIdeal.nD Cert.ReferenceMbIdeal.τ Cert.ReferenceMbIdeal.sig) → Buf (Elt Ideal) ℓ) (g' : Dev Cert.ReferenceMbIdeal.nD → PrngReg), Pre_KernelMbIdeal_finite_mb m →
    (∀ c : Dev Cert.KernelMbIdeal.nD,
      m' ((c.tc : Thread Cert.ReferenceMbIdeal.nD Cert.ReferenceMbIdeal.τ).loc Cert.ReferenceMbIdeal.main_arg0) = m ((c.tc : Thread Cert.KernelMbIdeal.nD Cert.KernelMbIdeal.τ).loc Cert.KernelMbIdeal.main_arg0)
      ∧ m' ((c.tc : Thread Cert.ReferenceMbIdeal.nD Cert.ReferenceMbIdeal.τ).loc Cert.ReferenceMbIdeal.main_arg1) = m ((c.tc : Thread Cert.KernelMbIdeal.nD Cert.KernelMbIdeal.τ).loc Cert.KernelMbIdeal.main_arg1)
      ∧ m' ((c.tc : Thread Cert.ReferenceMbIdeal.nD Cert.ReferenceMbIdeal.τ).loc Cert.ReferenceMbIdeal.main_arg2) = m ((c.tc : Thread Cert.KernelMbIdeal.nD Cert.KernelMbIdeal.τ).loc Cert.KernelMbIdeal.main_arg2)
      ∧ m' ((c.tc : Thread Cert.ReferenceMbIdeal.nD Cert.ReferenceMbIdeal.τ).loc Cert.ReferenceMbIdeal.main_arg3) = m ((c.tc : Thread Cert.KernelMbIdeal.nD Cert.KernelMbIdeal.τ).loc Cert.KernelMbIdeal.main_arg3)
      ∧ m' ((c.tc : Thread Cert.ReferenceMbIdeal.nD Cert.ReferenceMbIdeal.τ).loc Cert.ReferenceMbIdeal.main_arg4) = m ((c.tc : Thread Cert.KernelMbIdeal.nD Cert.KernelMbIdeal.τ).loc Cert.KernelMbIdeal.main_arg4)) →
    ∃ (v0 : (c : Dev Cert.KernelMbIdeal.nD) → Buf (Elt Ideal) ((c.tc : Thread Cert.KernelMbIdeal.nD Cert.KernelMbIdeal.τ).loc Cert.KernelMbIdeal.main_v19_0)) (v1 : (c : Dev Cert.KernelMbIdeal.nD) → Buf (Elt Ideal) ((c.tc : Thread Cert.KernelMbIdeal.nD Cert.KernelMbIdeal.τ).loc Cert.KernelMbIdeal.main_v19_1)) (v2 : (c : Dev Cert.KernelMbIdeal.nD) → Buf (Elt Ideal) ((c.tc : Thread Cert.KernelMbIdeal.nD Cert.KernelMbIdeal.τ).loc Cert.KernelMbIdeal.main_v19_2)) (v3 : (c : Dev Cert.KernelMbIdeal.nD) → Buf (Elt Ideal) ((c.tc : Thread Cert.KernelMbIdeal.nD Cert.KernelMbIdeal.τ).loc Cert.KernelMbIdeal.main_v19_3)) (v4 : (c : Dev Cert.KernelMbIdeal.nD) → Buf (Elt Ideal) ((c.tc : Thread Cert.KernelMbIdeal.nD Cert.KernelMbIdeal.τ).loc Cert.KernelMbIdeal.main_v19_4)),
      θ_run (Cert.KernelMbIdeal.defs (F := Ideal)) (onTc (τ := Cert.KernelMbIdeal.τ) (Cert.KernelMbIdeal.main (F := Ideal))) ⟨m, fun _ => 0, g⟩ (fun r => ∀ c : Dev Cert.KernelMbIdeal.nD,
          r.2.mem ((c.tc : Thread Cert.KernelMbIdeal.nD Cert.KernelMbIdeal.τ).loc Cert.KernelMbIdeal.main_v19_0) = v0 c
          ∧ r.2.mem ((c.tc : Thread Cert.KernelMbIdeal.nD Cert.KernelMbIdeal.τ).loc Cert.KernelMbIdeal.main_v19_1) = v1 c
          ∧ r.2.mem ((c.tc : Thread Cert.KernelMbIdeal.nD Cert.KernelMbIdeal.τ).loc Cert.KernelMbIdeal.main_v19_2) = v2 c
          ∧ r.2.mem ((c.tc : Thread Cert.KernelMbIdeal.nD Cert.KernelMbIdeal.τ).loc Cert.KernelMbIdeal.main_v19_3) = v3 c
          ∧ r.2.mem ((c.tc : Thread Cert.KernelMbIdeal.nD Cert.KernelMbIdeal.τ).loc Cert.KernelMbIdeal.main_v19_4) = v4 c
          ∧ r.2.mem ((c.tc : Thread Cert.KernelMbIdeal.nD Cert.KernelMbIdeal.τ).loc Cert.KernelMbIdeal.main_arg0) = m ((c.tc : Thread Cert.KernelMbIdeal.nD Cert.KernelMbIdeal.τ).loc Cert.KernelMbIdeal.main_arg0)
          ∧ r.2.mem ((c.tc : Thread Cert.KernelMbIdeal.nD Cert.KernelMbIdeal.τ).loc Cert.KernelMbIdeal.main_arg1) = m ((c.tc : Thread Cert.KernelMbIdeal.nD Cert.KernelMbIdeal.τ).loc Cert.KernelMbIdeal.main_arg1)
          ∧ r.2.mem ((c.tc : Thread Cert.KernelMbIdeal.nD Cert.KernelMbIdeal.τ).loc Cert.KernelMbIdeal.main_arg2) = m ((c.tc : Thread Cert.KernelMbIdeal.nD Cert.KernelMbIdeal.τ).loc Cert.KernelMbIdeal.main_arg2)
          ∧ r.2.mem ((c.tc : Thread Cert.KernelMbIdeal.nD Cert.KernelMbIdeal.τ).loc Cert.KernelMbIdeal.main_arg3) = m ((c.tc : Thread Cert.KernelMbIdeal.nD Cert.KernelMbIdeal.τ).loc Cert.KernelMbIdeal.main_arg3)
          ∧ r.2.mem ((c.tc : Thread Cert.KernelMbIdeal.nD Cert.KernelMbIdeal.τ).loc Cert.KernelMbIdeal.main_arg4) = m ((c.tc : Thread Cert.KernelMbIdeal.nD Cert.KernelMbIdeal.τ).loc Cert.KernelMbIdeal.main_arg4))
      ∧ θ_run (Cert.ReferenceMbIdeal.defs (F := Ideal)) (onTc (τ := Cert.ReferenceMbIdeal.τ) (Cert.ReferenceMbIdeal.main (F := Ideal))) ⟨m', fun _ => 0, g'⟩ (fun r => ∀ c : Dev Cert.ReferenceMbIdeal.nD,
          r.2.mem ((c.tc : Thread Cert.ReferenceMbIdeal.nD Cert.ReferenceMbIdeal.τ).loc Cert.ReferenceMbIdeal.main_v59) = v0 c
          ∧ r.2.mem ((c.tc : Thread Cert.ReferenceMbIdeal.nD Cert.ReferenceMbIdeal.τ).loc Cert.ReferenceMbIdeal.main_v74) = v1 c
          ∧ r.2.mem ((c.tc : Thread Cert.ReferenceMbIdeal.nD Cert.ReferenceMbIdeal.τ).loc Cert.ReferenceMbIdeal.main_v75) = v2 c
          ∧ r.2.mem ((c.tc : Thread Cert.ReferenceMbIdeal.nD Cert.ReferenceMbIdeal.τ).loc Cert.ReferenceMbIdeal.main_v33) = v3 c
          ∧ r.2.mem ((c.tc : Thread Cert.ReferenceMbIdeal.nD Cert.ReferenceMbIdeal.τ).loc Cert.ReferenceMbIdeal.main_v30) = v4 c
          ∧ r.2.mem ((c.tc : Thread Cert.ReferenceMbIdeal.nD Cert.ReferenceMbIdeal.τ).loc Cert.ReferenceMbIdeal.main_arg0) = m' ((c.tc : Thread Cert.ReferenceMbIdeal.nD Cert.ReferenceMbIdeal.τ).loc Cert.ReferenceMbIdeal.main_arg0)
          ∧ r.2.mem ((c.tc : Thread Cert.ReferenceMbIdeal.nD Cert.ReferenceMbIdeal.τ).loc Cert.ReferenceMbIdeal.main_arg1) = m' ((c.tc : Thread Cert.ReferenceMbIdeal.nD Cert.ReferenceMbIdeal.τ).loc Cert.ReferenceMbIdeal.main_arg1)
          ∧ r.2.mem ((c.tc : Thread Cert.ReferenceMbIdeal.nD Cert.ReferenceMbIdeal.τ).loc Cert.ReferenceMbIdeal.main_arg2) = m' ((c.tc : Thread Cert.ReferenceMbIdeal.nD Cert.ReferenceMbIdeal.τ).loc Cert.ReferenceMbIdeal.main_arg2)
          ∧ r.2.mem ((c.tc : Thread Cert.ReferenceMbIdeal.nD Cert.ReferenceMbIdeal.τ).loc Cert.ReferenceMbIdeal.main_arg3) = m' ((c.tc : Thread Cert.ReferenceMbIdeal.nD Cert.ReferenceMbIdeal.τ).loc Cert.ReferenceMbIdeal.main_arg3)
          ∧ r.2.mem ((c.tc : Thread Cert.ReferenceMbIdeal.nD Cert.ReferenceMbIdeal.τ).loc Cert.ReferenceMbIdeal.main_arg4) = m' ((c.tc : Thread Cert.ReferenceMbIdeal.nD Cert.ReferenceMbIdeal.τ).loc Cert.ReferenceMbIdeal.main_arg4))

def preserves_KernelMc_KernelMcIdeal : Prop :=
  True

def algebraic_KernelMcIdeal_ReferenceMcIdeal_pre_finite_mc [hKernelMcIdeal : Cert.KernelMcIdeal.Facts] [hReferenceMcIdeal : Cert.ReferenceMcIdeal.Facts] [hPre_finite_mc : Cert.Pre_finite_mc.Facts] : Prop :=
  ∀ (m : (ℓ : Loc Cert.KernelMcIdeal.nD Cert.KernelMcIdeal.τ Cert.KernelMcIdeal.sig) → Buf (Elt Ideal) ℓ) (g : Dev Cert.KernelMcIdeal.nD → PrngReg)
    (m' : (ℓ : Loc Cert.ReferenceMcIdeal.nD Cert.ReferenceMcIdeal.τ Cert.ReferenceMcIdeal.sig) → Buf (Elt Ideal) ℓ) (g' : Dev Cert.ReferenceMcIdeal.nD → PrngReg), Pre_KernelMcIdeal_finite_mc m →
    (∀ c : Dev Cert.KernelMcIdeal.nD,
      m' ((c.tc : Thread Cert.ReferenceMcIdeal.nD Cert.ReferenceMcIdeal.τ).loc Cert.ReferenceMcIdeal.main_arg0) = m ((c.tc : Thread Cert.KernelMcIdeal.nD Cert.KernelMcIdeal.τ).loc Cert.KernelMcIdeal.main_arg0)
      ∧ m' ((c.tc : Thread Cert.ReferenceMcIdeal.nD Cert.ReferenceMcIdeal.τ).loc Cert.ReferenceMcIdeal.main_arg1) = m ((c.tc : Thread Cert.KernelMcIdeal.nD Cert.KernelMcIdeal.τ).loc Cert.KernelMcIdeal.main_arg1)
      ∧ m' ((c.tc : Thread Cert.ReferenceMcIdeal.nD Cert.ReferenceMcIdeal.τ).loc Cert.ReferenceMcIdeal.main_arg2) = m ((c.tc : Thread Cert.KernelMcIdeal.nD Cert.KernelMcIdeal.τ).loc Cert.KernelMcIdeal.main_arg2)
      ∧ m' ((c.tc : Thread Cert.ReferenceMcIdeal.nD Cert.ReferenceMcIdeal.τ).loc Cert.ReferenceMcIdeal.main_arg3) = m ((c.tc : Thread Cert.KernelMcIdeal.nD Cert.KernelMcIdeal.τ).loc Cert.KernelMcIdeal.main_arg3)
      ∧ m' ((c.tc : Thread Cert.ReferenceMcIdeal.nD Cert.ReferenceMcIdeal.τ).loc Cert.ReferenceMcIdeal.main_arg4) = m ((c.tc : Thread Cert.KernelMcIdeal.nD Cert.KernelMcIdeal.τ).loc Cert.KernelMcIdeal.main_arg4)
      ∧ m' ((c.tc : Thread Cert.ReferenceMcIdeal.nD Cert.ReferenceMcIdeal.τ).loc Cert.ReferenceMcIdeal.main_arg5) = m ((c.tc : Thread Cert.KernelMcIdeal.nD Cert.KernelMcIdeal.τ).loc Cert.KernelMcIdeal.main_arg5)) →
    ∃ (v0 : (c : Dev Cert.KernelMcIdeal.nD) → Buf (Elt Ideal) ((c.tc : Thread Cert.KernelMcIdeal.nD Cert.KernelMcIdeal.τ).loc Cert.KernelMcIdeal.main_v14_0)) (v1 : (c : Dev Cert.KernelMcIdeal.nD) → Buf (Elt Ideal) ((c.tc : Thread Cert.KernelMcIdeal.nD Cert.KernelMcIdeal.τ).loc Cert.KernelMcIdeal.main_v14_1)) (v2 : (c : Dev Cert.KernelMcIdeal.nD) → Buf (Elt Ideal) ((c.tc : Thread Cert.KernelMcIdeal.nD Cert.KernelMcIdeal.τ).loc Cert.KernelMcIdeal.main_v14_2)) (v3 : (c : Dev Cert.KernelMcIdeal.nD) → Buf (Elt Ideal) ((c.tc : Thread Cert.KernelMcIdeal.nD Cert.KernelMcIdeal.τ).loc Cert.KernelMcIdeal.main_v14_3)) (v4 : (c : Dev Cert.KernelMcIdeal.nD) → Buf (Elt Ideal) ((c.tc : Thread Cert.KernelMcIdeal.nD Cert.KernelMcIdeal.τ).loc Cert.KernelMcIdeal.main_v14_4)) (v5 : (c : Dev Cert.KernelMcIdeal.nD) → Buf (Elt Ideal) ((c.tc : Thread Cert.KernelMcIdeal.nD Cert.KernelMcIdeal.τ).loc Cert.KernelMcIdeal.main_v14_5)),
      θ_run (Cert.KernelMcIdeal.defs (F := Ideal)) (onTc (τ := Cert.KernelMcIdeal.τ) (Cert.KernelMcIdeal.main (F := Ideal))) ⟨m, fun _ => 0, g⟩ (fun r => ∀ c : Dev Cert.KernelMcIdeal.nD,
          r.2.mem ((c.tc : Thread Cert.KernelMcIdeal.nD Cert.KernelMcIdeal.τ).loc Cert.KernelMcIdeal.main_v14_0) = v0 c
          ∧ r.2.mem ((c.tc : Thread Cert.KernelMcIdeal.nD Cert.KernelMcIdeal.τ).loc Cert.KernelMcIdeal.main_v14_1) = v1 c
          ∧ r.2.mem ((c.tc : Thread Cert.KernelMcIdeal.nD Cert.KernelMcIdeal.τ).loc Cert.KernelMcIdeal.main_v14_2) = v2 c
          ∧ r.2.mem ((c.tc : Thread Cert.KernelMcIdeal.nD Cert.KernelMcIdeal.τ).loc Cert.KernelMcIdeal.main_v14_3) = v3 c
          ∧ r.2.mem ((c.tc : Thread Cert.KernelMcIdeal.nD Cert.KernelMcIdeal.τ).loc Cert.KernelMcIdeal.main_v14_4) = v4 c
          ∧ r.2.mem ((c.tc : Thread Cert.KernelMcIdeal.nD Cert.KernelMcIdeal.τ).loc Cert.KernelMcIdeal.main_v14_5) = v5 c
          ∧ r.2.mem ((c.tc : Thread Cert.KernelMcIdeal.nD Cert.KernelMcIdeal.τ).loc Cert.KernelMcIdeal.main_arg0) = m ((c.tc : Thread Cert.KernelMcIdeal.nD Cert.KernelMcIdeal.τ).loc Cert.KernelMcIdeal.main_arg0)
          ∧ r.2.mem ((c.tc : Thread Cert.KernelMcIdeal.nD Cert.KernelMcIdeal.τ).loc Cert.KernelMcIdeal.main_arg1) = m ((c.tc : Thread Cert.KernelMcIdeal.nD Cert.KernelMcIdeal.τ).loc Cert.KernelMcIdeal.main_arg1)
          ∧ r.2.mem ((c.tc : Thread Cert.KernelMcIdeal.nD Cert.KernelMcIdeal.τ).loc Cert.KernelMcIdeal.main_arg2) = m ((c.tc : Thread Cert.KernelMcIdeal.nD Cert.KernelMcIdeal.τ).loc Cert.KernelMcIdeal.main_arg2)
          ∧ r.2.mem ((c.tc : Thread Cert.KernelMcIdeal.nD Cert.KernelMcIdeal.τ).loc Cert.KernelMcIdeal.main_arg3) = m ((c.tc : Thread Cert.KernelMcIdeal.nD Cert.KernelMcIdeal.τ).loc Cert.KernelMcIdeal.main_arg3)
          ∧ r.2.mem ((c.tc : Thread Cert.KernelMcIdeal.nD Cert.KernelMcIdeal.τ).loc Cert.KernelMcIdeal.main_arg4) = m ((c.tc : Thread Cert.KernelMcIdeal.nD Cert.KernelMcIdeal.τ).loc Cert.KernelMcIdeal.main_arg4)
          ∧ r.2.mem ((c.tc : Thread Cert.KernelMcIdeal.nD Cert.KernelMcIdeal.τ).loc Cert.KernelMcIdeal.main_arg5) = m ((c.tc : Thread Cert.KernelMcIdeal.nD Cert.KernelMcIdeal.τ).loc Cert.KernelMcIdeal.main_arg5))
      ∧ θ_run (Cert.ReferenceMcIdeal.defs (F := Ideal)) (onTc (τ := Cert.ReferenceMcIdeal.τ) (Cert.ReferenceMcIdeal.main (F := Ideal))) ⟨m', fun _ => 0, g'⟩ (fun r => ∀ c : Dev Cert.ReferenceMcIdeal.nD,
          r.2.mem ((c.tc : Thread Cert.ReferenceMcIdeal.nD Cert.ReferenceMcIdeal.τ).loc Cert.ReferenceMcIdeal.main_v70) = v0 c
          ∧ r.2.mem ((c.tc : Thread Cert.ReferenceMcIdeal.nD Cert.ReferenceMcIdeal.τ).loc Cert.ReferenceMcIdeal.main_v81) = v1 c
          ∧ r.2.mem ((c.tc : Thread Cert.ReferenceMcIdeal.nD Cert.ReferenceMcIdeal.τ).loc Cert.ReferenceMcIdeal.main_v82) = v2 c
          ∧ r.2.mem ((c.tc : Thread Cert.ReferenceMcIdeal.nD Cert.ReferenceMcIdeal.τ).loc Cert.ReferenceMcIdeal.main_v44) = v3 c
          ∧ r.2.mem ((c.tc : Thread Cert.ReferenceMcIdeal.nD Cert.ReferenceMcIdeal.τ).loc Cert.ReferenceMcIdeal.main_v41) = v4 c
          ∧ r.2.mem ((c.tc : Thread Cert.ReferenceMcIdeal.nD Cert.ReferenceMcIdeal.τ).loc Cert.ReferenceMcIdeal.main_v79) = v5 c
          ∧ r.2.mem ((c.tc : Thread Cert.ReferenceMcIdeal.nD Cert.ReferenceMcIdeal.τ).loc Cert.ReferenceMcIdeal.main_arg0) = m' ((c.tc : Thread Cert.ReferenceMcIdeal.nD Cert.ReferenceMcIdeal.τ).loc Cert.ReferenceMcIdeal.main_arg0)
          ∧ r.2.mem ((c.tc : Thread Cert.ReferenceMcIdeal.nD Cert.ReferenceMcIdeal.τ).loc Cert.ReferenceMcIdeal.main_arg1) = m' ((c.tc : Thread Cert.ReferenceMcIdeal.nD Cert.ReferenceMcIdeal.τ).loc Cert.ReferenceMcIdeal.main_arg1)
          ∧ r.2.mem ((c.tc : Thread Cert.ReferenceMcIdeal.nD Cert.ReferenceMcIdeal.τ).loc Cert.ReferenceMcIdeal.main_arg2) = m' ((c.tc : Thread Cert.ReferenceMcIdeal.nD Cert.ReferenceMcIdeal.τ).loc Cert.ReferenceMcIdeal.main_arg2)
          ∧ r.2.mem ((c.tc : Thread Cert.ReferenceMcIdeal.nD Cert.ReferenceMcIdeal.τ).loc Cert.ReferenceMcIdeal.main_arg3) = m' ((c.tc : Thread Cert.ReferenceMcIdeal.nD Cert.ReferenceMcIdeal.τ).loc Cert.ReferenceMcIdeal.main_arg3)
          ∧ r.2.mem ((c.tc : Thread Cert.ReferenceMcIdeal.nD Cert.ReferenceMcIdeal.τ).loc Cert.ReferenceMcIdeal.main_arg4) = m' ((c.tc : Thread Cert.ReferenceMcIdeal.nD Cert.ReferenceMcIdeal.τ).loc Cert.ReferenceMcIdeal.main_arg4)
          ∧ r.2.mem ((c.tc : Thread Cert.ReferenceMcIdeal.nD Cert.ReferenceMcIdeal.τ).loc Cert.ReferenceMcIdeal.main_arg5) = m' ((c.tc : Thread Cert.ReferenceMcIdeal.nD Cert.ReferenceMcIdeal.τ).loc Cert.ReferenceMcIdeal.main_arg5))

def Claim : Prop :=
  ∃ (hKernel : Cert.Kernel.Facts) (hKernelIdeal : Cert.KernelIdeal.Facts) (hReferenceIdeal : Cert.ReferenceIdeal.Facts) (hKernelUp : Cert.KernelUp.Facts) (hKernelUpIdeal : Cert.KernelUpIdeal.Facts) (hReferenceUpIdeal : Cert.ReferenceUpIdeal.Facts) (hKernelDown : Cert.KernelDown.Facts) (hKernelDownIdeal : Cert.KernelDownIdeal.Facts) (hReferenceDownIdeal : Cert.ReferenceDownIdeal.Facts) (hKernelSq : Cert.KernelSq.Facts) (hKernelSqIdeal : Cert.KernelSqIdeal.Facts) (hReferenceSqIdeal : Cert.ReferenceSqIdeal.Facts) (hKernelWin : Cert.KernelWin.Facts) (hKernelWinIdeal : Cert.KernelWinIdeal.Facts) (hReferenceWinIdeal : Cert.ReferenceWinIdeal.Facts) (hKernelKv : Cert.KernelKv.Facts) (hKernelKvIdeal : Cert.KernelKvIdeal.Facts) (hReferenceKvIdeal : Cert.ReferenceKvIdeal.Facts) (hKernelProj : Cert.KernelProj.Facts) (hKernelProjIdeal : Cert.KernelProjIdeal.Facts) (hReferenceProjIdeal : Cert.ReferenceProjIdeal.Facts) (hKernelFf : Cert.KernelFf.Facts) (hKernelFfIdeal : Cert.KernelFfIdeal.Facts) (hReferenceFfIdeal : Cert.ReferenceFfIdeal.Facts) (hKernelLn : Cert.KernelLn.Facts) (hKernelLnIdeal : Cert.KernelLnIdeal.Facts) (hReferenceLnIdeal : Cert.ReferenceLnIdeal.Facts) (hKernelMb : Cert.KernelMb.Facts) (hKernelMbIdeal : Cert.KernelMbIdeal.Facts) (hReferenceMbIdeal : Cert.ReferenceMbIdeal.Facts) (hKernelMc : Cert.KernelMc.Facts) (hKernelMcIdeal : Cert.KernelMcIdeal.Facts) (hReferenceMcIdeal : Cert.ReferenceMcIdeal.Facts) (hPre_finite : Cert.Pre_finite.Facts) (hPre_finite_mb : Cert.Pre_finite_mb.Facts) (hPre_finite_mc : Cert.Pre_finite_mc.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelUp (hKernelUp := hKernelUp)
    ∧ quiescent_KernelUpIdeal (hKernelUpIdeal := hKernelUpIdeal)
    ∧ quiescent_ReferenceUpIdeal (hReferenceUpIdeal := hReferenceUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelSq (hKernelSq := hKernelSq)
    ∧ quiescent_KernelSqIdeal (hKernelSqIdeal := hKernelSqIdeal)
    ∧ quiescent_ReferenceSqIdeal (hReferenceSqIdeal := hReferenceSqIdeal)
    ∧ quiescent_KernelWin (hKernelWin := hKernelWin)
    ∧ quiescent_KernelWinIdeal (hKernelWinIdeal := hKernelWinIdeal)
    ∧ quiescent_ReferenceWinIdeal (hReferenceWinIdeal := hReferenceWinIdeal)
    ∧ quiescent_KernelKv (hKernelKv := hKernelKv)
    ∧ quiescent_KernelKvIdeal (hKernelKvIdeal := hKernelKvIdeal)
    ∧ quiescent_ReferenceKvIdeal (hReferenceKvIdeal := hReferenceKvIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelFf (hKernelFf := hKernelFf)
    ∧ quiescent_KernelFfIdeal (hKernelFfIdeal := hKernelFfIdeal)
    ∧ quiescent_ReferenceFfIdeal (hReferenceFfIdeal := hReferenceFfIdeal)
    ∧ quiescent_KernelLn (hKernelLn := hKernelLn)
    ∧ quiescent_KernelLnIdeal (hKernelLnIdeal := hKernelLnIdeal)
    ∧ quiescent_ReferenceLnIdeal (hReferenceLnIdeal := hReferenceLnIdeal)
    ∧ quiescent_KernelMb (hKernelMb := hKernelMb)
    ∧ quiescent_KernelMbIdeal (hKernelMbIdeal := hKernelMbIdeal)
    ∧ quiescent_KernelMbIdeal_pre_finite_mb (hKernelMbIdeal := hKernelMbIdeal) (hPre_finite_mb := hPre_finite_mb)
    ∧ quiescent_ReferenceMbIdeal (hReferenceMbIdeal := hReferenceMbIdeal)
    ∧ quiescent_ReferenceMbIdeal_pre_finite_mb (hReferenceMbIdeal := hReferenceMbIdeal) (hPre_finite_mb := hPre_finite_mb)
    ∧ quiescent_KernelMc (hKernelMc := hKernelMc)
    ∧ quiescent_KernelMcIdeal (hKernelMcIdeal := hKernelMcIdeal)
    ∧ quiescent_KernelMcIdeal_pre_finite_mc (hKernelMcIdeal := hKernelMcIdeal) (hPre_finite_mc := hPre_finite_mc)
    ∧ quiescent_ReferenceMcIdeal (hReferenceMcIdeal := hReferenceMcIdeal)
    ∧ quiescent_ReferenceMcIdeal_pre_finite_mc (hReferenceMcIdeal := hReferenceMcIdeal) (hPre_finite_mc := hPre_finite_mc)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelUp_KernelUpIdeal
    ∧ algebraic_KernelUpIdeal_ReferenceUpIdeal (hKernelUpIdeal := hKernelUpIdeal) (hReferenceUpIdeal := hReferenceUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelSq_KernelSqIdeal
    ∧ algebraic_KernelSqIdeal_ReferenceSqIdeal (hKernelSqIdeal := hKernelSqIdeal) (hReferenceSqIdeal := hReferenceSqIdeal)
    ∧ preserves_KernelWin_KernelWinIdeal
    ∧ algebraic_KernelWinIdeal_ReferenceWinIdeal (hKernelWinIdeal := hKernelWinIdeal) (hReferenceWinIdeal := hReferenceWinIdeal)
    ∧ preserves_KernelKv_KernelKvIdeal
    ∧ algebraic_KernelKvIdeal_ReferenceKvIdeal (hKernelKvIdeal := hKernelKvIdeal) (hReferenceKvIdeal := hReferenceKvIdeal)
    ∧ preserves_KernelProj_KernelProjIdeal
    ∧ algebraic_KernelProjIdeal_ReferenceProjIdeal (hKernelProjIdeal := hKernelProjIdeal) (hReferenceProjIdeal := hReferenceProjIdeal)
    ∧ preserves_KernelFf_KernelFfIdeal
    ∧ algebraic_KernelFfIdeal_ReferenceFfIdeal (hKernelFfIdeal := hKernelFfIdeal) (hReferenceFfIdeal := hReferenceFfIdeal)
    ∧ preserves_KernelLn_KernelLnIdeal
    ∧ algebraic_KernelLnIdeal_ReferenceLnIdeal (hKernelLnIdeal := hKernelLnIdeal) (hReferenceLnIdeal := hReferenceLnIdeal)
    ∧ preserves_KernelMb_KernelMbIdeal
    ∧ algebraic_KernelMbIdeal_ReferenceMbIdeal_pre_finite_mb (hKernelMbIdeal := hKernelMbIdeal) (hReferenceMbIdeal := hReferenceMbIdeal) (hPre_finite_mb := hPre_finite_mb)
    ∧ preserves_KernelMc_KernelMcIdeal
    ∧ algebraic_KernelMcIdeal_ReferenceMcIdeal_pre_finite_mc (hKernelMcIdeal := hKernelMcIdeal) (hReferenceMcIdeal := hReferenceMcIdeal) (hPre_finite_mc := hPre_finite_mc)
-- ==== Pre_finite.lean ====
abbrev S4096x1024 : Shape := ⟨2, ![4096, 1024]⟩
abbrev S4096x256 : Shape := ⟨2, ![4096, 256]⟩
abbrev S1x16 : Shape := ⟨2, ![1, 16]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x256 : S_.BroadcastsInDim S4096x256 (![] : Fin 0 → Fin S4096x256.rank)
  reducesTo_S4096x256_S_d0_1 : S4096x256.ReducesTo [0, 1] S_
  bcast_S_S1x16 : S_.BroadcastsInDim S1x16 (![] : Fin 0 → Fin S1x16.rank)
  reducesTo_S1x16_S_d0_1 : S1x16.ReducesTo [0, 1] S_

variable [Facts]

def fn_part1 {F : FTy → Type} [FloatOps F] (main_arg4 : FVec F S1x16 .f32) (main_v16 : IVec S_ 1) (main_v17 : FVec F S4096x1024 .f32) : IVec S_ 1 :=
  let main_v18 : FVec F S4096x1024 .f32 := Host.absf main_v17
  let main_cst_4 : FVec F S_ .f32 := constant S_ .f32 0x7F800000#32
  let main_v19 : FVec F S4096x1024 .f32 := broadcastInDim S4096x1024 ![] bcast_S_S4096x1024 main_cst_4
  let main_v20 : IVec S4096x1024 1 := cmpf .olt main_v18 main_v19
  let main_c_5 : IVec S_ 1 := constantI S_ 1 1#1
  let main_v21 : IVec S_ 1 := (fun x v => Host.reduce IntOp.andi x v reducesTo_S4096x1024_S_d0_1 h_S_) main_v20 main_c_5
  let main_v22 : IVec S_ 1 := andi main_v16 main_v21
  let main_v23 : FVec F S1x16 .f32 := Host.absf main_arg4
  let main_cst_6 : FVec F S_ .f32 := constant S_ .f32 0x7F800000#32
  let main_v24 : FVec F S1x16 .f32 := broadcastInDim S1x16 ![] bcast_S_S1x16 main_cst_6
  let main_v25 : IVec S1x16 1 := cmpf .olt main_v23 main_v24
  let main_c_7 : IVec S_ 1 := constantI S_ 1 1#1
  let main_v26 : IVec S_ 1 := (fun x v => Host.reduce IntOp.andi x v reducesTo_S1x16_S_d0_1 h_S_) main_v25 main_c_7
  let main_v27 : IVec S_ 1 := andi main_v22 main_v26
  main_v27

def fn {F : FTy → Type} [FloatOps F] (main_arg0 : FVec F S4096x1024 .bf16) (main_arg1 : FVec F S4096x256 .bf16) (main_arg2 : FVec F S4096x256 .bf16) (main_arg3 : FVec F S4096x1024 .bf16) (main_arg4 : FVec F S1x16 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x256 .f32 := (extf .f32 · bitsLt_bf16_f32) main_arg1
  let main_v6 : FVec F S4096x256 .f32 := Host.absf main_v5
  let main_cst_0 : FVec F S_ .f32 := constant S_ .f32 0x7F800000#32
  let main_v7 : FVec F S4096x256 .f32 := broadcastInDim S4096x256 ![] bcast_S_S4096x256 main_cst_0
  let main_v8 : IVec S4096x256 1 := cmpf .olt main_v6 main_v7
  let main_c_1 : IVec S_ 1 := constantI S_ 1 1#1
  let main_v9 : IVec S_ 1 := (fun x v => Host.reduce IntOp.andi x v reducesTo_S4096x256_S_d0_1 h_S_) main_v8 main_c_1
  let main_v10 : IVec S_ 1 := andi main_v4 main_v9
  let main_v11 : FVec F S4096x256 .f32 := (extf .f32 · bitsLt_bf16_f32) main_arg2
  let main_v12 : FVec F S4096x256 .f32 := Host.absf main_v11
  let main_cst_2 : FVec F S_ .f32 := constant S_ .f32 0x7F800000#32
  let main_v13 : FVec F S4096x256 .f32 := broadcastInDim S4096x256 ![] bcast_S_S4096x256 main_cst_2
  let main_v14 : IVec S4096x256 1 := cmpf .olt main_v12 main_v13
  let main_c_3 : IVec S_ 1 := constantI S_ 1 1#1
  let main_v15 : IVec S_ 1 := (fun x v => Host.reduce IntOp.andi x v reducesTo_S4096x256_S_d0_1 h_S_) main_v14 main_c_3
  let main_v16 : IVec S_ 1 := andi main_v10 main_v15
  let main_v17 : FVec F S4096x1024 .f32 := (extf .f32 · bitsLt_bf16_f32) main_arg3
  fn_part1 (F := F) main_arg4 main_v16 main_v17
-- ==== Pre_finite_mb.lean ====
abbrev S4096x1024 : Shape := ⟨2, ![4096, 1024]⟩
abbrev S1x1024 : Shape := ⟨2, ![1, 1024]⟩
abbrev S4096x4096 : Shape := ⟨2, ![4096, 4096]⟩
abbrev S4x1024x1024 : Shape := ⟨3, ![4, 1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S4096x1024 .f32) (main_arg1 : FVec F S4096x1024 .f32) (main_arg2 : FVec F S1x1024 .f32) (main_arg3 : FVec F S4096x4096 .f32) (main_arg4 : FVec F S4x1024x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  main_v8
-- ==== Pre_finite_mc.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024 : Shape := ⟨2, ![1, 1024]⟩
abbrev S4x256x1024 : Shape := ⟨3, ![4, 256, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bitsLt_bf16_f32 : FTy.bits .bf16 < FTy.bits .f32
  bcast_S_S4096x4096 : S_.BroadcastsInDim S4096x4096 (![] : Fin 0 → Fin S4096x4096.rank)
  reducesTo_S4096x4096_S_d0_1 : S4096x4096.ReducesTo [0, 1] S_
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S4096x1024 .f32) (main_arg1 : FVec F S4096x4096 .bf16) (main_arg2 : FVec F S4x1024x1024 .bf16) (main_arg3 : FVec F S4096x1024 .f32) (main_arg4 : FVec F S1x1024 .f32) (main_arg5 : FVec F S4x256x1024 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := (extf .f32 · bitsLt_bf16_f32) main_arg1
  let main_v5 : FVec F S4096x4096 .f32 := Host.absf main_v4
  let main_cst_0 : FVec F S_ .f32 := constant S_ .f32 0x7F800000#32
  let main_v6 : FVec F S4096x4096 .f32 := broadcastInDim S4096x4096 ![] bcast_S_S4096x4096 main_cst_0
  let main_v7 : IVec S4096x4096 1 := cmpf .olt main_v5 main_v6
  let main_c_1 : IVec S_ 1 := constantI S_ 1 1#1
  let main_v8 : IVec S_ 1 := (fun x v => Host.reduce IntOp.andi x v reducesTo_S4096x4096_S_d0_1 h_S_) main_v7 main_c_1
  let main_v9 : IVec S_ 1 := andi main_v3 main_v8
  let main_v10 : FVec F S4x1024x1024 .f32 := (extf .f32 · bitsLt_bf16_f32) main_arg2
  let main_v11 : FVec F S4x1024x1024 .f32 := Host.absf main_v10
  let main_cst_2 : FVec F S_ .f32 := constant S_ .f32 0x7F800000#32
  let main_v12 : FVec F S4x1024x1024 .f32 := broadcastInDim S4x1024x1024 ![] bcast_S_S4x1024x1024 main_cst_2
  let main_v13 : IVec S4x1024x1024 1 := cmpf .olt main_v11 main_v12
  let main_c_3 : IVec S_ 1 := constantI S_ 1 1#1
  let main_v14 : IVec S_ 1 := (fun x v => Host.reduce IntOp.andi x v reducesTo_S4x1024x1024_S_d0_1_2 h_S_) main_v13 main_c_3
  let main_v15 : IVec S_ 1 := andi main_v9 main_v14
  let main_v16 : FVec F S1x1024 .f32 := Host.absf main_arg4
  let main_cst_4 : FVec F S_ .f32 := constant S_ .f32 0x7F800000#32
  fn_part1 (F := F) main_v15 main_v16 main_cst_4
-- ==== Kernel.lean ====
abbrev S4096x1024 : Shape := ⟨2, ![4096, 1024]⟩
abbrev S4096x256 : Shape := ⟨2, ![4096, 256]⟩
abbrev S1x16 : Shape := ⟨2, ![1, 16]⟩
abbrev S16x128 : Shape := ⟨2, ![16, 128]⟩
abbrev S128x1024 : Shape := ⟨2, ![128, 1024]⟩
abbrev S128x256 : Shape := ⟨2, ![128, 256]⟩
abbrev S128x64 : Shape := ⟨2, ![128, 64]⟩
abbrev S256x64 : Shape := ⟨2, ![256, 64]⟩
abbrev S1x1 : Shape := ⟨2, ![1, 1]⟩
abbrev S128 : Shape := ⟨1, ![128]⟩
abbrev S128x1 : Shape := ⟨2, ![128, 1]⟩
abbrev S1x128 : Shape := ⟨2, ![1, 128]⟩
abbrev S1 : Shape := ⟨1, ![1]⟩
abbrev S512x256 : Shape := ⟨2, ![512, 256]⟩
abbrev S512x64 : Shape := ⟨2, ![512, 64]⟩

abbrev nBuf : Space → Nat
  | .hbm => 9
  | .vmem => 21
  | .smem => 1
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4096x256, .bf16⟩
  | .hbm, ⟨3, _⟩ => ⟨S4096x1024, .bf16⟩
  | .hbm, ⟨4, _⟩ => ⟨S1x16, .f32⟩
  | .hbm, ⟨5, _⟩ => ⟨S4096x1024, .f32⟩
  | .hbm, ⟨6, _⟩ => ⟨S4096x256, .f32⟩
  | .hbm, ⟨7, _⟩ => ⟨S4096x256, .f32⟩
  | .hbm, ⟨8, _⟩ => ⟨S16x128, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x256, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x1024, .f32⟩
  | .local _ .vmem, ⟨13, _⟩ => ⟨S128x1024, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S16x128, .f32⟩
  | .local _ .vmem, ⟨19, _⟩ => ⟨S128x256, .f32⟩
  | .local _ .vmem, ⟨20, _⟩ => ⟨S128x256, .f32⟩
  | .local _ .smem, ⟨0, _⟩ => ⟨S1x16, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_scratch0 : Ref sig .tc := ⟨.vmem, 19, rfl⟩
abbrev cc0_scratch1 : Ref sig .tc := ⟨.vmem, 20, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![33], ![false]⟩

def k0_cond2 (i : grid0.Coords) : BitVec 1 :=
  let arg0 : BitVec 32 := BitVec.ofNat 32 (i 0).val
  let c32_i32 : BitVec 32 := 32#32
  let v3 : BitVec 1 := Scalar.cmpi .slt arg0 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c32_i32_2 : BitVec 32 := 32#32
  let v6 : BitVec 1 := Scalar.cmpi .eq arg0 c32_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S16x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4096x1024 : Shape := ⟨2, ![4096, 1024]⟩
abbrev S4096x256 : Shape := ⟨2, ![4096, 256]⟩
abbrev S1x16 : Shape := ⟨2, ![1, 16]⟩
abbrev S1x4096x1024 : Shape := ⟨3, ![1, 4096, 1024]⟩
abbrev S1x4096x256 : Shape := ⟨3, ![1, 4096, 256]⟩
abbrev S1x32x128x4x64 : Shape := ⟨5, ![1, 32, 128, 4, 64]⟩
abbrev S1x1x128x4x64 : Shape := ⟨5, ![1, 1, 128, 4, 64]⟩
abbrev S_ : Shape := ⟨0, ![]⟩
abbrev S1x31x128x4x64 : Shape := ⟨5, ![1, 31, 128, 4, 64]⟩
abbrev S1x32x256x4x64 : Shape := ⟨5, ![1, 32, 256, 4, 64]⟩
abbrev S1x32x128x4x4x64 : Shape := ⟨6, ![1, 32, 128, 4, 4, 64]⟩
abbrev S1x32x4x256x128x4 : Shape := ⟨6, ![1, 32, 4, 256, 128, 4]⟩
abbrev S1x32x4x4x128x256 : Shape := ⟨6, ![1, 32, 4, 4, 128, 256]⟩
abbrev S32 : Shape := ⟨1, ![32]⟩
abbrev S32x1x1 : Shape := ⟨3, ![32, 1, 1]⟩
abbrev S128 : Shape := ⟨1, ![128]⟩
abbrev S1x128x1 : Shape := ⟨3, ![1, 128, 1]⟩
abbrev S256 : Shape := ⟨1, ![256]⟩
abbrev S1x1x256 : Shape := ⟨3, ![1, 1, 256]⟩
abbrev S32x128x1 : Shape := ⟨3, ![32, 128, 1]⟩
abbrev S32x1x256 : Shape := ⟨3, ![32, 1, 256]⟩
abbrev S32x128x256 : Shape := ⟨3, ![32, 128, 256]⟩
abbrev S1x32x1x1x128x256 : Shape := ⟨6, ![1, 32, 1, 1, 128, 256]⟩
abbrev S1x1x4x4x1x1 : Shape := ⟨6, ![1, 1, 4, 4, 1, 1]⟩
abbrev S1x32x4x4x128 : Shape := ⟨5, ![1, 32, 4, 4, 128]⟩
abbrev S1x32x4x4x128x1 : Shape := ⟨6, ![1, 32, 4, 4, 128, 1]⟩
abbrev S1x32x4x64x4x128 : Shape := ⟨6, ![1, 32, 4, 64, 4, 128]⟩
abbrev S1x32x4x64x256 : Shape := ⟨5, ![1, 32, 4, 64, 256]⟩
abbrev S1x4x4x1 : Shape := ⟨4, ![1, 4, 4, 1]⟩
abbrev S32x4x4x128 : Shape := ⟨4, ![32, 4, 4, 128]⟩
abbrev S1x32x4x128x4x64 : Shape := ⟨6, ![1, 32, 4, 128, 4, 64]⟩
abbrev S1x32x4x256x64 : Shape := ⟨5, ![1, 32, 4, 256, 64]⟩
abbrev S16x1 : Shape := ⟨2, ![16, 1]⟩
abbrev S16x128 : Shape := ⟨2, ![16, 128]⟩

abbrev nBuf : Space → Nat
  | .hbm => 185
  | .vmem => 0
  | .smem => 0
  | _ => 0

abbrev hbmTy0_0 (i : Nat) : BufTy := match i % 128 with
  | 0 => ⟨S4096x1024, .bf16⟩
  | 1 => ⟨S4096x256, .bf16⟩
  | 2 => ⟨S4096x256, .bf16⟩
  | 3 => ⟨S4096x1024, .bf16⟩
  | 4 => ⟨S1x16, .f32⟩
  | 5 => ⟨S4096x1024, .f32⟩
  | 6 => ⟨S1x4096x1024, .f32⟩
  | 7 => ⟨S4096x256, .f32⟩
  | 8 => ⟨S1x4096x256, .f32⟩
  | 9 => ⟨S4096x256, .f32⟩
  | 10 => ⟨S1x4096x256, .f32⟩
  | 11 => ⟨S1x32x128x4x64, .f32⟩
  | 12 => ⟨S1x1x128x4x64, .f32⟩
  | 13 => ⟨S_, .f32⟩
  | 14 => ⟨S1x1x128x4x64, .f32⟩
  | 15 => ⟨S1x31x128x4x64, .f32⟩
  | 16 => ⟨S1x32x128x4x64, .f32⟩
  | 17 => ⟨S_, .f32⟩
  | 18 => ⟨S1x1x128x4x64, .f32⟩
  | 19 => ⟨S1x32x256x4x64, .f32⟩
  | 20 => ⟨S1x32x128x4x64, .f32⟩
  | 21 => ⟨S1x1x128x4x64, .f32⟩
  | 22 => ⟨S_, .f32⟩
  | 23 => ⟨S1x1x128x4x64, .f32⟩
  | 24 => ⟨S1x31x128x4x64, .f32⟩
  | 25 => ⟨S1x32x128x4x64, .f32⟩
  | 26 => ⟨S_, .f32⟩
  | 27 => ⟨S1x1x128x4x64, .f32⟩
  | 28 => ⟨S1x32x256x4x64, .f32⟩
  | 29 => ⟨S1x32x128x4x4x64, .f32⟩
  | 30 => ⟨S1x32x4x256x128x4, .f32⟩
  | 31 => ⟨S1x32x4x4x128x256, .f32⟩
  | 32 => ⟨S32, .i32⟩
  | 33 => ⟨S32x1x1, .i32⟩
  | 34 => ⟨S128, .i32⟩
  | 35 => ⟨S1x128x1, .i32⟩
  | 36 => ⟨S256, .i32⟩
  | 37 => ⟨S1x1x256, .i32⟩
  | 38 => ⟨S_, .i32⟩
  | 39 => ⟨S32x1x1, .i32⟩
  | 40 => ⟨S32x1x1, .i32⟩
  | 41 => ⟨S32x128x1, .i32⟩
  | 42 => ⟨S32x128x1, .i32⟩
  | 43 => ⟨S32x128x1, .i32⟩
  | 44 => ⟨S_, .i32⟩
  | 45 => ⟨S32x1x1, .i32⟩
  | 46 => ⟨S32x1x1, .i32⟩
  | 47 => ⟨S_, .i32⟩
  | 48 => ⟨S32x1x1, .i32⟩
  | 49 => ⟨S32x1x1, .i32⟩
  | 50 => ⟨S32x1x256, .i32⟩
  | 51 => ⟨S32x1x256, .i32⟩
  | 52 => ⟨S32x1x256, .i32⟩
  | 53 => ⟨S32x128x256, .i32⟩
  | 54 => ⟨S32x128x256, .i32⟩
  | 55 => ⟨S32x128x256, .i32⟩
  | 56 => ⟨S_, .i32⟩
  | 57 => ⟨S32x1x256, .i32⟩
  | 58 => ⟨S32x1x256, .i1⟩
  | 59 => ⟨S_, .i32⟩
  | 60 => ⟨S32x128x256, .i32⟩
  | 61 => ⟨S32x128x256, .i1⟩
  | 62 => ⟨S32x128x256, .i1⟩
  | 63 => ⟨S32x128x256, .i1⟩
  | 64 => ⟨S_, .i32⟩
  | 65 => ⟨S32x128x256, .i32⟩
  | 66 => ⟨S32x128x256, .i1⟩
  | 67 => ⟨S32x128x256, .i1⟩
  | 68 => ⟨S1x32x1x1x128x256, .i1⟩
  | 69 => ⟨S_, .f32⟩
  | 70 => ⟨S_, .f32⟩
  | 71 => ⟨S1x32x4x4x128x256, .i1⟩
  | 72 => ⟨S1x32x4x4x128x256, .f32⟩
  | 73 => ⟨S1x32x4x4x128x256, .f32⟩
  | 74 => ⟨S_, .f32⟩
  | 75 => ⟨S1x32x4x4x128x256, .f32⟩
  | 76 => ⟨S1x1x4x4x1x1, .f32⟩
  | 77 => ⟨S1x32x4x4x128x256, .f32⟩
  | 78 => ⟨S_, .f32⟩
  | 79 => ⟨S1x32x4x4x128, .f32⟩
  | 80 => ⟨S1x32x4x4x128x1, .f32⟩
  | 81 => ⟨S1x32x4x4x128x1, .f32⟩
  | 82 => ⟨S1x32x4x4x128x1, .f32⟩
  | 83 => ⟨S1x32x4x4x128x1, .f32⟩
  | 84 => ⟨S1x32x4x4x128x1, .f32⟩
  | 85 => ⟨S1x32x4x4x128x1, .f32⟩
  | 86 => ⟨S1x32x4x4x128x1, .i1⟩
  | 87 => ⟨S1x32x4x4x128x1, .f32⟩
  | 88 => ⟨S1x32x4x4x128x1, .f32⟩
  | 89 => ⟨S1x32x4x4x128x1, .f32⟩
  | 90 => ⟨S1x32x4x4x128x1, .f32⟩
  | 91 => ⟨S1x32x4x4x128x1, .f32⟩
  | 92 => ⟨S1x32x4x4x128x1, .f32⟩
  | 93 => ⟨S1x32x4x4x128x1, .f32⟩
  | 94 => ⟨S1x32x4x4x128x1, .f32⟩
  | 95 => ⟨S_, .f32⟩
  | 96 => ⟨S1x32x4x4x128x1, .f32⟩
  | 97 => ⟨S1x32x4x4x128x1, .i1⟩
  | 98 => ⟨S_, .f32⟩
  | 99 => ⟨S1x32x4x4x128x1, .f32⟩
  | 100 => ⟨S1x32x4x4x128x1, .f32⟩
  | 101 => ⟨S_, .f32⟩
  | 102 => ⟨S1x32x4x4x128x1, .f32⟩
  | 103 => ⟨S1x32x4x4x128x1, .i1⟩
  | 104 => ⟨S_, .f32⟩
  | 105 => ⟨S1x32x4x4x128x1, .f32⟩
  | 106 => ⟨S1x32x4x4x128x1, .f32⟩
  | 107 => ⟨S1x32x4x4x128x1, .f32⟩
  | 108 => ⟨S1x32x4x4x128x1, .f32⟩
  | 109 => ⟨S_, .f32⟩
  | 110 => ⟨S1x1x4x4x1x1, .f32⟩
  | 111 => ⟨S1x1x4x4x1x1, .i1⟩
  | 112 => ⟨S_, .f32⟩
  | 113 => ⟨S1x1x4x4x1x1, .f32⟩
  | 114 => ⟨S1x1x4x4x1x1, .f32⟩
  | 115 => ⟨S_, .f32⟩
  | 116 => ⟨S1x32x4x4x128x1, .f32⟩
  | 117 => ⟨S1x32x4x4x128x1, .i1⟩
  | 118 => ⟨S_, .f32⟩
  | 119 => ⟨S1x32x4x4x128x1, .f32⟩
  | 120 => ⟨S1x32x4x4x128x1, .f32⟩
  | 121 => ⟨S1x32x4x4x128x1, .f32⟩
  | 122 => ⟨S1x32x4x4x128x1, .f32⟩
  | 123 => ⟨S1x32x4x4x128x1, .f32⟩
  | 124 => ⟨S1x32x4x4x128x256, .f32⟩
  | 125 => ⟨S1x32x4x4x128x256, .f32⟩
  | 126 => ⟨S1x32x4x4x128x256, .f32⟩
  | 127 => ⟨S1x32x4x64x4x128, .f32⟩
  | _ => ⟨S4096x1024, .bf16⟩

abbrev hbmTy0_1 (i : Nat) : BufTy := match i % 128 with
  | 0 => ⟨S1x32x128x4x4x64, .f32⟩
  | 1 => ⟨S1x4096x1024, .f32⟩
  | 2 => ⟨S4096x1024, .f32⟩
  | 3 => ⟨S1x4096x1024, .f32⟩
  | 4 => ⟨S1x32x128x4x4x64, .f32⟩
  | 5 => ⟨S1x32x4x64x4x128, .f32⟩
  | 6 => ⟨S1x32x4x4x128x256, .f32⟩
  | 7 => ⟨S1x32x4x64x256, .f32⟩
  | 8 => ⟨S1x32x256x4x64, .f32⟩
  | 9 => ⟨S1x32x4x4x128x256, .f32⟩
  | 10 => ⟨S1x32x4x4x128x256, .f32⟩
  | 11 => ⟨S_, .f32⟩
  | 12 => ⟨S1x32x4x4x128, .f32⟩
  | 13 => ⟨S1x32x4x4x128x1, .f32⟩
  | 14 => ⟨S1x32x4x4x128x1, .f32⟩
  | 15 => ⟨S_, .f32⟩
  | 16 => ⟨S1x4x4x1, .f32⟩
  | 17 => ⟨S1x1x4x4x1x1, .f32⟩
  | 18 => ⟨S1x32x4x4x128x1, .f32⟩
  | 19 => ⟨S1x32x4x4x128x1, .f32⟩
  | 20 => ⟨S_, .f32⟩
  | 21 => ⟨S32x4x4x128, .f32⟩
  | 22 => ⟨S1x32x4x4x128, .f32⟩
  | 23 => ⟨S1x32x4x4x128x256, .f32⟩
  | 24 => ⟨S1x32x4x4x128x256, .f32⟩
  | 25 => ⟨S1x32x4x4x128x256, .f32⟩
  | 26 => ⟨S1x16, .f32⟩
  | 27 => ⟨S_, .f32⟩
  | 28 => ⟨S1x32x4x4x128x256, .f32⟩
  | 29 => ⟨S1x32x4x4x128x256, .f32⟩
  | 30 => ⟨S1x32x4x256x128x4, .f32⟩
  | 31 => ⟨S1x32x4x128x4x64, .f32⟩
  | 32 => ⟨S1x32x128x4x4x64, .f32⟩
  | 33 => ⟨S1x32x4x256x64, .f32⟩
  | 34 => ⟨S1x32x256x4x64, .f32⟩
  | 35 => ⟨S1x4096x1024, .f32⟩
  | 36 => ⟨S1x32x128x4x64, .f32⟩
  | 37 => ⟨S1x32x128x4x64, .f32⟩
  | 38 => ⟨S1x1x128x4x64, .f32⟩
  | 39 => ⟨S1x31x128x4x64, .f32⟩
  | 40 => ⟨S_, .f32⟩
  | 41 => ⟨S1x32x128x4x64, .f32⟩
  | 42 => ⟨S1x32x128x4x64, .f32⟩
  | 43 => ⟨S1x4096x256, .f32⟩
  | 44 => ⟨S1x32x128x4x64, .f32⟩
  | 45 => ⟨S1x32x128x4x64, .f32⟩
  | 46 => ⟨S1x1x128x4x64, .f32⟩
  | 47 => ⟨S1x31x128x4x64, .f32⟩
  | 48 => ⟨S_, .f32⟩
  | 49 => ⟨S1x32x128x4x64, .f32⟩
  | 50 => ⟨S1x32x128x4x64, .f32⟩
  | 51 => ⟨S1x4096x256, .f32⟩
  | 52 => ⟨S4096x1024, .f32⟩
  | 53 => ⟨S4096x256, .f32⟩
  | 54 => ⟨S4096x256, .f32⟩
  | 55 => ⟨S16x1, .f32⟩
  | 56 => ⟨S16x128, .f32⟩
  | _ => ⟨S4096x1024, .bf16⟩

abbrev hbmTy (i : Nat) : BufTy := match i / 128 with
  | 0 => hbmTy0_0 i
  | 1 => hbmTy0_1 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_3 : Ref sig .tc := ⟨.hbm, 44, rfl⟩
abbrev main_v34 : Ref sig .tc := ⟨.hbm, 45, rfl⟩
abbrev main_v35 : Ref sig .tc := ⟨.hbm, 46, rfl⟩
abbrev main_c_4 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_c_6 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_c_7 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_call0_v0 : Ref sig .tc := ⟨.hbm, 70, rfl⟩
abbrev main_v54_1 : Ref sig .tc := ⟨.hbm, 71, rfl⟩
abbrev main_call0_v2 : Ref sig .tc := ⟨.hbm, 72, rfl⟩
abbrev main_v54_0 : Ref sig .tc := ⟨.hbm, 73, rfl⟩
abbrev main_call0_cst : Ref sig .tc := ⟨.hbm, 74, rfl⟩
abbrev main_v54_2 : Ref sig .tc := ⟨.hbm, 75, rfl⟩
abbrev main_v55 : Ref sig .tc := ⟨.hbm, 76, rfl⟩
abbrev main_v56 : Ref sig .tc := ⟨.hbm, 77, rfl⟩
abbrev main_cst_9 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_10 : Ref sig .tc := ⟨.hbm, 95, rfl⟩
abbrev main_v73 : Ref sig .tc := ⟨.hbm, 96, rfl⟩
abbrev main_v74 : Ref sig .tc := ⟨.hbm, 97, rfl⟩
abbrev main_cst_11 : Ref sig .tc := ⟨.hbm, 98, rfl⟩
abbrev main_v75 : Ref sig .tc := ⟨.hbm, 99, rfl⟩
abbrev main_v76 : Ref sig .tc := ⟨.hbm, 100, rfl⟩
abbrev main_cst_12 : Ref sig .tc := ⟨.hbm, 101, rfl⟩
abbrev main_v77 : Ref sig .tc := ⟨.hbm, 102, rfl⟩
abbrev main_v78 : Ref sig .tc := ⟨.hbm, 103, rfl⟩
abbrev main_cst_13 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_14 : Ref sig .tc := ⟨.hbm, 109, rfl⟩
abbrev main_v83 : Ref sig .tc := ⟨.hbm, 110, rfl⟩
abbrev main_v84 : Ref sig .tc := ⟨.hbm, 111, rfl⟩
abbrev main_cst_15 : Ref sig .tc := ⟨.hbm, 112, rfl⟩
abbrev main_v85 : Ref sig .tc := ⟨.hbm, 113, rfl⟩
abbrev main_v86 : Ref sig .tc := ⟨.hbm, 114, rfl⟩
abbrev main_cst_16 : Ref sig .tc := ⟨.hbm, 115, rfl⟩
abbrev main_v87 : Ref sig .tc := ⟨.hbm, 116, rfl⟩
abbrev main_v88 : Ref sig .tc := ⟨.hbm, 117, rfl⟩
abbrev main_cst_17 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_cst_18 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_19 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_cst_20 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_call1_cst : Ref sig .tc := ⟨.hbm, 155, rfl⟩
abbrev main_call1_v0 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_cst_21 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_22 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩

abbrev nD : Nat := 1
abbrev τ : Topo := Topo.v7x

variable {F : FTy → Type} [FloatOps F]
-- ==== KernelUp.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceUpIdeal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4x1024, .f32⟩
  | .hbm, ⟨10, _⟩ => ⟨S4x1024x1024, .f32⟩
  | .hbm, ⟨11, _⟩ => ⟨S4x1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== KernelDown.lean ====
abbrev S4096x4096 : Shape := ⟨2, ![4096, 4096]⟩
abbrev S4096x1024 : Shape := ⟨2, ![4096, 1024]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4x1024x1024, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceDownIdeal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4x1024x1024, .f32⟩
  | .hbm, ⟨10, _⟩ => ⟨S4x1024x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelSq.lean ====
abbrev S4096x1024 : Shape := ⟨2, ![4096, 1024]⟩
abbrev S4x256x1024 : Shape := ⟨3, ![4, 256, 1024]⟩
abbrev S2048x1024 : Shape := ⟨2, ![2048, 1024]⟩
abbrev S1024x1024 : Shape := ⟨2, ![1024, 1024]⟩
abbrev S256x1024 : Shape := ⟨2, ![256, 1024]⟩
abbrev S1x256x1024 : Shape := ⟨3, ![1, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4x256x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceSqIdeal.lean ====
abbrev S4096x1024 : Shape := ⟨2, ![4096, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4x256x1024, .f32⟩
  | .hbm, ⟨10, _⟩ => ⟨S4x256x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelWin.lean ====
abbrev S4096x1024 : Shape := ⟨2, ![4096, 1024]⟩
abbrev S4096x2048 : Shape := ⟨2, ![4096, 2048]⟩
abbrev S4x1024x512 : Shape := ⟨3, ![4, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S4x1024x512, .bf16⟩
  | .local _ .vmem, ⟨0, _⟩ => ⟨S2048x1024, .f32⟩
  | .local _ .vmem, ⟨1, _⟩ => ⟨S2048x1024, .f32⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceWinIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x4x512 : Shape := ⟨3, ![1024, 4, 512]⟩
abbrev S4x1024x512 : Shape := ⟨3, ![4, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x2048, .f32⟩
  | .hbm, ⟨5, _⟩ => ⟨S4096x2048, .f32⟩
  | .hbm, ⟨6, _⟩ => ⟨S2048x1024, .f32⟩
  | .hbm, ⟨7, _⟩ => ⟨S1024x2048, .f32⟩
  | .hbm, ⟨8, _⟩ => ⟨S1024x4x512, .f32⟩
  | .hbm, ⟨9, _⟩ => ⟨S4x1024x512, .f32⟩
  | .hbm, ⟨10, _⟩ => ⟨S4x1024x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelKv.lean ====
abbrev S4096x1024 : Shape := ⟨2, ![4096, 1024]⟩
abbrev S4096x256 : Shape := ⟨2, ![4096, 256]⟩
abbrev S4x256x256 : Shape := ⟨3, ![4, 256, 256]⟩
abbrev S2048x1024 : Shape := ⟨2, ![2048, 1024]⟩
abbrev S2048x256 : Shape := ⟨2, ![2048, 256]⟩
abbrev S1024x256 : Shape := ⟨2, ![1024, 256]⟩
abbrev S256x256 : Shape := ⟨2, ![256, 256]⟩
abbrev S1x256x256 : Shape := ⟨3, ![1, 256, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S4x256x256, .bf16⟩
  | .local _ .vmem, ⟨0, _⟩ => ⟨S2048x1024, .bf16⟩
  | .local _ .vmem, ⟨1, _⟩ => ⟨S2048x1024, .bf16⟩
  | .local _ .vmem, ⟨2, _⟩ => ⟨S2048x256, .bf16⟩
  | .local _ .vmem, ⟨3, _⟩ => ⟨S2048x256, .bf16⟩
  | .local _ .vmem, ⟨4, _⟩ => ⟨S4x256x256, .bf16⟩
  | .local _ .vmem, ⟨5, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceKvIdeal.lean ====
abbrev S4096x1024 : Shape := ⟨2, ![4096, 1024]⟩
abbrev S4096x256 : Shape := ⟨2, ![4096, 256]⟩
abbrev S_ : Shape := ⟨0, ![]⟩
abbrev S1024x256 : Shape := ⟨2, ![1024, 256]⟩
abbrev S256x1024 : Shape := ⟨2, ![256, 1024]⟩
abbrev S4x256x256 : Shape := ⟨3, ![4, 256, 256]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x256, .bf16⟩
  | .hbm, ⟨2, _⟩ => ⟨S_, .f32⟩
  | .hbm, ⟨3, _⟩ => ⟨S1024x256, .f32⟩
  | .hbm, ⟨4, _⟩ => ⟨S4096x1024, .f32⟩
  | .hbm, ⟨5, _⟩ => ⟨S4096x256, .f32⟩
  | .hbm, ⟨6, _⟩ => ⟨S4096x256, .f32⟩
  | .hbm, ⟨7, _⟩ => ⟨S256x1024, .f32⟩
  | .hbm, ⟨8, _⟩ => ⟨S1024x256, .f32⟩
  | .hbm, ⟨9, _⟩ => ⟨S4x256x256, .f32⟩
  | .hbm, ⟨10, _⟩ => ⟨S4x256x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelProj.lean ====
abbrev S2x4096x256 : Shape := ⟨3, ![2, 4096, 256]⟩
abbrev S4096x1024 : Shape := ⟨2, ![4096, 1024]⟩
abbrev S4x256x256 : Shape := ⟨3, ![4, 256, 256]⟩
abbrev S1x2048x256 : Shape := ⟨3, ![1, 2048, 256]⟩
abbrev S2048x1024 : Shape := ⟨2, ![2048, 1024]⟩
abbrev S256x1024 : Shape := ⟨2, ![256, 1024]⟩
abbrev S2048x256 : Shape := ⟨2, ![2048, 256]⟩
abbrev S256x256 : Shape := ⟨2, ![256, 256]⟩
abbrev S1x256x256 : Shape := ⟨3, ![1, 256, 256]⟩

abbrev nBuf : Space → Nat
  | .hbm => 3
  | .vmem => 6
  | .smem => 0
  | _ => 0

abbrev bufTy : (tb : Table) → Fin (tcTables nBuf tb) → BufTy
  | .hbm, ⟨0, _⟩ => ⟨S2x4096x256, .f32⟩
  | .hbm, ⟨1, _⟩ => ⟨S4096x1024, .bf16⟩
  | .hbm, ⟨2, _⟩ => ⟨S4x256x256, .bf16⟩
  | .local _ .vmem, ⟨0, _⟩ => ⟨S1x2048x256, .f32⟩
  | .local _ .vmem, ⟨1, _⟩ => ⟨S1x2048x256, .f32⟩
  | .local _ .vmem, ⟨2, _⟩ => ⟨S2048x1024, .bf16⟩
  | .local _ .vmem, ⟨3, _⟩ => ⟨S2048x1024, .bf16⟩
  | .local _ .vmem, ⟨4, _⟩ => ⟨S4x256x256, .bf16⟩
  | .local _ .vmem, ⟨5, _⟩ => ⟨S256x1024, .f32⟩
  | _, _ => ⟨S2x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ReferenceProjIdeal.lean ====
abbrev S2x4096x256 : Shape := ⟨3, ![2, 4096, 256]⟩
abbrev S4096x1024 : Shape := ⟨2, ![4096, 1024]⟩
abbrev S_ : Shape := ⟨0, ![]⟩
abbrev S256x1024 : Shape := ⟨2, ![256, 1024]⟩
abbrev S1x4096x256 : Shape := ⟨3, ![1, 4096, 256]⟩
abbrev S4096x256 : Shape := ⟨2, ![4096, 256]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x256, .f32⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S1x4096x256, .f32⟩
  | .hbm, ⟨5, _⟩ => ⟨S4096x256, .f32⟩
  | .hbm, ⟨6, _⟩ => ⟨S4096x1024, .f32⟩
  | .hbm, ⟨7, _⟩ => ⟨S4096x1024, .f32⟩
  | .hbm, ⟨8, _⟩ => ⟨S1024x256, .f32⟩
  | .hbm, ⟨9, _⟩ => ⟨S256x1024, .f32⟩
  | .hbm, ⟨10, _⟩ => ⟨S256x4x256, .f32⟩
  | .hbm, ⟨11, _⟩ => ⟨S4x256x256, .f32⟩
  | .hbm, ⟨12, _⟩ => ⟨S4x256x256, .bf16⟩
  | _, _ => ⟨S2x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== KernelFf.lean ====
abbrev S4096x1024 : Shape := ⟨2, ![4096, 1024]⟩
abbrev S4x1024x1024 : Shape := ⟨3, ![4, 1024, 1024]⟩
abbrev S4096x4096 : Shape := ⟨2, ![4096, 4096]⟩
abbrev S512x1024 : Shape := ⟨2, ![512, 1024]⟩
abbrev S512x4096 : Shape := ⟨2, ![512, 4096]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x4096, .bf16⟩
  | .hbm, ⟨3, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S4x1024x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceFfIdeal.lean ====
abbrev S4096x1024 : Shape := ⟨2, ![4096, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x1024, .bf16⟩
  | .hbm, ⟨2, _⟩ => ⟨S4096x1024, .f32⟩
  | .hbm, ⟨3, _⟩ => ⟨S4x1024x1024, .f32⟩
  | .hbm, ⟨4, _⟩ => ⟨S1024x4x1024, .f32⟩
  | .hbm, ⟨5, _⟩ => ⟨S1024x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096x4096, .f32⟩
  | .hbm, ⟨12, _⟩ => ⟨S4096x4096, .i1⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S4096x4096, .f32⟩
  | .hbm, ⟨18, _⟩ => ⟨S4096x4096, .f32⟩
  | .hbm, ⟨19, _⟩ => ⟨S4096x4096, .bf16⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== KernelLn.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S4096x1 : Shape := ⟨2, ![4096, 1]⟩
abbrev S512x4096 : Shape := ⟨2, ![512, 4096]⟩
abbrev S512x1024 : Shape := ⟨2, ![512, 1024]⟩
abbrev S512x1 : Shape := ⟨2, ![512, 1]⟩
abbrev S512 : Shape := ⟨1, ![512]⟩

abbrev nBuf : Space → Nat
  | .hbm => 10
  | .vmem => 17
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1, .f32⟩
  | .hbm, ⟨7, _⟩ => ⟨S4096x1, .f32⟩
  | .hbm, ⟨8, _⟩ => ⟨S4096x1024, .f32⟩
  | .hbm, ⟨9, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceLnIdeal.lean ====
abbrev S4096x4096 : Shape := ⟨2, ![4096, 4096]⟩
abbrev S4x1024x1024 : Shape := ⟨3, ![4, 1024, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4x1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x4096, .f32⟩
  | .hbm, ⟨9, _⟩ => ⟨S4x1024x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096, .f32⟩
  | .hbm, ⟨51, _⟩ => ⟨S4096x1, .f32⟩
  | .hbm, ⟨52, _⟩ => ⟨S_, .f32⟩
  | .hbm, ⟨53, _⟩ => ⟨S4096x1, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S4096x1, .f32⟩
  | .hbm, ⟨59, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_cst_9 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== KernelMb.lean ====
abbrev S4096x1024 : Shape := ⟨2, ![4096, 1024]⟩
abbrev S1x1024 : Shape := ⟨2, ![1, 1024]⟩
abbrev S4096x4096 : Shape := ⟨2, ![4096, 4096]⟩
abbrev S4x1024x1024 : Shape := ⟨3, ![4, 1024, 1024]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S512x1 : Shape := ⟨2, ![512, 1]⟩
abbrev S512x4096 : Shape := ⟨2, ![512, 4096]⟩
abbrev S512 : Shape := ⟨1, ![512]⟩
abbrev S1024 : Shape := ⟨1, ![1024]⟩
abbrev S1x1024x1024 : Shape := ⟨3, ![1, 1024, 1024]⟩
abbrev S1024x1024 : Shape := ⟨2, ![1024, 1024]⟩

abbrev nBuf : Space → Nat
  | .hbm => 36
  | .vmem => 20
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x4096, .f32⟩
  | .hbm, ⟨4, _⟩ => ⟨S4x1024x1024, .bf16⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .bf16⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1024, .f32⟩
  | .hbm, ⟨32, _⟩ => ⟨S4096x1024, .bf16⟩
  | .hbm, ⟨33, _⟩ => ⟨S4096x4096, .bf16⟩
  | .hbm, ⟨34, _⟩ => ⟨S1x1024, .f32⟩
  | .hbm, ⟨35, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1, .f32⟩
  | .local _ .vmem, ⟨5, _⟩ => ⟨S512x1, .f32⟩
  | .local _ .vmem, ⟨6, _⟩ => ⟨S512x1, .f32⟩
  | .local _ .vmem, ⟨7, _⟩ => ⟨S512x1, .f32⟩
  | .local _ .vmem, ⟨8, _⟩ => ⟨S1x1024, .f32⟩
  | .local _ .vmem, ⟨9, _⟩ => ⟨S512x4096, .bf16⟩
  | .local _ .vmem, ⟨10, _⟩ => ⟨S512x4096, .bf16⟩
  | .local _ .vmem, ⟨11, _⟩ => ⟨S4x1024x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x4096, .bf16⟩
  | .local _ .vmem, ⟨17, _⟩ => ⟨S512x4096, .bf16⟩
  | .local _ .vmem, ⟨18, _⟩ => ⟨S1x1024, .f32⟩
  | .local _ .vmem, ⟨19, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v19_4 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v34 : BitVec 1 := Scalar.cmpi .eq arg0 c0_i32
  let v35 : BitVec 32 := Scalar.extui v34
  let c0_i32_14 : BitVec 32 := 0#32
  let v36 : BitVec 1 := Scalar.cmpi .ne v35 c0_i32_14
  v36

def k0_cond2 (i : grid0.Coords) : BitVec 1 :=
  let arg0 : BitVec 32 := BitVec.ofNat 32 (i 0).val
  let c0_i32 : BitVec 32 := 0#32
  let v34 : BitVec 1 := Scalar.cmpi .eq arg0 c0_i32
  let v_true : BitVec 1 := 1#1
  let v37 : BitVec 1 := Scalar.xori v34 v_true
  let v38 : BitVec 32 := Scalar.extui v37
  let c0_i32_15 : BitVec 32 := 0#32
  let v39 : BitVec 1 := Scalar.cmpi .ne v38 c0_i32_15
  v39

def k0_cond3 (i : grid0.Coords) : BitVec 1 :=
  let arg0 : BitVec 32 := BitVec.ofNat 32 (i 0).val
  let c0_i32 : BitVec 32 := 0#32
  let v34 : BitVec 1 := Scalar.cmpi .eq arg0 c0_i32
  let v40 : BitVec 32 := Scalar.extui v34
  let c0_i32_16 : BitVec 32 := 0#32
  let v41 : BitVec 1 := Scalar.cmpi .ne v40 c0_i32_16
  v41

def k0_cond4 (i : grid0.Coords) : BitVec 1 :=
  let arg0 : BitVec 32 := BitVec.ofNat 32 (i 0).val
  let c0_i32 : BitVec 32 := 0#32
  let v34 : BitVec 1 := Scalar.cmpi .eq arg0 c0_i32
  let true_17 : BitVec 1 := 1#1
  let v42 : BitVec 1 := Scalar.xori v34 true_17
  let v43 : BitVec 32 := Scalar.extui v42
  let c0_i32_18 : BitVec 32 := 0#32
  let v44 : BitVec 1 := Scalar.cmpi .ne v43 c0_i32_18
  v44

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceMbIdeal.lean ====
abbrev S4096x1024 : Shape := ⟨2, ![4096, 1024]⟩
abbrev S1x1024 : Shape := ⟨2, ![1, 1024]⟩
abbrev S4096x4096 : Shape := ⟨2, ![4096, 4096]⟩
abbrev S4x1024x1024 : Shape := ⟨3, ![4, 1024, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 104
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x4096, .f32⟩
  | .hbm, ⟨4, _⟩ => ⟨S4x1024x1024, .bf16⟩
  | .hbm, ⟨5, _⟩ => ⟨S_, .f32⟩
  | .hbm, ⟨6, _⟩ => ⟨S1x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S1024, .f32⟩
  | .hbm, ⟨44, _⟩ => ⟨S1x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096, .f32⟩
  | .hbm, ⟨72, _⟩ => ⟨S4096x1, .f32⟩
  | .hbm, ⟨73, _⟩ => ⟨S4096x1024, .f32⟩
  | .hbm, ⟨74, _⟩ => ⟨S4096x1, .f32⟩
  | .hbm, ⟨75, _⟩ => ⟨S_, .f32⟩
  | .hbm, ⟨76, _⟩ => ⟨S4096x1, .f32⟩
  | .hbm, ⟨77, _⟩ => ⟨S4096x1, .f32⟩
  | .hbm, ⟨78, _⟩ => ⟨S_, .f32⟩
  | .hbm, ⟨79, _⟩ => ⟨S4096, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096x4096, .f32⟩
  | .hbm, ⟨84, _⟩ => ⟨S4096x4096, .f32⟩
  | .hbm, ⟨85, _⟩ => ⟨S_, .f32⟩
  | .hbm, ⟨86, _⟩ => ⟨S4096x4096, .f32⟩
  | .hbm, ⟨87, _⟩ => ⟨S4096x4096, .i1⟩
  | .hbm, ⟨88, _⟩ => ⟨S_, .f32⟩
  | .hbm, ⟨89, _⟩ => ⟨S4096x4096, .f32⟩
  | .hbm, ⟨90, _⟩ => ⟨S4096x4096, .f32⟩
  | .hbm, ⟨91, _⟩ => ⟨S_, .f32⟩
  | .hbm, ⟨92, _⟩ => ⟨S4096x4096, .f32⟩
  | .hbm, ⟨93, _⟩ => ⟨S4096x4096, .f32⟩
  | .hbm, ⟨94, _⟩ => ⟨S4x1024x1024, .f32⟩
  | .hbm, ⟨95, _⟩ => ⟨S4096x1024, .f32⟩
  | .hbm, ⟨96, _⟩ => ⟨S4096x1024, .f32⟩
  | .hbm, ⟨97, _⟩ => ⟨S4096x4096, .f32⟩
  | .hbm, ⟨98, _⟩ => ⟨S4096x4096, .f32⟩
  | .hbm, ⟨99, _⟩ => ⟨S_, .f32⟩
  | .hbm, ⟨100, _⟩ => ⟨S4096x4096, .f32⟩
  | .hbm, ⟨101, _⟩ => ⟨S4096x4096, .f32⟩
  | .hbm, ⟨102, _⟩ => ⟨S4096x1024, .bf16⟩
  | .hbm, ⟨103, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_cst_4 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_9 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_cst_11 : Ref sig .tc := ⟨.hbm, 62, rfl⟩
abbrev main_v45 : Ref sig .tc := ⟨.hbm, 63, rfl⟩
abbrev main_v46 : Ref sig .tc := ⟨.hbm, 64, rfl⟩
abbrev main_cst_12 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_14 : Ref sig .tc := ⟨.hbm, 75, rfl⟩
abbrev main_v55 : Ref sig .tc := ⟨.hbm, 76, rfl⟩
abbrev main_v56 : Ref sig .tc := ⟨.hbm, 77, rfl⟩
abbrev main_cst_15 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_call0_cst : Ref sig .tc := ⟨.hbm, 82, rfl⟩
abbrev main_call0_v0 : Ref sig .tc := ⟨.hbm, 83, rfl⟩
abbrev main_v60 : Ref sig .tc := ⟨.hbm, 84, rfl⟩
abbrev main_cst_16 : Ref sig .tc := ⟨.hbm, 85, rfl⟩
abbrev main_v61 : Ref sig .tc := ⟨.hbm, 86, rfl⟩
abbrev main_v62 : Ref sig .tc := ⟨.hbm, 87, rfl⟩
abbrev main_cst_17 : Ref sig .tc := ⟨.hbm, 88, rfl⟩
abbrev main_v63 : Ref sig .tc := ⟨.hbm, 89, rfl⟩
abbrev main_v64 : Ref sig .tc := ⟨.hbm, 90, rfl⟩
abbrev main_cst_18 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_19 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩

abbrev nD : Nat := 1
abbrev τ : Topo := Topo.v7x

variable {F : FTy → Type} [FloatOps F]
-- ==== KernelMc.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024 : Shape := ⟨2, ![1, 1024]⟩
abbrev S4x256x1024 : Shape := ⟨3, ![4, 256, 1024]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S512x4096 : Shape := ⟨2, ![512, 4096]⟩
abbrev S512x1 : Shape := ⟨2, ![512, 1]⟩
abbrev S1x1024x1024 : Shape := ⟨3, ![1, 1024, 1024]⟩
abbrev S1024x1024 : Shape := ⟨2, ![1024, 1024]⟩
abbrev S512 : Shape := ⟨1, ![512]⟩
abbrev S1024 : Shape := ⟨1, ![1024]⟩

abbrev nBuf : Space → Nat
  | .hbm => 31
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S4x1024x1024, .bf16⟩
  | .hbm, ⟨3, _⟩ => ⟨S4096x1024, .f32⟩
  | .hbm, ⟨4, _⟩ => ⟨S1x1024, .f32⟩
  | .hbm, ⟨5, _⟩ => ⟨S4x256x1024, .bf16⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .bf16⟩
  | .hbm, ⟨27, _⟩ => ⟨S4096x1024, .bf16⟩
  | .hbm, ⟨28, _⟩ => ⟨S1x1024, .f32⟩
  | .hbm, ⟨29, _⟩ => ⟨S1x1024, .f32⟩
  | .hbm, ⟨30, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4x1024x1024, .bf16⟩
  | .local _ .vmem, ⟨5, _⟩ => ⟨S512x1024, .f32⟩
  | .local _ .vmem, ⟨6, _⟩ => ⟨S512x1024, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S1x1024, .f32⟩
  | .local _ .vmem, ⟨12, _⟩ => ⟨S4x256x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14_0 : Ref sig .tc := ⟨.hbm, 25, rfl⟩
abbrev main_v14_1 : Ref sig .tc := ⟨.hbm, 26, rfl⟩
abbrev main_v14_2 : Ref sig .tc := ⟨.hbm, 27, rfl⟩
abbrev main_v14_3 : Ref sig .tc := ⟨.hbm, 28, rfl⟩
abbrev main_v14_4 : Ref sig .tc := ⟨.hbm, 29, rfl⟩
abbrev main_v14_5 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_33 : BitVec 32 := 0#32
  let v58 : BitVec 1 := Scalar.cmpi .ne v57 c0_i32_33
  v58

def k0_cond2 (i : grid0.Coords) : BitVec 1 :=
  let arg0 : BitVec 32 := BitVec.ofNat 32 (i 0).val
  let c0_i32 : BitVec 32 := 0#32
  let v56 : BitVec 1 := Scalar.cmpi .eq arg0 c0_i32
  let v_true : BitVec 1 := 1#1
  let v59 : BitVec 1 := Scalar.xori v56 v_true
  let v60 : BitVec 32 := Scalar.extui v59
  let c0_i32_34 : BitVec 32 := 0#32
  let v61 : BitVec 1 := Scalar.cmpi .ne v60 c0_i32_34
  v61

def k0_cond3 (i : grid0.Coords) : BitVec 1 :=
  let arg0 : BitVec 32 := BitVec.ofNat 32 (i 0).val
  let c0_i32 : BitVec 32 := 0#32
  let v56 : BitVec 1 := Scalar.cmpi .eq arg0 c0_i32
  let v62 : BitVec 32 := Scalar.extui v56
  let c0_i32_35 : BitVec 32 := 0#32
  let v63 : BitVec 1 := Scalar.cmpi .ne v62 c0_i32_35
  v63

def k0_cond4 (i : grid0.Coords) : BitVec 1 :=
  let arg0 : BitVec 32 := BitVec.ofNat 32 (i 0).val
  let c0_i32 : BitVec 32 := 0#32
  let v56 : BitVec 1 := Scalar.cmpi .eq arg0 c0_i32
  let true_36 : BitVec 1 := 1#1
  let v64 : BitVec 1 := Scalar.xori v56 true_36
  let v65 : BitVec 32 := Scalar.extui v64
  let c0_i32_37 : BitVec 32 := 0#32
  let v66 : BitVec 1 := Scalar.cmpi .ne v65 c0_i32_37
  v66

def k0_cond5 (i : grid0.Coords) : BitVec 1 :=
  let arg0 : BitVec 32 := BitVec.ofNat 32 (i 0).val
  let c0_i32 : BitVec 32 := 0#32
  let v56 : BitVec 1 := Scalar.cmpi .eq arg0 c0_i32
  let v69 : BitVec 32 := Scalar.extui v56
  let c0_i32_39 : BitVec 32 := 0#32
  let v70 : BitVec 1 := Scalar.cmpi .ne v69 c0_i32_39
  v70

def k0_cond6 (i : grid0.Coords) : BitVec 1 :=
  let arg0 : BitVec 32 := BitVec.ofNat 32 (i 0).val
  let c0_i32 : BitVec 32 := 0#32
  let v56 : BitVec 1 := Scalar.cmpi .eq arg0 c0_i32
  let true_40 : BitVec 1 := 1#1
  let v71 : BitVec 1 := Scalar.xori v56 true_40
  let v72 : BitVec 32 := Scalar.extui v71
  let c0_i32_41 : BitVec 32 := 0#32
  let v73 : BitVec 1 := Scalar.cmpi .ne v72 c0_i32_41
  v73

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ReferenceMcIdeal.lean ====
abbrev S4096x1024 : Shape := ⟨2, ![4096, 1024]⟩
abbrev S4096x4096 : Shape := ⟨2, ![4096, 4096]⟩
abbrev S4x1024x1024 : Shape := ⟨3, ![4, 1024, 1024]⟩
abbrev S1x1024 : Shape := ⟨2, ![1, 1024]⟩
abbrev S4x256x1024 : Shape := ⟨3, ![4, 256, 1024]⟩
abbrev S1024x4x1024 : Shape := ⟨3, ![1024, 4, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1024x1024 : Shape := ⟨2, ![1024, 1024]⟩

abbrev nBuf : Space → Nat
  | .hbm => 112
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4096, .bf16⟩
  | .hbm, ⟨2, _⟩ => ⟨S4x1024x1024, .bf16⟩
  | .hbm, ⟨3, _⟩ => ⟨S4096x1024, .f32⟩
  | .hbm, ⟨4, _⟩ => ⟨S1x1024, .f32⟩
  | .hbm, ⟨5, _⟩ => ⟨S4x256x1024, .bf16⟩
  | .hbm, ⟨6, _⟩ => ⟨S4x1024x1024, .f32⟩
  | .hbm, ⟨7, _⟩ => ⟨S1024x4x1024, .f32⟩
  | .hbm, ⟨8, _⟩ => ⟨S1024x4096, .f32⟩
  | .hbm, ⟨9, _⟩ => ⟨S_, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S1x1024, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S_, .f32⟩
  | .hbm, ⟨68, _⟩ => ⟨S4096, .f32⟩
  | .hbm, ⟨69, _⟩ => ⟨S4096x1, .f32⟩
  | .hbm, ⟨70, _⟩ => ⟨S4096x1024, .f32⟩
  | .hbm, ⟨71, _⟩ => ⟨S4096x1024, .f32⟩
  | .hbm, ⟨72, _⟩ => ⟨S4096x1, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1024, .f32⟩
  | .hbm, ⟨89, _⟩ => ⟨S4096x1, .f32⟩
  | .hbm, ⟨90, _⟩ => ⟨S_, .f32⟩
  | .hbm, ⟨91, _⟩ => ⟨S4096x1, .f32⟩
  | .hbm, ⟨92, _⟩ => ⟨S4096x1, .f32⟩
  | .hbm, ⟨93, _⟩ => ⟨S_, .f32⟩
  | .hbm, ⟨94, _⟩ => ⟨S4096, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S4096x1024, .f32⟩
  | .hbm, ⟨99, _⟩ => ⟨S_, .f32⟩
  | .hbm, ⟨100, _⟩ => ⟨S1x1024, .f32⟩
  | .hbm, ⟨101, _⟩ => ⟨S4x256x1024, .f32⟩
  | .hbm, ⟨102, _⟩ => ⟨S1024x1024, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S_, .f32⟩
  | .hbm, ⟨107, _⟩ => ⟨S1024, .f32⟩
  | .hbm, ⟨108, _⟩ => ⟨S1x1024, .f32⟩
  | .hbm, ⟨109, _⟩ => ⟨S4096x1024, .f32⟩
  | .hbm, ⟨110, _⟩ => ⟨S4096x1024, .bf16⟩
  | .hbm, ⟨111, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_11 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_16 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩
abbrev main_cst_18 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_19 : Ref sig .tc := ⟨.hbm, 97, rfl⟩
abbrev main_v71 : Ref sig .tc := ⟨.hbm, 98, rfl⟩
abbrev main_cst_20 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_cst_21 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]
-- ==== Proof.Attn.Points.lean ====
module

public import proofs.«01_k».proof.Proof.Gen.KernelIdeal.Frame
public import proofs.«01_k».proof.Proof.Gen.KernelIdeal.Skeleton
public import Idealize.ShloMosaic.Lib.Pipeline.TableIdle

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! What the grid's 33 points decide: which of the body's three conditionals are taken, and when the outputs are
    written back. -/

/-- The body's first conditional is taken (the first point). -/
abbrev IsFirst (i : grid0.Coords) : Prop := k0_cond1 i = 1#1
/-- The body's second conditional is taken (the points that have a block of queries). -/
abbrev IsBlock (i : grid0.Coords) : Prop := k0_cond2 i = 1#1
/-- The body's third conditional is taken (the last point). -/
abbrev IsLast (i : grid0.Coords) : Prop := k0_cond3 i = 1#1

/-- The first conditional is taken at point 0 only. -/
theorem isFirst_iff : ∀ t : Fin cfg0.N, IsFirst (grid0.coords t) ↔ t.val = 0 :=
  (by decide +kernel : ∀ t : Fin grid0.N, IsFirst (grid0.coords t) ↔ t.val = 0)
/-- The second conditional is taken before point 32. -/
theorem isBlock_iff : ∀ t : Fin cfg0.N, IsBlock (grid0.coords t) ↔ t.val < 32 :=
  (by decide +kernel : ∀ t : Fin grid0.N, IsBlock (grid0.coords t) ↔ t.val < 32)
/-- The third conditional is taken at point 32 only. -/
theorem isLast_iff : ∀ t : Fin cfg0.N, IsLast (grid0.coords t) ↔ t.val = 32 :=
  (by decide +kernel : ∀ t : Fin grid0.N, IsLast (grid0.coords t) ↔ t.val = 32)

/-- The queries' gradient is stored into before point 32, and left alone there. -/
theorem idle_dq : ∀ t : Fin cfg0.N, cfg0.idle 7 (grid0.coords t) = decide (t.val = 32) := by decide +kernel
/-- The keys' gradient is stored into at every point. -/
theorem idle_dk : ∀ t : Fin cfg0.N, cfg0.idle 8 (grid0.coords t) = false := by decide +kernel
/-- The values' gradient is stored into at every point. -/
theorem idle_dv : ∀ t : Fin cfg0.N, cfg0.idle 9 (grid0.coords t) = false := by decide +kernel
/-- The sinks' gradient is stored into before point 32, and left alone there. -/
theorem idle_ds : ∀ t : Fin cfg0.N, cfg0.idle 10 (grid0.coords t) = decide (t.val = 32) := by decide +kernel

/-- The queries' gradient is written back at every point but 31 (whose block point 32 shares). -/
theorem flush_dq : ∀ t : Fin cfg0.N, (cfg0.win 7).flush t = decide (t.val ≠ 31) := by decide +kernel
/-- The keys' gradient is written back at every point but 0 (whose block point 1 shares). -/
theorem flush_dk : ∀ t : Fin cfg0.N, (cfg0.win 8).flush t = decide (t.val ≠ 0) := by decide +kernel
/-- The values' gradient is written back at every point but 0 (whose block point 1 shares). -/
theorem flush_dv : ∀ t : Fin cfg0.N, (cfg0.win 9).flush t = decide (t.val ≠ 0) := by decide +kernel
/-- The sinks' gradient is written back at the last point only. -/
theorem flush_ds : ∀ t : Fin cfg0.N, (cfg0.win 10).flush t = decide (t.val = 32) := by decide +kernel

end Cert.KernelIdeal.Attn

end
-- ==== Proof.Attn.RunA.lean ====
module

public import proofs.«01_k».proof.Proof.Attn.Points

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1600000 in
/-- The body at the first point, on whole buffers holding the blocks `x·` and anything else elsewhere: what it leaves in each
    output and in the two carried buffers, as the list of its stores (last first), with the triple that says so. -/
noncomputable def runA (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole)
    (hc0 : IsFirst i) (hc1 : IsBlock i) (hc2 : ¬IsLast i)
    (x0 : Vec F S1x16 .f32) (x1 x2 : Vec F S128x1024 .bf16) (x3 x4 x5 x6 : Vec F S128x256 .bf16) :
    Σ' (L7 : List (View.Piece (Elt F) S128x1024 .f32)), Σ' (L8 : List (View.Piece (Elt F) S128x256 .f32)), Σ' (L9 : List (View.Piece (Elt F) S128x256 .f32)), Σ' (L10 : List (View.Piece (Elt F) S16x128 .f32)), Σ' (LS0 : List (View.Piece (Elt F) S128x256 .f32)), { LS1 : List (View.Piece (Elt F) S128x256 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ d, owns (c : Thread nD τ) arg8 fullShare d)
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ f, arg8.view.loc (c : Thread nD τ) ↦[arg8.view.set]{fullShare} arg8.view.writes (Elt F) f L7)
            ∗ (∃ f, arg9.view.loc (c : Thread nD τ) ↦[arg9.view.set]{fullShare} arg9.view.writes (Elt F) f L8)
            ∗ (∃ f, arg10.view.loc (c : Thread nD τ) ↦[arg10.view.set]{fullShare} arg10.view.writes (Elt F) f L9)
            ∗ (∃ f, arg11.view.loc (c : Thread nD τ) ↦[arg11.view.set]{fullShare} arg11.view.writes (Elt F) f L10)
            ∗ (∃ f, arg12.view.loc (c : Thread nD τ) ↦[arg12.view.set]{fullShare} arg12.view.writes (Elt F) f LS0)
            ∗ (∃ f, arg13.view.loc (c : Thread nD τ) ↦[arg13.view.set]{fullShare} arg13.view.writes (Elt F) f LS1)) -∗ K ⟨⟩))
          ⊢ wp frame (wpE (defs₀ (F := F)) Variants.none c none) E
            (cc0_attn_bwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.KernelIdeal.Attn

end
-- ==== Proof.Attn.RunB.lean ====
module

public import proofs.«01_k».proof.Proof.Attn.RunA

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1600000 in
/-- The body at a point 1, …, 31, on whole buffers holding the blocks `x·`, the sinks' gradient `d` so far and the carried
    halves `ck`, `cv`: what it leaves in each output and in the two carried buffers, as the list of its stores (last first),
    with the triple that says so. -/
noncomputable def runB (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole)
    (hc0 : ¬IsFirst i) (hc1 : IsBlock i) (hc2 : ¬IsLast i)
    (x0 : Vec F S1x16 .f32) (x1 x2 : Vec F S128x1024 .bf16) (x3 x4 x5 x6 : Vec F S128x256 .bf16) (d : Vec F S16x128 .f32) (ck cv : Vec F S128x256 .f32) :
    Σ' (L7 : List (View.Piece (Elt F) S128x1024 .f32)), Σ' (L8 : List (View.Piece (Elt F) S128x256 .f32)), Σ' (L9 : List (View.Piece (Elt F) S128x256 .f32)), Σ' (L10 : List (View.Piece (Elt F) S16x128 .f32)), Σ' (LS0 : List (View.Piece (Elt F) S128x256 .f32)), { LS1 : List (View.Piece (Elt F) S128x256 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ d, owns (c : Thread nD τ) arg8 fullShare d)
            ∗ (∃ d, owns (c : Thread nD τ) arg9 fullShare d)
            ∗ (∃ d, owns (c : Thread nD τ) arg10 fullShare d)
            ∗ owns (c : Thread nD τ) arg11 fullShare d
            ∗ owns (c : Thread nD τ) arg12 fullShare ck
            ∗ owns (c : Thread nD τ) arg13 fullShare cv
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ (∃ f, arg8.view.loc (c : Thread nD τ) ↦[arg8.view.set]{fullShare} arg8.view.writes (Elt F) f L7)
            ∗ (∃ f, arg9.view.loc (c : Thread nD τ) ↦[arg9.view.set]{fullShare} arg9.view.writes (Elt F) f L8)
            ∗ (∃ f, arg10.view.loc (c : Thread nD τ) ↦[arg10.view.set]{fullShare} arg10.view.writes (Elt F) f L9)
            ∗ (∃ f, arg11.view.loc (c : Thread nD τ) ↦[arg11.view.set]{fullShare} arg11.view.writes (Elt F) f L10)
            ∗ (∃ f, arg12.view.loc (c : Thread nD τ) ↦[arg12.view.set]{fullShare} arg12.view.writes (Elt F) f LS0)
            ∗ (∃ f, arg13.view.loc (c : Thread nD τ) ↦[arg13.view.set]{fullShare} arg13.view.writes (Elt F) f LS1)) -∗ K ⟨⟩))
          ⊢ wp frame (wpE (defs₀ (F := F)) Variants.none c none) E
            (cc0_attn_bwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, ⟨%f12, %hf12, H12⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg11.eq_unread hf10
    obtain rfl := harg12.eq_unread hf11
    obtain rfl := harg13.eq_unread hf12
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.KernelIdeal.Attn

end
-- ==== Proof.Attn.RunC.lean ====
module

public import proofs.«01_k».proof.Proof.Attn.RunB

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 1600000 in
/-- The body at the last point: the carried halves are stored into the keys' and the values' gradient, and the rest is
    left as it was; the two stores, with the triple that says so. -/
noncomputable def runC (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole)
    (hc0 : ¬IsFirst i) (hc1 : ¬IsBlock i) (hc2 : IsLast i)
    (x0 : Vec F S1x16 .f32) (x1 x2 : Vec F S128x1024 .bf16) (x3 x4 x5 x6 : Vec F S128x256 .bf16) (q : Vec F S128x1024 .f32) (d : Vec F S16x128 .f32) (ck cv : Vec F S128x256 .f32) :
    Σ' (L8 : List (View.Piece (Elt F) S128x256 .f32)), { L9 : List (View.Piece (Elt F) S128x256 .f32) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare q
            ∗ (∃ d, owns (c : Thread nD τ) arg9 fullShare d)
            ∗ (∃ d, owns (c : Thread nD τ) arg10 fullShare d)
            ∗ owns (c : Thread nD τ) arg11 fullShare d
            ∗ owns (c : Thread nD τ) arg12 fullShare ck
            ∗ owns (c : Thread nD τ) arg13 fullShare cv
            ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare q
            ∗ (∃ f, arg9.view.loc (c : Thread nD τ) ↦[arg9.view.set]{fullShare} arg9.view.writes (Elt F) f L8)
            ∗ (∃ f, arg10.view.loc (c : Thread nD τ) ↦[arg10.view.set]{fullShare} arg10.view.writes (Elt F) f L9)
            ∗ owns (c : Thread nD τ) arg11 fullShare d
            ∗ owns (c : Thread nD τ) arg12 fullShare ck
            ∗ owns (c : Thread nD τ) arg13 fullShare cv) -∗ K ⟨⟩))
          ⊢ wp frame (wpE (defs₀ (F := F)) Variants.none c none) E
            (cc0_attn_bwd i arg1 harg1 arg2 harg2 arg3 harg3 arg4 harg4 arg5 harg5 arg6 harg6 arg7 harg7 arg8 harg8 arg9 harg9 arg10 harg10 arg11 harg11 arg12 harg12 arg13 harg13) K } := by
  refine ⟨?_, ?_, fun E K => ?run⟩
  case run =>
    simp only [cc0_attn_bwd_eq_skeleton]; unfold cc0_attn_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    obtain rfl := harg7.eq_unread hf6
    obtain rfl := harg8.eq_unread hf7
    obtain rfl := harg11.eq_unread hf10
    obtain rfl := harg12.eq_unread hf11
    obtain rfl := harg13.eq_unread hf12
    sl_exec (disch := first | sl_exact hc0 | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]
    · iexists _; isplitr; · ipureintro; exact harg11.read_unread _
      iexact H10
    isplitl [H11]
    · iexists _; isplitr; · ipureintro; exact harg12.read_unread _
      iexact H11
    iexists _; isplitr; · ipureintro; exact harg13.read_unread _
    iexact H12

end Cert.KernelIdeal.Attn

end
-- ==== Proof.Attn.Heads.lean ====
module

public import proofs.«01_k».proof.Proof.Attn.RunC

@[expose] public section

set_option maxRecDepth 16384

noncomputable section

namespace Cert.KernelIdeal.Attn

open Idealize.ShloMosaic Idealize.ShloMosaic.TcCoe Idealize.ShloMosaic.Tactic
open Idealize.ShloMosaic.Pipeline (Dat Cfg Window)
open Cert.KernelIdeal.Gen

variable {F : FTy → Type} [FloatOps F] [Named F]

/-! ## One head of one block, as functions of what it reads -/

/-- Which of the two blocks' keys each query of block `i` sees. -/
def maskAt (i : grid0.Coords) : IVec S128x256 1 := k0_pay8 (BitVec.ofNat 32 (i 0 : ℕ))

/-- The previous block's rows above the current block's. -/
def pair (p c : Vec F S128x64 .bf16) : FVec F S256x64 .bf16 :=
  concatenate S256x64 0 [⟨S128x64, p⟩, ⟨S128x64, c⟩] concatenates_S128x64_S128x64_S256x64_d0

/-- The products of a block's rows with the rows of two blocks. -/
def prods (q : Vec F S128x64 .bf16) (k2 : FVec F S256x64 .bf16) : FVec F S128x256 .f32 :=
  matmul dot_S128x64_S256x64_S128x256_1_1_0_0_n_n none q k2 (constant S128x256 .f32 0x00000000#32)

/-- The scores, −∞ where a query does not see a key. -/
def masked (M : IVec S128x256 1) (s : FVec F S128x256 .f32) : FVec F S128x256 .f32 :=
  select M s (broadcast S128x256 (Named.named κ "mask" 0xF149F2CA#32))

/-- The larger of a row's largest score and the head's sink. -/
def top (s : FVec F S128x256 .f32) (σ : Elt F .f32) : FVec F S128x1 .f32 :=
  maximumf (shapeCast S128x1 (multiReduction .maximumf [1] S128 s 0xFF800000#32 reduces_S128x256_S128 (.inl rfl) rfl) shapeCasts_S128_S128x1)
    (broadcast S128x1 σ)

/-- The exponentials of the scores below the top. -/
def weights (s : FVec F S128x256 .f32) (σ : Elt F .f32) : FVec F S128x256 .f32 :=
  exp (subf s (broadcastTo S128x256 (top s σ) broadcasts_S128x1_S128x256))

/-- The exponential of the sink below the top. -/
def sinkWeight (s : FVec F S128x256 .f32) (σ : Elt F .f32) : FVec F S128x1 .f32 :=
  exp (subf (broadcast S128x1 σ) (top s σ))

/-- One over a row's sum of weights, the sink's included. -/
def inverse (s : FVec F S128x256 .f32) (σ : Elt F .f32) : FVec F S128x1 .f32 :=
  divf (broadcast S128x1 (Scalar.ofBits .f32 0x3F800000#32))
    (addf (shapeCast S128x1 (multiReduction .add [1] S128 (weights s σ) 0x00000000#32 reduces_S128x256_S128 (.inl rfl) rfl) shapeCasts_S128_S128x1)
      (sinkWeight s σ))

/-- The probabilities of the keys. -/
def probs (s : FVec F S128x256 .f32) (σ : Elt F .f32) : FVec F S128x256 .f32 :=
  mulf (weights s σ) (broadcastTo S128x256 (inverse s σ) broadcasts_S128x1_S128x256)

/-- The probability of the sink. -/
def sinkProb (s : FVec F S128x256 .f32) (σ : Elt F .f32) : FVec F S128x1 .f32 :=
  mulf (sinkWeight s σ) (inverse s σ)

/-- A row's sum of probabilities times their gradients. -/
def delta (p dp : FVec F S128x256 .f32) : FVec F S128x1 .f32 :=
  shapeCast S128x1 (multiReduction .add [1] S128 (mulf p dp) 0x00000000#32 reduces_S128x256_S128 (.inl rfl) rfl) shapeCasts_S128_S128x1

/-- The scores' gradient. -/
def dscore (p dp : FVec F S128x256 .f32) : FVec F S128x256 .bf16 :=
  truncf .bf16 (mulf p (subf dp (broadcastTo S128x256 (delta p dp) broadcasts_S128x1_S128x256))) bitsLt_bf16_f32

/-- The sink's share of a block, minus the sum over its rows, in every lane. -/
def sinkRow (old : Vec F S1x128 .f32) (ps δ : FVec F S128x1 .f32) : FVec F S1x128 .f32 :=
  addf (shapeCast S1x128 old shapeCasts_S1x128_S1x128)
    (broadcastTo S1x128 (shapeCast S1x1 (subf (broadcast S1x1 (Scalar.ofBits .f32 0x00000000#32))
      (shapeCast S1x1 (multiReduction .add [0] S1 (mulf ps δ) 0x00000000#32 reduces_S128x1_S1 (.inl rfl) rfl) shapeCasts_S1_S1x1))
      shapeCasts_S1x1_S1x1) broadcasts_S1x1_S1x128)

/-- The queries' gradient. -/
def dquery (g : FVec F S128x256 .bf16) (k2 : FVec F S256x64 .bf16) : FVec F S128x64 .f32 :=
  matmul dot_S128x256_S256x64_S128x64_1_0_0_1_n_n none g k2 (constant S128x64 .f32 0x00000000#32)

/-- What the four heads of a group give the two blocks of keys (or values). -/
def dkeys (g0 g1 g2 g3 : FVec F S128x256 .bf16) (q0 q1 q2 q3 : Vec F S128x64 .bf16) : FVec F S256x64 .f32 :=
  matmul dot_S512x256_S512x64_S256x64_0_0_1_1_n_n none
    (concatenate S512x256 0 [⟨S128x256, g0⟩, ⟨S128x256, g1⟩, ⟨S128x256, g2⟩, ⟨S128x256, g3⟩] concatenates_S128x256_S128x256_S128x256_S128x256_S512x256_d0)
    (concatenate S512x64 0 [⟨S128x64, q0⟩, ⟨S128x64, q1⟩, ⟨S128x64, q2⟩, ⟨S128x64, q3⟩] concatenates_S128x64_S128x64_S128x64_S128x64_S512x64_d0)
    (constant S256x64 .f32 0x00000000#32)

/-- The previous block's half, added to what was carried. -/
def lower (old : Vec F S128x64 .f32) (x : FVec F S256x64 .f32) : FVec F S128x64 .f32 :=
  addf old (extractStridedSlice S128x64 ![0, 0] x slices_S256x64_o0_0_S128x64)

/-- The current block's half, to be carried. -/
def upper (x : FVec F S256x64 .f32) : FVec F S128x64 .f32 :=
  shapeCast S128x64 (extractStridedSlice S128x64 ![128, 0] x slices_S256x64_o128_0_S128x64) shapeCasts_S128x64_S128x64

/-! ## The heads' columns -/

theorem inb_q (h : Fin 16) : ∀ a, (![0, 64 * h.val] : Fin 2 → ℕ) a + (![128, 64] : Fin 2 → ℕ) a ≤ S128x1024.size a := by
  intro a; have := h.isLt; fin_cases a
  · show 0 + 128 ≤ 128; omega
  · show 64 * h.val + 64 ≤ 1024; omega

theorem inb_k (h : Fin 4) : ∀ a, (![0, 64 * h.val] : Fin 2 → ℕ) a + (![128, 64] : Fin 2 → ℕ) a ≤ S128x256.size a := by
  intro a; have := h.isLt; fin_cases a
  · show 0 + 128 ≤ 128; omega
  · show 64 * h.val + 64 ≤ 256; omega

theorem inb_s (h : Fin 16) : ∀ a, (![h.val, 0] : Fin 2 → ℕ) a + (![1, 128] : Fin 2 → ℕ) a ≤ S16x128.size a := by
  intro a; have := h.isLt; fin_cases a
  · show h.val + 1 ≤ 16; omega
  · show 0 + 128 ≤ 128; omega

theorem inb_1 (h : Fin 16) : ∀ a, (![0, h.val] : Fin 2 → ℕ) a + (![1, 1] : Fin 2 → ℕ) a ≤ S1x16.size a := by
  intro a; have := h.isLt; fin_cases a
  · show 0 + 1 ≤ 1; omega
  · show h.val + 1 ≤ 16; omega

/-- The columns of head `h` of the queries. -/
abbrev rq (h : Fin 16) : Rect S128x1024 := Rect.unit ![0, 64 * h.val] ![128, 64] (inb_q h)
/-- The columns of head `h` of the keys. -/
abbrev rk (h : Fin 4) : Rect S128x256 := Rect.unit ![0, 64 * h.val] ![128, 64] (inb_k h)
/-- The row of head `h` of the sinks' gradient. -/
abbrev rs (h : Fin 16) : Rect S16x128 := Rect.unit ![h.val, 0] ![1, 128] (inb_s h)

/-- The `g`-th query head of the key head `kh`. -/
def hd (kh : Fin 4) (g : Fin 4) : Fin 16 := ⟨4 * kh.val + g.val, by omega⟩
/-- The key head of a query head. -/
def kvh (h : Fin 16) : Fin 4 := ⟨h.val / 4, by omega⟩

/-- What a point reads. -/
structure Blocks (F : FTy → Type) [FloatOps F] where
  /-- the sinks -/
  s : Vec F S1x16 .f32
  /-- the queries -/
  q : Vec F S128x1024 .bf16
  /-- the output's gradient -/
  o : Vec F S128x1024 .bf16
  /-- the block's keys -/
  kc : Vec F S128x256 .bf16
  /-- the previous block's keys -/
  kp : Vec F S128x256 .bf16
  /-- the block's values -/
  vc : Vec F S128x256 .bf16
  /-- the previous block's values -/
  vp : Vec F S128x256 .bf16

namespace Blocks

variable (B : Blocks F) (i : grid0.Coords)

def qh (h : Fin 16) : Vec F S128x64 .bf16 := View.ld B.q (rq h)
def oh (h : Fin 16) : Vec F S128x64 .bf16 := View.ld B.o (rq h)
def sh (h : Fin 16) : Elt F .f32 := View.ld B.s (Rect.unit ![0, h.val] ![1, 1] (inb_1 h)) (Shape.Idx.first (s := ⟨2, ![1, 1]⟩) (by decide))
def k2 (h : Fin 4) : FVec F S256x64 .bf16 := pair (View.ld B.kp (rk h)) (View.ld B.kc (rk h))
def v2 (h : Fin 4) : FVec F S256x64 .bf16 := pair (View.ld B.vp (rk h)) (View.ld B.vc (rk h))
def score (h : Fin 16) : FVec F S128x256 .f32 := masked (maskAt i) (prods (B.qh h) (B.k2 (kvh h)))
def p (h : Fin 16) : FVec F S128x256 .f32 := probs (B.score i h) (B.sh h)
def dp (h : Fin 16) : FVec F S128x256 .f32 := prods (B.oh h) (B.v2 (kvh h))
def g (h : Fin 16) : FVec F S128x256 .bf16 := dscore (B.p i h) (B.dp h)
def pb (h : Fin 16) : FVec F S128x256 .bf16 := truncf .bf16 (B.p i h) bitsLt_bf16_f32
/-- Head `h` of the queries' gradient. -/
def dq (h : Fin 16) : FVec F S128x64 .f32 := dquery (B.g i h) (B.k2 (kvh h))
/-- The row of head `h` of the sinks' gradient, after the row `old`. -/
def dsRow (old : Vec F S1x128 .f32) (h : Fin 16) : FVec F S1x128 .f32 :=
  sinkRow old (sinkProb (B.score i h) (B.sh h)) (delta (B.p i h) (B.dp h))
/-- The row of head `h` of the sinks' gradient, after `old`. -/
def ds (old : Vec F S16x128 .f32) (h : Fin 16) : FVec F S1x128 .f32 := B.dsRow i (View.ld old (rs h)) h
/-- What the block gives the keys of head `h`, previous block above current. -/
def dk2 (h : Fin 4) : FVec F S256x64 .f32 :=
  dkeys (B.g i (hd h 0)) (B.g i (hd h 1)) (B.g i (hd h 2)) (B.g i (hd h 3)) (B.qh (hd h 0)) (B.qh (hd h 1)) (B.qh (hd h 2)) (B.qh (hd h 3))
/-- What the block gives the values of head `h`. -/
def dv2 (h : Fin 4) : FVec F S256x64 .f32 :=
  dkeys (B.pb i (hd h 0)) (B.pb i (hd h 1)) (B.pb i (hd h 2)) (B.pb i (hd h 3)) (B.oh (hd h 0)) (B.oh (hd h 1)) (B.oh (hd h 2)) (B.oh (hd h 3))

/-! ## The stores of a point -/

def dqPieces : List (View.Piece (Elt F) S128x1024 .f32) :=
  [15, 14, 13, 12, 11, 10, 9, 8, 7, 6, 5, 4, 3, 2, 1, 0].map fun h : Fin 16 => ⟨rq h, B.dq i h⟩
def dkPieces (ck : Vec F S128x256 .f32) : List (View.Piece (Elt F) S128x256 .f32) :=
  [3, 2, 1, 0].map fun h : Fin 4 => ⟨rk h, lower (View.ld ck (rk h)) (B.dk2 i h)⟩
def dvPieces (cv : Vec F S128x256 .f32) : List (View.Piece (Elt F) S128x256 .f32) :=
  [3, 2, 1, 0].map fun h : Fin 4 => ⟨rk h, lower (View.ld cv (rk h)) (B.dv2 i h)⟩
def dsPieces (old : Vec F S16x128 .f32) : List (View.Piece (Elt F) S16x128 .f32) :=
  [15, 14, 13, 12, 11, 10, 9, 8, 7, 6, 5, 4, 3, 2, 1, 0].map fun h : Fin 16 => ⟨rs h, B.ds i old h⟩
def ckPieces : List (View.Piece (Elt F) S128x256 .f32) :=
  [3, 2, 1, 0].map fun h : Fin 4 => ⟨rk h, upper (B.dk2 i h)⟩
def cvPieces : List (View.Piece (Elt F) S128x256 .f32) :=
  [3, 2, 1, 0].map fun h : Fin 4 => ⟨rk h, upper (B.dv2 i h)⟩

end Blocks

end Cert.KernelIdeal.Attn

end
-- ==== Proof.Attn.HeadsB.lean ====
module

public import proofs.«01_k».proof.Proof.Attn.Heads

@[expose] public section

set_option maxRecDepth 16384

noncomputable section

namespace Cert.KernelIdeal.Attn

open Idealize.ShloMosaic Idealize.ShloMosaic.TcCoe Idealize.ShloMosaic.Tactic
open Idealize.ShloMosaic.Pipeline (Dat Cfg Window)
open Cert.KernelIdeal.Gen

variable {F : FTy → Type} [FloatOps F] [Named F]

theorem runB_dq (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole)
    (hc0 : ¬IsFirst i) (hc1 : IsBlock i) (hc2 : ¬IsLast i)
    (x0 : Vec F S1x16 .f32) (x1 x2 : Vec F S128x1024 .bf16) (x3 x4 x5 x6 : Vec F S128x256 .bf16) (d : Vec F S16x128 .f32) (ck cv : Vec F S128x256 .f32) :
    (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 d ck cv).1
      = Blocks.dqPieces (F := F) ⟨x0, x1, x2, x3, x4, x5, x6⟩ i := by
  have h : (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 d ck cv).1
      = Blocks.dqPieces (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i := by sl_kernel_rfl
  simpa only [Memref.IsWhole.read_unread] using h

theorem runB_dk (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole)
    (hc0 : ¬IsFirst i) (hc1 : IsBlock i) (hc2 : ¬IsLast i)
    (x0 : Vec F S1x16 .f32) (x1 x2 : Vec F S128x1024 .bf16) (x3 x4 x5 x6 : Vec F S128x256 .bf16) (d : Vec F S16x128 .f32) (ck cv : Vec F S128x256 .f32) :
    (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 d ck cv).2.1
      = Blocks.dkPieces (F := F) ⟨x0, x1, x2, x3, x4, x5, x6⟩ i ck := by
  have h : (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 d ck cv).2.1
      = Blocks.dkPieces (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (arg12.view.read (Elt F) (harg12.unread ck)) := by sl_kernel_rfl
  simpa only [Memref.IsWhole.read_unread] using h

theorem runB_dv (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole)
    (hc0 : ¬IsFirst i) (hc1 : IsBlock i) (hc2 : ¬IsLast i)
    (x0 : Vec F S1x16 .f32) (x1 x2 : Vec F S128x1024 .bf16) (x3 x4 x5 x6 : Vec F S128x256 .bf16) (d : Vec F S16x128 .f32) (ck cv : Vec F S128x256 .f32) :
    (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 d ck cv).2.2.1
      = Blocks.dvPieces (F := F) ⟨x0, x1, x2, x3, x4, x5, x6⟩ i cv := by
  have h : (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 d ck cv).2.2.1
      = Blocks.dvPieces (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (arg13.view.read (Elt F) (harg13.unread cv)) := by sl_kernel_rfl
  simpa only [Memref.IsWhole.read_unread] using h

theorem runB_ds (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole)
    (hc0 : ¬IsFirst i) (hc1 : IsBlock i) (hc2 : ¬IsLast i)
    (x0 : Vec F S1x16 .f32) (x1 x2 : Vec F S128x1024 .bf16) (x3 x4 x5 x6 : Vec F S128x256 .bf16) (d : Vec F S16x128 .f32) (ck cv : Vec F S128x256 .f32) :
    (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 d ck cv).2.2.2.1
      = Blocks.dsPieces (F := F) ⟨x0, x1, x2, x3, x4, x5, x6⟩ i d := by
  have h : (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 d ck cv).2.2.2.1
      = Blocks.dsPieces (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (arg11.view.read (Elt F) (harg11.unread d)) := by sl_kernel_rfl
  simpa only [Memref.IsWhole.read_unread] using h

theorem runB_ck (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole)
    (hc0 : ¬IsFirst i) (hc1 : IsBlock i) (hc2 : ¬IsLast i)
    (x0 : Vec F S1x16 .f32) (x1 x2 : Vec F S128x1024 .bf16) (x3 x4 x5 x6 : Vec F S128x256 .bf16) (d : Vec F S16x128 .f32) (ck cv : Vec F S128x256 .f32) :
    (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 d ck cv).2.2.2.2.1
      = Blocks.ckPieces (F := F) ⟨x0, x1, x2, x3, x4, x5, x6⟩ i := by
  have h : (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 d ck cv).2.2.2.2.1
      = Blocks.ckPieces (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i := by sl_kernel_rfl
  simpa only [Memref.IsWhole.read_unread] using h

theorem runB_cv (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole)
    (hc0 : ¬IsFirst i) (hc1 : IsBlock i) (hc2 : ¬IsLast i)
    (x0 : Vec F S1x16 .f32) (x1 x2 : Vec F S128x1024 .bf16) (x3 x4 x5 x6 : Vec F S128x256 .bf16) (d : Vec F S16x128 .f32) (ck cv : Vec F S128x256 .f32) :
    (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 d ck cv).2.2.2.2.2.1
      = Blocks.cvPieces (F := F) ⟨x0, x1, x2, x3, x4, x5, x6⟩ i := by
  have h : (runB c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 d ck cv).2.2.2.2.2.1
      = Blocks.cvPieces (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i := by sl_kernel_rfl
  simpa only [Memref.IsWhole.read_unread] using h

end Cert.KernelIdeal.Attn

end
-- ==== Proof.Attn.HeadsA.lean ====
module

public import proofs.«01_k».proof.Proof.Attn.HeadsB
public import Idealize.ShloMosaic.Lib.Pipeline.ReadBack
public import Idealize.ShloMosaic.Lib.Pipeline.ValueKit.Tiles

@[expose] public section

set_option maxRecDepth 16384

noncomputable section

namespace Cert.KernelIdeal.Attn

open Idealize.ShloMosaic Idealize.ShloMosaic.TcCoe Idealize.ShloMosaic.Tactic
open Idealize.ShloMosaic.Pipeline (Dat Cfg Window)
open Cert.KernelIdeal.Gen

variable {F : FTy → Type} [FloatOps F] [Named F]

/-- A row read back past the store of another row. -/
theorem skip_row {κ : Kind} {sp : Space} (v : View sig κ sp S16x128 .f32) (k n : Fin 16) (h : k ≠ n) (w : (rs k).shape.Idx → Elt F .f32)
    (L : List (View.Piece (Elt F) S16x128 .f32)) :
    v.readCov (⟨rs k, w⟩ :: L) (rs n).toLoadRect = v.readCov L (rs n).toLoadRect := by
  rw [View.readCov_eq_canon', View.readCov_eq_canon']
  funext j
  refine View.canon_cons_of_not_mem ⟨rs k, w⟩ L fun hm => h ?_
  have h0 := (Rect.mem_set_unit (inb := inb_s k)).mp hm 0
  have hj : ((rs n).toLoadRect.idx j 0 : ℕ) = n.val + 1 * (j 0 : ℕ) := rfl
  have hl : (j 0 : ℕ) < 1 := (j 0).isLt
  have h1 : k.val ≤ ((rs n).toLoadRect.idx j 0 : ℕ) := h0.1
  have h2 : ((rs n).toLoadRect.idx j 0 : ℕ) < k.val + 1 := h0.2
  exact Fin.ext (by omega)

/-- A row read back from the store of the whole. -/
theorem fill_row {κ : Kind} {sp : Space} (v : View sig κ sp S16x128 .f32) (n : Fin 16) (Z : S16x128.Idx → Elt F .f32) :
    v.readCov [⟨Rect.unit ![0, 0] ![16, 128] inb_S16x128_S16x128_0_0, Z⟩] (rs n).toLoadRect = View.ld Z (rs n) := by
  rw [View.readCov_eq_canon']
  funext j
  exact congrFun (View.canon_cons_unit_lit (S := S16x128) (off := ![0, 0]) inb_S16x128_S16x128_0_0 Z [] (by intro a; fin_cases a <;> rfl)) _

theorem runA_fill : runA.sl.H10_1 (F := F) = [⟨Rect.unit ![0, 0] ![16, 128] inb_S16x128_S16x128_0_0, k0_pay3 (F := F)⟩] := by
  sl_kernel_rfl

theorem runA_rows2 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.H10_2 (F := F) c i arg1 harg1 arg2 harg2 arg3 harg3 arg4 harg4 arg5 harg5 arg6 harg6 arg7 harg7 arg11 x0 x1 x2 x3 x4 x5 x6
      = ⟨rs 0, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v160 (F := F) c arg11) 0⟩ :: (runA.sl.H10_1 (F := F)) := by
  sl_kernel_rfl

theorem runA_rows3 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.H10_3 (F := F) c i arg1 harg1 arg2 harg2 arg3 harg3 arg4 harg4 arg5 harg5 arg6 harg6 arg7 harg7 arg11 x0 x1 x2 x3 x4 x5 x6
      = ⟨rs 1, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v171 (F := F) c i arg1 harg1 arg2 harg2 arg3 harg3 arg4 harg4 arg5 harg5 arg6 harg6 arg7 harg7 arg11 x0 x1 x2 x3 x4 x5 x6) 1⟩ :: (runA.sl.H10_2 (F := F) c i arg1 harg1 arg2 harg2 arg3 harg3 arg4 harg4 arg5 harg5 arg6 harg6 arg7 harg7 arg11 x0 x1 x2 x3 x4 x5 x6) := by
  sl_kernel_rfl

theorem runA_rows4 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.H10_4 (F := F) c i arg1 harg1 arg2 harg2 arg3 harg3 arg4 harg4 arg5 harg5 arg6 harg6 arg7 harg7 arg11 x0 x1 x2 x3 x4 x5 x6
      = ⟨rs 2, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v182 (F := F) c i arg1 harg1 arg2 harg2 arg3 harg3 arg4 harg4 arg5 harg5 arg6 harg6 arg7 harg7 arg11 x0 x1 x2 x3 x4 x5 x6) 2⟩ :: (runA.sl.H10_3 (F := F) c i arg1 harg1 arg2 harg2 arg3 harg3 arg4 harg4 arg5 harg5 arg6 harg6 arg7 harg7 arg11 x0 x1 x2 x3 x4 x5 x6) := by
  sl_kernel_rfl

theorem runA_rows5 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.H10_5 (F := F) c i arg1 harg1 arg2 harg2 arg3 harg3 arg4 harg4 arg5 harg5 arg6 harg6 arg7 harg7 arg11 x0 x1 x2 x3 x4 x5 x6
      = ⟨rs 3, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v193 (F := F) c i arg1 harg1 arg2 harg2 arg3 harg3 arg4 harg4 arg5 harg5 arg6 harg6 arg7 harg7 arg11 x0 x1 x2 x3 x4 x5 x6) 3⟩ :: (runA.sl.H10_4 (F := F) c i arg1 harg1 arg2 harg2 arg3 harg3 arg4 harg4 arg5 harg5 arg6 harg6 arg7 harg7 arg11 x0 x1 x2 x3 x4 x5 x6) := by
  sl_kernel_rfl

theorem runA_rows6 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.H10_6 (F := F) c i arg1 harg1 arg2 harg2 arg3 harg3 arg4 harg4 arg5 harg5 arg6 harg6 arg7 harg7 arg11 x0 x1 x2 x3 x4 x5 x6
      = ⟨rs 4, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v372 (F := F) c i arg1 harg1 arg2 harg2 arg3 harg3 arg4 harg4 arg5 harg5 arg6 harg6 arg7 harg7 arg11 x0 x1 x2 x3 x4 x5 x6) 4⟩ :: (runA.sl.H10_5 (F := F) c i arg1 harg1 arg2 harg2 arg3 harg3 arg4 harg4 arg5 harg5 arg6 harg6 arg7 harg7 arg11 x0 x1 x2 x3 x4 x5 x6) := by
  sl_kernel_rfl

theorem runA_rows7 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.H10_7 (F := F) c i arg1 harg1 arg2 harg2 arg3 harg3 arg4 harg4 arg5 harg5 arg6 harg6 arg7 harg7 arg11 x0 x1 x2 x3 x4 x5 x6
      = ⟨rs 5, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v383 (F := F) c i arg1 harg1 arg2 harg2 arg3 harg3 arg4 harg4 arg5 harg5 arg6 harg6 arg7 harg7 arg11 x0 x1 x2 x3 x4 x5 x6) 5⟩ :: (runA.sl.H10_6 (F := F) c i arg1 harg1 arg2 harg2 arg3 harg3 arg4 harg4 arg5 harg5 arg6 harg6 arg7 harg7 arg11 x0 x1 x2 x3 x4 x5 x6) := by
  sl_kernel_rfl

theorem runA_rows8 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.H10_8 (F := F) c i arg1 harg1 arg2 harg2 arg3 harg3 arg4 harg4 arg5 harg5 arg6 harg6 arg7 harg7 arg11 x0 x1 x2 x3 x4 x5 x6
      = ⟨rs 6, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v394 (F := F) c i arg1 harg1 arg2 harg2 arg3 harg3 arg4 harg4 arg5 harg5 arg6 harg6 arg7 harg7 arg11 x0 x1 x2 x3 x4 x5 x6) 6⟩ :: (runA.sl.H10_7 (F := F) c i arg1 harg1 arg2 harg2 arg3 harg3 arg4 harg4 arg5 harg5 arg6 harg6 arg7 harg7 arg11 x0 x1 x2 x3 x4 x5 x6) := by
  sl_kernel_rfl

theorem runA_rows9 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.H10_9 (F := F) c i arg1 harg1 arg2 harg2 arg3 harg3 arg4 harg4 arg5 harg5 arg6 harg6 arg7 harg7 arg11 x0 x1 x2 x3 x4 x5 x6
      = ⟨rs 7, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v405 (F := F) c i arg1 harg1 arg2 harg2 arg3 harg3 arg4 harg4 arg5 harg5 arg6 harg6 arg7 harg7 arg11 x0 x1 x2 x3 x4 x5 x6) 7⟩ :: (runA.sl.H10_8 (F := F) c i arg1 harg1 arg2 harg2 arg3 harg3 arg4 harg4 arg5 harg5 arg6 harg6 arg7 harg7 arg11 x0 x1 x2 x3 x4 x5 x6) := by
  sl_kernel_rfl

theorem runA_rows10 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.H10_10 (F := F) c i arg1 harg1 arg2 harg2 arg3 harg3 arg4 harg4 arg5 harg5 arg6 harg6 arg7 harg7 arg11 x0 x1 x2 x3 x4 x5 x6
      = ⟨rs 8, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v584 (F := F) c i arg1 harg1 arg2 harg2 arg3 harg3 arg4 harg4 arg5 harg5 arg6 harg6 arg7 harg7 arg11 x0 x1 x2 x3 x4 x5 x6) 8⟩ :: (runA.sl.H10_9 (F := F) c i arg1 harg1 arg2 harg2 arg3 harg3 arg4 harg4 arg5 harg5 arg6 harg6 arg7 harg7 arg11 x0 x1 x2 x3 x4 x5 x6) := by
  sl_kernel_rfl

theorem runA_rows11 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.H10_11 (F := F) c i arg1 harg1 arg2 harg2 arg3 harg3 arg4 harg4 arg5 harg5 arg6 harg6 arg7 harg7 arg11 x0 x1 x2 x3 x4 x5 x6
      = ⟨rs 9, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v595 (F := F) c i arg1 harg1 arg2 harg2 arg3 harg3 arg4 harg4 arg5 harg5 arg6 harg6 arg7 harg7 arg11 x0 x1 x2 x3 x4 x5 x6) 9⟩ :: (runA.sl.H10_10 (F := F) c i arg1 harg1 arg2 harg2 arg3 harg3 arg4 harg4 arg5 harg5 arg6 harg6 arg7 harg7 arg11 x0 x1 x2 x3 x4 x5 x6) := by
  sl_kernel_rfl

theorem runA_rows12 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.H10_12 (F := F) c i arg1 harg1 arg2 harg2 arg3 harg3 arg4 harg4 arg5 harg5 arg6 harg6 arg7 harg7 arg11 x0 x1 x2 x3 x4 x5 x6
      = ⟨rs 10, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v606 (F := F) c i arg1 harg1 arg2 harg2 arg3 harg3 arg4 harg4 arg5 harg5 arg6 harg6 arg7 harg7 arg11 x0 x1 x2 x3 x4 x5 x6) 10⟩ :: (runA.sl.H10_11 (F := F) c i arg1 harg1 arg2 harg2 arg3 harg3 arg4 harg4 arg5 harg5 arg6 harg6 arg7 harg7 arg11 x0 x1 x2 x3 x4 x5 x6) := by
  sl_kernel_rfl

theorem runA_rows13 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.H10_13 (F := F) c i arg1 harg1 arg2 harg2 arg3 harg3 arg4 harg4 arg5 harg5 arg6 harg6 arg7 harg7 arg11 x0 x1 x2 x3 x4 x5 x6
      = ⟨rs 11, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v617 (F := F) c i arg1 harg1 arg2 harg2 arg3 harg3 arg4 harg4 arg5 harg5 arg6 harg6 arg7 harg7 arg11 x0 x1 x2 x3 x4 x5 x6) 11⟩ :: (runA.sl.H10_12 (F := F) c i arg1 harg1 arg2 harg2 arg3 harg3 arg4 harg4 arg5 harg5 arg6 harg6 arg7 harg7 arg11 x0 x1 x2 x3 x4 x5 x6) := by
  sl_kernel_rfl

theorem runA_rows14 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.H10_14 (F := F) c i arg1 harg1 arg2 harg2 arg3 harg3 arg4 harg4 arg5 harg5 arg6 harg6 arg7 harg7 arg11 x0 x1 x2 x3 x4 x5 x6
      = ⟨rs 12, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v796 (F := F) c i arg1 harg1 arg2 harg2 arg3 harg3 arg4 harg4 arg5 harg5 arg6 harg6 arg7 harg7 arg11 x0 x1 x2 x3 x4 x5 x6) 12⟩ :: (runA.sl.H10_13 (F := F) c i arg1 harg1 arg2 harg2 arg3 harg3 arg4 harg4 arg5 harg5 arg6 harg6 arg7 harg7 arg11 x0 x1 x2 x3 x4 x5 x6) := by
  sl_kernel_rfl

theorem runA_rows15 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.H10_15 (F := F) c i arg1 harg1 arg2 harg2 arg3 harg3 arg4 harg4 arg5 harg5 arg6 harg6 arg7 harg7 arg11 x0 x1 x2 x3 x4 x5 x6
      = ⟨rs 13, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v807 (F := F) c i arg1 harg1 arg2 harg2 arg3 harg3 arg4 harg4 arg5 harg5 arg6 harg6 arg7 harg7 arg11 x0 x1 x2 x3 x4 x5 x6) 13⟩ :: (runA.sl.H10_14 (F := F) c i arg1 harg1 arg2 harg2 arg3 harg3 arg4 harg4 arg5 harg5 arg6 harg6 arg7 harg7 arg11 x0 x1 x2 x3 x4 x5 x6) := by
  sl_kernel_rfl

theorem runA_rows16 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.H10_16 (F := F) c i arg1 harg1 arg2 harg2 arg3 harg3 arg4 harg4 arg5 harg5 arg6 harg6 arg7 harg7 arg11 x0 x1 x2 x3 x4 x5 x6
      = ⟨rs 14, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v818 (F := F) c i arg1 harg1 arg2 harg2 arg3 harg3 arg4 harg4 arg5 harg5 arg6 harg6 arg7 harg7 arg11 x0 x1 x2 x3 x4 x5 x6) 14⟩ :: (runA.sl.H10_15 (F := F) c i arg1 harg1 arg2 harg2 arg3 harg3 arg4 harg4 arg5 harg5 arg6 harg6 arg7 harg7 arg11 x0 x1 x2 x3 x4 x5 x6) := by
  sl_kernel_rfl

theorem runA_old0 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.v160 (F := F) c arg11 = View.ld (k0_pay3 (F := F)) (rs 0) := by
  have e : runA.sl.v160 (F := F) c arg11 = arg11.view.readCov (runA.sl.H10_1 (F := F)) (rs 0).toLoadRect := by sl_kernel_rfl
  rw [e, runA_fill, fill_row]

theorem runA_old1 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.v171 (F := F) c i arg1 harg1 arg2 harg2 arg3 harg3 arg4 harg4 arg5 harg5 arg6 harg6 arg7 harg7 arg11 x0 x1 x2 x3 x4 x5 x6 = View.ld (k0_pay3 (F := F)) (rs 1) := by
  have e : runA.sl.v171 (F := F) c i arg1 harg1 arg2 harg2 arg3 harg3 arg4 harg4 arg5 harg5 arg6 harg6 arg7 harg7 arg11 x0 x1 x2 x3 x4 x5 x6 = arg11.view.readCov (runA.sl.H10_2 (F := F) c i arg1 harg1 arg2 harg2 arg3 harg3 arg4 harg4 arg5 harg5 arg6 harg6 arg7 harg7 arg11 x0 x1 x2 x3 x4 x5 x6) (rs 1).toLoadRect := by sl_kernel_rfl
  rw [e, runA_rows2 c i arg1 harg1 arg2 harg2 arg3 harg3 arg4 harg4 arg5 harg5 arg6 harg6 arg7 harg7 arg11 harg11 x0 x1 x2 x3 x4 x5 x6, skip_row _ 0 1 (by decide), runA_fill, fill_row]

theorem runA_old2 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.v182 (F := F) c i arg1 harg1 arg2 harg2 arg3 harg3 arg4 harg4 arg5 harg5 arg6 harg6 arg7 harg7 arg11 x0 x1 x2 x3 x4 x5 x6 = View.ld (k0_pay3 (F := F)) (rs 2) := by
  have e : runA.sl.v182 (F := F) c i arg1 harg1 arg2 harg2 arg3 harg3 arg4 harg4 arg5 harg5 arg6 harg6 arg7 harg7 arg11 x0 x1 x2 x3 x4 x5 x6 = arg11.view.readCov (runA.sl.H10_3 (F := F) c i arg1 harg1 arg2 harg2 arg3 harg3 arg4 harg4 arg5 harg5 arg6 harg6 arg7 harg7 arg11 x0 x1 x2 x3 x4 x5 x6) (rs 2).toLoadRect := by sl_kernel_rfl
  rw [e, runA_rows3 c i arg1 harg1 arg2 harg2 arg3 harg3 arg4 harg4 arg5 harg5 arg6 harg6 arg7 harg7 arg11 harg11 x0 x1 x2 x3 x4 x5 x6, skip_row _ 1 2 (by decide), runA_rows2 c i arg1 harg1 arg2 harg2 arg3 harg3 arg4 harg4 arg5 harg5 arg6 harg6 arg7 harg7 arg11 harg11 x0 x1 x2 x3 x4 x5 x6, skip_row _ 0 2 (by decide), runA_fill, fill_row]

theorem runA_old3 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.v193 (F := F) c i arg1 harg1 arg2 harg2 arg3 harg3 arg4 harg4 arg5 harg5 arg6 harg6 arg7 harg7 arg11 x0 x1 x2 x3 x4 x5 x6 = View.ld (k0_pay3 (F := F)) (rs 3) := by
  have e : runA.sl.v193 (F := F) c i arg1 harg1 arg2 harg2 arg3 harg3 arg4 harg4 arg5 harg5 arg6 harg6 arg7 harg7 arg11 x0 x1 x2 x3 x4 x5 x6 = arg11.view.readCov (runA.sl.H10_4 (F := F) c i arg1 harg1 arg2 harg2 arg3 harg3 arg4 harg4 arg5 harg5 arg6 harg6 arg7 harg7 arg11 x0 x1 x2 x3 x4 x5 x6) (rs 3).toLoadRect := by sl_kernel_rfl
  rw [e, runA_rows4 c i arg1 harg1 arg2 harg2 arg3 harg3 arg4 harg4 arg5 harg5 arg6 harg6 arg7 harg7 arg11 harg11 x0 x1 x2 x3 x4 x5 x6, skip_row _ 2 3 (by decide), runA_rows3 c i arg1 harg1 arg2 harg2 arg3 harg3 arg4 harg4 arg5 harg5 arg6 harg6 arg7 harg7 arg11 harg11 x0 x1 x2 x3 x4 x5 x6, skip_row _ 1 3 (by decide), runA_rows2 c i arg1 harg1 arg2 harg2 arg3 harg3 arg4 harg4 arg5 harg5 arg6 harg6 arg7 harg7 arg11 harg11 x0 x1 x2 x3 x4 x5 x6, skip_row _ 0 3 (by decide), runA_fill, fill_row]

theorem runA_old4 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.v372 (F := F) c i arg1 harg1 arg2 harg2 arg3 harg3 arg4 harg4 arg5 harg5 arg6 harg6 arg7 harg7 arg11 x0 x1 x2 x3 x4 x5 x6 = View.ld (k0_pay3 (F := F)) (rs 4) := by
  have e : runA.sl.v372 (F := F) c i arg1 harg1 arg2 harg2 arg3 harg3 arg4 harg4 arg5 harg5 arg6 harg6 arg7 harg7 arg11 x0 x1 x2 x3 x4 x5 x6 = arg11.view.readCov (runA.sl.H10_5 (F := F) c i arg1 harg1 arg2 harg2 arg3 harg3 arg4 harg4 arg5 harg5 arg6 harg6 arg7 harg7 arg11 x0 x1 x2 x3 x4 x5 x6) (rs 4).toLoadRect := by sl_kernel_rfl
  rw [e, runA_rows5 c i arg1 harg1 arg2 harg2 arg3 harg3 arg4 harg4 arg5 harg5 arg6 harg6 arg7 harg7 arg11 harg11 x0 x1 x2 x3 x4 x5 x6, skip_row _ 3 4 (by decide), runA_rows4 c i arg1 harg1 arg2 harg2 arg3 harg3 arg4 harg4 arg5 harg5 arg6 harg6 arg7 harg7 arg11 harg11 x0 x1 x2 x3 x4 x5 x6, skip_row _ 2 4 (by decide), runA_rows3 c i arg1 harg1 arg2 harg2 arg3 harg3 arg4 harg4 arg5 harg5 arg6 harg6 arg7 harg7 arg11 harg11 x0 x1 x2 x3 x4 x5 x6, skip_row _ 1 4 (by decide), runA_rows2 c i arg1 harg1 arg2 harg2 arg3 harg3 arg4 harg4 arg5 harg5 arg6 harg6 arg7 harg7 arg11 harg11 x0 x1 x2 x3 x4 x5 x6, skip_row _ 0 4 (by decide), runA_fill, fill_row]

theorem runA_old5 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.v383 (F := F) c i arg1 harg1 arg2 harg2 arg3 harg3 arg4 harg4 arg5 harg5 arg6 harg6 arg7 harg7 arg11 x0 x1 x2 x3 x4 x5 x6 = View.ld (k0_pay3 (F := F)) (rs 5) := by
  have e : runA.sl.v383 (F := F) c i arg1 harg1 arg2 harg2 arg3 harg3 arg4 harg4 arg5 harg5 arg6 harg6 arg7 harg7 arg11 x0 x1 x2 x3 x4 x5 x6 = arg11.view.readCov (runA.sl.H10_6 (F := F) c i arg1 harg1 arg2 harg2 arg3 harg3 arg4 harg4 arg5 harg5 arg6 harg6 arg7 harg7 arg11 x0 x1 x2 x3 x4 x5 x6) (rs 5).toLoadRect := by sl_kernel_rfl
  rw [e, runA_rows6 c i arg1 harg1 arg2 harg2 arg3 harg3 arg4 harg4 arg5 harg5 arg6 harg6 arg7 harg7 arg11 harg11 x0 x1 x2 x3 x4 x5 x6, skip_row _ 4 5 (by decide), runA_rows5 c i arg1 harg1 arg2 harg2 arg3 harg3 arg4 harg4 arg5 harg5 arg6 harg6 arg7 harg7 arg11 harg11 x0 x1 x2 x3 x4 x5 x6, skip_row _ 3 5 (by decide), runA_rows4 c i arg1 harg1 arg2 harg2 arg3 harg3 arg4 harg4 arg5 harg5 arg6 harg6 arg7 harg7 arg11 harg11 x0 x1 x2 x3 x4 x5 x6, skip_row _ 2 5 (by decide), runA_rows3 c i arg1 harg1 arg2 harg2 arg3 harg3 arg4 harg4 arg5 harg5 arg6 harg6 arg7 harg7 arg11 harg11 x0 x1 x2 x3 x4 x5 x6, skip_row _ 1 5 (by decide), runA_rows2 c i arg1 harg1 arg2 harg2 arg3 harg3 arg4 harg4 arg5 harg5 arg6 harg6 arg7 harg7 arg11 harg11 x0 x1 x2 x3 x4 x5 x6, skip_row _ 0 5 (by decide), runA_fill, fill_row]

theorem runA_old6 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.v394 (F := F) c i arg1 harg1 arg2 harg2 arg3 harg3 arg4 harg4 arg5 harg5 arg6 harg6 arg7 harg7 arg11 x0 x1 x2 x3 x4 x5 x6 = View.ld (k0_pay3 (F := F)) (rs 6) := by
  have e : runA.sl.v394 (F := F) c i arg1 harg1 arg2 harg2 arg3 harg3 arg4 harg4 arg5 harg5 arg6 harg6 arg7 harg7 arg11 x0 x1 x2 x3 x4 x5 x6 = arg11.view.readCov (runA.sl.H10_7 (F := F) c i arg1 harg1 arg2 harg2 arg3 harg3 arg4 harg4 arg5 harg5 arg6 harg6 arg7 harg7 arg11 x0 x1 x2 x3 x4 x5 x6) (rs 6).toLoadRect := by sl_kernel_rfl
  rw [e, runA_rows7 c i arg1 harg1 arg2 harg2 arg3 harg3 arg4 harg4 arg5 harg5 arg6 harg6 arg7 harg7 arg11 harg11 x0 x1 x2 x3 x4 x5 x6, skip_row _ 5 6 (by decide), runA_rows6 c i arg1 harg1 arg2 harg2 arg3 harg3 arg4 harg4 arg5 harg5 arg6 harg6 arg7 harg7 arg11 harg11 x0 x1 x2 x3 x4 x5 x6, skip_row _ 4 6 (by decide), runA_rows5 c i arg1 harg1 arg2 harg2 arg3 harg3 arg4 harg4 arg5 harg5 arg6 harg6 arg7 harg7 arg11 harg11 x0 x1 x2 x3 x4 x5 x6, skip_row _ 3 6 (by decide), runA_rows4 c i arg1 harg1 arg2 harg2 arg3 harg3 arg4 harg4 arg5 harg5 arg6 harg6 arg7 harg7 arg11 harg11 x0 x1 x2 x3 x4 x5 x6, skip_row _ 2 6 (by decide), runA_rows3 c i arg1 harg1 arg2 harg2 arg3 harg3 arg4 harg4 arg5 harg5 arg6 harg6 arg7 harg7 arg11 harg11 x0 x1 x2 x3 x4 x5 x6, skip_row _ 1 6 (by decide), runA_rows2 c i arg1 harg1 arg2 harg2 arg3 harg3 arg4 harg4 arg5 harg5 arg6 harg6 arg7 harg7 arg11 harg11 x0 x1 x2 x3 x4 x5 x6, skip_row _ 0 6 (by decide), runA_fill, fill_row]

theorem runA_old7 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.v405 (F := F) c i arg1 harg1 arg2 harg2 arg3 harg3 arg4 harg4 arg5 harg5 arg6 harg6 arg7 harg7 arg11 x0 x1 x2 x3 x4 x5 x6 = View.ld (k0_pay3 (F := F)) (rs 7) := by
  have e : runA.sl.v405 (F := F) c i arg1 harg1 arg2 harg2 arg3 harg3 arg4 harg4 arg5 harg5 arg6 harg6 arg7 harg7 arg11 x0 x1 x2 x3 x4 x5 x6 = arg11.view.readCov (runA.sl.H10_8 (F := F) c i arg1 harg1 arg2 harg2 arg3 harg3 arg4 harg4 arg5 harg5 arg6 harg6 arg7 harg7 arg11 x0 x1 x2 x3 x4 x5 x6) (rs 7).toLoadRect := by sl_kernel_rfl
  rw [e, runA_rows8 c i arg1 harg1 arg2 harg2 arg3 harg3 arg4 harg4 arg5 harg5 arg6 harg6 arg7 harg7 arg11 harg11 x0 x1 x2 x3 x4 x5 x6, skip_row _ 6 7 (by decide), runA_rows7 c i arg1 harg1 arg2 harg2 arg3 harg3 arg4 harg4 arg5 harg5 arg6 harg6 arg7 harg7 arg11 harg11 x0 x1 x2 x3 x4 x5 x6, skip_row _ 5 7 (by decide), runA_rows6 c i arg1 harg1 arg2 harg2 arg3 harg3 arg4 harg4 arg5 harg5 arg6 harg6 arg7 harg7 arg11 harg11 x0 x1 x2 x3 x4 x5 x6, skip_row _ 4 7 (by decide), runA_rows5 c i arg1 harg1 arg2 harg2 arg3 harg3 arg4 harg4 arg5 harg5 arg6 harg6 arg7 harg7 arg11 harg11 x0 x1 x2 x3 x4 x5 x6, skip_row _ 3 7 (by decide), runA_rows4 c i arg1 harg1 arg2 harg2 arg3 harg3 arg4 harg4 arg5 harg5 arg6 harg6 arg7 harg7 arg11 harg11 x0 x1 x2 x3 x4 x5 x6, skip_row _ 2 7 (by decide), runA_rows3 c i arg1 harg1 arg2 harg2 arg3 harg3 arg4 harg4 arg5 harg5 arg6 harg6 arg7 harg7 arg11 harg11 x0 x1 x2 x3 x4 x5 x6, skip_row _ 1 7 (by decide), runA_rows2 c i arg1 harg1 arg2 harg2 arg3 harg3 arg4 harg4 arg5 harg5 arg6 harg6 arg7 harg7 arg11 harg11 x0 x1 x2 x3 x4 x5 x6, skip_row _ 0 7 (by decide), runA_fill, fill_row]

theorem runA_old8 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.v584 (F := F) c i arg1 harg1 arg2 harg2 arg3 harg3 arg4 harg4 arg5 harg5 arg6 harg6 arg7 harg7 arg11 x0 x1 x2 x3 x4 x5 x6 = View.ld (k0_pay3 (F := F)) (rs 8) := by
  have e : runA.sl.v584 (F := F) c i arg1 harg1 arg2 harg2 arg3 harg3 arg4 harg4 arg5 harg5 arg6 harg6 arg7 harg7 arg11 x0 x1 x2 x3 x4 x5 x6 = arg11.view.readCov (runA.sl.H10_9 (F := F) c i arg1 harg1 arg2 harg2 arg3 harg3 arg4 harg4 arg5 harg5 arg6 harg6 arg7 harg7 arg11 x0 x1 x2 x3 x4 x5 x6) (rs 8).toLoadRect := by sl_kernel_rfl
  rw [e, runA_rows9 c i arg1 harg1 arg2 harg2 arg3 harg3 arg4 harg4 arg5 harg5 arg6 harg6 arg7 harg7 arg11 harg11 x0 x1 x2 x3 x4 x5 x6, skip_row _ 7 8 (by decide), runA_rows8 c i arg1 harg1 arg2 harg2 arg3 harg3 arg4 harg4 arg5 harg5 arg6 harg6 arg7 harg7 arg11 harg11 x0 x1 x2 x3 x4 x5 x6, skip_row _ 6 8 (by decide), runA_rows7 c i arg1 harg1 arg2 harg2 arg3 harg3 arg4 harg4 arg5 harg5 arg6 harg6 arg7 harg7 arg11 harg11 x0 x1 x2 x3 x4 x5 x6, skip_row _ 5 8 (by decide), runA_rows6 c i arg1 harg1 arg2 harg2 arg3 harg3 arg4 harg4 arg5 harg5 arg6 harg6 arg7 harg7 arg11 harg11 x0 x1 x2 x3 x4 x5 x6, skip_row _ 4 8 (by decide), runA_rows5 c i arg1 harg1 arg2 harg2 arg3 harg3 arg4 harg4 arg5 harg5 arg6 harg6 arg7 harg7 arg11 harg11 x0 x1 x2 x3 x4 x5 x6, skip_row _ 3 8 (by decide), runA_rows4 c i arg1 harg1 arg2 harg2 arg3 harg3 arg4 harg4 arg5 harg5 arg6 harg6 arg7 harg7 arg11 harg11 x0 x1 x2 x3 x4 x5 x6, skip_row _ 2 8 (by decide), runA_rows3 c i arg1 harg1 arg2 harg2 arg3 harg3 arg4 harg4 arg5 harg5 arg6 harg6 arg7 harg7 arg11 harg11 x0 x1 x2 x3 x4 x5 x6, skip_row _ 1 8 (by decide), runA_rows2 c i arg1 harg1 arg2 harg2 arg3 harg3 arg4 harg4 arg5 harg5 arg6 harg6 arg7 harg7 arg11 harg11 x0 x1 x2 x3 x4 x5 x6, skip_row _ 0 8 (by decide), runA_fill, fill_row]

theorem runA_old9 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.v595 (F := F) c i arg1 harg1 arg2 harg2 arg3 harg3 arg4 harg4 arg5 harg5 arg6 harg6 arg7 harg7 arg11 x0 x1 x2 x3 x4 x5 x6 = View.ld (k0_pay3 (F := F)) (rs 9) := by
  have e : runA.sl.v595 (F := F) c i arg1 harg1 arg2 harg2 arg3 harg3 arg4 harg4 arg5 harg5 arg6 harg6 arg7 harg7 arg11 x0 x1 x2 x3 x4 x5 x6 = arg11.view.readCov (runA.sl.H10_10 (F := F) c i arg1 harg1 arg2 harg2 arg3 harg3 arg4 harg4 arg5 harg5 arg6 harg6 arg7 harg7 arg11 x0 x1 x2 x3 x4 x5 x6) (rs 9).toLoadRect := by sl_kernel_rfl
  rw [e, runA_rows10 c i arg1 harg1 arg2 harg2 arg3 harg3 arg4 harg4 arg5 harg5 arg6 harg6 arg7 harg7 arg11 harg11 x0 x1 x2 x3 x4 x5 x6, skip_row _ 8 9 (by decide), runA_rows9 c i arg1 harg1 arg2 harg2 arg3 harg3 arg4 harg4 arg5 harg5 arg6 harg6 arg7 harg7 arg11 harg11 x0 x1 x2 x3 x4 x5 x6, skip_row _ 7 9 (by decide), runA_rows8 c i arg1 harg1 arg2 harg2 arg3 harg3 arg4 harg4 arg5 harg5 arg6 harg6 arg7 harg7 arg11 harg11 x0 x1 x2 x3 x4 x5 x6, skip_row _ 6 9 (by decide), runA_rows7 c i arg1 harg1 arg2 harg2 arg3 harg3 arg4 harg4 arg5 harg5 arg6 harg6 arg7 harg7 arg11 harg11 x0 x1 x2 x3 x4 x5 x6, skip_row _ 5 9 (by decide), runA_rows6 c i arg1 harg1 arg2 harg2 arg3 harg3 arg4 harg4 arg5 harg5 arg6 harg6 arg7 harg7 arg11 harg11 x0 x1 x2 x3 x4 x5 x6, skip_row _ 4 9 (by decide), runA_rows5 c i arg1 harg1 arg2 harg2 arg3 harg3 arg4 harg4 arg5 harg5 arg6 harg6 arg7 harg7 arg11 harg11 x0 x1 x2 x3 x4 x5 x6, skip_row _ 3 9 (by decide), runA_rows4 c i arg1 harg1 arg2 harg2 arg3 harg3 arg4 harg4 arg5 harg5 arg6 harg6 arg7 harg7 arg11 harg11 x0 x1 x2 x3 x4 x5 x6, skip_row _ 2 9 (by decide), runA_rows3 c i arg1 harg1 arg2 harg2 arg3 harg3 arg4 harg4 arg5 harg5 arg6 harg6 arg7 harg7 arg11 harg11 x0 x1 x2 x3 x4 x5 x6, skip_row _ 1 9 (by decide), runA_rows2 c i arg1 harg1 arg2 harg2 arg3 harg3 arg4 harg4 arg5 harg5 arg6 harg6 arg7 harg7 arg11 harg11 x0 x1 x2 x3 x4 x5 x6, skip_row _ 0 9 (by decide), runA_fill, fill_row]

theorem runA_old10 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.v606 (F := F) c i arg1 harg1 arg2 harg2 arg3 harg3 arg4 harg4 arg5 harg5 arg6 harg6 arg7 harg7 arg11 x0 x1 x2 x3 x4 x5 x6 = View.ld (k0_pay3 (F := F)) (rs 10) := by
  have e : runA.sl.v606 (F := F) c i arg1 harg1 arg2 harg2 arg3 harg3 arg4 harg4 arg5 harg5 arg6 harg6 arg7 harg7 arg11 x0 x1 x2 x3 x4 x5 x6 = arg11.view.readCov (runA.sl.H10_11 (F := F) c i arg1 harg1 arg2 harg2 arg3 harg3 arg4 harg4 arg5 harg5 arg6 harg6 arg7 harg7 arg11 x0 x1 x2 x3 x4 x5 x6) (rs 10).toLoadRect := by sl_kernel_rfl
  rw [e, runA_rows11 c i arg1 harg1 arg2 harg2 arg3 harg3 arg4 harg4 arg5 harg5 arg6 harg6 arg7 harg7 arg11 harg11 x0 x1 x2 x3 x4 x5 x6, skip_row _ 9 10 (by decide), runA_rows10 c i arg1 harg1 arg2 harg2 arg3 harg3 arg4 harg4 arg5 harg5 arg6 harg6 arg7 harg7 arg11 harg11 x0 x1 x2 x3 x4 x5 x6, skip_row _ 8 10 (by decide), runA_rows9 c i arg1 harg1 arg2 harg2 arg3 harg3 arg4 harg4 arg5 harg5 arg6 harg6 arg7 harg7 arg11 harg11 x0 x1 x2 x3 x4 x5 x6, skip_row _ 7 10 (by decide), runA_rows8 c i arg1 harg1 arg2 harg2 arg3 harg3 arg4 harg4 arg5 harg5 arg6 harg6 arg7 harg7 arg11 harg11 x0 x1 x2 x3 x4 x5 x6, skip_row _ 6 10 (by decide), runA_rows7 c i arg1 harg1 arg2 harg2 arg3 harg3 arg4 harg4 arg5 harg5 arg6 harg6 arg7 harg7 arg11 harg11 x0 x1 x2 x3 x4 x5 x6, skip_row _ 5 10 (by decide), runA_rows6 c i arg1 harg1 arg2 harg2 arg3 harg3 arg4 harg4 arg5 harg5 arg6 harg6 arg7 harg7 arg11 harg11 x0 x1 x2 x3 x4 x5 x6, skip_row _ 4 10 (by decide), runA_rows5 c i arg1 harg1 arg2 harg2 arg3 harg3 arg4 harg4 arg5 harg5 arg6 harg6 arg7 harg7 arg11 harg11 x0 x1 x2 x3 x4 x5 x6, skip_row _ 3 10 (by decide), runA_rows4 c i arg1 harg1 arg2 harg2 arg3 harg3 arg4 harg4 arg5 harg5 arg6 harg6 arg7 harg7 arg11 harg11 x0 x1 x2 x3 x4 x5 x6, skip_row _ 2 10 (by decide), runA_rows3 c i arg1 harg1 arg2 harg2 arg3 harg3 arg4 harg4 arg5 harg5 arg6 harg6 arg7 harg7 arg11 harg11 x0 x1 x2 x3 x4 x5 x6, skip_row _ 1 10 (by decide), runA_rows2 c i arg1 harg1 arg2 harg2 arg3 harg3 arg4 harg4 arg5 harg5 arg6 harg6 arg7 harg7 arg11 harg11 x0 x1 x2 x3 x4 x5 x6, skip_row _ 0 10 (by decide), runA_fill, fill_row]

theorem runA_old11 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.v617 (F := F) c i arg1 harg1 arg2 harg2 arg3 harg3 arg4 harg4 arg5 harg5 arg6 harg6 arg7 harg7 arg11 x0 x1 x2 x3 x4 x5 x6 = View.ld (k0_pay3 (F := F)) (rs 11) := by
  have e : runA.sl.v617 (F := F) c i arg1 harg1 arg2 harg2 arg3 harg3 arg4 harg4 arg5 harg5 arg6 harg6 arg7 harg7 arg11 x0 x1 x2 x3 x4 x5 x6 = arg11.view.readCov (runA.sl.H10_12 (F := F) c i arg1 harg1 arg2 harg2 arg3 harg3 arg4 harg4 arg5 harg5 arg6 harg6 arg7 harg7 arg11 x0 x1 x2 x3 x4 x5 x6) (rs 11).toLoadRect := by sl_kernel_rfl
  rw [e, runA_rows12 c i arg1 harg1 arg2 harg2 arg3 harg3 arg4 harg4 arg5 harg5 arg6 harg6 arg7 harg7 arg11 harg11 x0 x1 x2 x3 x4 x5 x6, skip_row _ 10 11 (by decide), runA_rows11 c i arg1 harg1 arg2 harg2 arg3 harg3 arg4 harg4 arg5 harg5 arg6 harg6 arg7 harg7 arg11 harg11 x0 x1 x2 x3 x4 x5 x6, skip_row _ 9 11 (by decide), runA_rows10 c i arg1 harg1 arg2 harg2 arg3 harg3 arg4 harg4 arg5 harg5 arg6 harg6 arg7 harg7 arg11 harg11 x0 x1 x2 x3 x4 x5 x6, skip_row _ 8 11 (by decide), runA_rows9 c i arg1 harg1 arg2 harg2 arg3 harg3 arg4 harg4 arg5 harg5 arg6 harg6 arg7 harg7 arg11 harg11 x0 x1 x2 x3 x4 x5 x6, skip_row _ 7 11 (by decide), runA_rows8 c i arg1 harg1 arg2 harg2 arg3 harg3 arg4 harg4 arg5 harg5 arg6 harg6 arg7 harg7 arg11 harg11 x0 x1 x2 x3 x4 x5 x6, skip_row _ 6 11 (by decide), runA_rows7 c i arg1 harg1 arg2 harg2 arg3 harg3 arg4 harg4 arg5 harg5 arg6 harg6 arg7 harg7 arg11 harg11 x0 x1 x2 x3 x4 x5 x6, skip_row _ 5 11 (by decide), runA_rows6 c i arg1 harg1 arg2 harg2 arg3 harg3 arg4 harg4 arg5 harg5 arg6 harg6 arg7 harg7 arg11 harg11 x0 x1 x2 x3 x4 x5 x6, skip_row _ 4 11 (by decide), runA_rows5 c i arg1 harg1 arg2 harg2 arg3 harg3 arg4 harg4 arg5 harg5 arg6 harg6 arg7 harg7 arg11 harg11 x0 x1 x2 x3 x4 x5 x6, skip_row _ 3 11 (by decide), runA_rows4 c i arg1 harg1 arg2 harg2 arg3 harg3 arg4 harg4 arg5 harg5 arg6 harg6 arg7 harg7 arg11 harg11 x0 x1 x2 x3 x4 x5 x6, skip_row _ 2 11 (by decide), runA_rows3 c i arg1 harg1 arg2 harg2 arg3 harg3 arg4 harg4 arg5 harg5 arg6 harg6 arg7 harg7 arg11 harg11 x0 x1 x2 x3 x4 x5 x6, skip_row _ 1 11 (by decide), runA_rows2 c i arg1 harg1 arg2 harg2 arg3 harg3 arg4 harg4 arg5 harg5 arg6 harg6 arg7 harg7 arg11 harg11 x0 x1 x2 x3 x4 x5 x6, skip_row _ 0 11 (by decide), runA_fill, fill_row]

theorem runA_old12 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.v796 (F := F) c i arg1 harg1 arg2 harg2 arg3 harg3 arg4 harg4 arg5 harg5 arg6 harg6 arg7 harg7 arg11 x0 x1 x2 x3 x4 x5 x6 = View.ld (k0_pay3 (F := F)) (rs 12) := by
  have e : runA.sl.v796 (F := F) c i arg1 harg1 arg2 harg2 arg3 harg3 arg4 harg4 arg5 harg5 arg6 harg6 arg7 harg7 arg11 x0 x1 x2 x3 x4 x5 x6 = arg11.view.readCov (runA.sl.H10_13 (F := F) c i arg1 harg1 arg2 harg2 arg3 harg3 arg4 harg4 arg5 harg5 arg6 harg6 arg7 harg7 arg11 x0 x1 x2 x3 x4 x5 x6) (rs 12).toLoadRect := by sl_kernel_rfl
  rw [e, runA_rows13 c i arg1 harg1 arg2 harg2 arg3 harg3 arg4 harg4 arg5 harg5 arg6 harg6 arg7 harg7 arg11 harg11 x0 x1 x2 x3 x4 x5 x6, skip_row _ 11 12 (by decide), runA_rows12 c i arg1 harg1 arg2 harg2 arg3 harg3 arg4 harg4 arg5 harg5 arg6 harg6 arg7 harg7 arg11 harg11 x0 x1 x2 x3 x4 x5 x6, skip_row _ 10 12 (by decide), runA_rows11 c i arg1 harg1 arg2 harg2 arg3 harg3 arg4 harg4 arg5 harg5 arg6 harg6 arg7 harg7 arg11 harg11 x0 x1 x2 x3 x4 x5 x6, skip_row _ 9 12 (by decide), runA_rows10 c i arg1 harg1 arg2 harg2 arg3 harg3 arg4 harg4 arg5 harg5 arg6 harg6 arg7 harg7 arg11 harg11 x0 x1 x2 x3 x4 x5 x6, skip_row _ 8 12 (by decide), runA_rows9 c i arg1 harg1 arg2 harg2 arg3 harg3 arg4 harg4 arg5 harg5 arg6 harg6 arg7 harg7 arg11 harg11 x0 x1 x2 x3 x4 x5 x6, skip_row _ 7 12 (by decide), runA_rows8 c i arg1 harg1 arg2 harg2 arg3 harg3 arg4 harg4 arg5 harg5 arg6 harg6 arg7 harg7 arg11 harg11 x0 x1 x2 x3 x4 x5 x6, skip_row _ 6 12 (by decide), runA_rows7 c i arg1 harg1 arg2 harg2 arg3 harg3 arg4 harg4 arg5 harg5 arg6 harg6 arg7 harg7 arg11 harg11 x0 x1 x2 x3 x4 x5 x6, skip_row _ 5 12 (by decide), runA_rows6 c i arg1 harg1 arg2 harg2 arg3 harg3 arg4 harg4 arg5 harg5 arg6 harg6 arg7 harg7 arg11 harg11 x0 x1 x2 x3 x4 x5 x6, skip_row _ 4 12 (by decide), runA_rows5 c i arg1 harg1 arg2 harg2 arg3 harg3 arg4 harg4 arg5 harg5 arg6 harg6 arg7 harg7 arg11 harg11 x0 x1 x2 x3 x4 x5 x6, skip_row _ 3 12 (by decide), runA_rows4 c i arg1 harg1 arg2 harg2 arg3 harg3 arg4 harg4 arg5 harg5 arg6 harg6 arg7 harg7 arg11 harg11 x0 x1 x2 x3 x4 x5 x6, skip_row _ 2 12 (by decide), runA_rows3 c i arg1 harg1 arg2 harg2 arg3 harg3 arg4 harg4 arg5 harg5 arg6 harg6 arg7 harg7 arg11 harg11 x0 x1 x2 x3 x4 x5 x6, skip_row _ 1 12 (by decide), runA_rows2 c i arg1 harg1 arg2 harg2 arg3 harg3 arg4 harg4 arg5 harg5 arg6 harg6 arg7 harg7 arg11 harg11 x0 x1 x2 x3 x4 x5 x6, skip_row _ 0 12 (by decide), runA_fill, fill_row]

theorem runA_old13 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.v807 (F := F) c i arg1 harg1 arg2 harg2 arg3 harg3 arg4 harg4 arg5 harg5 arg6 harg6 arg7 harg7 arg11 x0 x1 x2 x3 x4 x5 x6 = View.ld (k0_pay3 (F := F)) (rs 13) := by
  have e : runA.sl.v807 (F := F) c i arg1 harg1 arg2 harg2 arg3 harg3 arg4 harg4 arg5 harg5 arg6 harg6 arg7 harg7 arg11 x0 x1 x2 x3 x4 x5 x6 = arg11.view.readCov (runA.sl.H10_14 (F := F) c i arg1 harg1 arg2 harg2 arg3 harg3 arg4 harg4 arg5 harg5 arg6 harg6 arg7 harg7 arg11 x0 x1 x2 x3 x4 x5 x6) (rs 13).toLoadRect := by sl_kernel_rfl
  rw [e, runA_rows14 c i arg1 harg1 arg2 harg2 arg3 harg3 arg4 harg4 arg5 harg5 arg6 harg6 arg7 harg7 arg11 harg11 x0 x1 x2 x3 x4 x5 x6, skip_row _ 12 13 (by decide), runA_rows13 c i arg1 harg1 arg2 harg2 arg3 harg3 arg4 harg4 arg5 harg5 arg6 harg6 arg7 harg7 arg11 harg11 x0 x1 x2 x3 x4 x5 x6, skip_row _ 11 13 (by decide), runA_rows12 c i arg1 harg1 arg2 harg2 arg3 harg3 arg4 harg4 arg5 harg5 arg6 harg6 arg7 harg7 arg11 harg11 x0 x1 x2 x3 x4 x5 x6, skip_row _ 10 13 (by decide), runA_rows11 c i arg1 harg1 arg2 harg2 arg3 harg3 arg4 harg4 arg5 harg5 arg6 harg6 arg7 harg7 arg11 harg11 x0 x1 x2 x3 x4 x5 x6, skip_row _ 9 13 (by decide), runA_rows10 c i arg1 harg1 arg2 harg2 arg3 harg3 arg4 harg4 arg5 harg5 arg6 harg6 arg7 harg7 arg11 harg11 x0 x1 x2 x3 x4 x5 x6, skip_row _ 8 13 (by decide), runA_rows9 c i arg1 harg1 arg2 harg2 arg3 harg3 arg4 harg4 arg5 harg5 arg6 harg6 arg7 harg7 arg11 harg11 x0 x1 x2 x3 x4 x5 x6, skip_row _ 7 13 (by decide), runA_rows8 c i arg1 harg1 arg2 harg2 arg3 harg3 arg4 harg4 arg5 harg5 arg6 harg6 arg7 harg7 arg11 harg11 x0 x1 x2 x3 x4 x5 x6, skip_row _ 6 13 (by decide), runA_rows7 c i arg1 harg1 arg2 harg2 arg3 harg3 arg4 harg4 arg5 harg5 arg6 harg6 arg7 harg7 arg11 harg11 x0 x1 x2 x3 x4 x5 x6, skip_row _ 5 13 (by decide), runA_rows6 c i arg1 harg1 arg2 harg2 arg3 harg3 arg4 harg4 arg5 harg5 arg6 harg6 arg7 harg7 arg11 harg11 x0 x1 x2 x3 x4 x5 x6, skip_row _ 4 13 (by decide), runA_rows5 c i arg1 harg1 arg2 harg2 arg3 harg3 arg4 harg4 arg5 harg5 arg6 harg6 arg7 harg7 arg11 harg11 x0 x1 x2 x3 x4 x5 x6, skip_row _ 3 13 (by decide), runA_rows4 c i arg1 harg1 arg2 harg2 arg3 harg3 arg4 harg4 arg5 harg5 arg6 harg6 arg7 harg7 arg11 harg11 x0 x1 x2 x3 x4 x5 x6, skip_row _ 2 13 (by decide), runA_rows3 c i arg1 harg1 arg2 harg2 arg3 harg3 arg4 harg4 arg5 harg5 arg6 harg6 arg7 harg7 arg11 harg11 x0 x1 x2 x3 x4 x5 x6, skip_row _ 1 13 (by decide), runA_rows2 c i arg1 harg1 arg2 harg2 arg3 harg3 arg4 harg4 arg5 harg5 arg6 harg6 arg7 harg7 arg11 harg11 x0 x1 x2 x3 x4 x5 x6, skip_row _ 0 13 (by decide), runA_fill, fill_row]

theorem runA_old14 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.v818 (F := F) c i arg1 harg1 arg2 harg2 arg3 harg3 arg4 harg4 arg5 harg5 arg6 harg6 arg7 harg7 arg11 x0 x1 x2 x3 x4 x5 x6 = View.ld (k0_pay3 (F := F)) (rs 14) := by
  have e : runA.sl.v818 (F := F) c i arg1 harg1 arg2 harg2 arg3 harg3 arg4 harg4 arg5 harg5 arg6 harg6 arg7 harg7 arg11 x0 x1 x2 x3 x4 x5 x6 = arg11.view.readCov (runA.sl.H10_15 (F := F) c i arg1 harg1 arg2 harg2 arg3 harg3 arg4 harg4 arg5 harg5 arg6 harg6 arg7 harg7 arg11 x0 x1 x2 x3 x4 x5 x6) (rs 14).toLoadRect := by sl_kernel_rfl
  rw [e, runA_rows15 c i arg1 harg1 arg2 harg2 arg3 harg3 arg4 harg4 arg5 harg5 arg6 harg6 arg7 harg7 arg11 harg11 x0 x1 x2 x3 x4 x5 x6, skip_row _ 13 14 (by decide), runA_rows14 c i arg1 harg1 arg2 harg2 arg3 harg3 arg4 harg4 arg5 harg5 arg6 harg6 arg7 harg7 arg11 harg11 x0 x1 x2 x3 x4 x5 x6, skip_row _ 12 14 (by decide), runA_rows13 c i arg1 harg1 arg2 harg2 arg3 harg3 arg4 harg4 arg5 harg5 arg6 harg6 arg7 harg7 arg11 harg11 x0 x1 x2 x3 x4 x5 x6, skip_row _ 11 14 (by decide), runA_rows12 c i arg1 harg1 arg2 harg2 arg3 harg3 arg4 harg4 arg5 harg5 arg6 harg6 arg7 harg7 arg11 harg11 x0 x1 x2 x3 x4 x5 x6, skip_row _ 10 14 (by decide), runA_rows11 c i arg1 harg1 arg2 harg2 arg3 harg3 arg4 harg4 arg5 harg5 arg6 harg6 arg7 harg7 arg11 harg11 x0 x1 x2 x3 x4 x5 x6, skip_row _ 9 14 (by decide), runA_rows10 c i arg1 harg1 arg2 harg2 arg3 harg3 arg4 harg4 arg5 harg5 arg6 harg6 arg7 harg7 arg11 harg11 x0 x1 x2 x3 x4 x5 x6, skip_row _ 8 14 (by decide), runA_rows9 c i arg1 harg1 arg2 harg2 arg3 harg3 arg4 harg4 arg5 harg5 arg6 harg6 arg7 harg7 arg11 harg11 x0 x1 x2 x3 x4 x5 x6, skip_row _ 7 14 (by decide), runA_rows8 c i arg1 harg1 arg2 harg2 arg3 harg3 arg4 harg4 arg5 harg5 arg6 harg6 arg7 harg7 arg11 harg11 x0 x1 x2 x3 x4 x5 x6, skip_row _ 6 14 (by decide), runA_rows7 c i arg1 harg1 arg2 harg2 arg3 harg3 arg4 harg4 arg5 harg5 arg6 harg6 arg7 harg7 arg11 harg11 x0 x1 x2 x3 x4 x5 x6, skip_row _ 5 14 (by decide), runA_rows6 c i arg1 harg1 arg2 harg2 arg3 harg3 arg4 harg4 arg5 harg5 arg6 harg6 arg7 harg7 arg11 harg11 x0 x1 x2 x3 x4 x5 x6, skip_row _ 4 14 (by decide), runA_rows5 c i arg1 harg1 arg2 harg2 arg3 harg3 arg4 harg4 arg5 harg5 arg6 harg6 arg7 harg7 arg11 harg11 x0 x1 x2 x3 x4 x5 x6, skip_row _ 3 14 (by decide), runA_rows4 c i arg1 harg1 arg2 harg2 arg3 harg3 arg4 harg4 arg5 harg5 arg6 harg6 arg7 harg7 arg11 harg11 x0 x1 x2 x3 x4 x5 x6, skip_row _ 2 14 (by decide), runA_rows3 c i arg1 harg1 arg2 harg2 arg3 harg3 arg4 harg4 arg5 harg5 arg6 harg6 arg7 harg7 arg11 harg11 x0 x1 x2 x3 x4 x5 x6, skip_row _ 1 14 (by decide), runA_rows2 c i arg1 harg1 arg2 harg2 arg3 harg3 arg4 harg4 arg5 harg5 arg6 harg6 arg7 harg7 arg11 harg11 x0 x1 x2 x3 x4 x5 x6, skip_row _ 0 14 (by decide), runA_fill, fill_row]

theorem runA_old15 (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg11 : Memref sig .tc .vmem S16x128 .f32) (harg11 : arg11.IsWhole)
    (x0 : Vec F S1x16 .f32) (x1 x2 : Vec F S128x1024 .bf16) (x3 x4 x5 x6 : Vec F S128x256 .bf16) :
    runA.sl.v829 (F := F) c i arg1 harg1 arg2 harg2 arg3 harg3 arg4 harg4 arg5 harg5 arg6 harg6 arg7 harg7 arg11 x0 x1 x2 x3 x4 x5 x6 = View.ld (k0_pay3 (F := F)) (rs 15) := by
  have e : runA.sl.v829 (F := F) c i arg1 harg1 arg2 harg2 arg3 harg3 arg4 harg4 arg5 harg5 arg6 harg6 arg7 harg7 arg11 x0 x1 x2 x3 x4 x5 x6 = arg11.view.readCov (runA.sl.H10_16 (F := F) c i arg1 harg1 arg2 harg2 arg3 harg3 arg4 harg4 arg5 harg5 arg6 harg6 arg7 harg7 arg11 x0 x1 x2 x3 x4 x5 x6) (rs 15).toLoadRect := by sl_kernel_rfl
  rw [e, runA_rows16 c i arg1 harg1 arg2 harg2 arg3 harg3 arg4 harg4 arg5 harg5 arg6 harg6 arg7 harg7 arg11 harg11 x0 x1 x2 x3 x4 x5 x6, skip_row _ 14 15 (by decide), runA_rows15 c i arg1 harg1 arg2 harg2 arg3 harg3 arg4 harg4 arg5 harg5 arg6 harg6 arg7 harg7 arg11 harg11 x0 x1 x2 x3 x4 x5 x6, skip_row _ 13 15 (by decide), runA_rows14 c i arg1 harg1 arg2 harg2 arg3 harg3 arg4 harg4 arg5 harg5 arg6 harg6 arg7 harg7 arg11 harg11 x0 x1 x2 x3 x4 x5 x6, skip_row _ 12 15 (by decide), runA_rows13 c i arg1 harg1 arg2 harg2 arg3 harg3 arg4 harg4 arg5 harg5 arg6 harg6 arg7 harg7 arg11 harg11 x0 x1 x2 x3 x4 x5 x6, skip_row _ 11 15 (by decide), runA_rows12 c i arg1 harg1 arg2 harg2 arg3 harg3 arg4 harg4 arg5 harg5 arg6 harg6 arg7 harg7 arg11 harg11 x0 x1 x2 x3 x4 x5 x6, skip_row _ 10 15 (by decide), runA_rows11 c i arg1 harg1 arg2 harg2 arg3 harg3 arg4 harg4 arg5 harg5 arg6 harg6 arg7 harg7 arg11 harg11 x0 x1 x2 x3 x4 x5 x6, skip_row _ 9 15 (by decide), runA_rows10 c i arg1 harg1 arg2 harg2 arg3 harg3 arg4 harg4 arg5 harg5 arg6 harg6 arg7 harg7 arg11 harg11 x0 x1 x2 x3 x4 x5 x6, skip_row _ 8 15 (by decide), runA_rows9 c i arg1 harg1 arg2 harg2 arg3 harg3 arg4 harg4 arg5 harg5 arg6 harg6 arg7 harg7 arg11 harg11 x0 x1 x2 x3 x4 x5 x6, skip_row _ 7 15 (by decide), runA_rows8 c i arg1 harg1 arg2 harg2 arg3 harg3 arg4 harg4 arg5 harg5 arg6 harg6 arg7 harg7 arg11 harg11 x0 x1 x2 x3 x4 x5 x6, skip_row _ 6 15 (by decide), runA_rows7 c i arg1 harg1 arg2 harg2 arg3 harg3 arg4 harg4 arg5 harg5 arg6 harg6 arg7 harg7 arg11 harg11 x0 x1 x2 x3 x4 x5 x6, skip_row _ 5 15 (by decide), runA_rows6 c i arg1 harg1 arg2 harg2 arg3 harg3 arg4 harg4 arg5 harg5 arg6 harg6 arg7 harg7 arg11 harg11 x0 x1 x2 x3 x4 x5 x6, skip_row _ 4 15 (by decide), runA_rows5 c i arg1 harg1 arg2 harg2 arg3 harg3 arg4 harg4 arg5 harg5 arg6 harg6 arg7 harg7 arg11 harg11 x0 x1 x2 x3 x4 x5 x6, skip_row _ 3 15 (by decide), runA_rows4 c i arg1 harg1 arg2 harg2 arg3 harg3 arg4 harg4 arg5 harg5 arg6 harg6 arg7 harg7 arg11 harg11 x0 x1 x2 x3 x4 x5 x6, skip_row _ 2 15 (by decide), runA_rows3 c i arg1 harg1 arg2 harg2 arg3 harg3 arg4 harg4 arg5 harg5 arg6 harg6 arg7 harg7 arg11 harg11 x0 x1 x2 x3 x4 x5 x6, skip_row _ 1 15 (by decide), runA_rows2 c i arg1 harg1 arg2 harg2 arg3 harg3 arg4 harg4 arg5 harg5 arg6 harg6 arg7 harg7 arg11 harg11 x0 x1 x2 x3 x4 x5 x6, skip_row _ 0 15 (by decide), runA_fill, fill_row]

theorem runA_dq (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole)
    (hc0 : IsFirst i) (hc1 : IsBlock i) (hc2 : ¬IsLast i)
    (x0 : Vec F S1x16 .f32) (x1 x2 : Vec F S128x1024 .bf16) (x3 x4 x5 x6 : Vec F S128x256 .bf16) :
    (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).1
      = Blocks.dqPieces (F := F) ⟨x0, x1, x2, x3, x4, x5, x6⟩ i := by
  have h : (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).1
      = Blocks.dqPieces (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i := by sl_kernel_rfl
  simpa only [Memref.IsWhole.read_unread] using h

theorem runA_ck (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole)
    (hc0 : IsFirst i) (hc1 : IsBlock i) (hc2 : ¬IsLast i)
    (x0 : Vec F S1x16 .f32) (x1 x2 : Vec F S128x1024 .bf16) (x3 x4 x5 x6 : Vec F S128x256 .bf16) :
    (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.2.1
      = Blocks.ckPieces (F := F) ⟨x0, x1, x2, x3, x4, x5, x6⟩ i ++ [⟨Rect.unit ![0, 0] ![128, 256] inb_S128x256_S128x256_0_0, k0_pay1 (F := F)⟩] := by
  have h : (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.2.1
      = Blocks.ckPieces (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i ++ [⟨Rect.unit ![0, 0] ![128, 256] inb_S128x256_S128x256_0_0, k0_pay1 (F := F)⟩] := by sl_kernel_rfl
  simpa only [Memref.IsWhole.read_unread] using h

theorem runA_cv (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole)
    (hc0 : IsFirst i) (hc1 : IsBlock i) (hc2 : ¬IsLast i)
    (x0 : Vec F S1x16 .f32) (x1 x2 : Vec F S128x1024 .bf16) (x3 x4 x5 x6 : Vec F S128x256 .bf16) :
    (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.2.2.1
      = Blocks.cvPieces (F := F) ⟨x0, x1, x2, x3, x4, x5, x6⟩ i ++ [⟨Rect.unit ![0, 0] ![128, 256] inb_S128x256_S128x256_0_0, k0_pay2 (F := F)⟩] := by
  have h : (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.2.2.1
      = Blocks.cvPieces (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i ++ [⟨Rect.unit ![0, 0] ![128, 256] inb_S128x256_S128x256_0_0, k0_pay2 (F := F)⟩] := by sl_kernel_rfl
  simpa only [Memref.IsWhole.read_unread] using h

theorem runA_ds (c : Dev nD) (i : grid0.Coords)
    (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole)
    (hc0 : IsFirst i) (hc1 : IsBlock i) (hc2 : ¬IsLast i)
    (x0 : Vec F S1x16 .f32) (x1 x2 : Vec F S128x1024 .bf16) (x3 x4 x5 x6 : Vec F S128x256 .bf16) :
    (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.1
      = Blocks.dsPieces (F := F) ⟨x0, x1, x2, x3, x4, x5, x6⟩ i (k0_pay3 (F := F)) ++ [⟨Rect.unit ![0, 0] ![16, 128] inb_S16x128_S16x128_0_0, k0_pay3 (F := F)⟩] := by
  have h : (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.2.1
      = [⟨rs 15, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v829 (F := F) c i arg1 harg1 arg2 harg2 arg3 harg3 arg4 harg4 arg5 harg5 arg6 harg6 arg7 harg7 arg11 x0 x1 x2 x3 x4 x5 x6) 15⟩, ⟨rs 14, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v818 (F := F) c i arg1 harg1 arg2 harg2 arg3 harg3 arg4 harg4 arg5 harg5 arg6 harg6 arg7 harg7 arg11 x0 x1 x2 x3 x4 x5 x6) 14⟩, ⟨rs 13, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v807 (F := F) c i arg1 harg1 arg2 harg2 arg3 harg3 arg4 harg4 arg5 harg5 arg6 harg6 arg7 harg7 arg11 x0 x1 x2 x3 x4 x5 x6) 13⟩, ⟨rs 12, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v796 (F := F) c i arg1 harg1 arg2 harg2 arg3 harg3 arg4 harg4 arg5 harg5 arg6 harg6 arg7 harg7 arg11 x0 x1 x2 x3 x4 x5 x6) 12⟩, ⟨rs 11, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v617 (F := F) c i arg1 harg1 arg2 harg2 arg3 harg3 arg4 harg4 arg5 harg5 arg6 harg6 arg7 harg7 arg11 x0 x1 x2 x3 x4 x5 x6) 11⟩, ⟨rs 10, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v606 (F := F) c i arg1 harg1 arg2 harg2 arg3 harg3 arg4 harg4 arg5 harg5 arg6 harg6 arg7 harg7 arg11 x0 x1 x2 x3 x4 x5 x6) 10⟩, ⟨rs 9, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v595 (F := F) c i arg1 harg1 arg2 harg2 arg3 harg3 arg4 harg4 arg5 harg5 arg6 harg6 arg7 harg7 arg11 x0 x1 x2 x3 x4 x5 x6) 9⟩, ⟨rs 8, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v584 (F := F) c i arg1 harg1 arg2 harg2 arg3 harg3 arg4 harg4 arg5 harg5 arg6 harg6 arg7 harg7 arg11 x0 x1 x2 x3 x4 x5 x6) 8⟩, ⟨rs 7, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v405 (F := F) c i arg1 harg1 arg2 harg2 arg3 harg3 arg4 harg4 arg5 harg5 arg6 harg6 arg7 harg7 arg11 x0 x1 x2 x3 x4 x5 x6) 7⟩, ⟨rs 6, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v394 (F := F) c i arg1 harg1 arg2 harg2 arg3 harg3 arg4 harg4 arg5 harg5 arg6 harg6 arg7 harg7 arg11 x0 x1 x2 x3 x4 x5 x6) 6⟩, ⟨rs 5, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v383 (F := F) c i arg1 harg1 arg2 harg2 arg3 harg3 arg4 harg4 arg5 harg5 arg6 harg6 arg7 harg7 arg11 x0 x1 x2 x3 x4 x5 x6) 5⟩, ⟨rs 4, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v372 (F := F) c i arg1 harg1 arg2 harg2 arg3 harg3 arg4 harg4 arg5 harg5 arg6 harg6 arg7 harg7 arg11 x0 x1 x2 x3 x4 x5 x6) 4⟩, ⟨rs 3, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v193 (F := F) c i arg1 harg1 arg2 harg2 arg3 harg3 arg4 harg4 arg5 harg5 arg6 harg6 arg7 harg7 arg11 x0 x1 x2 x3 x4 x5 x6) 3⟩, ⟨rs 2, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v182 (F := F) c i arg1 harg1 arg2 harg2 arg3 harg3 arg4 harg4 arg5 harg5 arg6 harg6 arg7 harg7 arg11 x0 x1 x2 x3 x4 x5 x6) 2⟩, ⟨rs 1, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v171 (F := F) c i arg1 harg1 arg2 harg2 arg3 harg3 arg4 harg4 arg5 harg5 arg6 harg6 arg7 harg7 arg11 x0 x1 x2 x3 x4 x5 x6) 1⟩, ⟨rs 0, Blocks.dsRow (F := F) ⟨arg1.view.read (Elt F) (harg1.unread x0), arg2.view.read (Elt F) (harg2.unread x1), arg3.view.read (Elt F) (harg3.unread x2), arg4.view.read (Elt F) (harg4.unread x3), arg5.view.read (Elt F) (harg5.unread x4), arg6.view.read (Elt F) (harg6.unread x5), arg7.view.read (Elt F) (harg7.unread x6)⟩ i (runA.sl.v160 (F := F) c arg11) 0⟩] ++ [⟨Rect.unit ![0, 0] ![16, 128] inb_S16x128_S16x128_0_0, k0_pay3 (F := F)⟩] := by sl_kernel_rfl
  rw [h, runA_old0 c i arg1 harg1 arg2 harg2 arg3 harg3 arg4 harg4 arg5 harg5 arg6 harg6 arg7 harg7 arg11 harg11 x0 x1 x2 x3 x4 x5 x6, runA_old1 c i arg1 harg1 arg2 harg2 arg3 harg3 arg4 harg4 arg5 harg5 arg6 harg6 arg7 harg7 arg11 harg11 x0 x1 x2 x3 x4 x5 x6, runA_old2 c i arg1 harg1 arg2 harg2 arg3 harg3 arg4 harg4 arg5 harg5 arg6 harg6 arg7 harg7 arg11 harg11 x0 x1 x2 x3 x4 x5 x6, runA_old3 c i arg1 harg1 arg2 harg2 arg3 harg3 arg4 harg4 arg5 harg5 arg6 harg6 arg7 harg7 arg11 harg11 x0 x1 x2 x3 x4 x5 x6, runA_old4 c i arg1 harg1 arg2 harg2 arg3 harg3 arg4 harg4 arg5 harg5 arg6 harg6 arg7 harg7 arg11 harg11 x0 x1 x2 x3 x4 x5 x6, runA_old5 c i arg1 harg1 arg2 harg2 arg3 harg3 arg4 harg4 arg5 harg5 arg6 harg6 arg7 harg7 arg11 harg11 x0 x1 x2 x3 x4 x5 x6, runA_old6 c i arg1 harg1 arg2 harg2 arg3 harg3 arg4 harg4 arg5 harg5 arg6 harg6 arg7 harg7 arg11 harg11 x0 x1 x2 x3 x4 x5 x6, runA_old7 c i arg1 harg1 arg2 harg2 arg3 harg3 arg4 harg4 arg5 harg5 arg6 harg6 arg7 harg7 arg11 harg11 x0 x1 x2 x3 x4 x5 x6, runA_old8 c i arg1 harg1 arg2 harg2 arg3 harg3 arg4 harg4 arg5 harg5 arg6 harg6 arg7 harg7 arg11 harg11 x0 x1 x2 x3 x4 x5 x6, runA_old9 c i arg1 harg1 arg2 harg2 arg3 harg3 arg4 harg4 arg5 harg5 arg6 harg6 arg7 harg7 arg11 harg11 x0 x1 x2 x3 x4 x5 x6, runA_old10 c i arg1 harg1 arg2 harg2 arg3 harg3 arg4 harg4 arg5 harg5 arg6 harg6 arg7 harg7 arg11 harg11 x0 x1 x2 x3 x4 x5 x6, runA_old11 c i arg1 harg1 arg2 harg2 arg3 harg3 arg4 harg4 arg5 harg5 arg6 harg6 arg7 harg7 arg11 harg11 x0 x1 x2 x3 x4 x5 x6, runA_old12 c i arg1 harg1 arg2 harg2 arg3 harg3 arg4 harg4 arg5 harg5 arg6 harg6 arg7 harg7 arg11 harg11 x0 x1 x2 x3 x4 x5 x6, runA_old13 c i arg1 harg1 arg2 harg2 arg3 harg3 arg4 harg4 arg5 harg5 arg6 harg6 arg7 harg7 arg11 harg11 x0 x1 x2 x3 x4 x5 x6, runA_old14 c i arg1 harg1 arg2 harg2 arg3 harg3 arg4 harg4 arg5 harg5 arg6 harg6 arg7 harg7 arg11 harg11 x0 x1 x2 x3 x4 x5 x6, runA_old15 c i arg1 harg1 arg2 harg2 arg3 harg3 arg4 harg4 arg5 harg5 arg6 harg6 arg7 harg7 arg11 harg11 x0 x1 x2 x3 x4 x5 x6]
  simp only [Memref.IsWhole.read_unread]
  rfl

end Cert.KernelIdeal.Attn

end
-- ==== Proof.Attn.Cover.lean ====
module

public import proofs.«01_k».proof.Proof.Attn.HeadsA
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-! ## The stores cover -/

/-- Pieces owned by the points-to of their writes over anything are the memref owned at their canon, when they cover. -/
theorem owns_of_pieces {S : Shape} {φ : EltTy} (c : Dev nD) (arg : Memref sig .tc .vmem S φ) (L : List (View.Piece (Elt F) S φ)) (X : S.Idx → Elt F φ)
    (hc : ∀ y, ∃ p ∈ L, y ∈ p.1.set) (hX : View.canon L = X) :
    (iprop(∃ f, arg.view.loc (c : Thread nD τ) ↦[arg.view.set]{fullShare} arg.view.writes (Elt F) f L) : sProp 𝕄)
      ⊢ owns (c : Thread nD τ) arg fullShare X := by
  iintro ⟨%f, H⟩
  unfold owns; iexists _; isplitr
  swap; · iexact H
  ipureintro; rw [← hX]; exact View.read_writes_eq_canon _ _ _ hc

/-- The heads' columns cover the queries' gradient. -/
theorem cover_dq (B : Blocks F) (i : grid0.Coords) (y : S128x1024.Idx) :
    ∃ p ∈ B.dqPieces i, y ∈ p.1.set :=
  View.cover_of_tiledL _ ![128, 64] (by sl_kernel_rfl) y

/-- The key heads' columns cover the keys' gradient. -/
theorem cover_dk (B : Blocks F) (i : grid0.Coords) (ck : Vec F S128x256 .f32) (y : S128x256.Idx) :
    ∃ p ∈ B.dkPieces i ck, y ∈ p.1.set :=
  View.cover_of_tiledL _ ![128, 64] (by sl_kernel_rfl) y

/-- The key heads' columns cover the values' gradient. -/
theorem cover_dv (B : Blocks F) (i : grid0.Coords) (cv : Vec F S128x256 .f32) (y : S128x256.Idx) :
    ∃ p ∈ B.dvPieces i cv, y ∈ p.1.set :=
  View.cover_of_tiledL _ ![128, 64] (by sl_kernel_rfl) y

/-- The heads' rows cover the sinks' gradient. -/
theorem cover_ds (B : Blocks F) (i : grid0.Coords) (old : Vec F S16x128 .f32) (y : S16x128.Idx) :
    ∃ p ∈ B.dsPieces i old, y ∈ p.1.set :=
  View.cover_of_tiledL _ ![1, 128] (by sl_kernel_rfl) y

/-- The key heads' columns cover what is carried for the keys. -/
theorem cover_ck (B : Blocks F) (i : grid0.Coords) (y : S128x256.Idx) :
    ∃ p ∈ B.ckPieces i, y ∈ p.1.set :=
  View.cover_of_tiledL _ ![128, 64] (by sl_kernel_rfl) y

/-- The key heads' columns cover what is carried for the values. -/
theorem cover_cv (B : Blocks F) (i : grid0.Coords) (y : S128x256.Idx) :
    ∃ p ∈ B.cvPieces i, y ∈ p.1.set :=
  View.cover_of_tiledL _ ![128, 64] (by sl_kernel_rfl) y

/-- The first point's stores cover the keys' gradient. -/
theorem cover_dk0 (c : Dev nD) (i : grid0.Coords) (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole) (hc0 : IsFirst i) (hc1 : IsBlock i) (hc2 : ¬IsLast i)
    (x0 : Vec F S1x16 .f32) (x1 x2 : Vec F S128x1024 .bf16) (x3 x4 x5 x6 : Vec F S128x256 .bf16) (y : S128x256.Idx) :
    ∃ p ∈ (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.1, y ∈ p.1.set :=
  View.cover_of_tiledL _ ![128, 64] (by sl_kernel_rfl) y

/-- The first point's stores cover the values' gradient. -/
theorem cover_dv0 (c : Dev nD) (i : grid0.Coords) (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole) (hc0 : IsFirst i) (hc1 : IsBlock i) (hc2 : ¬IsLast i)
    (x0 : Vec F S1x16 .f32) (x1 x2 : Vec F S128x1024 .bf16) (x3 x4 x5 x6 : Vec F S128x256 .bf16) (y : S128x256.Idx) :
    ∃ p ∈ (runA c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6).2.2.1, y ∈ p.1.set :=
  View.cover_of_tiledL _ ![128, 64] (by sl_kernel_rfl) y

/-- Covering pieces hide what was stored before them. -/
theorem canon_append_of_cover {S : Shape} {φ : EltTy} (L L' : List (View.Piece (Elt F) S φ)) (h : ∀ y, ∃ p ∈ L, y ∈ p.1.set) :
    View.canon (L ++ L') = View.canon L := by
  funext y
  have hy := h y
  clear h
  induction L with
  | nil => obtain ⟨p, hp, _⟩ := hy; exact absurd hp List.not_mem_nil
  | cons p L ih =>
    by_cases hm : y ∈ p.1.set
    · obtain ⟨x, rfl⟩ := p.1.exists_idx_of_mem hm
      show View.canon (p :: (L ++ L')) (p.1.emb x) = View.canon (p :: L) (p.1.emb x)
      rw [View.canon_cons_emb, View.canon_cons_emb]
    · show View.canon (p :: (L ++ L')) y = View.canon (p :: L) y
      rw [View.canon_cons_of_not_mem p _ hm, View.canon_cons_of_not_mem p _ hm]
      obtain ⟨q, hq, hyq⟩ := hy
      rcases List.mem_cons.mp hq with rfl | hq'
      · exact absurd hyq hm
      · exact ih ⟨q, hq', hyq⟩

theorem cover_append {S : Shape} {φ : EltTy} (L L' : List (View.Piece (Elt F) S φ)) (h : ∀ y, ∃ p ∈ L, y ∈ p.1.set) :
    ∀ y, ∃ p ∈ L ++ L', y ∈ p.1.set := fun y => by
  obtain ⟨p, hp, hy⟩ := h y
  exact ⟨p, List.mem_append_left _ hp, hy⟩

/-- At the last point the gradient stored is what was carried. -/
theorem runC_dk (c : Dev nD) (i : grid0.Coords) (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole) (hc0 : ¬IsFirst i) (hc1 : ¬IsBlock i) (hc2 : IsLast i)
    (x0 : Vec F S1x16 .f32) (x1 x2 : Vec F S128x1024 .bf16) (x3 x4 x5 x6 : Vec F S128x256 .bf16) (q : Vec F S128x1024 .f32) (d : Vec F S16x128 .f32) (ck cv : Vec F S128x256 .f32) :
    (runC c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 q d ck cv).1 = [⟨Rect.unit ![0, 0] ![128, 256] inb_S128x256_S128x256_0_0, ck⟩] := by
  have h : (runC c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 q d ck cv).1 = [⟨Rect.unit ![0, 0] ![128, 256] inb_S128x256_S128x256_0_0, View.ld (arg12.view.read (Elt F) (harg12.unread ck)) (Rect.unit ![0, 0] ![128, 256] inb_S128x256_S128x256_0_0)⟩] := by sl_kernel_rfl
  simp only [Memref.IsWhole.read_unread] at h
  rw [h]; congr 2
  funext y
  show ck _ = ck y
  congr 1; funext a
  fin_cases a <;> (apply Fin.ext; show 0 + 1 * _ = _; omega)

/-- At the last point the gradient stored is what was carried. -/
theorem runC_dv (c : Dev nD) (i : grid0.Coords) (arg1 : Memref sig .tc .smem S1x16 .f32) (harg1 : arg1.IsWhole)
    (arg2 : Memref sig .tc .vmem S128x1024 .bf16) (harg2 : arg2.IsWhole)
    (arg3 : Memref sig .tc .vmem S128x1024 .bf16) (harg3 : arg3.IsWhole)
    (arg4 : Memref sig .tc .vmem S128x256 .bf16) (harg4 : arg4.IsWhole)
    (arg5 : Memref sig .tc .vmem S128x256 .bf16) (harg5 : arg5.IsWhole)
    (arg6 : Memref sig .tc .vmem S128x256 .bf16) (harg6 : arg6.IsWhole)
    (arg7 : Memref sig .tc .vmem S128x256 .bf16) (harg7 : arg7.IsWhole)
    (arg8 : Memref sig .tc .vmem S128x1024 .f32) (harg8 : arg8.IsWhole)
    (arg9 : Memref sig .tc .vmem S128x256 .f32) (harg9 : arg9.IsWhole)
    (arg10 : Memref sig .tc .vmem S128x256 .f32) (harg10 : arg10.IsWhole)
    (arg11 : Memref sig .tc .vmem S16x128 .f32) (harg11 : arg11.IsWhole)
    (arg12 : Memref sig .tc .vmem S128x256 .f32) (harg12 : arg12.IsWhole)
    (arg13 : Memref sig .tc .vmem S128x256 .f32) (harg13 : arg13.IsWhole) (hc0 : ¬IsFirst i) (hc1 : ¬IsBlock i) (hc2 : IsLast i)
    (x0 : Vec F S1x16 .f32) (x1 x2 : Vec F S128x1024 .bf16) (x3 x4 x5 x6 : Vec F S128x256 .bf16) (q : Vec F S128x1024 .f32) (d : Vec F S16x128 .f32) (ck cv : Vec F S128x256 .f32) :
    (runC c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 q d ck cv).2.1 = [⟨Rect.unit ![0, 0] ![128, 256] inb_S128x256_S128x256_0_0, cv⟩] := by
  have h : (runC c i arg1 harg1 arg2 harg2 arg3 harg3 arg4 harg4 arg5 harg5 arg6 harg6 arg7 harg7 arg8 harg8 arg9 harg9 arg10 harg10 arg11 harg11 arg12 harg12 arg13 harg13 hc0 hc1 hc2 x0 x1 x2 x3 x4 x5 x6 q d ck cv).2.1 = [⟨Rect.unit ![0, 0] ![128, 256] inb_S128x256_S128x256_0_0, View.ld (arg13.view.read (Elt F) (harg13.unread cv)) (Rect.unit ![0, 0] ![128, 256] inb_S128x256_S128x256_0_0)⟩] := by sl_kernel_rfl
  simp only [Memref.IsWhole.read_unread] at h
  rw [h]; congr 2
  funext y
  show cv _ = cv y
  congr 1; funext a
  fin_cases a <;> (apply Fin.ext; show 0 + 1 * _ = _; omega)

/-- A store of the whole covers. -/
theorem cover_one (w : Vec F S128x256 .f32) (y : S128x256.Idx) :
    ∃ p ∈ ([⟨Rect.unit ![0, 0] ![128, 256] inb_S128x256_S128x256_0_0, w⟩] : List (View.Piece (Elt F) S128x256 .f32)), y ∈ p.1.set :=
  View.cover_of_tiledL _ ![128, 256] (by sl_kernel_rfl) y

/-- A store of the whole is what is stored. -/
theorem canon_one (w : Vec F S128x256 .f32) :
    View.canon ([⟨Rect.unit ![0, 0] ![128, 256] inb_S128x256_S128x256_0_0, w⟩] : List (View.Piece (Elt F) S128x256 .f32)) = w := by
  funext y
  refine View.canon_eq_of_allAt _ y _ (cover_one w y) ?_
  intro p hp x hx
  obtain rfl := List.mem_singleton.mp hp
  show w x = w y
  congr 1; rw [← hx]; funext a
  fin_cases a <;> (apply Fin.ext; show _ = 0 + 1 * _; omega)

end Cert.KernelIdeal.Attn

end
-- ==== Proof.Attn.State.lean ====
module

public import proofs.«01_k».proof.Proof.Attn.Cover
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

variable (m : (ℓ : Loc nD τ sig) → Buf (Elt F) ℓ) (ρ : Dev nD → PrngReg)

local notation "𝕄" => MT nD τ sig Unit (Elt F) ℕ (UR sig nD τ) ℕ

abbrev ms0 (t : Fin cfg0.N) : Memref sig .tc .smem S1x16 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x1024 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x256 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x256 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x256 .bf16 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x1024 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S128x256 .f32 := win0_8.stage (cfg0.slots t 8)
abbrev hs8 (t : Fin cfg0.N) : (ms8 t).IsWhole := hstage0_8 ((cfg0.slots t 8).cast nbuf0_8)
abbrev ms9 (t : Fin cfg0.N) : Memref sig .tc .vmem S128x256 .f32 := win0_9.stage (cfg0.slots t 9)
abbrev hs9 (t : Fin cfg0.N) : (ms9 t).IsWhole := hstage0_9 ((cfg0.slots t 9).cast nbuf0_9)
abbrev ms10 (t : Fin cfg0.N) : Memref sig .tc .vmem S16x128 .f32 := win0_10.stage (cfg0.slots t 10)
abbrev hs10 (t : Fin cfg0.N) : (ms10 t).IsWhole := hstage0_10 ((cfg0.slots t 10).cast nbuf0_10)
abbrev sc0 : Memref sig .tc .vmem S128x256 .f32 := Memref.whole cc0_scratch0
abbrev sc1 : Memref sig .tc .vmem S128x256 .f32 := Memref.whole cc0_scratch1

/-- What the region is handed besides the windows: the two scratch buffers and the generator's register. -/
theorem phi_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-! ## What is left after each point -/

theorem lt33 (t : Fin cfg0.N) : t.val < 33 := lt_of_lt_of_eq t.isLt (show cfg0.N = 33 from N_0)
theorem isBlock_of_first (t : Fin cfg0.N) (h : t.val = 0) : IsBlock (grid0.coords t) := (isBlock_iff t).mpr (by omega)
theorem notLast_of_first (t : Fin cfg0.N) (h : t.val = 0) : ¬IsLast (grid0.coords t) := fun e => absurd ((isLast_iff t).mp e) (by omega)

/-- The point whose block of queries was computed last at position `n`. -/
def pt (n : ℕ) : Fin cfg0.N := ⟨min n 31, lt_of_le_of_lt (Nat.min_le_right n 31) (lt_of_lt_of_eq (by decide : 31 < 33) (show cfg0.N = 33 from N_0).symm)⟩

theorem pt_val (t : Fin cfg0.N) (h : t.val < 32) : pt t.val = t := Fin.ext (by show min t.val 31 = t.val; omega)

/-- What point `t` reads. -/
def blk (c : Dev nD) (t : Fin cfg0.N) : Blocks F := ⟨iblk m c 0 t, iblk m c 1 t, iblk m c 2 t, iblk m c 3 t, iblk m c 4 t, iblk m c 5 t, iblk m c 6 t⟩

/-- What is carried for the keys after position `n`. -/
def ckAt (c : Dev nD) (n : ℕ) : Vec F S128x256 .f32 := View.canon ((blk m c (pt n)).ckPieces (grid0.coords (pt n)))
/-- What is carried for the values after position `n`. -/
def cvAt (c : Dev nD) (n : ℕ) : Vec F S128x256 .f32 := View.canon ((blk m c (pt n)).cvPieces (grid0.coords (pt n)))
/-- The queries' gradient after position `n`. -/
def dqAt (c : Dev nD) (n : ℕ) : Vec F S128x1024 .f32 := View.canon ((blk m c (pt n)).dqPieces (grid0.coords (pt n)))
/-- The sinks' gradient after position `n`: zero, and every block's share so far. -/
def dsAt (c : Dev nD) : ℕ → Vec F S16x128 .f32
  | 0 => View.canon ((blk m c (pt 0)).dsPieces (grid0.coords (pt 0)) k0_pay3)
  | n + 1 => if n + 1 < 32 then View.canon ((blk m c (pt (n + 1))).dsPieces (grid0.coords (pt (n + 1))) (dsAt c n)) else dsAt c n
/-- The keys' gradient after point `t`: the carried half and the block's; the carried half alone at the last. -/
def dkAt (c : Dev nD) (t : Fin cfg0.N) : Vec F S128x256 .f32 :=
  if h : t.val = 0 then View.canon (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) ((isFirst_iff t).mpr h) (isBlock_of_first t h) (notLast_of_first t h) (iblk m c 0 t) (iblk m c 1 t) (iblk m c 2 t) (iblk m c 3 t) (iblk m c 4 t) (iblk m c 5 t) (iblk m c 6 t)).2.1
  else if t.val < 32 then View.canon ((blk m c t).dkPieces (grid0.coords t) (ckAt m c (t.val - 1)))
  else ckAt m c (t.val - 1)
/-- The values' gradient after point `t`. -/
def dvAt (c : Dev nD) (t : Fin cfg0.N) : Vec F S128x256 .f32 :=
  if h : t.val = 0 then View.canon (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) ((isFirst_iff t).mpr h) (isBlock_of_first t h) (notLast_of_first t h) (iblk m c 0 t) (iblk m c 1 t) (iblk m c 2 t) (iblk m c 3 t) (iblk m c 4 t) (iblk m c 5 t) (iblk m c 6 t)).2.2.1
  else if t.val < 32 then View.canon ((blk m c t).dvPieces (grid0.coords t) (cvAt m c (t.val - 1)))
  else cvAt m c (t.val - 1)

/-- The invariant before position `n`. -/
def PhiS (c : Dev nD) : (n : ℕ) → n ≤ cfg0.N → sProp 𝕄
  | 0, _ => Pipeline.ΦA spec0 c
  | n + 1, _ => iprop(iprop(owns (c : Thread nD τ) sc0 fullShare (ckAt m c n) ∗ owns (c : Thread nD τ) sc1 fullShare (cvAt m c n)) ∗ (∃ r, prngReg c r))

theorem PhiS_zero (c : Dev nD) (n : ℕ) (h : n ≤ cfg0.N) (hn : n = 0) : PhiS m c n h = Pipeline.ΦA spec0 c := by subst hn; rfl
theorem PhiS_succ (c : Dev nD) (n : ℕ) (h : n + 1 ≤ cfg0.N) :
    PhiS m c (n + 1) h = iprop(iprop(owns (c : Thread nD τ) sc0 fullShare (ckAt m c n) ∗ owns (c : Thread nD τ) sc1 fullShare (cvAt m c n)) ∗ (∃ r, prngReg c r)) := rfl
theorem PhiS_pos (c : Dev nD) (n : ℕ) (h : n ≤ cfg0.N) (hn : n ≠ 0) :
    PhiS m c n h = iprop(iprop(owns (c : Thread nD τ) sc0 fullShare (ckAt m c (n - 1)) ∗ owns (c : Thread nD τ) sc1 fullShare (cvAt m c (n - 1))) ∗ (∃ r, prngReg c r)) := by
  cases n with
  | zero => exact absurd rfl hn
  | succ n => exact PhiS_succ m c n h

/-- The proof data of the call: what every window's buffer holds after each point, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => dqAt m c t.val
    | ⟨8, _⟩ => dkAt m c t
    | ⟨9, _⟩ => dvAt m c t
    | ⟨10, _⟩ => dsAt m c t.val
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = dqAt m c t.val := by dsimp only [dats]
theorem after8 (c : Dev nD) (t : Fin cfg0.N) : (dats m 0 c).after 8 t = dkAt m c t := by dsimp only [dats]
theorem after9 (c : Dev nD) (t : Fin cfg0.N) : (dats m 0 c).after 9 t = dvAt m c t := by dsimp only [dats]
theorem after10 (c : Dev nD) (t : Fin cfg0.N) : (dats m 0 c).after 10 t = dsAt m c t.val := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d

/-- The sinks' buffer holds nothing of the body's at the first point only. -/
def freshDs : ℕ → Bool
  | 0 => true
  | n + 1 => decide (32 ≤ n)
theorem freshDs_step : ∀ t : Fin cfg0.N,
    freshDs (t.val + 1) = ((cfg0.win 10).flush t || (cfg0.idle 10 (cfg0.grid.coords t) && freshDs t.val)) := by decide +kernel
theorem fresh_ds (t : Fin cfg0.N) (h : t.val ≠ 0) : cfg0.fresh 10 t.val = false := by
  rw [Pipeline.Cfg.fresh_tab cfg0 10 freshDs rfl freshDs_step t.val (Nat.le_of_lt t.isLt)]
  have := lt33 t
  obtain ⟨n, hn⟩ := Nat.exists_eq_succ_of_ne_zero h
  rw [hn]; show decide (32 ≤ n) = false
  exact decide_eq_false (by omega)
/-- The queries' buffer holds block 31's gradient still at the last point. -/
def freshDq : ℕ → Bool
  | 0 => true
  | n + 1 => decide (n ≠ 31)
theorem freshDq_step : ∀ t : Fin cfg0.N,
    freshDq (t.val + 1) = ((cfg0.win 7).flush t || (cfg0.idle 7 (cfg0.grid.coords t) && freshDq t.val)) := by decide +kernel
theorem fresh_dq (t : Fin cfg0.N) (h : t.val = 32) : cfg0.fresh 7 t.val = false := by
  rw [Pipeline.Cfg.fresh_tab cfg0 7 freshDq rfl freshDq_step t.val (Nat.le_of_lt t.isLt), h]; rfl

theorem dqAt_last (c : Dev nD) (n : ℕ) (h : n = 32) : dqAt m c n = dqAt m c (n - 1) := by subst h; rfl
theorem dsAt_last (c : Dev nD) (n : ℕ) (h : n = 32) : dsAt m c n = dsAt m c (n - 1) := by
  subst h; show (if 31 + 1 < 32 then _ else _) = _; exact if_neg (by omega)

theorem before10 (c : Dev nD) (t : Fin cfg0.N) (h : t.val ≠ 0) (d) : (dats m 0 c).before 10 t d = dsAt m c (t.val - 1) := by
  rw [Dat.before_out_traj _ 10 rfl (fun _ _ => rfl) (fun t ht hi _ => ?_) t.val t rfl d, if_neg (by rw [fresh_ds t h]; exact Bool.false_ne_true)]
  · dsimp only [dats]
  · rw [idle_ds t] at hi
    rw [after10, after10]; exact dsAt_last m c t.val (of_decide_eq_true hi)

theorem before7 (c : Dev nD) (t : Fin cfg0.N) (h : t.val = 32) (d) : (dats m 0 c).before 7 t d = dqAt m c (t.val - 1) := by
  rw [Dat.before_out_traj _ 7 rfl (fun _ _ => rfl) (fun t ht hi _ => ?_) t.val t rfl d, if_neg (by rw [fresh_dq t h]; exact Bool.false_ne_true)]
  · dsimp only [dats]
  · rw [idle_dq t] at hi
    rw [after7, after7]; exact dqAt_last m c t.val (of_decide_eq_true hi)

theorem leaves0 (c : Dev nD) (t : Fin cfg0.N) : (dats m 0 c).leavesExact 0 t = owns (c : Thread nD τ) (ms0 t) fullShare ((dats m 0 c).after 0 t) := by
  unfold Dat.leavesExact; rw [show cfg0.idle 0 (cfg0.grid.coords t) = false from rfl]
theorem leaves1 (c : Dev nD) (t : Fin cfg0.N) : (dats m 0 c).leavesExact 1 t = owns (c : Thread nD τ) (ms1 t) fullShare ((dats m 0 c).after 1 t) := by
  unfold Dat.leavesExact; rw [show cfg0.idle 1 (cfg0.grid.coords t) = false from rfl]
theorem leaves2 (c : Dev nD) (t : Fin cfg0.N) : (dats m 0 c).leavesExact 2 t = owns (c : Thread nD τ) (ms2 t) fullShare ((dats m 0 c).after 2 t) := by
  unfold Dat.leavesExact; rw [show cfg0.idle 2 (cfg0.grid.coords t) = false from rfl]
theorem leaves3 (c : Dev nD) (t : Fin cfg0.N) : (dats m 0 c).leavesExact 3 t = owns (c : Thread nD τ) (ms3 t) fullShare ((dats m 0 c).after 3 t) := by
  unfold Dat.leavesExact; rw [show cfg0.idle 3 (cfg0.grid.coords t) = false from rfl]
theorem leaves4 (c : Dev nD) (t : Fin cfg0.N) : (dats m 0 c).leavesExact 4 t = owns (c : Thread nD τ) (ms4 t) fullShare ((dats m 0 c).after 4 t) := by
  unfold Dat.leavesExact; rw [show cfg0.idle 4 (cfg0.grid.coords t) = false from rfl]
theorem leaves5 (c : Dev nD) (t : Fin cfg0.N) : (dats m 0 c).leavesExact 5 t = owns (c : Thread nD τ) (ms5 t) fullShare ((dats m 0 c).after 5 t) := by
  unfold Dat.leavesExact; rw [show cfg0.idle 5 (cfg0.grid.coords t) = false from rfl]
theorem leaves6 (c : Dev nD) (t : Fin cfg0.N) : (dats m 0 c).leavesExact 6 t = owns (c : Thread nD τ) (ms6 t) fullShare ((dats m 0 c).after 6 t) := by
  unfold Dat.leavesExact; rw [show cfg0.idle 6 (cfg0.grid.coords t) = false from rfl]
theorem leaves7 (c : Dev nD) (t : Fin cfg0.N) : (dats m 0 c).leavesExact 7 t = owns (c : Thread nD τ) (ms7 t) fullShare ((dats m 0 c).after 7 t) := by
  unfold Dat.leavesExact; rw [show cfg0.idle 7 (cfg0.grid.coords t) = decide (t.val = 32) from idle_dq t, show (cfg0.win 7).flush t = _ from flush_dq t]
  by_cases h : t.val = 32
  · rw [decide_eq_true h]; rw [decide_eq_true (by omega)]
  · rw [decide_eq_false h]
theorem leaves8 (c : Dev nD) (t : Fin cfg0.N) : (dats m 0 c).leavesExact 8 t = owns (c : Thread nD τ) (ms8 t) fullShare ((dats m 0 c).after 8 t) := by
  unfold Dat.leavesExact; rw [show cfg0.idle 8 (cfg0.grid.coords t) = false from idle_dk t]
theorem leaves9 (c : Dev nD) (t : Fin cfg0.N) : (dats m 0 c).leavesExact 9 t = owns (c : Thread nD τ) (ms9 t) fullShare ((dats m 0 c).after 9 t) := by
  unfold Dat.leavesExact; rw [show cfg0.idle 9 (cfg0.grid.coords t) = false from idle_dv t]
theorem leaves10 (c : Dev nD) (t : Fin cfg0.N) : (dats m 0 c).leavesExact 10 t = owns (c : Thread nD τ) (ms10 t) fullShare ((dats m 0 c).after 10 t) := by
  unfold Dat.leavesExact; rw [show cfg0.idle 10 (cfg0.grid.coords t) = decide (t.val = 32) from idle_ds t, show (cfg0.win 10).flush t = _ from flush_ds t]
  by_cases h : t.val = 32
  · rw [decide_eq_true h]
  · rw [decide_eq_false h]

theorem hck (m : (ℓ : Loc nD τ sig) → Buf (Elt F) ℓ) {c : Dev nD} (t : Fin cfg0.N) (h : t.val < 32) : View.canon ((blk m c t).ckPieces (grid0.coords t)) = ckAt m c t.val := by
  unfold ckAt; rw [pt_val t h]
theorem hcv (m : (ℓ : Loc nD τ sig) → Buf (Elt F) ℓ) {c : Dev nD} (t : Fin cfg0.N) (h : t.val < 32) : View.canon ((blk m c t).cvPieces (grid0.coords t)) = cvAt m c t.val := by
  unfold cvAt; rw [pt_val t h]
theorem hdq (m : (ℓ : Loc nD τ sig) → Buf (Elt F) ℓ) {c : Dev nD} (t : Fin cfg0.N) (h : t.val < 32) : View.canon ((blk m c t).dqPieces (grid0.coords t)) = dqAt m c t.val := by
  unfold dqAt; rw [pt_val t h]
theorem hds0 (m : (ℓ : Loc nD τ sig) → Buf (Elt F) ℓ) {c : Dev nD} (t : Fin cfg0.N) (h : t.val = 0) : View.canon ((blk m c t).dsPieces (grid0.coords t) k0_pay3) = dsAt m c t.val := by
  have ht : t = pt 0 := (pt_val t (by omega)).symm.trans (by rw [h])
  rw [h]; subst ht; rfl
theorem hds (m : (ℓ : Loc nD τ sig) → Buf (Elt F) ℓ) {c : Dev nD} (t : Fin cfg0.N) (h0 : t.val ≠ 0) (h : t.val < 32) :
    View.canon ((blk m c t).dsPieces (grid0.coords t) (dsAt m c (t.val - 1))) = dsAt m c t.val := by
  have ht := pt_val t h
  obtain ⟨n, hn⟩ := Nat.exists_eq_succ_of_ne_zero h0
  rw [hn] at ht h ⊢
  show _ = (if n + 1 < 32 then _ else _)
  rw [if_pos h, show n.succ - 1 = n from rfl, ← ht]
theorem dkAt_first (c : Dev nD) (t : Fin cfg0.N) (h : t.val = 0) : dkAt m c t = View.canon (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) ((isFirst_iff t).mpr h) (isBlock_of_first t h) (notLast_of_first t h) (iblk m c 0 t) (iblk m c 1 t) (iblk m c 2 t) (iblk m c 3 t) (iblk m c 4 t) (iblk m c 5 t) (iblk m c 6 t)).2.1 := by
  unfold dkAt; rw [dif_pos h]
theorem dvAt_first (c : Dev nD) (t : Fin cfg0.N) (h : t.val = 0) : dvAt m c t = View.canon (runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) ((isFirst_iff t).mpr h) (isBlock_of_first t h) (notLast_of_first t h) (iblk m c 0 t) (iblk m c 1 t) (iblk m c 2 t) (iblk m c 3 t) (iblk m c 4 t) (iblk m c 5 t) (iblk m c 6 t)).2.2.1 := by
  unfold dvAt; rw [dif_pos h]
theorem dkAt_mid (c : Dev nD) (t : Fin cfg0.N) (h0 : t.val ≠ 0) (h : t.val < 32) : dkAt m c t = View.canon ((blk m c t).dkPieces (grid0.coords t) (ckAt m c (t.val - 1))) := by
  unfold dkAt; rw [dif_neg h0, if_pos h]
theorem dvAt_mid (c : Dev nD) (t : Fin cfg0.N) (h0 : t.val ≠ 0) (h : t.val < 32) : dvAt m c t = View.canon ((blk m c t).dvPieces (grid0.coords t) (cvAt m c (t.val - 1))) := by
  unfold dvAt; rw [dif_neg h0, if_pos h]
theorem dkAt_last (c : Dev nD) (t : Fin cfg0.N) (h0 : t.val ≠ 0) (h : ¬t.val < 32) : dkAt m c t = ckAt m c (t.val - 1) := by
  unfold dkAt; rw [dif_neg h0, if_neg h]
theorem dvAt_last (c : Dev nD) (t : Fin cfg0.N) (h0 : t.val ≠ 0) (h : ¬t.val < 32) : dvAt m c t = cvAt m c (t.val - 1) := by
  unfold dvAt; rw [dif_neg h0, if_neg h]

/-! ## The body at each point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
/-- The body at any point takes what it is called with to what it returns. -/
theorem sound_body (c : Dev nD) (t : Fin cfg0.N) :
    bodyPre m c t ⊢ wp frame (wpE (defs₀ (F := F)) Variants.none c none) Set.univ (bodyAt0 t) (fun _ => bodyPost m c t) := by
  have hN := lt33 t
  unfold bodyPre bodyPost bodyAt0
  simp only [before0 m c t, before1 m c t, before2 m c t, before3 m c t, before4 m c t, before5 m c t, before6 m c t]
  rw [show (dats m 0 c).owesAt () t.succ = (dats m 0 c).owesAt () t.castSucc from rfl]
  rw [show (dats m 0 c).Φ t.succ = PhiS m c (t.val + 1) t.isLt from rfl, PhiS_succ]
  rw [leaves0, after0, leaves1, after1, leaves2, after2, leaves3, after3, leaves4, after4, leaves5, after5, leaves6, after6, leaves7, after7, leaves8, after8, leaves9, after9, leaves10, after10]
  by_cases h : t.val = 0
  · rw [PhiS_castSucc m c t, PhiS_zero m c _ _ h, phi_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) ((isFirst_iff t).mpr h) (isBlock_of_first t h) (notLast_of_first t h) (iblk m c 0 t) (iblk m c 1 t) (iblk m c 2 t) (iblk m c 3 t) (iblk m c 4 t) (iblk m c 5 t) (iblk m c 6 t)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · rw [(runA_ck c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) ((isFirst_iff t).mpr h) (isBlock_of_first t h) (notLast_of_first t h) (iblk m c 0 t) (iblk m c 1 t) (iblk m c 2 t) (iblk m c 3 t) (iblk m c 4 t) (iblk m c 5 t) (iblk m c 6 t))]; iapply (owns_of_pieces c sc0 _ _ (cover_append _ _ (cover_ck _ _)) ((canon_append_of_cover _ _ (cover_ck _ _)).trans (hck m t (by omega)))); iexact HS0
        rw [(runA_cv c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) ((isFirst_iff t).mpr h) (isBlock_of_first t h) (notLast_of_first t h) (iblk m c 0 t) (iblk m c 1 t) (iblk m c 2 t) (iblk m c 3 t) (iblk m c 4 t) (iblk m c 5 t) (iblk m c 6 t))]; iapply (owns_of_pieces c sc1 _ _ (cover_append _ _ (cover_cv _ _)) ((canon_append_of_cover _ _ (cover_cv _ _)).trans (hcv m t (by omega)))); iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · rw [(runA_dq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) ((isFirst_iff t).mpr h) (isBlock_of_first t h) (notLast_of_first t h) (iblk m c 0 t) (iblk m c 1 t) (iblk m c 2 t) (iblk m c 3 t) (iblk m c 4 t) (iblk m c 5 t) (iblk m c 6 t))]; iapply (owns_of_pieces c (ms7 t) _ _ (cover_dq _ _) (hdq m t (by omega))); iexact H7
    isplitl [H8]
    · iapply (owns_of_pieces c (ms8 t) _ _ (cover_dk0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) ((isFirst_iff t).mpr h) (isBlock_of_first t h) (notLast_of_first t h) (iblk m c 0 t) (iblk m c 1 t) (iblk m c 2 t) (iblk m c 3 t) (iblk m c 4 t) (iblk m c 5 t) (iblk m c 6 t)) (dkAt_first m c t h).symm); iexact H8
    isplitl [H9]
    · iapply (owns_of_pieces c (ms9 t) _ _ (cover_dv0 c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) ((isFirst_iff t).mpr h) (isBlock_of_first t h) (notLast_of_first t h) (iblk m c 0 t) (iblk m c 1 t) (iblk m c 2 t) (iblk m c 3 t) (iblk m c 4 t) (iblk m c 5 t) (iblk m c 6 t)) (dvAt_first m c t h).symm); iexact H9
    rw [(runA_ds c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) ((isFirst_iff t).mpr h) (isBlock_of_first t h) (notLast_of_first t h) (iblk m c 0 t) (iblk m c 1 t) (iblk m c 2 t) (iblk m c 3 t) (iblk m c 4 t) (iblk m c 5 t) (iblk m c 6 t))]; iapply (owns_of_pieces c (ms10 t) _ _ (cover_append _ _ (cover_ds _ _ _)) ((canon_append_of_cover _ _ (cover_ds _ _ _)).trans (hds0 m t h))); iexact H10
  by_cases h1 : t.val < 32
  · have h0 := h
    rw [PhiS_castSucc m c t, PhiS_pos m c _ _ h0]
    simp only [before10 m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) (fun e => h0 ((isFirst_iff t).mp e)) ((isBlock_iff t).mpr h1) (fun e => absurd ((isLast_iff t).mp e) (by omega)) (iblk m c 0 t) (iblk m c 1 t) (iblk m c 2 t) (iblk m c 3 t) (iblk m c 4 t) (iblk m c 5 t) (iblk m c 6 t) (dsAt m c (t.val - 1)) (ckAt m c (t.val - 1)) (cvAt m c (t.val - 1))).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · rw [(runB_ck c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) (fun e => h0 ((isFirst_iff t).mp e)) ((isBlock_iff t).mpr h1) (fun e => absurd ((isLast_iff t).mp e) (by omega)) (iblk m c 0 t) (iblk m c 1 t) (iblk m c 2 t) (iblk m c 3 t) (iblk m c 4 t) (iblk m c 5 t) (iblk m c 6 t) (dsAt m c (t.val - 1)) (ckAt m c (t.val - 1)) (cvAt m c (t.val - 1)))]; iapply (owns_of_pieces c sc0 _ _ (cover_ck _ _) (hck m t h1)); iexact HS0
        rw [(runB_cv c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) (fun e => h0 ((isFirst_iff t).mp e)) ((isBlock_iff t).mpr h1) (fun e => absurd ((isLast_iff t).mp e) (by omega)) (iblk m c 0 t) (iblk m c 1 t) (iblk m c 2 t) (iblk m c 3 t) (iblk m c 4 t) (iblk m c 5 t) (iblk m c 6 t) (dsAt m c (t.val - 1)) (ckAt m c (t.val - 1)) (cvAt m c (t.val - 1)))]; iapply (owns_of_pieces c sc1 _ _ (cover_cv _ _) (hcv m t h1)); iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · rw [(runB_dq c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) (fun e => h0 ((isFirst_iff t).mp e)) ((isBlock_iff t).mpr h1) (fun e => absurd ((isLast_iff t).mp e) (by omega)) (iblk m c 0 t) (iblk m c 1 t) (iblk m c 2 t) (iblk m c 3 t) (iblk m c 4 t) (iblk m c 5 t) (iblk m c 6 t) (dsAt m c (t.val - 1)) (ckAt m c (t.val - 1)) (cvAt m c (t.val - 1)))]; iapply (owns_of_pieces c (ms7 t) _ _ (cover_dq _ _) (hdq m t h1)); iexact H7
    isplitl [H8]
    · rw [(runB_dk c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) (fun e => h0 ((isFirst_iff t).mp e)) ((isBlock_iff t).mpr h1) (fun e => absurd ((isLast_iff t).mp e) (by omega)) (iblk m c 0 t) (iblk m c 1 t) (iblk m c 2 t) (iblk m c 3 t) (iblk m c 4 t) (iblk m c 5 t) (iblk m c 6 t) (dsAt m c (t.val - 1)) (ckAt m c (t.val - 1)) (cvAt m c (t.val - 1)))]; iapply (owns_of_pieces c (ms8 t) _ _ (cover_dk _ _ _) (dkAt_mid m c t h0 h1).symm); iexact H8
    isplitl [H9]
    · rw [(runB_dv c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) (fun e => h0 ((isFirst_iff t).mp e)) ((isBlock_iff t).mpr h1) (fun e => absurd ((isLast_iff t).mp e) (by omega)) (iblk m c 0 t) (iblk m c 1 t) (iblk m c 2 t) (iblk m c 3 t) (iblk m c 4 t) (iblk m c 5 t) (iblk m c 6 t) (dsAt m c (t.val - 1)) (ckAt m c (t.val - 1)) (cvAt m c (t.val - 1)))]; iapply (owns_of_pieces c (ms9 t) _ _ (cover_dv _ _ _) (dvAt_mid m c t h0 h1).symm); iexact H9
    rw [(runB_ds c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) (fun e => h0 ((isFirst_iff t).mp e)) ((isBlock_iff t).mpr h1) (fun e => absurd ((isLast_iff t).mp e) (by omega)) (iblk m c 0 t) (iblk m c 1 t) (iblk m c 2 t) (iblk m c 3 t) (iblk m c 4 t) (iblk m c 5 t) (iblk m c 6 t) (dsAt m c (t.val - 1)) (ckAt m c (t.val - 1)) (cvAt m c (t.val - 1)))]; iapply (owns_of_pieces c (ms10 t) _ _ (cover_ds _ _ _) (hds m t h0 h1)); iexact H10
  · have h0 := h
    have h2 : t.val = 32 := by omega
    rw [PhiS_castSucc m c t, PhiS_pos m c _ _ h0]
    simp only [before10 m c t h0, before7 m c t h2]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) (fun e => h0 ((isFirst_iff t).mp e)) (fun e => h1 ((isBlock_iff t).mp e)) ((isLast_iff t).mpr h2) (iblk m c 0 t) (iblk m c 1 t) (iblk m c 2 t) (iblk m c 3 t) (iblk m c 4 t) (iblk m c 5 t) (iblk m c 6 t) (dqAt m c (t.val - 1)) (dsAt m c (t.val - 1)) (ckAt m c (t.val - 1)) (cvAt m c (t.val - 1))).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexact H10
    isplitl [HS0]; · iexact HS0
    isplitl [HS1]; · iexact HS1
    iintro ⟨H0, H1, H2, H3, H4, H5, H6, H7, H8, H9, H10, HS0, HS1⟩
    rw [show ckAt m c t.val = ckAt m c (t.val - 1) from by rw [h2]; rfl, show cvAt m c t.val = cvAt m c (t.val - 1) from by rw [h2]; rfl, dqAt_last m c t.val h2, dsAt_last m c t.val h2]
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · iexact H7
    isplitl [H8]
    · rw [(runC_dk c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) (fun e => h0 ((isFirst_iff t).mp e)) (fun e => h1 ((isBlock_iff t).mp e)) ((isLast_iff t).mpr h2) (iblk m c 0 t) (iblk m c 1 t) (iblk m c 2 t) (iblk m c 3 t) (iblk m c 4 t) (iblk m c 5 t) (iblk m c 6 t) (dqAt m c (t.val - 1)) (dsAt m c (t.val - 1)) (ckAt m c (t.val - 1)) (cvAt m c (t.val - 1)))]; iapply (owns_of_pieces c (ms8 t) _ _ (cover_one _) ((canon_one _).trans (dkAt_last m c t h0 h1).symm)); iexact H8
    isplitl [H9]
    · rw [(runC_dv c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) sc0 (Memref.isWhole_whole _) sc1 (Memref.isWhole_whole _) (fun e => h0 ((isFirst_iff t).mp e)) (fun e => h1 ((isBlock_iff t).mp e)) ((isLast_iff t).mpr h2) (iblk m c 0 t) (iblk m c 1 t) (iblk m c 2 t) (iblk m c 3 t) (iblk m c 4 t) (iblk m c 5 t) (iblk m c 6 t) (dqAt m c (t.val - 1)) (dsAt m c (t.val - 1)) (ckAt m c (t.val - 1)) (cvAt m c (t.val - 1)))]; iapply (owns_of_pieces c (ms9 t) _ _ (cover_one _) ((canon_one _).trans (dvAt_last m c t h0 h1).symm)); iexact H9
    iexact H10

/-- The body the pipeline calls is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c cfg0.N le_rfl from rfl, PhiS_pos m c _ _ (by have : cfg0.N = 33 := N_0; omega), phi_eq]
  iintro ⟨⟨HS0, HS1⟩, Hg⟩
  isplitl [HS0 HS1]
  · isplitl [HS0]
    · iexists _; iexact HS0
    iexists _; iexact HS1
  iexact Hg

set_option backward.isDefEq.respectTransparency.types false in
/-- Every execution ends, with every array at what the proof data says and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged, and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.Attn.Spec.lean ====
module

public import Idealize.ShloMosaic.Lib.Pointwise

@[expose] public section

noncomputable section

namespace Cert.Attn

open Idealize.ShloMosaic

/-! One head of one block of the attention's backward pass, over the reals: what both programs compute. -/

/-- A finite sum of reals, read as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- What one head of one block is computed from. -/
structure Head where
  /-- which keys each query sees -/
  M : Fin 128 → Fin 256 → Prop
  /-- the queries -/
  q : Fin 128 → Fin 64 → ℝ
  /-- the output's gradient -/
  o : Fin 128 → Fin 64 → ℝ
  /-- the keys of the previous and of the block itself -/
  k : Fin 256 → Fin 64 → ℝ
  /-- the values likewise -/
  v : Fin 256 → Fin 64 → ℝ
  /-- the head's sink -/
  σ : ℝ

namespace Head

open Classical

variable (H : Head)

/-- The scores. -/
def sc (a : Fin 128) (s : Fin 256) : ℝ := ∑ d, H.q a d * H.k s d
/-- The exponentials of the scores a query sees. -/
def E (a : Fin 128) (s : Fin 256) : ℝ := if H.M a s then Real.exp (H.sc a s) else 0
/-- A row's sum of exponentials. -/
def A (a : Fin 128) : ℝ := ∑ s, H.E a s
/-- The same, with the sink's. -/
def den (a : Fin 128) : ℝ := H.A a + Real.exp H.σ
/-- The probabilities. -/
def p (a : Fin 128) (s : Fin 256) : ℝ := H.E a s / H.den a
/-- The sink's probability. -/
def ps (a : Fin 128) : ℝ := Real.exp H.σ / H.den a
/-- The probabilities' gradient. -/
def dp (a : Fin 128) (s : Fin 256) : ℝ := ∑ d, H.o a d * H.v s d
/-- A row's sum of probabilities times their gradients. -/
def δ (a : Fin 128) : ℝ := ∑ s, H.p a s * H.dp a s
/-- The scores' gradient. -/
def g (a : Fin 128) (s : Fin 256) : ℝ := H.p a s * (H.dp a s - H.δ a)
/-- The queries' gradient. -/
def dq (a : Fin 128) (d : Fin 64) : ℝ := ∑ s, H.g a s * H.k s d
/-- What the head gives the keys. -/
def dk (s : Fin 256) (d : Fin 64) : ℝ := ∑ a, H.g a s * H.q a d
/-- What the head gives the values. -/
def dv (s : Fin 256) (d : Fin 64) : ℝ := ∑ a, H.p a s * H.o a d
/-- What the head gives its sink. -/
def ds : ℝ := - ∑ a, H.ps a * H.δ a

theorem E_nonneg (a : Fin 128) (s : Fin 256) : 0 ≤ H.E a s := by
  unfold E; split
  · exact (Real.exp_pos _).le
  · exact le_rfl

theorem A_nonneg (a : Fin 128) : 0 ≤ H.A a := Finset.sum_nonneg fun s _ => H.E_nonneg a s

theorem den_pos (a : Fin 128) : 0 < H.den a := add_pos_of_nonneg_of_pos (H.A_nonneg a) (Real.exp_pos _)

/-- A row that sees a key has a positive sum. -/
theorem A_pos (a : Fin 128) (s : Fin 256) (h : H.M a s) : 0 < H.A a := by
  refine Finset.sum_pos' (fun s _ => H.E_nonneg a s) ⟨s, Finset.mem_univ _, ?_⟩
  unfold E; rw [if_pos h]; exact Real.exp_pos _

theorem E_zero {a : Fin 128} {s : Fin 256} (h : ¬H.M a s) : H.E a s = 0 := if_neg h
theorem p_zero {a : Fin 128} {s : Fin 256} (h : ¬H.M a s) : H.p a s = 0 := by unfold p; rw [H.E_zero h, zero_div]
theorem g_zero {a : Fin 128} {s : Fin 256} (h : ¬H.M a s) : H.g a s = 0 := by unfold g; rw [H.p_zero h, zero_mul]

/-- A head whose keys and values differ only where nothing sees them computes the same. -/
structure Agree (H H' : Head) : Prop where
  M : H.M = H'.M
  q : H.q = H'.q
  o : H.o = H'.o
  σ : H.σ = H'.σ
  k : ∀ a s, H.M a s → H.k s = H'.k s
  v : ∀ a s, H.M a s → H.v s = H'.v s

variable {H} {H' : Head} (h : Agree H H')
include h

theorem Agree.E_eq (a : Fin 128) (s : Fin 256) : H.E a s = H'.E a s := by
  unfold E
  by_cases hM : H.M a s
  · rw [if_pos hM, if_pos (by rw [← h.M]; exact hM)]; unfold sc; rw [h.q, h.k a s hM]
  · rw [if_neg hM, if_neg (by rw [← h.M]; exact hM)]
theorem Agree.den_eq (a : Fin 128) : H.den a = H'.den a := by
  unfold den A; rw [h.σ, Finset.sum_congr rfl fun s _ => h.E_eq a s]
theorem Agree.p_eq (a : Fin 128) (s : Fin 256) : H.p a s = H'.p a s := by unfold p; rw [h.E_eq, h.den_eq]
theorem Agree.ps_eq (a : Fin 128) : H.ps a = H'.ps a := by unfold ps; rw [h.σ, h.den_eq]
theorem Agree.pdp_eq (a : Fin 128) (s : Fin 256) : H.p a s * H.dp a s = H'.p a s * H'.dp a s := by
  by_cases hM : H.M a s
  · rw [h.p_eq]; unfold dp; rw [h.o, h.v a s hM]
  · rw [H.p_zero hM, H'.p_zero (by rw [← h.M]; exact hM), zero_mul, zero_mul]
theorem Agree.δ_eq (a : Fin 128) : H.δ a = H'.δ a := Finset.sum_congr rfl fun s _ => h.pdp_eq a s
theorem Agree.g_eq (a : Fin 128) (s : Fin 256) : H.g a s = H'.g a s := by
  unfold g; rw [mul_sub, mul_sub, h.pdp_eq, h.p_eq, h.δ_eq]
theorem Agree.dq_eq (a : Fin 128) (d : Fin 64) : H.dq a d = H'.dq a d := by
  refine Finset.sum_congr rfl fun s _ => ?_
  by_cases hM : H.M a s
  · rw [h.g_eq, h.k a s hM]
  · rw [H.g_zero hM, H'.g_zero (by rw [← h.M]; exact hM), zero_mul, zero_mul]
theorem Agree.dk_eq (s : Fin 256) (d : Fin 64) : H.dk s d = H'.dk s d :=
  Finset.sum_congr rfl fun a _ => by rw [h.g_eq, h.q]
theorem Agree.dv_eq (s : Fin 256) (d : Fin 64) : H.dv s d = H'.dv s d :=
  Finset.sum_congr rfl fun a _ => by rw [h.p_eq, h.o]
theorem Agree.ds_eq : H.ds = H'.ds := by
  unfold ds; rw [Finset.sum_congr rfl fun a _ => by rw [h.ps_eq, h.δ_eq]]

end Head

/-! ## The whole problem -/

/-- Row `a` of block `n`. -/
def row (n : Fin 32) (a : Fin 128) : Fin 4096 := ⟨128 * n.val + a.val, by omega⟩
/-- Column `d` of query head `h`. -/
def col (h : Fin 16) (d : Fin 64) : Fin 1024 := ⟨64 * h.val + d.val, by omega⟩
/-- Column `d` of key head `h`. -/
def kcol (h : Fin 4) (d : Fin 64) : Fin 256 := ⟨64 * h.val + d.val, by omega⟩
/-- The block before, or the first. -/
def prev (n : Fin 32) : Fin 32 := ⟨n.val - 1, by omega⟩
/-- The key head of a query head. -/
def kv (h : Fin 16) : Fin 4 := ⟨h.val / 4, by omega⟩
/-- The `j`-th query head of a key head. -/
def qhd (kh : Fin 4) (j : Fin 4) : Fin 16 := ⟨4 * kh.val + j.val, by omega⟩

/-- The five arguments, over the reals. -/
structure Data where
  Q : Fin 4096 → Fin 1024 → ℝ
  K : Fin 4096 → Fin 256 → ℝ
  V : Fin 4096 → Fin 256 → ℝ
  O : Fin 4096 → Fin 1024 → ℝ
  S : Fin 16 → ℝ

/-- Which keys of two blocks a query of block `n` sees: the 128 up to its own, none before the first. -/
def Sees (n : Fin 32) (a : Fin 128) (s : Fin 256) : Prop := a.val < s.val ∧ s.val ≤ a.val + 128 ∧ (128 ≤ s.val ∨ 0 < n.val)

/-- The rows of the block before `n` (of block 0 for the first), then of block `n`. -/
def two (X : Fin 4096 → Fin 256 → ℝ) (n : Fin 32) (kh : Fin 4) (s : Fin 256) (d : Fin 64) : ℝ :=
  if h : s.val < 128 then X (row (prev n) ⟨s.val, h⟩) (kcol kh d) else X (row n ⟨s.val - 128, by omega⟩) (kcol kh d)

/-- The same, zero before the first block. -/
def two0 (X : Fin 4096 → Fin 256 → ℝ) (n : Fin 32) (kh : Fin 4) (s : Fin 256) (d : Fin 64) : ℝ :=
  if h : s.val < 128 then (if n.val = 0 then 0 else X (row (prev n) ⟨s.val, h⟩) (kcol kh d)) else X (row n ⟨s.val - 128, by omega⟩) (kcol kh d)

/-- Head `h` of block `n`. -/
def head (D : Data) (n : Fin 32) (h : Fin 16) : Head where
  M := Sees n
  q a d := D.Q (row n a) (col h d)
  o a d := D.O (row n a) (col h d)
  k := two D.K n (kv h)
  v := two D.V n (kv h)
  σ := D.S h

/-- Head `h` of block `n`, with zeros before the first block. -/
def head0 (D : Data) (n : Fin 32) (h : Fin 16) : Head where
  M := Sees n
  q a d := D.Q (row n a) (col h d)
  o a d := D.O (row n a) (col h d)
  k := two0 D.K n (kv h)
  v := two0 D.V n (kv h)
  σ := D.S h

theorem two_eq (X : Fin 4096 → Fin 256 → ℝ) (n : Fin 32) (kh : Fin 4) (a : Fin 128) (s : Fin 256) (h : Sees n a s) :
    two0 X n kh s = two X n kh s := by
  funext d; unfold two0 two
  split
  · rw [if_neg]; have := h.2.2; omega
  · rfl

/-- What stands before the first block is not seen. -/
theorem agree (D : Data) (n : Fin 32) (h : Fin 16) : (head0 D n h).Agree (head D n h) where
  M := rfl
  q := rfl
  o := rfl
  σ := rfl
  k a s hM := two_eq D.K n (kv h) a s hM
  v a s hM := two_eq D.V n (kv h) a s hM

/-- Every query sees its own key. -/
theorem sees_self (n : Fin 32) (a : Fin 128) : Sees n a ⟨a.val + 128, by omega⟩ :=
  ⟨by show a.val < a.val + 128; omega, le_rfl, .inl (by show 128 ≤ a.val + 128; omega)⟩

/-- The queries' gradient. -/
def gradQ (D : Data) (n : Fin 32) (a : Fin 128) (h : Fin 16) (d : Fin 64) : ℝ := (head D n h).dq a d
/-- What block `n` gives the keys of head `kh`, two blocks of them. -/
def keys2 (D : Data) (n : Fin 32) (kh : Fin 4) (s : Fin 256) (d : Fin 64) : ℝ := ∑ j, (head D n (qhd kh j)).dk s d
/-- What block `n` gives the values of head `kh`, two blocks of them. -/
def vals2 (D : Data) (n : Fin 32) (kh : Fin 4) (s : Fin 256) (d : Fin 64) : ℝ := ∑ j, (head D n (qhd kh j)).dv s d
/-- What the block itself and the next, if there is one, give the rows of block `n`. -/
def fold2 (X : Fin 32 → Fin 4 → Fin 256 → Fin 64 → ℝ) (n : Fin 32) (kh : Fin 4) (a : Fin 128) (d : Fin 64) : ℝ :=
  X n kh ⟨a.val + 128, by omega⟩ d + if h : n.val + 1 < 32 then X ⟨n.val + 1, h⟩ kh ⟨a.val, by omega⟩ d else 0
/-- An array of query rows and columns, from its blocks and heads. -/
def arrQ (f : Fin 32 → Fin 128 → Fin 16 → Fin 64 → ℝ) (x : Fin 4096) (e : Fin 1024) : ℝ :=
  f ⟨x.val / 128, by omega⟩ ⟨x.val % 128, by omega⟩ ⟨e.val / 64, by omega⟩ ⟨e.val % 64, by omega⟩
/-- An array of key rows and columns, from its blocks and heads. -/
def arrK (f : Fin 32 → Fin 4 → Fin 128 → Fin 64 → ℝ) (x : Fin 4096) (e : Fin 256) : ℝ :=
  f ⟨x.val / 128, by omega⟩ ⟨e.val / 64, by omega⟩ ⟨x.val % 128, by omega⟩ ⟨e.val % 64, by omega⟩

theorem arrQ_eq (f : Fin 32 → Fin 128 → Fin 16 → Fin 64 → ℝ) (n : Fin 32) (a : Fin 128) (h : Fin 16) (d : Fin 64) (x : Fin 4096) (e : Fin 1024)
    (hx : x.val = 128 * n.val + a.val) (he : e.val = 64 * h.val + d.val) : arrQ f x e = f n a h d := by
  have h1 : (⟨x.val / 128, by omega⟩ : Fin 32) = n := Fin.ext (by show x.val / 128 = n.val; omega)
  have h2 : (⟨x.val % 128, by omega⟩ : Fin 128) = a := Fin.ext (by show x.val % 128 = a.val; omega)
  have h3 : (⟨e.val / 64, by omega⟩ : Fin 16) = h := Fin.ext (by show e.val / 64 = h.val; omega)
  have h4 : (⟨e.val % 64, by omega⟩ : Fin 64) = d := Fin.ext (by show e.val % 64 = d.val; omega)
  unfold arrQ; rw [h1, h2, h3, h4]

theorem arrK_eq (f : Fin 32 → Fin 4 → Fin 128 → Fin 64 → ℝ) (n : Fin 32) (a : Fin 128) (h : Fin 4) (d : Fin 64) (x : Fin 4096) (e : Fin 256)
    (hx : x.val = 128 * n.val + a.val) (he : e.val = 64 * h.val + d.val) : arrK f x e = f n h a d := by
  have h1 : (⟨x.val / 128, by omega⟩ : Fin 32) = n := Fin.ext (by show x.val / 128 = n.val; omega)
  have h2 : (⟨x.val % 128, by omega⟩ : Fin 128) = a := Fin.ext (by show x.val % 128 = a.val; omega)
  have h3 : (⟨e.val / 64, by omega⟩ : Fin 4) = h := Fin.ext (by show e.val / 64 = h.val; omega)
  have h4 : (⟨e.val % 64, by omega⟩ : Fin 64) = d := Fin.ext (by show e.val % 64 = d.val; omega)
  unfold arrK; rw [h1, h2, h3, h4]

/-- The sinks' gradient. -/
def gradS (D : Data) (h : Fin 16) : ℝ := ∑ n, (head D n h).ds

end Cert.Attn

end
-- ==== Proof.Attn.HeadVal.lean ====
module

public import proofs.«01_k».proof.Proof.Attn.Heads
public import proofs.«01_k».proof.Proof.Attn.Spec

@[expose] public section

set_option maxRecDepth 16384

noncomputable section

namespace Cert.KernelIdeal.Attn

open Idealize.ShloMosaic Idealize.ShloMosaic.TcCoe
open Cert.KernelIdeal.Gen
open Cert.Attn (Head coe_sum)
open Classical

/-! One head of one block at the ideal values: the kernel's functions are the real ones. -/

theorem ofBits_one : Ideal.ofBits .f32 0x3F800000#32 = 1 := Ideal.ofBits_one_f32

theorem ofBits_bot : Ideal.ofBits .f32 0xFF800000#32 = ⊥ := by
  simp [Ideal.ofBits, Ideal.ieee]

/-- A sum over 512 rows is a sum over four blocks of 128. -/
theorem sum_512 (f : Fin 512 → ℝ) : ∑ x, f x = ∑ j : Fin 4, ∑ a : Fin 128, f ⟨128 * j.val + a.val, by omega⟩ := by
  rw [← Equiv.sum_comp (finProdFinEquiv (m := 4) (n := 128)) f, Fintype.sum_prod_type]
  refine Finset.sum_congr rfl fun j _ => Finset.sum_congr rfl fun a _ => congrArg f (Fin.ext ?_)
  show a.val + 128 * j.val = 128 * j.val + a.val
  omega

/-- The products of two blocks of reals. -/
theorem prods_coe (q : Vec Ideal S128x64 .bf16) (k : FVec Ideal S256x64 .bf16) (q' : Fin 128 → Fin 64 → ℝ) (k' : Fin 256 → Fin 64 → ℝ)
    (hq : ∀ a d, q (ix2 a d) = (q' a d : EReal)) (hk : ∀ s d, k (ix2 s d) = (k' s d : EReal)) (a : Fin 128) (s : Fin 256) :
    prods (F := Ideal) q k (ix2 a s) = ((∑ d, q' a d * k' s d : ℝ) : EReal) := by
  pointwise [prods]
  rw [coe_sum]
  refine Finset.sum_congr rfl fun d _ => ?_
  rw [hq, hk, EReal.coe_mul]

variable (H : Head)

/-- What the kernel's scores are: the score where the query sees the key, else −∞. -/
def IsScore (s : FVec Ideal S128x256 .f32) : Prop := ∀ a t, s (ix2 a t) = if H.M a t then ((H.sc a t : ℝ) : EReal) else ⊥

theorem top_real (s : FVec Ideal S128x256 .f32) (hs : IsScore H s) (a : Fin 128) :
    ∃ μ : ℝ, top (F := Ideal) s ((H.σ : ℝ) : EReal) (ix2 a 0) = (μ : EReal) := by
  have h : top (F := Ideal) s ((H.σ : ℝ) : EReal) (ix2 a 0) = max (Finset.univ.fold max (⊥ : EReal) fun k : Fin 256 => s (ix2 a k)) ((H.σ : ℝ) : EReal) := by
    pointwise [top]
    rw [ofBits_bot]
  have h1 : top (F := Ideal) s ((H.σ : ℝ) : EReal) (ix2 a 0) ≠ ⊥ := by
    rw [h]; exact ne_of_gt (lt_of_lt_of_le (EReal.bot_lt_coe _) (le_max_right _ _))
  have h2 : top (F := Ideal) s ((H.σ : ℝ) : EReal) (ix2 a 0) ≠ ⊤ := by
    rw [h]; refine ne_of_lt (max_lt ?_ (EReal.coe_lt_top _))
    rw [Finset.fold_max_lt]
    refine ⟨(bot_lt_top : (⊥ : EReal) < ⊤), fun k _ => ?_⟩
    rw [hs]; split
    · exact EReal.coe_lt_top _
    · exact (bot_lt_top : (⊥ : EReal) < ⊤)
  exact ⟨_, (EReal.coe_toReal h2 h1).symm⟩

theorem weights_coe (s : FVec Ideal S128x256 .f32) (hs : IsScore H s) (a : Fin 128) (μ : ℝ)
    (hμ : top (F := Ideal) s ((H.σ : ℝ) : EReal) (ix2 a 0) = (μ : EReal)) (t : Fin 256) :
    weights (F := Ideal) s ((H.σ : ℝ) : EReal) (ix2 a t) = ((H.E a t * Real.exp (-μ) : ℝ) : EReal) := by
  pointwise [weights]
  rw [hμ, hs]; unfold Head.E
  split
  · rw [← EReal.coe_sub, Ideal.exp_coe, sub_eq_add_neg, Real.exp_add]
  · rw [EReal.bot_sub, Ideal.exp_bot, zero_mul, EReal.coe_zero]

theorem sinkWeight_coe (s : FVec Ideal S128x256 .f32) (a : Fin 128) (μ : ℝ)
    (hμ : top (F := Ideal) s ((H.σ : ℝ) : EReal) (ix2 a 0) = (μ : EReal)) :
    sinkWeight (F := Ideal) s ((H.σ : ℝ) : EReal) (ix2 a 0) = ((Real.exp H.σ * Real.exp (-μ) : ℝ) : EReal) := by
  pointwise [sinkWeight]
  rw [hμ, ← EReal.coe_sub, Ideal.exp_coe, sub_eq_add_neg, Real.exp_add]

theorem inverse_coe (s : FVec Ideal S128x256 .f32) (hs : IsScore H s) (a : Fin 128) (μ : ℝ)
    (hμ : top (F := Ideal) s ((H.σ : ℝ) : EReal) (ix2 a 0) = (μ : EReal)) :
    inverse (F := Ideal) s ((H.σ : ℝ) : EReal) (ix2 a 0) = ((1 / (H.den a * Real.exp (-μ)) : ℝ) : EReal) := by
  have hd : 0 < H.den a * Real.exp (-μ) := mul_pos (H.den_pos a) (Real.exp_pos _)
  pointwise [inverse]
  rw [sinkWeight_coe H s a μ hμ, Finset.sum_congr rfl fun t _ => weights_coe H s hs a μ hμ t, ← coe_sum, ← EReal.coe_add,
    ← Finset.sum_mul, ← add_mul]
  show Ideal.div 1 ((H.den a * Real.exp (-μ) : ℝ) : EReal) = _
  rw [Ideal.div_coe hd.ne', one_mul]

theorem probs_coe (s : FVec Ideal S128x256 .f32) (hs : IsScore H s) (a : Fin 128) (t : Fin 256) :
    probs (F := Ideal) s ((H.σ : ℝ) : EReal) (ix2 a t) = ((H.p a t : ℝ) : EReal) := by
  obtain ⟨μ, hμ⟩ := top_real H s hs a
  pointwise [probs]
  rw [weights_coe H s hs a μ hμ, inverse_coe H s hs a μ hμ, ← EReal.coe_mul]
  refine congrArg Real.toEReal ?_
  rw [mul_one_div, mul_div_mul_right _ _ (Real.exp_pos (-μ)).ne']; rfl

theorem sinkProb_coe (s : FVec Ideal S128x256 .f32) (hs : IsScore H s) (a : Fin 128) :
    sinkProb (F := Ideal) s ((H.σ : ℝ) : EReal) (ix2 a 0) = ((H.ps a : ℝ) : EReal) := by
  obtain ⟨μ, hμ⟩ := top_real H s hs a
  pointwise [sinkProb]
  rw [sinkWeight_coe H s a μ hμ, inverse_coe H s hs a μ hμ, ← EReal.coe_mul]
  refine congrArg Real.toEReal ?_
  rw [mul_one_div, mul_div_mul_right _ _ (Real.exp_pos (-μ)).ne']; rfl

theorem delta_coe (p dp : FVec Ideal S128x256 .f32) (hp : ∀ a t, p (ix2 a t) = ((H.p a t : ℝ) : EReal))
    (hd : ∀ a t, dp (ix2 a t) = ((H.dp a t : ℝ) : EReal)) (a : Fin 128) :
    delta (F := Ideal) p dp (ix2 a 0) = ((H.δ a : ℝ) : EReal) := by
  pointwise [delta]
  unfold Head.δ; rw [coe_sum]
  exact Finset.sum_congr rfl fun t _ => by rw [hp, hd, EReal.coe_mul]

theorem dscore_coe (p dp : FVec Ideal S128x256 .f32) (hp : ∀ a t, p (ix2 a t) = ((H.p a t : ℝ) : EReal))
    (hd : ∀ a t, dp (ix2 a t) = ((H.dp a t : ℝ) : EReal)) (a : Fin 128) (t : Fin 256) :
    dscore (F := Ideal) p dp (ix2 a t) = ((H.g a t : ℝ) : EReal) := by
  pointwise [dscore]
  rw [delta_coe H p dp hp hd, hp, hd, ← EReal.coe_sub, ← EReal.coe_mul]; rfl

theorem dquery_coe (g : FVec Ideal S128x256 .bf16) (k : FVec Ideal S256x64 .bf16) (hg : ∀ a t, g (ix2 a t) = ((H.g a t : ℝ) : EReal))
    (hk : ∀ s d, k (ix2 s d) = (H.k s d : EReal)) (a : Fin 128) (d : Fin 64) :
    dquery (F := Ideal) g k (ix2 a d) = ((H.dq a d : ℝ) : EReal) := by
  pointwise [dquery]
  unfold Head.dq; rw [coe_sum]
  exact Finset.sum_congr rfl fun t _ => by rw [hg, hk, EReal.coe_mul]

theorem sinkRow_coe (old : Vec Ideal S1x128 .f32) (ps δ : FVec Ideal S128x1 .f32) (hps : ∀ a, ps (ix2 a 0) = ((H.ps a : ℝ) : EReal))
    (hδ : ∀ a, δ (ix2 a 0) = ((H.δ a : ℝ) : EReal)) (l : Fin 128) :
    sinkRow (F := Ideal) old ps δ (ix2 0 l) = old (ix2 0 l) + ((H.ds : ℝ) : EReal) := by
  pointwise [sinkRow]
  congr 1
  rw [Finset.sum_congr rfl fun a _ => by rw [hps, hδ, ← EReal.coe_mul], ← coe_sum, zero_sub, ← EReal.coe_neg]; rfl

/-- Four heads' share of the keys (or values): the sum over the heads and their rows. -/
theorem dkeys_coe (g0 g1 g2 g3 : FVec Ideal S128x256 .bf16) (q0 q1 q2 q3 : Vec Ideal S128x64 .bf16)
    (G : Fin 4 → Fin 128 → Fin 256 → ℝ) (Q : Fin 4 → Fin 128 → Fin 64 → ℝ)
    (h0 : ∀ a t, g0 (ix2 a t) = (G 0 a t : EReal)) (h1 : ∀ a t, g1 (ix2 a t) = (G 1 a t : EReal))
    (h2 : ∀ a t, g2 (ix2 a t) = (G 2 a t : EReal)) (h3 : ∀ a t, g3 (ix2 a t) = (G 3 a t : EReal))
    (e0 : ∀ a t, q0 (ix2 a t) = (Q 0 a t : EReal)) (e1 : ∀ a t, q1 (ix2 a t) = (Q 1 a t : EReal))
    (e2 : ∀ a t, q2 (ix2 a t) = (Q 2 a t : EReal)) (e3 : ∀ a t, q3 (ix2 a t) = (Q 3 a t : EReal)) (t : Fin 256) (d : Fin 64) :
    dkeys (F := Ideal) g0 g1 g2 g3 q0 q1 q2 q3 (ix2 t d) = ((∑ j, ∑ a, G j a t * Q j a d : ℝ) : EReal) := by
  pointwise [dkeys]
  simp only [h0, h1, h2, h3, e0, e1, e2, e3]
  refine Eq.trans (Finset.sum_congr rfl fun x _ => ?_) (Eq.trans (coe_sum Finset.univ fun x : Fin 512 =>
    G ⟨x.val / 128, by omega⟩ ⟨x.val % 128, Nat.mod_lt _ (by omega)⟩ t * Q ⟨x.val / 128, by omega⟩ ⟨x.val % 128, Nat.mod_lt _ (by omega)⟩ d).symm ?_)
  · rw [EReal.coe_mul]
    rcases x with ⟨x, hx⟩
    dsimp only
    split
    · have hj : x / 128 = 0 := by omega
      have ha : x % 128 = x := by omega
      simp only [hj, ha]; rfl
    split
    · have hj : x / 128 = 1 := by omega
      have ha : x % 128 = x - 128 := by omega
      simp only [hj, ha]; rfl
    split
    · have hj : x / 128 = 2 := by omega
      have ha : x % 128 = x - 128 - 128 := by omega
      simp only [hj, ha]; rfl
    · have hj : x / 128 = 3 := by omega
      have ha : x % 128 = x - 128 - 128 - 128 := by omega
      simp only [hj, ha]; rfl
  · refine congrArg Real.toEReal ?_
    rw [sum_512]
    refine Finset.sum_congr rfl fun j _ => Finset.sum_congr rfl fun a _ => ?_
    have hj : (128 * j.val + a.val) / 128 = j.val := by omega
    have ha : (128 * j.val + a.val) % 128 = a.val := by omega
    simp only [hj, ha]

end Cert.KernelIdeal.Attn

end
-- ==== Proof.Attn.BlockVal.lean ====
module

public import proofs.«01_k».proof.Proof.Attn.HeadVal

@[expose] public section

set_option maxRecDepth 16384

noncomputable section

namespace Cert.KernelIdeal.Attn

open Idealize.ShloMosaic Idealize.ShloMosaic.TcCoe
open Cert.KernelIdeal.Gen
open Cert.Attn (Head coe_sum Data head Sees two row col kcol prev kv qhd)
open Classical

/-! One point's block at the ideal values. -/

/-- The mask's constant is −∞. -/
theorem named_mask : Named.named (F := Ideal) κ "mask" (φ := .f32) 0xF149F2CA#32 = (⊥ : EReal) :=
  IdealRules.named_const.ideal_named_scalar κ "mask" _ _ rfl

theorem four_bits (p q r t : Prop) [Decidable p] [Decidable q] [Decidable r] [Decidable t] :
    IntOp.andi (IntOp.andi (BitVec.ofBool (decide p)) (BitVec.ofBool (decide q))) (IntOp.ori (BitVec.ofBool (decide r)) (BitVec.ofBool (decide t))) =
      if p ∧ q ∧ (r ∨ t) then 1#1 else 0#1 := by
  by_cases hp : p <;> by_cases hq : q <;> by_cases hr : r <;> by_cases ht : t <;> simp [hp, hq, hr, ht, IntOp.andi, IntOp.ori]

/-- The mask of the point of block `n`. -/
theorem maskAt_apply (i : grid0.Coords) (n : Fin 32) (hi : (i 0 : ℕ) = n.val) (a : Fin 128) (s : Fin 256) :
    maskAt i (ix2 a s) = if Sees n a s then 1#1 else 0#1 := by
  unfold maskAt
  rw [hi]
  pointwise [k0_pay8]
  have e : IntOp.addi (BitVec.ofNat 32 ↑a) 128#32 = BitVec.ofNat 32 (a.val + 128) := (BitVec.ofNat_add ..).symm
  have c1 : IntOp.cmpi .sgt (BitVec.ofNat 32 s.val) (BitVec.ofNat 32 a.val) = BitVec.ofBool (decide (a.val < s.val)) :=
    WordCmp.cmpi_sgt_ofNat (by show s.val < 2147483648; omega) (by show a.val < 2147483648; omega)
  have c2 : IntOp.cmpi .sle (BitVec.ofNat 32 s.val) (BitVec.ofNat 32 (a.val + 128)) = BitVec.ofBool (decide (s.val ≤ a.val + 128)) :=
    WordCmp.cmpi_sle_ofNat (by show s.val < 2147483648; omega) (by show a.val + 128 < 2147483648; omega)
  have c3 : IntOp.cmpi .sge (BitVec.ofNat 32 s.val) 128#32 = BitVec.ofBool (decide (128 ≤ s.val)) :=
    WordCmp.cmpi_sge_ofNat (b := 128) (by show s.val < 2147483648; omega) (by decide)
  have c4 : Scalar.cmpi .sgt (BitVec.ofNat 32 n.val) 0#32 = BitVec.ofBool (decide (0 < n.val)) :=
    WordCmp.cmpi_sgt_ofNat (b := 0) (by show n.val < 2147483648; omega) (by decide)
  rw [e, c1, c2, c3, c4, four_bits]
  exact if_congr Iff.rfl rfl rfl

/-- What the point of block `n` reads. -/
structure Reads (D : Data) (n : Fin 32) (B : Blocks Ideal) : Prop where
  s : ∀ h, B.s (ix2 0 h) = ((D.S h : ℝ) : EReal)
  q : ∀ a e, B.q (ix2 a e) = ((D.Q (row n a) e : ℝ) : EReal)
  o : ∀ a e, B.o (ix2 a e) = ((D.O (row n a) e : ℝ) : EReal)
  kc : ∀ a e, B.kc (ix2 a e) = ((D.K (row n a) e : ℝ) : EReal)
  kp : ∀ a e, B.kp (ix2 a e) = ((D.K (row (prev n) a) e : ℝ) : EReal)
  vc : ∀ a e, B.vc (ix2 a e) = ((D.V (row n a) e : ℝ) : EReal)
  vp : ∀ a e, B.vp (ix2 a e) = ((D.V (row (prev n) a) e : ℝ) : EReal)

variable {D : Data} {n : Fin 32} {B : Blocks Ideal} (hB : Reads D n B) {i : grid0.Coords} (hi : (i 0 : ℕ) = n.val)

include hB

theorem qh_coe (h : Fin 16) (a : Fin 128) (d : Fin 64) : B.qh h (ix2 a d) = (((head D n h).q a d : ℝ) : EReal) := by
  pointwise [Blocks.qh]
  rw [hB.q]; rfl

theorem oh_coe (h : Fin 16) (a : Fin 128) (d : Fin 64) : B.oh h (ix2 a d) = (((head D n h).o a d : ℝ) : EReal) := by
  pointwise [Blocks.oh]
  rw [hB.o]; rfl

theorem sh_coe (h : Fin 16) : B.sh h = (((head D n h).σ : ℝ) : EReal) := by
  refine Eq.trans ?_ (hB.s h)
  unfold Blocks.sh View.ld
  congr 1
  funext b
  fin_cases b <;> rfl

theorem k2_coe (h : Fin 16) (s : Fin 256) (d : Fin 64) : B.k2 (kvh h) (ix2 s d) = (((head D n h).k s d : ℝ) : EReal) := by
  pointwise [Blocks.k2, pair]
  show _ = ((two D.K n (kv h) s d : ℝ) : EReal)
  unfold two
  split
  · rw [hB.kp]; rfl
  · rw [hB.kc]; rfl

theorem v2_coe (h : Fin 16) (s : Fin 256) (d : Fin 64) : B.v2 (kvh h) (ix2 s d) = (((head D n h).v s d : ℝ) : EReal) := by
  pointwise [Blocks.v2, pair]
  show _ = ((two D.V n (kv h) s d : ℝ) : EReal)
  unfold two
  split
  · rw [hB.vp]; rfl
  · rw [hB.vc]; rfl

theorem dp_coe (h : Fin 16) (a : Fin 128) (s : Fin 256) : B.dp h (ix2 a s) = (((head D n h).dp a s : ℝ) : EReal) :=
  prods_coe _ _ _ _ (oh_coe hB h) (v2_coe hB h) a s

include hi

theorem score_is (h : Fin 16) : IsScore (head D n h) (B.score i h) := by
  intro a s
  have hp := prods_coe _ _ _ _ (qh_coe hB h) (k2_coe hB h) a s
  show (if maskAt i (ix2 a s) = 1#1 then prods (F := Ideal) (B.qh h) (B.k2 (kvh h)) (ix2 a s) else Named.named (F := Ideal) κ "mask" (φ := .f32) 0xF149F2CA#32) = _
  rw [maskAt_apply i n hi, named_mask, hp]
  by_cases hs : Sees n a s
  · rw [if_pos hs, if_pos rfl]; exact (if_pos hs).symm
  · rw [if_neg hs, if_neg (by decide)]; exact (if_neg hs).symm

theorem p_coe (h : Fin 16) (a : Fin 128) (s : Fin 256) : B.p i h (ix2 a s) = (((head D n h).p a s : ℝ) : EReal) := by
  unfold Blocks.p; rw [sh_coe hB]; exact probs_coe _ _ (score_is hB hi h) a s

theorem pb_coe (h : Fin 16) (a : Fin 128) (s : Fin 256) : B.pb i h (ix2 a s) = (((head D n h).p a s : ℝ) : EReal) := p_coe hB hi h a s

theorem g_coe (h : Fin 16) (a : Fin 128) (s : Fin 256) : B.g i h (ix2 a s) = (((head D n h).g a s : ℝ) : EReal) :=
  dscore_coe _ _ _ (p_coe hB hi h) (dp_coe hB h) a s

/-- Head `h` of the queries' gradient. -/
theorem dq_coe (h : Fin 16) (a : Fin 128) (d : Fin 64) : B.dq i h (ix2 a d) = (((head D n h).dq a d : ℝ) : EReal) :=
  dquery_coe _ _ _ (g_coe hB hi h) (k2_coe hB h) a d

/-- Head `h` of the sinks' gradient. -/
theorem dsRow_coe (old : Vec Ideal S1x128 .f32) (h : Fin 16) (l : Fin 128) :
    B.dsRow i old h (ix2 0 l) = old (ix2 0 l) + (((head D n h).ds : ℝ) : EReal) := by
  unfold Blocks.dsRow
  refine sinkRow_coe _ _ _ _ (fun a => ?_) (fun a => ?_) l
  · rw [sh_coe hB]; exact sinkProb_coe _ _ (score_is hB hi h) a
  · exact delta_coe _ _ _ (p_coe hB hi h) (dp_coe hB h) a

/-- What the block gives the keys. -/
theorem dk2_coe (kh : Fin 4) (s : Fin 256) (d : Fin 64) : B.dk2 i kh (ix2 s d) = ((Cert.Attn.keys2 D n kh s d : ℝ) : EReal) :=
  dkeys_coe _ _ _ _ _ _ _ _ (fun j => (head D n (qhd kh j)).g) (fun j => (head D n (qhd kh j)).q)
    (g_coe hB hi _) (g_coe hB hi _) (g_coe hB hi _) (g_coe hB hi _) (qh_coe hB _) (qh_coe hB _) (qh_coe hB _) (qh_coe hB _) s d

/-- What the block gives the values. -/
theorem dv2_coe (kh : Fin 4) (s : Fin 256) (d : Fin 64) : B.dv2 i kh (ix2 s d) = ((Cert.Attn.vals2 D n kh s d : ℝ) : EReal) :=
  dkeys_coe _ _ _ _ _ _ _ _ (fun j => (head D n (qhd kh j)).p) (fun j => (head D n (qhd kh j)).o)
    (pb_coe hB hi _) (pb_coe hB hi _) (pb_coe hB hi _) (pb_coe hB hi _) (oh_coe hB _) (oh_coe hB _) (oh_coe hB _) (oh_coe hB _) s d

end Cert.KernelIdeal.Attn

end
-- ==== Proof.Attn.Canons.lean ====
module

public import proofs.«01_k».proof.Proof.Attn.BlockVal
public import proofs.«01_k».proof.Proof.Attn.Cover

@[expose] public section

set_option maxRecDepth 16384

noncomputable section

namespace Cert.KernelIdeal.Attn

open Idealize.ShloMosaic Idealize.ShloMosaic.TcCoe
open Cert.KernelIdeal.Gen
open Cert.Attn (Head coe_sum Data head Sees row col kcol prev kv qhd gradQ keys2 vals2)
open Classical

/-! What one point's stores leave, at the ideal values. -/

/-- A place of the query heads' columns, read in the columns of head `h'`. -/
theorem emb_rq (h h' : Fin 16) (a x : Fin 128) (d e : Fin 64) (he : (rq h').emb (ix2 x e) = ix2 a (col h d)) : h' = h ∧ x = a ∧ e = d := by
  have e0 : 0 + 1 * x.val = a.val := congrArg Fin.val (congrFun he 0)
  have e1 : 64 * h'.val + 1 * e.val = 64 * h.val + d.val := congrArg Fin.val (congrFun he 1)
  refine ⟨Fin.ext ?_, Fin.ext ?_, Fin.ext ?_⟩ <;> omega

theorem emb_rk (h h' : Fin 4) (a x : Fin 128) (d e : Fin 64) (he : (rk h').emb (ix2 x e) = ix2 a (kcol h d)) : h' = h ∧ x = a ∧ e = d := by
  have e0 : 0 + 1 * x.val = a.val := congrArg Fin.val (congrFun he 0)
  have e1 : 64 * h'.val + 1 * e.val = 64 * h.val + d.val := congrArg Fin.val (congrFun he 1)
  refine ⟨Fin.ext ?_, Fin.ext ?_, Fin.ext ?_⟩ <;> omega

theorem emb_rs (h h' : Fin 16) (z : Fin 1) (l e : Fin 128) (he : (rs h').emb (ix2 z e) = ix2 h l) : h' = h ∧ e = l := by
  have e0 : h'.val + 1 * z.val = h.val := congrArg Fin.val (congrFun he 0)
  have e1 : 0 + 1 * e.val = l.val := congrArg Fin.val (congrFun he 1)
  refine ⟨Fin.ext ?_, Fin.ext ?_⟩ <;> omega

theorem ld_rk (x : Vec Ideal S128x256 .f32) (kh : Fin 4) (a : Fin 128) (d : Fin 64) : View.ld x (rk kh) (ix2 a d) = x (ix2 a (kcol kh d)) := by
  pointwise []
  rfl

theorem ld_rs (x : Vec Ideal S16x128 .f32) (h : Fin 16) (l : Fin 128) : View.ld x (rs h) (ix2 0 l) = x (ix2 h l) := by
  pointwise []

variable {D : Data} {n : Fin 32} {B : Blocks Ideal} (hB : Reads D n B) {i : grid0.Coords} (hi : (i 0 : ℕ) = n.val)

include hB hi

/-- The queries' gradient a point leaves. -/
theorem canon_dq (a : Fin 128) (h : Fin 16) (d : Fin 64) :
    View.canon (B.dqPieces i) (ix2 a (col h d)) = ((gradQ D n a h d : ℝ) : EReal) := by
  refine View.canon_eq_of_allAt _ _ _ (cover_dq B i _) ?_
  intro p hp x hx
  obtain ⟨h', -, rfl⟩ := List.mem_map.1 hp
  obtain ⟨x0, x1, rfl⟩ : ∃ (x0 : Fin 128) (x1 : Fin 64), x = ix2 x0 x1 := ⟨x 0, x 1, eq_ix2 x⟩
  obtain ⟨rfl, rfl, rfl⟩ := emb_rq h h' a x0 d x1 hx
  exact dq_coe hB hi h' x0 x1

/-- What a point carries for the keys. -/
theorem canon_ck (a : Fin 128) (kh : Fin 4) (d : Fin 64) :
    View.canon (B.ckPieces i) (ix2 a (kcol kh d)) = ((keys2 D n kh ⟨a.val + 128, by omega⟩ d : ℝ) : EReal) := by
  refine View.canon_eq_of_allAt _ _ _ (cover_ck B i _) ?_
  intro p hp x hx
  obtain ⟨h', -, rfl⟩ := List.mem_map.1 hp
  obtain ⟨x0, x1, rfl⟩ : ∃ (x0 : Fin 128) (x1 : Fin 64), x = ix2 x0 x1 := ⟨x 0, x 1, eq_ix2 x⟩
  obtain ⟨rfl, rfl, rfl⟩ := emb_rk kh h' a x0 d x1 hx
  refine Eq.trans ?_ (dk2_coe hB hi h' ⟨x0.val + 128, by omega⟩ x1)
  pointwise [upper]
  congr 3; omega

/-- What a point carries for the values. -/
theorem canon_cv (a : Fin 128) (kh : Fin 4) (d : Fin 64) :
    View.canon (B.cvPieces i) (ix2 a (kcol kh d)) = ((vals2 D n kh ⟨a.val + 128, by omega⟩ d : ℝ) : EReal) := by
  refine View.canon_eq_of_allAt _ _ _ (cover_cv B i _) ?_
  intro p hp x hx
  obtain ⟨h', -, rfl⟩ := List.mem_map.1 hp
  obtain ⟨x0, x1, rfl⟩ : ∃ (x0 : Fin 128) (x1 : Fin 64), x = ix2 x0 x1 := ⟨x 0, x 1, eq_ix2 x⟩
  obtain ⟨rfl, rfl, rfl⟩ := emb_rk kh h' a x0 d x1 hx
  refine Eq.trans ?_ (dv2_coe hB hi h' ⟨x0.val + 128, by omega⟩ x1)
  pointwise [upper]
  congr 3; omega

/-- The keys' gradient a point leaves, over what was carried. -/
theorem canon_dk (ck : Vec Ideal S128x256 .f32) (a : Fin 128) (kh : Fin 4) (d : Fin 64) :
    View.canon (B.dkPieces i ck) (ix2 a (kcol kh d)) = ck (ix2 a (kcol kh d)) + ((keys2 D n kh ⟨a.val, by omega⟩ d : ℝ) : EReal) := by
  refine View.canon_eq_of_allAt _ _ _ (cover_dk B i ck _) ?_
  intro p hp x hx
  obtain ⟨h', -, rfl⟩ := List.mem_map.1 hp
  obtain ⟨x0, x1, rfl⟩ : ∃ (x0 : Fin 128) (x1 : Fin 64), x = ix2 x0 x1 := ⟨x 0, x 1, eq_ix2 x⟩
  obtain ⟨rfl, rfl, rfl⟩ := emb_rk kh h' a x0 d x1 hx
  refine Eq.trans ?_ (congrArg₂ (fun u v : EReal => u + v) (ld_rk ck h' x0 x1) (dk2_coe hB hi h' ⟨x0.val, by omega⟩ x1))
  pointwise [lower]

/-- The values' gradient a point leaves, over what was carried. -/
theorem canon_dv (cv : Vec Ideal S128x256 .f32) (a : Fin 128) (kh : Fin 4) (d : Fin 64) :
    View.canon (B.dvPieces i cv) (ix2 a (kcol kh d)) = cv (ix2 a (kcol kh d)) + ((vals2 D n kh ⟨a.val, by omega⟩ d : ℝ) : EReal) := by
  refine View.canon_eq_of_allAt _ _ _ (cover_dv B i cv _) ?_
  intro p hp x hx
  obtain ⟨h', -, rfl⟩ := List.mem_map.1 hp
  obtain ⟨x0, x1, rfl⟩ : ∃ (x0 : Fin 128) (x1 : Fin 64), x = ix2 x0 x1 := ⟨x 0, x 1, eq_ix2 x⟩
  obtain ⟨rfl, rfl, rfl⟩ := emb_rk kh h' a x0 d x1 hx
  refine Eq.trans ?_ (congrArg₂ (fun u v : EReal => u + v) (ld_rk cv h' x0 x1) (dv2_coe hB hi h' ⟨x0.val, by omega⟩ x1))
  pointwise [lower]

/-- The sinks' gradient a point leaves, over what was there. -/
theorem canon_ds (old : Vec Ideal S16x128 .f32) (h : Fin 16) (l : Fin 128) :
    View.canon (B.dsPieces i old) (ix2 h l) = old (ix2 h l) + (((head D n h).ds : ℝ) : EReal) := by
  refine View.canon_eq_of_allAt _ _ _ (cover_ds B i old _) ?_
  intro p hp x hx
  obtain ⟨h', -, rfl⟩ := List.mem_map.1 hp
  obtain ⟨x0, x1, rfl⟩ : ∃ (x0 : Fin 1) (x1 : Fin 128), x = ix2 x0 x1 := ⟨x 0, x 1, eq_ix2 x⟩
  obtain ⟨rfl, rfl⟩ := emb_rs h h' x0 l x1 hx
  obtain rfl : x0 = 0 := Subsingleton.elim _ _
  exact (dsRow_coe hB hi _ h' x1).trans (congrArg (fun u : EReal => u + _) (ld_rs old h' x1))

end Cert.KernelIdeal.Attn

end
-- ==== Proof.Attn.Final.lean ====
module

public import proofs.«01_k».proof.Proof.Attn.Canons
public import proofs.«01_k».proof.Proof.Attn.State
public import Idealize.ShloMosaic.Lib.Pipeline.ValueKit

@[expose] public section

set_option maxRecDepth 16384

noncomputable section

namespace Cert.KernelIdeal.Attn

open Idealize.ShloMosaic Idealize.ShloMosaic.TcCoe
open Idealize.ShloMosaic.Pipeline (Dat Cfg Window)
open Cert.KernelIdeal.Gen
open Cert.Attn (Head coe_sum Data head Sees row col kcol prev kv qhd gradQ keys2 vals2 fold2 gradS arrQ arrK arrQ_eq arrK_eq)
open Classical

/-! The four results of the call, at the ideal values. -/

theorem idxs : ∀ t : Fin cfg0.N, win0_0.index t = ![0, 0] ∧ win0_1.index t = ![min t.val 31, 0] ∧ win0_2.index t = ![min t.val 31, 0]
    ∧ win0_3.index t = ![min t.val 31, 0] ∧ win0_4.index t = ![t.val - 1, 0] ∧ win0_5.index t = ![min t.val 31, 0] ∧ win0_6.index t = ![t.val - 1, 0]
    ∧ win0_7.index t = ![min t.val 31, 0] ∧ win0_8.index t = ![t.val - 1, 0] ∧ win0_9.index t = ![t.val - 1, 0] ∧ win0_10.index t = ![0, 0]
    ∧ (grid0.coords t 0 : ℕ) = t.val :=
  (by decide +kernel : ∀ t : Fin grid0.N, _)

variable (m : (ℓ : Loc nD τ sig) → Buf (Elt Ideal) ℓ) (c : Dev nD) (D : Data)

/-- The five arguments are the reals of `D`. -/
structure IsData : Prop where
  Q : ∀ x e, m ((c.tc : Thread nD τ).loc main_arg0) (ix2 x e) = ((D.Q x e : ℝ) : EReal)
  K : ∀ x e, m ((c.tc : Thread nD τ).loc main_arg1) (ix2 x e) = ((D.K x e : ℝ) : EReal)
  V : ∀ x e, m ((c.tc : Thread nD τ).loc main_arg2) (ix2 x e) = ((D.V x e : ℝ) : EReal)
  O : ∀ x e, m ((c.tc : Thread nD τ).loc main_arg3) (ix2 x e) = ((D.O x e : ℝ) : EReal)
  S : ∀ h, m ((c.tc : Thread nD τ).loc main_arg4) (ix2 0 h) = ((D.S h : ℝ) : EReal)

variable {m c D} (hD : IsData m c D)

include hD

/-- What point `n` reads. -/
theorem reads (n : Fin 32) (t : Fin cfg0.N) (ht : t.val = n.val) : Reads D n (blk m c t) where
  s h := by
    refine Eq.trans ?_ (hD.S h)
    show iblk m c 0 t (ix2 0 h) = _
    blk_ext [iblk, V, idxs t]
  q a e := by
    refine Eq.trans ?_ (hD.Q (row n a) e)
    show iblk m c 1 t (ix2 a e) = _
    blk_ext [iblk, V, idxs t, row]
  o a e := by
    refine Eq.trans ?_ (hD.O (row n a) e)
    show iblk m c 2 t (ix2 a e) = _
    blk_ext [iblk, V, idxs t, row]
  kc a e := by
    refine Eq.trans ?_ (hD.K (row n a) e)
    show iblk m c 3 t (ix2 a e) = _
    blk_ext [iblk, V, idxs t, row]
  kp a e := by
    refine Eq.trans ?_ (hD.K (row (prev n) a) e)
    show iblk m c 4 t (ix2 a e) = _
    blk_ext [iblk, V, idxs t, row, prev]
  vc a e := by
    refine Eq.trans ?_ (hD.V (row n a) e)
    show iblk m c 5 t (ix2 a e) = _
    blk_ext [iblk, V, idxs t, row]
  vp a e := by
    refine Eq.trans ?_ (hD.V (row (prev n) a) e)
    show iblk m c 6 t (ix2 a e) = _
    blk_ext [iblk, V, idxs t, row, prev]

/-- The block whose queries position `k` computed last. -/
def bk (k : ℕ) : Fin 32 := ⟨min k 31, by omega⟩

omit hD in
theorem pt_coord (k : ℕ) : (grid0.coords (pt k) 0 : ℕ) = (bk k).val := by
  rw [(idxs (pt k)).2.2.2.2.2.2.2.2.2.2.2]; rfl

theorem reads_pt (k : ℕ) : Reads D (bk k) (blk m c (pt k)) := reads hD (bk k) (pt k) rfl

theorem dqAt_coe (k : ℕ) (a : Fin 128) (h : Fin 16) (d : Fin 64) : dqAt m c k (ix2 a (col h d)) = ((gradQ D (bk k) a h d : ℝ) : EReal) :=
  canon_dq (reads_pt hD k) (pt_coord k) a h d

theorem ckAt_coe (k : ℕ) (a : Fin 128) (h : Fin 4) (d : Fin 64) :
    ckAt m c k (ix2 a (kcol h d)) = ((keys2 D (bk k) h ⟨a.val + 128, by omega⟩ d : ℝ) : EReal) :=
  canon_ck (reads_pt hD k) (pt_coord k) a h d

theorem cvAt_coe (k : ℕ) (a : Fin 128) (h : Fin 4) (d : Fin 64) :
    cvAt m c k (ix2 a (kcol h d)) = ((vals2 D (bk k) h ⟨a.val + 128, by omega⟩ d : ℝ) : EReal) :=
  canon_cv (reads_pt hD k) (pt_coord k) a h d

theorem dkAt_coe (t : Fin cfg0.N) (h0 : t.val ≠ 0) (n : Fin 32) (hn : n.val = t.val - 1) (a : Fin 128) (h : Fin 4) (d : Fin 64) :
    dkAt m c t (ix2 a (kcol h d)) = ((fold2 (keys2 D) n h a d : ℝ) : EReal) := by
  have hb : bk (t.val - 1) = n := Fin.ext (by show min (t.val - 1) 31 = n.val; omega)
  have h33 := lt33 t
  by_cases ht : t.val < 32
  · rw [dkAt_mid m c t h0 ht, canon_dk (n := ⟨t.val, ht⟩) (reads hD ⟨t.val, ht⟩ t rfl) (idxs t).2.2.2.2.2.2.2.2.2.2.2, ckAt_coe hD, hb, ← EReal.coe_add]
    have e : n.val + 1 = t.val := by omega
    unfold fold2
    rw [dif_pos (by omega)]
    simp only [e]
  · rw [dkAt_last m c t h0 ht, ckAt_coe hD, hb]
    unfold fold2
    rw [dif_neg (by omega), add_zero]

theorem dvAt_coe (t : Fin cfg0.N) (h0 : t.val ≠ 0) (n : Fin 32) (hn : n.val = t.val - 1) (a : Fin 128) (h : Fin 4) (d : Fin 64) :
    dvAt m c t (ix2 a (kcol h d)) = ((fold2 (vals2 D) n h a d : ℝ) : EReal) := by
  have hb : bk (t.val - 1) = n := Fin.ext (by show min (t.val - 1) 31 = n.val; omega)
  have h33 := lt33 t
  by_cases ht : t.val < 32
  · rw [dvAt_mid m c t h0 ht, canon_dv (n := ⟨t.val, ht⟩) (reads hD ⟨t.val, ht⟩ t rfl) (idxs t).2.2.2.2.2.2.2.2.2.2.2, cvAt_coe hD, hb, ← EReal.coe_add]
    have e : n.val + 1 = t.val := by omega
    unfold fold2
    rw [dif_pos (by omega)]
    simp only [e]
  · rw [dvAt_last m c t h0 ht, cvAt_coe hD, hb]
    unfold fold2
    rw [dif_neg (by omega), add_zero]

/-- The sinks' gradient after position `k`: the sum over the blocks so far. -/
theorem dsAt_coe (k : ℕ) (hk : k < 32) (h : Fin 16) (l : Fin 128) :
    dsAt m c k (ix2 h l) = ((∑ n : Fin (k + 1), (head D (bk n.val) h).ds : ℝ) : EReal) := by
  induction k with
  | zero =>
    show View.canon ((blk m c (pt 0)).dsPieces (grid0.coords (pt 0)) (k0_pay3 (F := Ideal))) (ix2 h l) = _
    rw [canon_ds (reads_pt hD 0) (pt_coord 0), Fin.sum_univ_one]
    have : (k0_pay3 (F := Ideal) : FVec Ideal S16x128 .f32) (ix2 h l) = 0 := by pointwise [k0_pay3]
    rw [this, zero_add]; rfl
  | succ k ih =>
    show (if k + 1 < 32 then View.canon ((blk m c (pt (k + 1))).dsPieces (grid0.coords (pt (k + 1))) (dsAt m c k)) else dsAt m c k) (ix2 h l) = _
    rw [if_pos hk, canon_ds (reads_pt hD (k + 1)) (pt_coord (k + 1)), ih (by omega), Fin.sum_univ_castSucc (n := k + 1), ← EReal.coe_add]
    rfl

theorem dsAt_end (h : Fin 16) (l : Fin 128) : dsAt m c 32 (ix2 h l) = ((gradS D h : ℝ) : EReal) := by
  rw [dsAt_last m c 32 rfl, dsAt_coe hD (32 - 1) (by omega)]
  refine congrArg Real.toEReal (Finset.sum_congr rfl fun n _ => ?_)
  rw [show bk n.val = n from Fin.ext (by show min n.val 31 = n.val; have := n.isLt; omega)]

/-! ## The arrays after the call -/

omit hD in
theorem emb7 (t : Fin cfg0.N) (y0 : Fin 128) (y1 : Fin 1024) :
    ((((cfg0.win 7).blk t).view.emb (ix2 y0 y1)) 0).val = 128 * min t.val 31 + y0.val ∧ ((((cfg0.win 7).blk t).view.emb (ix2 y0 y1)) 1).val = y1.val := by
  constructor
  · blk_simp [idxs t]; omega
  · blk_simp [idxs t]

omit hD in
theorem emb8 (t : Fin cfg0.N) (y0 : Fin 128) (y1 : Fin 256) :
    ((((cfg0.win 8).blk t).view.emb (ix2 y0 y1)) 0).val = 128 * (t.val - 1) + y0.val ∧ ((((cfg0.win 8).blk t).view.emb (ix2 y0 y1)) 1).val = y1.val := by
  constructor
  · blk_simp [idxs t]; omega
  · blk_simp [idxs t]

omit hD in
theorem emb9 (t : Fin cfg0.N) (y0 : Fin 128) (y1 : Fin 256) :
    ((((cfg0.win 9).blk t).view.emb (ix2 y0 y1)) 0).val = 128 * (t.val - 1) + y0.val ∧ ((((cfg0.win 9).blk t).view.emb (ix2 y0 y1)) 1).val = y1.val := by
  constructor
  · blk_simp [idxs t]; omega
  · blk_simp [idxs t]

omit hD in
theorem emb10 (t : Fin cfg0.N) (y0 : Fin 16) (y1 : Fin 128) :
    ((((cfg0.win 10).blk t).view.emb (ix2 y0 y1)) 0).val = y0.val := by
  blk_simp [idxs t]

/-- The queries' gradient after the call. -/
theorem final_dq : (dats m 0 c).arrAt 7 (cfgs 0).N = fun i : S4096x1024.Idx => ((arrQ (gradQ D) (i 0) (i 1) : ℝ) : EReal) := by
  refine (dats m 0 c).arrAt_eq_of_covers 7 _ (by decide +kernel) fun t hf y => ?_
  obtain ⟨y0, y1, rfl⟩ : ∃ (y0 : Fin 128) (y1 : Fin 1024), y = ix2 y0 y1 := ⟨y 0, y 1, eq_ix2 y⟩
  have e := emb7 t y0 y1
  have e1 : y1 = col ⟨y1.val / 64, by omega⟩ ⟨y1.val % 64, by omega⟩ := Fin.ext (by show y1.val = 64 * (y1.val / 64) + y1.val % 64; omega)
  have hx := arrQ_eq (gradQ D) (bk t.val) y0 ⟨y1.val / 64, by omega⟩ ⟨y1.val % 64, by omega⟩ _ _ e.1 (e.2.trans (by show y1.val = 64 * (y1.val / 64) + y1.val % 64; omega))
  have hy := (congrArg (fun z => dqAt m c t.val (ix2 y0 z)) e1).trans (dqAt_coe hD t.val y0 _ _)
  blk_simp
  rw [after7]
  exact hy.trans (congrArg Real.toEReal hx.symm)

/-- The keys' gradient after the call. -/
theorem final_dk : (dats m 0 c).arrAt 8 (cfgs 0).N = fun i : S4096x256.Idx => ((arrK (fold2 (keys2 D)) (i 0) (i 1) : ℝ) : EReal) := by
  refine (dats m 0 c).arrAt_eq_of_covers 8 _ (by decide +kernel) fun t hf y => ?_
  obtain ⟨y0, y1, rfl⟩ : ∃ (y0 : Fin 128) (y1 : Fin 256), y = ix2 y0 y1 := ⟨y 0, y 1, eq_ix2 y⟩
  have h0 : t.val ≠ 0 := of_decide_eq_true ((flush_dk t).symm.trans hf)
  have h33 := lt33 t
  have e := emb8 t y0 y1
  have e1 : y1 = kcol ⟨y1.val / 64, by omega⟩ ⟨y1.val % 64, by omega⟩ := Fin.ext (by show y1.val = 64 * (y1.val / 64) + y1.val % 64; omega)
  have hx := arrK_eq (fold2 (keys2 D)) ⟨t.val - 1, by omega⟩ y0 ⟨y1.val / 64, by omega⟩ ⟨y1.val % 64, by omega⟩ _ _ e.1 (e.2.trans (by show y1.val = 64 * (y1.val / 64) + y1.val % 64; omega))
  have hy := (congrArg (fun z => dkAt m c t (ix2 y0 z)) e1).trans (dkAt_coe hD t h0 ⟨t.val - 1, by omega⟩ rfl y0 _ _)
  blk_simp
  rw [after8]
  exact hy.trans (congrArg Real.toEReal hx.symm)

/-- The values' gradient after the call. -/
theorem final_dv : (dats m 0 c).arrAt 9 (cfgs 0).N = fun i : S4096x256.Idx => ((arrK (fold2 (vals2 D)) (i 0) (i 1) : ℝ) : EReal) := by
  refine (dats m 0 c).arrAt_eq_of_covers 9 _ (by decide +kernel) fun t hf y => ?_
  obtain ⟨y0, y1, rfl⟩ : ∃ (y0 : Fin 128) (y1 : Fin 256), y = ix2 y0 y1 := ⟨y 0, y 1, eq_ix2 y⟩
  have h0 : t.val ≠ 0 := of_decide_eq_true ((flush_dv t).symm.trans hf)
  have h33 := lt33 t
  have e := emb9 t y0 y1
  have e1 : y1 = kcol ⟨y1.val / 64, by omega⟩ ⟨y1.val % 64, by omega⟩ := Fin.ext (by show y1.val = 64 * (y1.val / 64) + y1.val % 64; omega)
  have hx := arrK_eq (fold2 (vals2 D)) ⟨t.val - 1, by omega⟩ y0 ⟨y1.val / 64, by omega⟩ ⟨y1.val % 64, by omega⟩ _ _ e.1 (e.2.trans (by show y1.val = 64 * (y1.val / 64) + y1.val % 64; omega))
  have hy := (congrArg (fun z => dvAt m c t (ix2 y0 z)) e1).trans (dvAt_coe hD t h0 ⟨t.val - 1, by omega⟩ rfl y0 _ _)
  blk_simp
  rw [after9]
  exact hy.trans (congrArg Real.toEReal hx.symm)

/-- The sinks' gradient after the call. -/
theorem final_ds : (dats m 0 c).arrAt 10 (cfgs 0).N = fun i : S16x128.Idx => ((gradS D (i 0) : ℝ) : EReal) := by
  refine (dats m 0 c).arrAt_eq_of_covers 10 _ (by decide +kernel) fun t hf y => ?_
  obtain ⟨y0, y1, rfl⟩ : ∃ (y0 : Fin 16) (y1 : Fin 128), y = ix2 y0 y1 := ⟨y 0, y 1, eq_ix2 y⟩
  have ht : t.val = 32 := of_decide_eq_true ((flush_ds t).symm.trans hf)
  have hx := congrArg (gradS D) (Fin.ext (emb10 t y0 y1))
  have hy := dsAt_end hD y0 y1
  blk_simp
  rw [after10, ht]
  exact hy.trans (congrArg Real.toEReal hx.symm)

omit hD in
/-- The call ends with the four gradients in its results, its arguments untouched. -/
theorem values (D : Dev nD → Data) (hD : ∀ c, IsData m c (D c)) (ρ : Dev nD → PrngReg) :
    θ_run (defs (F := Ideal)) (onTc main) (s₀ m ρ) (fun r => ∀ c : Dev nD,
      r.2.mem ((c.tc : Thread nD τ).loc main_v0_0) = (fun i : S4096x1024.Idx => ((arrQ (gradQ (D c)) (i 0) (i 1) : ℝ) : EReal))
      ∧ r.2.mem ((c.tc : Thread nD τ).loc main_v0_1) = (fun i : S4096x256.Idx => ((arrK (fold2 (keys2 (D c))) (i 0) (i 1) : ℝ) : EReal))
      ∧ r.2.mem ((c.tc : Thread nD τ).loc main_v0_2) = (fun i : S4096x256.Idx => ((arrK (fold2 (vals2 (D c))) (i 0) (i 1) : ℝ) : EReal))
      ∧ r.2.mem ((c.tc : Thread nD τ).loc main_v0_3) = (fun i : S16x128.Idx => ((gradS (D c) (i 0) : ℝ) : EReal))) := by
  refine (θ_run (defs (F := Ideal)) _ _).mono (fun r h c => ?_) (run_main m ρ)
  exact ⟨(h.out_eq c 7).trans (final_dq (hD c)), (h.out_eq c 8).trans (final_dk (hD c)), (h.out_eq c 9).trans (final_dv (hD c)), (h.out_eq c 10).trans (final_ds (hD c))⟩

end Cert.KernelIdeal.Attn

end
-- ==== Proof.Attn.RefA.lean ====
module

public import proofs.«01_k».proof.Proof.Gen.ReferenceIdeal.Read
public import proofs.«01_k».proof.Proof.Attn.Spec
public import Idealize.ShloMosaic.Lib.Pointwise
public import Idealize.ShloMosaic.Lib.WordCmp

@[expose] public section

set_option maxRecDepth 16384

noncomputable section

namespace Cert.ReferenceIdeal.Attn

open Idealize.ShloMosaic Idealize.ShloMosaic.TcCoe
open Cert.ReferenceIdeal.Gen Cert.ReferenceIdeal.Read
open Cert.Attn
open Classical

/-! The reference's forward pass at the ideal values, place by place. -/

/-- The five arguments are the reals of `D`. -/
structure Args (D : Data) (x0 : (⟨S4096x1024, .bf16⟩ : BufTy).Contents (Elt Ideal)) (x1 x2 : (⟨S4096x256, .bf16⟩ : BufTy).Contents (Elt Ideal))
    (x3 : (⟨S4096x1024, .bf16⟩ : BufTy).Contents (Elt Ideal)) (x4 : (⟨S1x16, .f32⟩ : BufTy).Contents (Elt Ideal)) : Prop where
  Q : ∀ x e, x0 (ix2 x e) = ((D.Q x e : ℝ) : EReal)
  K : ∀ x e, x1 (ix2 x e) = ((D.K x e : ℝ) : EReal)
  V : ∀ x e, x2 (ix2 x e) = ((D.V x e : ℝ) : EReal)
  O : ∀ x e, x3 (ix2 x e) = ((D.O x e : ℝ) : EReal)
  S : ∀ h, x4 (ix2 0 h) = ((D.S h : ℝ) : EReal)

theorem kv_qhd (kh g : Fin 4) : kv (qhd kh g) = kh := Fin.ext (by show (4 * kh.val + g.val) / 4 = kh.val; omega)

variable {D : Data} {x0 : (⟨S4096x1024, .bf16⟩ : BufTy).Contents (Elt Ideal)} {x1 x2 : (⟨S4096x256, .bf16⟩ : BufTy).Contents (Elt Ideal)}
  {x3 : (⟨S4096x1024, .bf16⟩ : BufTy).Contents (Elt Ideal)} {x4 : (⟨S1x16, .f32⟩ : BufTy).Contents (Elt Ideal)} (hA : Args D x0 x1 x2 x3 x4)

include hA

theorem v6_coe (n : Fin 32) (a : Fin 128) (kh : Fin 4) (d : Fin 64) :
    val_main_v6 (F := Ideal) x1 (ix5 0 n a kh d) = ((D.K (row n a) (kcol kh d) : ℝ) : EReal) := by
  refine Eq.trans ?_ (hA.K _ _)
  pointwise [val_main_v6, val_main_v3, val_main_v2]
  exact congrArg₂ (fun u v => x1 (ix2 u v)) (Fin.ext (by show n.val * 128 + a.val = 128 * n.val + a.val; omega)) (Fin.ext (by show kh.val * 64 + d.val = 64 * kh.val + d.val; omega))

theorem v13_coe (n : Fin 32) (a : Fin 128) (kh : Fin 4) (d : Fin 64) :
    val_main_v13 (F := Ideal) x2 (ix5 0 n a kh d) = ((D.V (row n a) (kcol kh d) : ℝ) : EReal) := by
  refine Eq.trans ?_ (hA.V _ _)
  pointwise [val_main_v13, val_main_v5, val_main_v4]
  exact congrArg₂ (fun u v => x2 (ix2 u v)) (Fin.ext (by show n.val * 128 + a.val = 128 * n.val + a.val; omega)) (Fin.ext (by show kh.val * 64 + d.val = 64 * kh.val + d.val; omega))

omit hA in
theorem v10_apply (n : Fin 32) (a : Fin 128) (kh : Fin 4) (d : Fin 64) :
    val_main_v10 (F := Ideal) x1 (ix5 0 n a kh d) = if h : n.val = 0 then 0 else val_main_v6 (F := Ideal) x1 (ix5 0 (prev n) a kh d) := by
  pointwise [val_main_v10, val_main_v8, val_main_v9, val_main_cst]
  by_cases h : n.val < 1
  · rw [dif_pos h, dif_pos (by omega)]
  · rw [dif_neg h, dif_neg (by omega)]; rfl

omit hA in
theorem v17_apply (n : Fin 32) (a : Fin 128) (kh : Fin 4) (d : Fin 64) :
    val_main_v17 (F := Ideal) x2 (ix5 0 n a kh d) = if h : n.val = 0 then 0 else val_main_v13 (F := Ideal) x2 (ix5 0 (prev n) a kh d) := by
  pointwise [val_main_v17, val_main_v15, val_main_v16, val_main_cst_1]
  by_cases h : n.val < 1
  · rw [dif_pos h, dif_pos (by omega)]
  · rw [dif_neg h, dif_neg (by omega)]; rfl

/-- The keys of two blocks, zero before the first. -/
theorem v12_coe (n : Fin 32) (s : Fin 256) (kh : Fin 4) (d : Fin 64) :
    val_main_v12 (F := Ideal) x1 (ix5 0 n s kh d) = ((two0 D.K n kh s d : ℝ) : EReal) := by
  pointwise [val_main_v12]
  unfold two0
  split
  · rw [v10_apply]
    split
    · rfl
    · rw [v6_coe hA]
  · rw [v6_coe hA]

/-- The values of two blocks, zero before the first. -/
theorem v19_coe (n : Fin 32) (s : Fin 256) (kh : Fin 4) (d : Fin 64) :
    val_main_v19 (F := Ideal) x2 (ix5 0 n s kh d) = ((two0 D.V n kh s d : ℝ) : EReal) := by
  pointwise [val_main_v19]
  unfold two0
  split
  · rw [v17_apply]
    split
    · rfl
    · rw [v13_coe hA]
  · rw [v13_coe hA]

theorem v20_coe (n : Fin 32) (a : Fin 128) (kh g : Fin 4) (d : Fin 64) :
    val_main_v20 (F := Ideal) x0 (ix6 0 n a kh g d) = (((head0 D n (qhd kh g)).q a d : ℝ) : EReal) := by
  refine Eq.trans ?_ (hA.Q (row n a) (col (qhd kh g) d))
  pointwise [val_main_v20, val_main_v1, val_main_v0]
  exact congrArg₂ (fun u v => x0 (ix2 u v)) (Fin.ext (by show n.val * 128 + a.val = 128 * n.val + a.val; omega))
    (Fin.ext (by show kh.val * 256 + g.val * 64 + d.val = 64 * (4 * kh.val + g.val) + d.val; omega))

theorem v102_coe (n : Fin 32) (a : Fin 128) (kh g : Fin 4) (d : Fin 64) :
    val_main_v102 (F := Ideal) x3 (ix6 0 n a kh g d) = (((head0 D n (qhd kh g)).o a d : ℝ) : EReal) := by
  refine Eq.trans ?_ (hA.O (row n a) (col (qhd kh g) d))
  pointwise [val_main_v102, val_main_v101, val_main_v100]
  exact congrArg₂ (fun u v => x3 (ix2 u v)) (Fin.ext (by show n.val * 128 + a.val = 128 * n.val + a.val; omega))
    (Fin.ext (by show kh.val * 256 + g.val * 64 + d.val = 64 * (4 * kh.val + g.val) + d.val; omega))

theorem k_coe (n : Fin 32) (s : Fin 256) (kh g : Fin 4) (d : Fin 64) :
    val_main_v12 (F := Ideal) x1 (ix5 0 n s kh d) = (((head0 D n (qhd kh g)).k s d : ℝ) : EReal) := by
  rw [v12_coe hA]; show _ = ((two0 D.K n (kv (qhd kh g)) s d : ℝ) : EReal); rw [kv_qhd]

theorem v_coe (n : Fin 32) (s : Fin 256) (kh g : Fin 4) (d : Fin 64) :
    val_main_v19 (F := Ideal) x2 (ix5 0 n s kh d) = (((head0 D n (qhd kh g)).v s d : ℝ) : EReal) := by
  rw [v19_coe hA]; show _ = ((two0 D.V n (kv (qhd kh g)) s d : ℝ) : EReal); rw [kv_qhd]

theorem v22_coe (n : Fin 32) (kh g : Fin 4) (a : Fin 128) (s : Fin 256) :
    val_main_v22 (F := Ideal) x0 x1 (ix6 0 n kh g a s) = (((head0 D n (qhd kh g)).sc a s : ℝ) : EReal) := by
  pointwise [val_main_v22, val_main_v21]
  unfold Head.sc; rw [coe_sum]
  exact Finset.sum_congr rfl fun d _ => by rw [k_coe hA n s kh g, v20_coe hA, mul_comm, EReal.coe_mul]

omit hA in
theorem coe_max (x y : ℝ) : ((max x y : ℝ) : EReal) = max (x : EReal) (y : EReal) := EReal.coe_strictMono.monotone.map_max

omit hA in
theorem ofInt_sub (x y : Int) : BitVec.ofInt 32 (x - y) = BitVec.ofInt 32 x - BitVec.ofInt 32 y := by
  rw [Int.sub_eq_add_neg, BitVec.ofInt_add, BitVec.ofInt_neg, BitVec.sub_eq_add_neg]

omit hA in
theorem inf_bits : Ideal.ofBits .f32 2139095040#32 = (⊤ : EReal) := by
  simp [Ideal.ofBits, Ideal.ieee]

omit hA in
theorem coe_ne_inf (x : ℝ) : ¬((x : EReal) = Ideal.ofBits .f32 2139095040#32) := by
  rw [inf_bits]; exact EReal.coe_ne_top x

omit hA in
theorem toInt_ofInt (z : Int) (h : -2147483648 ≤ z) (h' : z < 2147483648) : (BitVec.ofInt 32 z).toInt = z := by
  rw [BitVec.toInt_ofInt]
  exact Int.bmod_eq_of_le (by show -(4294967296 / 2 : Int) ≤ z; omega) (by show z < (4294967296 + 1) / 2; omega)

omit hA in
/-- The reference's mask. -/
theorem v52_apply (n : Fin 32) (a : Fin 128) (s : Fin 256) :
    val_main_v52 (F := Ideal) (ix3 n a s) = if Sees n a s then 1#1 else 0#1 := by
  pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_c, val_main_c_3, val_main_c_4, val_main_c_5, val_main_c_6, val_main_c_7]
  have e (k : ℕ) : BitVec.ofNat 32 k = BitVec.ofInt 32 (k : Int) := (BitVec.ofInt_natCast 32 k).symm
  have kp : IntOp.addi (IntOp.muli (IntOp.subi (BitVec.ofNat 32 n.val) 1#32) 128#32) (BitVec.ofNat 32 s.val) = BitVec.ofInt 32 (((n.val : Int) - 1) * 128 + s.val) := by
    show (BitVec.ofNat 32 n.val - BitVec.ofInt 32 1) * BitVec.ofInt 32 128 + BitVec.ofNat 32 s.val = _
    rw [e, e, ← ofInt_sub, ← BitVec.ofInt_mul, ← BitVec.ofInt_add]
  have qp : IntOp.addi (IntOp.muli (BitVec.ofNat 32 n.val) 128#32) (BitVec.ofNat 32 a.val) = BitVec.ofInt 32 ((n.val : Int) * 128 + a.val) := by
    show BitVec.ofNat 32 n.val * BitVec.ofInt 32 128 + BitVec.ofNat 32 a.val = _
    rw [e, e, ← BitVec.ofInt_mul, ← BitVec.ofInt_add]
  have rp : IntOp.subi (BitVec.ofInt 32 ((n.val : Int) * 128 + a.val)) (BitVec.ofInt 32 (((n.val : Int) - 1) * 128 + s.val)) = BitVec.ofInt 32 ((a.val : Int) + 128 - s.val) := by
    show BitVec.ofInt 32 _ - BitVec.ofInt 32 _ = _
    rw [← ofInt_sub]; congr 1; omega
  rw [kp, qp, rp, WordCmp.cmpi_sge_eq, WordCmp.cmpi_sge_eq, WordCmp.cmpi_slt_eq, toInt_ofInt _ (by omega) (by omega), toInt_ofInt _ (by omega) (by omega)]
  show (BitVec.ofBool (decide ((0 : Int) ≤ _)) &&& BitVec.ofBool (decide ((0 : Int) ≤ _))) &&& BitVec.ofBool (decide (_ < (128 : Int))) = _
  by_cases h : Sees n a s
  · have h1 := h.1; have h2 := h.2.1; have h3 := h.2.2
    rw [if_pos h, decide_eq_true (by omega), decide_eq_true (by omega), decide_eq_true (by omega)]; rfl
  · rw [if_neg h]
    by_cases h1 : (0 : Int) ≤ ((n.val : Int) - 1) * 128 + s.val
    · by_cases h2 : (0 : Int) ≤ (a.val : Int) + 128 - s.val
      · rw [decide_eq_false (p := (a.val : Int) + 128 - s.val < 128) (fun h3 => h ⟨by omega, by omega, by omega⟩), BitVec.ofBool_false]; exact BitVec.and_zero
      · rw [decide_eq_false h2, BitVec.ofBool_false]; exact (congrArg (· &&& _) BitVec.and_zero).trans BitVec.zero_and
    · rw [decide_eq_false h1, BitVec.ofBool_false]; exact (congrArg (· &&& _) BitVec.zero_and).trans BitVec.zero_and

omit hA in
theorem v54_1_apply (n : Fin 32) (kh g : Fin 4) (a : Fin 128) (s : Fin 256) :
    val_main_v54_1 (F := Ideal) (ix6 0 n kh g a s) = if Sees n a s then 1#1 else 0#1 := by
  refine Eq.trans ?_ (v52_apply n a s)
  pointwise [val_main_v54_1, val_main_v53]

theorem v54_coe (n : Fin 32) (kh g : Fin 4) (a : Fin 128) (s : Fin 256) :
    val_main_v54_0 (F := Ideal) x0 x1 (ix6 0 n kh g a s) = if Sees n a s then (((head0 D n (qhd kh g)).sc a s : ℝ) : EReal) else ⊥ := by
  have hb : val_main_call0_v2 (F := Ideal) (ix6 0 n kh g a s) = (⊥ : EReal) := by
    rw [val_main_call0_v2_apply]
    show Ideal.ofBits .f32 0xFF800000#32 = ⊥
    simp [Ideal.ofBits, Ideal.ieee]
  show (if val_main_v54_1 (F := Ideal) (ix6 0 n kh g a s) = 1#1 then val_main_v22 (F := Ideal) x0 x1 (ix6 0 n kh g a s) else val_main_call0_v2 (F := Ideal) (ix6 0 n kh g a s)) = _
  rw [v54_1_apply, v22_coe hA, hb]
  by_cases hs : Sees n a s
  · rw [if_pos hs, if_pos rfl, if_pos hs]
  · rw [if_neg hs, if_neg (by decide), if_neg hs]

theorem v55_coe (kh g : Fin 4) : val_main_v55 (F := Ideal) x4 (ix6 0 0 kh g 0 0) = (((D.S (qhd kh g)) : ℝ) : EReal) := by
  refine Eq.trans ?_ (hA.S (qhd kh g))
  pointwise [val_main_v55]
  exact congrArg (fun u => x4 (ix2 0 u)) (Fin.ext (by show kh.val * 4 + g.val = 4 * kh.val + g.val; omega))

theorem v56_coe (n : Fin 32) (kh g : Fin 4) (a : Fin 128) (s : Fin 256) :
    val_main_v56 (F := Ideal) x0 x1 (ix6 0 n kh g a s) = (((head0 D n (qhd kh g)).E a s : ℝ) : EReal) := by
  pointwise [val_main_v56]
  rw [v54_coe hA]; unfold Head.E
  by_cases hs : Sees n a s
  · rw [if_pos hs, if_pos (show (head0 D n (qhd kh g)).M a s from hs), Ideal.exp_coe]
  · rw [if_neg hs, if_neg (show ¬(head0 D n (qhd kh g)).M a s from hs), Ideal.exp_bot, EReal.coe_zero]

theorem v57_coe (n : Fin 32) (kh g : Fin 4) (a : Fin 128) :
    val_main_v57 (F := Ideal) x0 x1 (ix5 0 n kh g a) = (((head0 D n (qhd kh g)).A a : ℝ) : EReal) := by
  rw [val_main_v57_apply]
  have e : ∀ s : Fin 256, idx_main_v57 (ix5 0 n kh g a) s = ix6 0 n kh g a s := fun s => by
    funext b; fin_cases b <;> rfl
  unfold Head.A; rw [coe_sum]
  rw [Finset.sum_congr rfl fun s _ => by rw [e, v56_coe hA]]
  pointwise [val_main_cst_9]

omit hA in
/-- Every row sees its own key. -/
theorem A_pos (D : Data) (n : Fin 32) (h : Fin 16) (a : Fin 128) : 0 < (head0 D n h).A a := Head.A_pos _ a _ (sees_self n a)

theorem v59_coe (n : Fin 32) (kh g : Fin 4) (a : Fin 128) :
    val_main_v59 (F := Ideal) x0 x1 (ix6 0 n kh g a 0) = ((Real.log ((head0 D n (qhd kh g)).A a) : ℝ) : EReal) := by
  pointwise [val_main_v59, val_main_v58]
  rw [v57_coe hA, Ideal.log_coe, if_neg (not_le.2 (A_pos D n _ a))]

omit hA in
/-- The logarithm of a sum of exponentials, from the larger of the two. -/
theorem log_add (a σ : ℝ) : max a σ + Real.log (1 + Real.exp (-max (a - σ) (-(a - σ)))) = Real.log (Real.exp a + Real.exp σ) := by
  rcases le_total a σ with h | h
  · rw [max_eq_right h, max_eq_right (by linarith), neg_neg,
      show Real.exp a + Real.exp σ = Real.exp σ * (1 + Real.exp (a - σ)) by rw [mul_add, mul_one, ← Real.exp_add, add_comm]; congr 2; ring,
      Real.log_mul (Real.exp_pos _).ne' (by positivity), Real.log_exp]
  · rw [max_eq_left h, max_eq_left (by linarith),
      show Real.exp a + Real.exp σ = Real.exp a * (1 + Real.exp (-(a - σ))) by rw [mul_add, mul_one, ← Real.exp_add]; congr 2; ring,
      Real.log_mul (Real.exp_pos _).ne' (by positivity), Real.log_exp]

theorem v72_coe (n : Fin 32) (kh g : Fin 4) (a : Fin 128) :
    val_main_v72 (F := Ideal) x0 x1 x4 (ix6 0 n kh g a 0) = ((Real.log ((head0 D n (qhd kh g)).den a) : ℝ) : EReal) := by
  pointwise [val_main_v72, val_main_v71, val_main_v70, val_main_v69, val_main_v68, val_main_v67, val_main_v66, val_main_v65, val_main_v64, val_main_v63, val_main_v62, val_main_v61, val_main_v60]
  rw [v59_coe hA, v55_coe hA, if_neg (not_not.2 rfl), Ideal.absf_def, ← EReal.coe_sub, ← EReal.coe_neg, ← coe_max, ← coe_max, ← EReal.coe_neg, Ideal.exp_coe]
  unfold Ideal.log1p
  rw [← EReal.coe_one, ← EReal.coe_add, Ideal.log_coe, if_neg (not_le.2 (by positivity)), ← EReal.coe_add, log_add, Real.exp_log (A_pos D n _ a)]
  rfl

/-- The share of the keys in a row's sum. -/
theorem v82_coe (n : Fin 32) (kh g : Fin 4) (a : Fin 128) :
    val_main_v82 (F := Ideal) x0 x1 x4 (ix6 0 n kh g a 0) = (((head0 D n (qhd kh g)).A a / (head0 D n (qhd kh g)).den a : ℝ) : EReal) := by
  pointwise [val_main_v82, val_main_v81, val_main_v80, val_main_v79, val_main_v78, val_main_v77, val_main_v76, val_main_v75, val_main_v74, val_main_v73, val_main_cst_10, val_main_cst_11, val_main_cst_12, val_main_cst_13]
  rw [v59_coe hA, v72_coe hA, if_neg (coe_ne_inf _), if_neg (coe_ne_inf _), ← EReal.coe_sub, Ideal.exp_coe, Real.exp_sub, Real.exp_log (A_pos D n _ a), Real.exp_log (Head.den_pos _ a)]

theorem v93_coe (n : Fin 32) (kh g : Fin 4) (a : Fin 128) :
    val_main_v93 (F := Ideal) x0 x1 x4 (ix6 0 n kh g a 0) = (((head0 D n (qhd kh g)).ps a : ℝ) : EReal) := by
  pointwise [val_main_v93, val_main_v92, val_main_v91, val_main_v90, val_main_v89, val_main_v88, val_main_v87, val_main_v86, val_main_v85, val_main_v84, val_main_v83, val_main_cst_14, val_main_cst_15, val_main_cst_16, val_main_cst_17]
  rw [v55_coe hA, v72_coe hA, if_neg (coe_ne_inf _), if_neg (coe_ne_inf _), ← EReal.coe_sub, Ideal.exp_coe, Real.exp_sub, Real.exp_log (Head.den_pos _ a)]
  rfl

theorem v96_coe (n : Fin 32) (kh g : Fin 4) (a : Fin 128) (s : Fin 256) :
    val_main_v96 (F := Ideal) x0 x1 x4 (ix6 0 n kh g a s) = (((head0 D n (qhd kh g)).p a s : ℝ) : EReal) := by
  pointwise [val_main_v96, val_main_v95, val_main_v94]
  rw [v54_coe hA, v72_coe hA]
  unfold Head.p Head.E
  by_cases hs : Sees n a s
  · rw [if_pos hs, if_pos (show (head0 D n (qhd kh g)).M a s from hs), ← EReal.coe_sub, Ideal.exp_coe, Real.exp_sub, Real.exp_log (Head.den_pos _ a)]
  · rw [if_neg hs, if_neg (show ¬(head0 D n (qhd kh g)).M a s from hs), EReal.bot_sub, Ideal.exp_bot, zero_div, EReal.coe_zero]

end Cert.ReferenceIdeal.Attn

end
-- ==== Proof.Attn.RefB.lean ====
module

public import proofs.«01_k».proof.Proof.Attn.RefA

@[expose] public section

set_option maxRecDepth 16384

noncomputable section

namespace Cert.ReferenceIdeal.Attn

open Idealize.ShloMosaic Idealize.ShloMosaic.TcCoe
open Cert.ReferenceIdeal.Gen Cert.ReferenceIdeal.Read
open Cert.Attn
open Classical

/-! The reference's backward pass at the ideal values, place by place. -/

variable {D : Data} {x0 : (⟨S4096x1024, .bf16⟩ : BufTy).Contents (Elt Ideal)} {x1 x2 : (⟨S4096x256, .bf16⟩ : BufTy).Contents (Elt Ideal)}
  {x3 : (⟨S4096x1024, .bf16⟩ : BufTy).Contents (Elt Ideal)} {x4 : (⟨S1x16, .f32⟩ : BufTy).Contents (Elt Ideal)} (hA : Args D x0 x1 x2 x3 x4)

include hA

theorem v103_coe (n : Fin 32) (kh g : Fin 4) (a : Fin 128) (d : Fin 64) :
    val_main_v103 (F := Ideal) x3 (ix6 0 n kh d g a) = (((head0 D n (qhd kh g)).o a d : ℝ) : EReal) := by
  refine Eq.trans ?_ (v102_coe hA n a kh g d)
  pointwise [val_main_v103]

theorem v104_coe (n : Fin 32) (kh g : Fin 4) (a : Fin 128) (s : Fin 256) :
    val_main_v104 (F := Ideal) x2 x3 (ix6 0 n kh g a s) = (((head0 D n (qhd kh g)).dp a s : ℝ) : EReal) := by
  pointwise [val_main_v104]
  unfold Head.dp; rw [coe_sum]
  exact Finset.sum_congr rfl fun d _ => by rw [v103_coe hA, v_coe hA n s kh g, EReal.coe_mul]

/-- What a block gives the values. -/
theorem v105_coe (n : Fin 32) (kh : Fin 4) (d : Fin 64) (s : Fin 256) :
    val_main_v105 (F := Ideal) x0 x1 x3 x4 (ix5 0 n kh d s) = ((∑ g, (head0 D n (qhd kh g)).dv s d : ℝ) : EReal) := by
  pointwise [val_main_v105]
  rw [coe_sum]
  refine Finset.sum_congr rfl fun g _ => ?_
  unfold Head.dv; rw [coe_sum]
  exact Finset.sum_congr rfl fun a _ => by rw [v103_coe hA, v96_coe hA, mul_comm, EReal.coe_mul]

theorem v107_coe (n : Fin 32) (kh g : Fin 4) (a : Fin 128) (s : Fin 256) :
    val_main_v107 (F := Ideal) x0 x1 x2 x3 x4 (ix6 0 n kh g a s) = (((head0 D n (qhd kh g)).p a s * (head0 D n (qhd kh g)).dp a s : ℝ) : EReal) := by
  pointwise [val_main_v107]
  rw [v104_coe hA, v96_coe hA, mul_comm, EReal.coe_mul]

theorem v109_coe (n : Fin 32) (kh g : Fin 4) (a : Fin 128) :
    val_main_v109 (F := Ideal) x0 x1 x2 x3 x4 (ix5 0 n kh g a) = ((-(head0 D n (qhd kh g)).δ a : ℝ) : EReal) := by
  rw [val_main_v109_apply]
  have e : ∀ s : Fin 256, idx_main_v109 (ix5 0 n kh g a) s = ix6 0 n kh g a s := fun s => by
    funext b; fin_cases b <;> rfl
  have e' : ∀ s : Fin 256, val_main_v108 (F := Ideal) x0 x1 x2 x3 x4 (ix6 0 n kh g a s) = ((-((head0 D n (qhd kh g)).p a s * (head0 D n (qhd kh g)).dp a s) : ℝ) : EReal) := fun s => by
    pointwise [val_main_v108]
    rw [v107_coe hA, EReal.coe_neg]
  unfold Head.δ; rw [← Finset.sum_neg_distrib, coe_sum]
  rw [Finset.sum_congr rfl fun s _ => by rw [e, e']]
  pointwise [val_main_cst_18]

theorem v110_coe (n : Fin 32) (kh g : Fin 4) (a : Fin 128) :
    val_main_v110 (F := Ideal) x0 x1 x2 x3 x4 (ix6 0 n kh g a 0) = ((-(head0 D n (qhd kh g)).δ a : ℝ) : EReal) := by
  refine Eq.trans ?_ (v109_coe hA n kh g a)
  pointwise [val_main_v110]

theorem v111_coe (n : Fin 32) (kh g : Fin 4) (a : Fin 128) :
    val_main_v111 (F := Ideal) x0 x1 x2 x3 x4 (ix6 0 n kh g a 0) = ((-((head0 D n (qhd kh g)).ps a * (head0 D n (qhd kh g)).δ a) : ℝ) : EReal) := by
  pointwise [val_main_v111]
  rw [v110_coe hA, v93_coe hA, ← EReal.coe_mul]
  exact congrArg Real.toEReal (by ring)

omit hA in
/-- The sum over the blocks and their rows. -/
theorem v112_apply (kh g : Fin 4) : val_main_v112 (F := Ideal) x0 x1 x2 x3 x4 (ix4 0 kh g 0)
    = ∑ n : Fin 32, ∑ a : Fin 128, val_main_v111 (F := Ideal) x0 x1 x2 x3 x4 (ix6 0 n kh g a 0) := by
  pointwise [val_main_v112, val_main_cst_19]
  generalize val_main_v111 (F := Ideal) x0 x1 x2 x3 x4 = y
  unfold Ideal.hostReduceAdd
  rw [← Finset.sum_product']
  refine (zero_add _).trans (Finset.sum_bij' (fun i _ => ((i 1 : Fin 32), (i 4 : Fin 128))) (fun u _ => ix6 0 u.1 kh g u.2 0) ?_ ?_ ?_ ?_ ?_)
  · intro i _; exact Finset.mem_product.2 ⟨Finset.mem_univ _, Finset.mem_univ _⟩
  · intro u _; rw [Finset.mem_filter]; refine ⟨Finset.mem_univ _, ?_⟩; funext b; fin_cases b <;> rfl
  · intro i hi
    have h := (Finset.mem_filter.1 hi).2
    have h1 : i 2 = kh := congrFun h 1
    have h2 : i 3 = g := congrFun h 2
    funext b; fin_cases b
    · exact Subsingleton.elim (α := Fin 1) _ _
    · rfl
    · exact h1.symm
    · exact h2.symm
    · rfl
    · exact Subsingleton.elim (α := Fin 1) _ _
  · intro u _; rfl
  · intro i hi
    have h := (Finset.mem_filter.1 hi).2
    have h1 : i 2 = kh := congrFun h 1
    have h2 : i 3 = g := congrFun h 2
    refine congrArg y ?_
    funext b; fin_cases b
    · exact Subsingleton.elim (α := Fin 1) _ _
    · rfl
    · exact h1
    · exact h2
    · rfl
    · exact Subsingleton.elim (α := Fin 1) _ _

omit hA in
/-- The sum over two axes of one place. -/
theorem v116_apply (n : Fin 32) (kh g : Fin 4) (a : Fin 128) : val_main_v116 (F := Ideal) x0 x1 x2 x3 x4 (ix4 n kh g a)
    = val_main_v115 (F := Ideal) x0 x1 x2 x3 x4 (ix6 0 n kh g a 0) := by
  pointwise [val_main_v116, val_main_cst_20]
  generalize val_main_v115 (F := Ideal) x0 x1 x2 x3 x4 = y
  unfold Ideal.hostReduceAdd
  refine (zero_add _).trans ?_
  have e : (Finset.univ.filter fun i : S1x32x4x4x128x1.Idx => reducesTo_S1x32x4x4x128x1_S32x4x4x128_d0_5.drop i = ix4 n kh g a) = {ix6 0 n kh g a 0} := by
    ext i
    rw [Finset.mem_filter, Finset.mem_singleton]
    constructor
    · rintro ⟨_, h⟩
      have h0 : i 1 = n := congrFun h 0
      have h1 : i 2 = kh := congrFun h 1
      have h2 : i 3 = g := congrFun h 2
      have h3 : i 4 = a := congrFun h 3
      funext b; fin_cases b
      · exact Subsingleton.elim (α := Fin 1) _ _
      · exact h0
      · exact h1
      · exact h2
      · exact h3
      · exact Subsingleton.elim (α := Fin 1) _ _
    · rintro rfl
      refine ⟨Finset.mem_univ _, ?_⟩
      funext b; fin_cases b <;> rfl
  rw [e, Finset.sum_singleton]

theorem v115_coe (n : Fin 32) (kh g : Fin 4) (a : Fin 128) :
    val_main_v115 (F := Ideal) x0 x1 x2 x3 x4 (ix6 0 n kh g a 0) = ((-(head0 D n (qhd kh g)).δ a / (head0 D n (qhd kh g)).den a : ℝ) : EReal) := by
  have hp := A_pos D n (qhd kh g) a
  pointwise [val_main_v115, val_main_v114, val_main_v58]
  rw [v110_coe hA, v82_coe hA, v57_coe hA, ← EReal.coe_mul, Ideal.div_coe hp.ne', ← EReal.coe_mul]
  refine congrArg Real.toEReal ?_
  have hd := (head0 D n (qhd kh g)).den_pos a
  field_simp

theorem v120_coe (n : Fin 32) (kh g : Fin 4) (a : Fin 128) (s : Fin 256) :
    val_main_v120 (F := Ideal) x0 x1 x2 x3 x4 (ix6 0 n kh g a s) = (((head0 D n (qhd kh g)).g a s : ℝ) : EReal) := by
  pointwise [val_main_v120, val_main_v119, val_main_v118, val_main_v117]
  rw [v116_apply, v115_coe hA, v56_coe hA, v107_coe hA, ← EReal.coe_mul, ← EReal.coe_add]
  refine congrArg Real.toEReal ?_
  unfold Head.g Head.p
  ring

theorem v122_coe (n : Fin 32) (kh g : Fin 4) (a : Fin 128) (s : Fin 256) :
    val_main_v122 (F := Ideal) x0 x1 x2 x3 x4 (ix6 0 n kh g a s) = (((head0 D n (qhd kh g)).g a s : ℝ) : EReal) := by
  have hb : val_main_call1_v0 (F := Ideal) (ix6 0 n kh g a s) = ((0 : ℝ) : EReal) := by
    pointwise [val_main_call1_v0, val_main_call1_cst]
    rfl
  show (if val_main_v54_1 (F := Ideal) (ix6 0 n kh g a s) = 1#1 then val_main_v120 (F := Ideal) x0 x1 x2 x3 x4 (ix6 0 n kh g a s) else val_main_call1_v0 (F := Ideal) (ix6 0 n kh g a s)) = _
  rw [v54_1_apply, v120_coe hA, hb]
  by_cases hs : Sees n a s
  · rw [if_pos hs, if_pos rfl]
  · rw [if_neg hs, if_neg (by decide), Head.g_zero _ (show ¬(head0 D n (qhd kh g)).M a s from hs)]

theorem v123_coe (n : Fin 32) (kh g : Fin 4) (a : Fin 128) (s : Fin 256) :
    val_main_v123 (F := Ideal) x0 x1 x2 x3 x4 (ix6 0 n kh s a g) = (((head0 D n (qhd kh g)).g a s : ℝ) : EReal) := by
  refine Eq.trans ?_ (v122_coe hA n kh g a s)
  pointwise [val_main_v123]

/-- The queries' gradient. -/
theorem v125_coe (n : Fin 32) (kh g : Fin 4) (a : Fin 128) (d : Fin 64) :
    val_main_v125 (F := Ideal) x0 x1 x2 x3 x4 (ix6 0 n a kh g d) = (((head0 D n (qhd kh g)).dq a d : ℝ) : EReal) := by
  pointwise [val_main_v125, val_main_v124]
  unfold Head.dq; rw [coe_sum]
  exact Finset.sum_congr rfl fun s _ => by rw [v123_coe hA, k_coe hA n s kh g, EReal.coe_mul]

/-- What a block gives the keys. -/
theorem v126_coe (n : Fin 32) (kh : Fin 4) (d : Fin 64) (s : Fin 256) :
    val_main_v126 (F := Ideal) x0 x1 x2 x3 x4 (ix5 0 n kh s d) = ((∑ g, (head0 D n (qhd kh g)).dk s d : ℝ) : EReal) := by
  pointwise [val_main_v126]
  rw [Finset.sum_comm, coe_sum]
  refine Finset.sum_congr rfl fun g _ => ?_
  unfold Head.dk; rw [coe_sum]
  exact Finset.sum_congr rfl fun a _ => by rw [v123_coe hA, v20_coe hA, EReal.coe_mul]

theorem v106_coe (n : Fin 32) (kh : Fin 4) (d : Fin 64) (s : Fin 256) :
    val_main_v106 (F := Ideal) x0 x1 x3 x4 (ix5 0 n s kh d) = ((vals2 D n kh s d : ℝ) : EReal) := by
  refine Eq.trans ?_ ((v105_coe hA n kh d s).trans (congrArg Real.toEReal (Finset.sum_congr rfl fun g _ => (agree D n (qhd kh g)).dv_eq s d)))
  pointwise [val_main_v106]

theorem v127_coe (n : Fin 32) (kh : Fin 4) (d : Fin 64) (s : Fin 256) :
    val_main_v127 (F := Ideal) x0 x1 x2 x3 x4 (ix5 0 n s kh d) = ((keys2 D n kh s d : ℝ) : EReal) := by
  refine Eq.trans ?_ ((v126_coe hA n kh d s).trans (congrArg Real.toEReal (Finset.sum_congr rfl fun g _ => (agree D n (qhd kh g)).dk_eq s d)))
  pointwise [val_main_v127]

/-- The keys' gradient, block by block: the block's own share and the next one's. -/
theorem v141_coe (n : Fin 32) (kh : Fin 4) (a : Fin 128) (d : Fin 64) :
    val_main_v141 (F := Ideal) x0 x1 x2 x3 x4 (ix5 0 n a kh d) = ((fold2 (keys2 D) n kh a d : ℝ) : EReal) := by
  pointwise [val_main_v141, val_main_v140, val_main_v139, val_main_v138, val_main_v137, val_main_v136, val_main_cst_22]
  unfold fold2
  rw [v127_coe hA, EReal.coe_add]
  refine congrArg₂ (· + ·) (congrArg (fun u => ((keys2 D n kh u d : ℝ) : EReal)) (Fin.ext (Nat.add_comm 128 a.val))) ?_
  by_cases h : n.val + 1 < 32
  · rw [dif_pos (show n.val < 31 by omega), dif_pos h, v127_coe hA]
    exact congrArg (fun u => ((keys2 D u kh ⟨a.val, by omega⟩ d : ℝ) : EReal)) (Fin.ext (Nat.add_comm 1 n.val))
  · rw [dif_neg (show ¬n.val < 31 by omega), dif_neg h, EReal.coe_zero]

/-- The values' gradient, block by block. -/
theorem v134_coe (n : Fin 32) (kh : Fin 4) (a : Fin 128) (d : Fin 64) :
    val_main_v134 (F := Ideal) x0 x1 x3 x4 (ix5 0 n a kh d) = ((fold2 (vals2 D) n kh a d : ℝ) : EReal) := by
  pointwise [val_main_v134, val_main_v133, val_main_v132, val_main_v131, val_main_v130, val_main_v129, val_main_cst_21]
  unfold fold2
  rw [v106_coe hA, EReal.coe_add]
  refine congrArg₂ (· + ·) (congrArg (fun u => ((vals2 D n kh u d : ℝ) : EReal)) (Fin.ext (Nat.add_comm 128 a.val))) ?_
  by_cases h : n.val + 1 < 32
  · rw [dif_pos (show n.val < 31 by omega), dif_pos h, v106_coe hA]
    exact congrArg (fun u => ((vals2 D u kh ⟨a.val, by omega⟩ d : ℝ) : EReal)) (Fin.ext (Nat.add_comm 1 n.val))
  · rw [dif_neg (show ¬n.val < 31 by omega), dif_neg h, EReal.coe_zero]

/-- The first result of the reference. -/
theorem v143_coe (x : Fin 4096) (e : Fin 1024) :
    val_main_v143 (F := Ideal) x0 x1 x2 x3 x4 (ix2 x e) = ((arrQ (gradQ D) x e : ℝ) : EReal) := by
  refine Eq.trans ?_ ((v125_coe hA ⟨x.val / 128, by omega⟩ ⟨e.val / 256, by omega⟩ ⟨e.val / 64 % 4, by omega⟩ ⟨x.val % 128, by omega⟩ ⟨e.val % 64, by omega⟩).trans
    (congrArg Real.toEReal (((agree D _ _).dq_eq _ _).trans (arrQ_eq (gradQ D) _ _ _ _ x e ?_ ?_).symm)))
  · pointwise [val_main_v143, val_main_v128]
  · show x.val = 128 * (x.val / 128) + x.val % 128; omega
  · show e.val = 64 * (4 * (e.val / 256) + e.val / 64 % 4) + e.val % 64; omega

/-- The second. -/
theorem v144_coe (x : Fin 4096) (e : Fin 256) :
    val_main_v144 (F := Ideal) x0 x1 x2 x3 x4 (ix2 x e) = ((arrK (fold2 (keys2 D)) x e : ℝ) : EReal) := by
  refine Eq.trans ?_ (v141_coe hA ⟨x.val / 128, by omega⟩ ⟨e.val / 64, by omega⟩ ⟨x.val % 128, by omega⟩ ⟨e.val % 64, by omega⟩)
  pointwise [val_main_v144, val_main_v142]

/-- The third. -/
theorem v145_coe (x : Fin 4096) (e : Fin 256) :
    val_main_v145 (F := Ideal) x0 x1 x3 x4 (ix2 x e) = ((arrK (fold2 (vals2 D)) x e : ℝ) : EReal) := by
  refine Eq.trans ?_ (v134_coe hA ⟨x.val / 128, by omega⟩ ⟨e.val / 64, by omega⟩ ⟨x.val % 128, by omega⟩ ⟨e.val % 64, by omega⟩)
  pointwise [val_main_v145, val_main_v135]

/-- The fourth. -/
theorem v147_coe (h : Fin 16) (l : Fin 128) :
    val_main_v147 (F := Ideal) x0 x1 x2 x3 x4 (ix2 h l) = ((gradS D h : ℝ) : EReal) := by
  pointwise [val_main_v147, val_main_v146, val_main_v121, val_main_v113]
  rw [v112_apply]
  unfold gradS; rw [coe_sum]
  refine Finset.sum_congr rfl fun n _ => ?_
  rw [← (agree D n h).ds_eq]
  unfold Head.ds; rw [← Finset.sum_neg_distrib, coe_sum]
  refine Finset.sum_congr rfl fun a _ => ?_
  rw [v111_coe hA, show qhd ⟨h.val / 4, by omega⟩ ⟨h.val % 4, by omega⟩ = h from Fin.ext (by show 4 * (h.val / 4) + h.val % 4 = h.val; omega)]

end Cert.ReferenceIdeal.Attn

end
-- ==== Proof.Attn.Alg.lean ====
module

public import proofs.«01_k».proof.Defs
public import proofs.«01_k».proof.Proof.Attn.Final
public import proofs.«01_k».proof.Proof.Attn.RefB
public import proofs.«01_k».proof.Proof.Gen.Pre_finite
public import proofs.«01_k».proof.Proof.Gen.ReferenceIdeal.Run
public import Idealize.ShloMosaic.Lib.ReduceAll

@[expose] public section

noncomputable section

namespace Cert.Attn

open Idealize.ShloMosaic Idealize.ShloMosaic.TcCoe Idealize.SL.Sem Idealize.ShloMosaic.StableHlo

/-! The kernel and the differentiated attention end with the same arrays. -/

theorem real_of (x : EReal) (h : max x (-x) < ⊤) : x = ((x.toReal : ℝ) : EReal) := by
  refine (EReal.coe_toReal (fun e => ?_) (fun e => ?_)).symm
  · rw [e] at h; exact absurd (le_max_left _ _) (not_le.2 h)
  · rw [e, EReal.neg_bot] at h; exact absurd (le_max_right _ _) (not_le.2 h)

theorem inf_top : Ideal.ofBits .f32 2139095040#32 = (⊤ : EReal) := by
  simp [Ideal.ofBits, Ideal.ieee]

theorem lt_of_word (x : EReal) (h : Ideal.cmp .olt (max x (-x)) (Ideal.ofBits .f32 2139095040#32) = 1#1) : max x (-x) < ⊤ := by
  rw [inf_top] at h
  by_contra hn
  revert h
  simp [Ideal.cmp, hn]

open Cert.Pre_finite in
theorem finite_args (x0 : FVec Ideal S4096x1024 .bf16) (x1 x2 : FVec Ideal S4096x256 .bf16) (x3 : FVec Ideal S4096x1024 .bf16) (x4 : FVec Ideal S1x16 .f32)
    (h : Cert.Pre_finite.fn (F := Ideal) x0 x1 x2 x3 x4 = fun _ => 1#1) :
    (∀ x e, x0 (ix2 x e) = (((x0 (ix2 x e)).toReal : ℝ) : EReal)) ∧ (∀ x e, x1 (ix2 x e) = (((x1 (ix2 x e)).toReal : ℝ) : EReal))
    ∧ (∀ x e, x2 (ix2 x e) = (((x2 (ix2 x e)).toReal : ℝ) : EReal)) ∧ (∀ x e, x3 (ix2 x e) = (((x3 (ix2 x e)).toReal : ℝ) : EReal))
    ∧ (∀ e, x4 (ix2 0 e) = (((x4 (ix2 0 e)).toReal : ℝ) : EReal)) := by
  have h0 := congrFun h ix0
  unfold Cert.Pre_finite.fn Cert.Pre_finite.fn_part1 at h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  haveI : Subsingleton S_.Idx := ⟨fun a b => funext fun i => i.elim0⟩
  refine ⟨fun x e => ?_, fun x e => ?_, fun x e => ?_, fun x e => ?_, fun e => ?_⟩
  · exact real_of _ (lt_of_word _ (Host.reduce_andi_all _ _ _ _ _ e0 (ix2 x e)))
  · exact real_of _ (lt_of_word _ (Host.reduce_andi_all _ _ _ _ _ e1 (ix2 x e)))
  · exact real_of _ (lt_of_word _ (Host.reduce_andi_all _ _ _ _ _ e2 (ix2 x e)))
  · exact real_of _ (lt_of_word _ (Host.reduce_andi_all _ _ _ _ _ e3 (ix2 x e)))
  · exact real_of _ (lt_of_word _ (Host.reduce_andi_all _ _ _ _ _ e4 (ix2 0 e)))

/-- The arguments read as reals. -/
def dataOf (m : (ℓ : Loc Cert.KernelIdeal.nD Cert.KernelIdeal.τ Cert.KernelIdeal.sig) → Buf (Elt Ideal) ℓ) (c : Dev Cert.KernelIdeal.nD) : Data where
  Q x e := EReal.toReal (m ((c.tc : Thread Cert.KernelIdeal.nD Cert.KernelIdeal.τ).loc Cert.KernelIdeal.main_arg0) (ix2 x e))
  K x e := EReal.toReal (m ((c.tc : Thread Cert.KernelIdeal.nD Cert.KernelIdeal.τ).loc Cert.KernelIdeal.main_arg1) (ix2 x e))
  V x e := EReal.toReal (m ((c.tc : Thread Cert.KernelIdeal.nD Cert.KernelIdeal.τ).loc Cert.KernelIdeal.main_arg2) (ix2 x e))
  O x e := EReal.toReal (m ((c.tc : Thread Cert.KernelIdeal.nD Cert.KernelIdeal.τ).loc Cert.KernelIdeal.main_arg3) (ix2 x e))
  S e := EReal.toReal (m ((c.tc : Thread Cert.KernelIdeal.nD Cert.KernelIdeal.τ).loc Cert.KernelIdeal.main_arg4) (ix2 0 e))

theorem isData (m : (ℓ : Loc Cert.KernelIdeal.nD Cert.KernelIdeal.τ Cert.KernelIdeal.sig) → Buf (Elt Ideal) ℓ) (h : Cert.Pre_KernelIdeal_finite m) (c : Dev Cert.KernelIdeal.nD) :
    Cert.KernelIdeal.Attn.IsData m c (dataOf m c) := by
  obtain ⟨h0, h1, h2, h3, h4⟩ := finite_args _ _ _ _ _ (h c)
  exact ⟨h0, h1, h2, h3, h4⟩

section
open Cert.ReferenceIdeal Cert.ReferenceIdeal.Attn Cert.ReferenceIdeal.Read

/-- What the reference ends with, of arguments that are the reals `D`. -/
theorem reference_values (m : (ℓ : Loc nD τ sig) → Buf (Elt Ideal) ℓ) (ρ : Dev nD → PrngReg) (D : Dev nD → Data)
    (hA : ∀ c : Dev nD, Args (D c) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4))) :
    θ_run (defs (F := Ideal)) (onTc (τ := τ) (main (F := Ideal))) ⟨m, fun _ => 0, ρ⟩ fun r => ∀ c : Dev nD,
      r.2.mem ((c.tc : Thread nD τ).loc main_v143) = (fun i : S4096x1024.Idx => ((arrQ (gradQ (D c)) (i 0) (i 1) : ℝ) : EReal))
      ∧ r.2.mem ((c.tc : Thread nD τ).loc main_v144) = (fun i : S4096x256.Idx => ((arrK (fold2 (keys2 (D c))) (i 0) (i 1) : ℝ) : EReal))
      ∧ r.2.mem ((c.tc : Thread nD τ).loc main_v145) = (fun i : S4096x256.Idx => ((arrK (fold2 (vals2 (D c))) (i 0) (i 1) : ℝ) : EReal))
      ∧ r.2.mem ((c.tc : Thread nD τ).loc main_v147) = (fun i : S16x128.Idx => ((gradS (D c) (i 0) : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Cert.ReferenceIdeal.Value.run (F := Ideal) m ρ)
  obtain ⟨h0, h1, h2, h3, ha⟩ := h c
  refine ⟨?_, ?_, ?_, ?_, ha⟩
  · refine h0.trans ((val_main_v143_eq (F := Ideal) (launchContents m c)).trans (funext fun i => ?_))
    rw [show i = ix2 (i 0) (i 1) by funext b; fin_cases b <;> rfl]
    exact v143_coe (hA c) (i 0) (i 1)
  · refine h1.trans ((val_main_v144_eq (F := Ideal) (launchContents m c)).trans (funext fun i => ?_))
    rw [show i = ix2 (i 0) (i 1) by funext b; fin_cases b <;> rfl]
    exact v144_coe (hA c) (i 0) (i 1)
  · refine h2.trans ((val_main_v145_eq (F := Ideal) (launchContents m c)).trans (funext fun i => ?_))
    rw [show i = ix2 (i 0) (i 1) by funext b; fin_cases b <;> rfl]
    exact v145_coe (hA c) (i 0) (i 1)
  · refine h3.trans ((val_main_v147_eq (F := Ideal) (launchContents m c)).trans (funext fun i => ?_))
    rw [show i = ix2 (i 0) (i 1) by funext b; fin_cases b <;> rfl]
    exact v147_coe (hA c) (i 0) (i 1)

end

/-- The four gradients the kernel ends with are those of the differentiated attention, exactly, at finite arguments. -/
theorem algebraic : Cert.algebraic_KernelIdeal_ReferenceIdeal_pre_finite := by
  intro m g m' g' hp he
  have hD := isData m hp
  refine ⟨fun c => (fun i : Cert.KernelIdeal.S4096x1024.Idx => ((arrQ (gradQ (dataOf m c)) (i 0) (i 1) : ℝ) : EReal)),
    fun c => (fun i : Cert.KernelIdeal.S4096x256.Idx => ((arrK (fold2 (keys2 (dataOf m c))) (i 0) (i 1) : ℝ) : EReal)),
    fun c => (fun i : Cert.KernelIdeal.S4096x256.Idx => ((arrK (fold2 (vals2 (dataOf m c))) (i 0) (i 1) : ℝ) : EReal)),
    fun c => (fun i : Cert.KernelIdeal.S16x128.Idx => ((gradS (dataOf m c) (i 0) : ℝ) : EReal)),
    (θ_run _ _ _).mono (fun r h c => ?_) (θ_run_and (Cert.KernelIdeal.Attn.values (dataOf m) hD g) (Cert.KernelIdeal.Attn.frame_main m g)),
    reference_values m' g' (dataOf m) fun c => ?_⟩
  · obtain ⟨k0, k1, k2, k3⟩ := h.1 c
    exact ⟨k0, k1, k2, k3, h.2.1 c⟩
  obtain ⟨e0, e1, e2, e3, e4⟩ := he c
  have d := hD c
  exact ⟨fun x e => (congrFun e0 _).trans (d.Q x e), fun x e => (congrFun e1 _).trans (d.K x e), fun x e => (congrFun e2 _).trans (d.V x e),
    fun x e => (congrFun e3 _).trans (d.O x e), fun x => (congrFun e4 _).trans (d.S x)⟩

end Cert.Attn

end
-- ==== Proof.Wg.Up.lean ====
/- The column-sharded weight gradient `xᵀ · ct` (the call `wg_mlp_w_up`): what each grid point stores, and the result
   array after the run as the reference's composed term. -/
module

public import proofs.«01_k».proof.Proof.Gen.KernelUpIdeal.Value
public import proofs.«01_k».proof.Proof.Gen.ReferenceUpIdeal.Read
public import Idealize.ShloMosaic.Lib.Pipeline.ValueKit

@[expose] public section

noncomputable section

namespace Cert.KernelUpIdeal.Wg

open Cert.KernelUpIdeal Cert.KernelUpIdeal.Gen Idealize.ShloMosaic Idealize.ShloMosaic.TcCoe Idealize.SL.Sem
open Idealize.ShloMosaic.Pipeline (Dat)
open Cert.ReferenceUpIdeal.Read

variable (m : (ℓ : Loc nD τ sig) → Buf (Elt Ideal) ℓ)

theorem zero2 : (![0, 0] : Fin 2 → ℕ) = fun _ => 0 := by funext a; fin_cases a <;> rfl
theorem zero3 : (![0, 0, 0] : Fin 3 → ℕ) = fun _ => 0 := by funext a; fin_cases a <;> rfl

/-- What a point stores: the product of its two blocks, contracted over the rows, cast to the result's format. -/
theorem stored (c : Dev nD) (i : grid0.Coords) (a3 : Memref sig .tc .vmem S4096x1024 .bf16) (h3 : a3.IsWhole)
    (a4 : Memref sig .tc .vmem S4096x1024 .bf16) (h4 : a4.IsWhole) (a5 : Memref sig .tc .vmem S1x1024x1024 .bf16)
    (h5 : a5.IsWhole) (a6 : Memref sig .tc .vmem S1024x1024 .f32) (h6 : a6.IsWhole) (hc0 : cond0_0 i)
    (hc1 : ¬cond0_1 i) (hc2 : cond0_2 i) (x y : Vec Ideal S4096x1024 .bf16) :
    out0_A_2 c i a3 h3 a4 h4 a5 h5 a6 h6 hc0 hc1 hc2 x y = k0_pay4 (k0_pay2 x y) := by
  unfold out0_A_2
  rw [View.read_writes_junk_eq_canon]
  unfold kernelRun0_A
  dsimp only
  sl_unfold_words
  rw [View.canon_unit_zero (S := S1x1024x1024) zero3, View.readCov_unit_zero (S := S1024x1024) _ zero2]
  simp only [View.readAt_eq_ld, h3.read_unread, h4.read_unread, View.ld_unit_zero (S := S4096x1024) zero2]

/-- The three index maps at a grid point: the whole of `x`, one column block of `ct`, one slab of the result. -/
theorem maps : ∀ t : Fin cfg0.N, win0_0.index t = ![0, 0] ∧ win0_1.index t = ![0, (grid0.coords t 1).val]
    ∧ win0_2.index t = ![(grid0.coords t 1).val, 0, 0] :=
  (by decide +kernel : ∀ t : Fin grid0.N, _)

/-- The element a point stores is the reference's element at the place the block gives it. -/
theorem element (c : Dev nD) (t : Fin cfg0.N) (y) : k0_pay4 (k0_pay2 (iblk m c 0 t) (iblk m c 1 t)) y
    = val_main_v8 (F := Ideal) (m ((c : Thread nD τ).loc main_arg0)) (m ((c : Thread nD τ).loc main_arg1))
        (((cfg0.win 2).blk t).view.emb y) := by
  pointwise [k0_pay4, k0_pay2, k0_pay1, val_main_v8, val_main_v7, val_main_v6, val_main_v5, val_main_v4, val_main_v3, val_main_v1]
  refine Finset.sum_congr rfl fun k _ => ?_
  rw [mul_comm]
  blk_point [iblk, V, maps t]

/-- The result array after the run is the reference's term of the arguments. -/
theorem final (c : Dev nD) : (dats m 0 c).arrAt 2 cfg0.N
    = val_main_v8 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  rw [stored]
  exact element m c t y

end Cert.KernelUpIdeal.Wg

end
-- ==== Proof.Wg.Down.lean ====
/- The row-sharded weight gradient `xᵀ · ct` (the call `wg_mlp_w_down`): what each grid point stores, and the result
   array after the run as the reference's composed term. -/
module

public import proofs.«01_k».proof.Proof.Gen.KernelDownIdeal.Value
public import proofs.«01_k».proof.Proof.Gen.ReferenceDownIdeal.Read
public import Idealize.ShloMosaic.Lib.Pipeline.ValueKit

@[expose] public section

noncomputable section

namespace Cert.KernelDownIdeal.Wg

open Cert.KernelDownIdeal Cert.KernelDownIdeal.Gen Idealize.ShloMosaic Idealize.ShloMosaic.TcCoe Idealize.SL.Sem
open Idealize.ShloMosaic.Pipeline (Dat)
open Cert.ReferenceDownIdeal.Read

variable (m : (ℓ : Loc nD τ sig) → Buf (Elt Ideal) ℓ)

theorem zero2 : (![0, 0] : Fin 2 → ℕ) = fun _ => 0 := by funext a; fin_cases a <;> rfl
theorem zero3 : (![0, 0, 0] : Fin 3 → ℕ) = fun _ => 0 := by funext a; fin_cases a <;> rfl

/-- What a point stores: the product of its two blocks, contracted over the rows, cast to the result's format. -/
theorem stored (c : Dev nD) (i : grid0.Coords) (a3 : Memref sig .tc .vmem S4096x1024 .bf16) (h3 : a3.IsWhole)
    (a4 : Memref sig .tc .vmem S4096x1024 .bf16) (h4 : a4.IsWhole) (a5 : Memref sig .tc .vmem S1x1024x1024 .bf16)
    (h5 : a5.IsWhole) (a6 : Memref sig .tc .vmem S1024x1024 .f32) (h6 : a6.IsWhole) (hc0 : cond0_0 i)
    (hc1 : ¬cond0_1 i) (hc2 : cond0_2 i) (x y : Vec Ideal S4096x1024 .bf16) :
    out0_A_2 c i a3 h3 a4 h4 a5 h5 a6 h6 hc0 hc1 hc2 x y = k0_pay4 (k0_pay2 x y) := by
  unfold out0_A_2
  rw [View.read_writes_junk_eq_canon]
  unfold kernelRun0_A
  dsimp only
  sl_unfold_words
  rw [View.canon_unit_zero (S := S1x1024x1024) zero3, View.readCov_unit_zero (S := S1024x1024) _ zero2]
  simp only [View.readAt_eq_ld, h3.read_unread, h4.read_unread, View.ld_unit_zero (S := S4096x1024) zero2]

/-- The three index maps at a grid point: one column block of `x`, the whole of `ct`, one slab of the result. -/
theorem maps : ∀ t : Fin cfg0.N, win0_0.index t = ![0, (grid0.coords t 0).val] ∧ win0_1.index t = ![0, 0]
    ∧ win0_2.index t = ![(grid0.coords t 0).val, 0, 0] :=
  (by decide +kernel : ∀ t : Fin grid0.N, _)

/-- The element a point stores is the reference's element at the place the block gives it. -/
theorem element (c : Dev nD) (t : Fin cfg0.N) (y) : k0_pay4 (k0_pay2 (iblk m c 0 t) (iblk m c 1 t)) y
    = val_main_v7 (F := Ideal) (m ((c : Thread nD τ).loc main_arg0)) (m ((c : Thread nD τ).loc main_arg1))
        (((cfg0.win 2).blk t).view.emb y) := by
  pointwise [k0_pay4, k0_pay2, k0_pay1, val_main_v7, val_main_v6, val_main_v5, val_main_v4, val_main_v3, val_main_v1]
  refine Finset.sum_congr rfl fun k _ => ?_
  rw [mul_comm]
  blk_point [iblk, V, maps t]

/-- The result array after the run is the reference's term of the arguments. -/
theorem final (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  rw [stored]
  exact element m c t y

end Cert.KernelDownIdeal.Wg

end
-- ==== Proof.Wg.Sq.lean ====
/- The square row-sharded weight gradient `xᵀ · ct` (the call `wg_square`), accumulated over two steps: what each grid point stores, and the result
   array after the run as the reference's composed term. -/
module

public import proofs.«01_k».proof.Proof.Gen.KernelSqIdeal.Value
public import proofs.«01_k».proof.Proof.Gen.ReferenceSqIdeal.Read
public import Idealize.ShloMosaic.Lib.Pipeline.ValueKit

@[expose] public section

noncomputable section

namespace Cert.KernelSqIdeal.Wg

open Cert.KernelSqIdeal Cert.KernelSqIdeal.Gen Idealize.ShloMosaic Idealize.ShloMosaic.TcCoe Idealize.SL.Sem
open Idealize.ShloMosaic.Pipeline (Dat)
open Cert.ReferenceSqIdeal.Read

variable (m : (ℓ : Loc nD τ sig) → Buf (Elt Ideal) ℓ)

theorem zero2 : (![0, 0] : Fin 2 → ℕ) = fun _ => 0 := by funext a; fin_cases a <;> rfl
theorem zero3 : (![0, 0, 0] : Fin 3 → ℕ) = fun _ => 0 := by funext a; fin_cases a <;> rfl

/-- The first step leaves the product of its two blocks in the accumulator. -/
theorem first (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S4x256x1024 .bf16)
    (h5 : a5.IsWhole) (a6 : Memref sig .tc .vmem S1024x1024 .f32) (h6 : a6.IsWhole) (hc0 : cond0_0 i)
    (hc1 : ¬cond0_1 i) (hc2 : ¬cond0_2 i) (x y : Vec Ideal S2048x1024 .bf16) :
    sout0_A_0 c i a3 h3 a4 h4 a5 h5 a6 h6 hc0 hc1 hc2 x y = k0_pay2 x y := by
  unfold sout0_A_0
  rw [View.read_writes_junk_eq_canon]
  unfold kernelRun0_A
  dsimp only
  sl_unfold_words
  rw [View.canon_unit_zero (S := S1024x1024) zero2]
  simp only [View.readAt_eq_ld, h3.read_unread, h4.read_unread, View.ld_unit_zero (S := S2048x1024) zero2]

/-- Reading a slab of a buffer that was written whole reads the slab of what was written. -/
theorem slab (v : View sig .tc .vmem S1024x1024 .f32) (Z : Vec Ideal S1024x1024 .f32) (o : ℕ)
    (h : ∀ a, (![o, 0] : Fin 2 → ℕ) a + (![256, 1024] : Fin 2 → ℕ) a ≤ S1024x1024.size a)
    (h' : ∀ a, (![0, 0] : Fin 2 → ℕ) a + (![1024, 1024] : Fin 2 → ℕ) a ≤ S1024x1024.size a) :
    v.readCov (Val := Elt Ideal) [⟨Rect.unit ![0, 0] ![1024, 1024] h', Z⟩] (Rect.unit (s := S1024x1024) ![o, 0] ![256, 1024] h).toLoadRect
      = View.ld Z (Rect.unit (s := S1024x1024) ![o, 0] ![256, 1024] h) := by
  rw [View.readCov_eq_canon']
  funext j
  exact congrFun (View.canon_unit_zero (S := S1024x1024) zero2 h' Z) _

/-- The second step stores the accumulated product, its rows cut into four slabs. -/
theorem second (c : Dev nD) (i : grid0.Coords) (a3 : Memref sig .tc .vmem S2048x1024 .bf16) (h3 : a3.IsWhole)
    (a4 : Memref sig .tc .vmem S2048x1024 .bf16) (h4 : a4.IsWhole) (a5 : Memref sig .tc .vmem S4x256x1024 .bf16)
    (h5 : a5.IsWhole) (a6 : Memref sig .tc .vmem S1024x1024 .f32) (h6 : a6.IsWhole) (hc0 : ¬cond0_0 i)
    (hc1 : cond0_1 i) (hc2 : cond0_2 i) (x y : Vec Ideal S2048x1024 .bf16) (acc : Vec Ideal S1024x1024 .f32)
    (j : S4x256x1024.Idx) (k : S1024x1024.Idx) (hk0 : (k 0 : ℕ) = (j 0 : ℕ) * 256 + (j 1 : ℕ)) (hk1 : (k 1 : ℕ) = (j 2 : ℕ)) :
    out0_B_2 c i a3 h3 a4 h4 a5 h5 a6 h6 hc0 hc1 hc2 x y acc j = k0_pay3 x y acc k := by
  unfold out0_B_2
  rw [View.read_writes_junk_eq_canon]
  unfold kernelRun0_B
  dsimp only
  sl_unfold_words
  simp only [View.readAt_eq_ld, h3.read_unread, h4.read_unread, h6.read_unread, View.ld_unit_zero (S := S2048x1024) zero2, View.ld_unit_zero (S := S1024x1024) zero2]
  canon_tiles z hz
  all_goals
    rw [slab]
    generalize k0_pay3 x y acc = Z
    pointwise [k0_pay4, k0_pay5, k0_pay6, k0_pay7]
    refine congrArg Z (funext fun b => Fin.ext ?_)
    fin_cases b
    · simp [Rect.unit]; omega
    · simp [Rect.unit]; omega

/-- The index maps of the two operands at a step: the rows of that step. -/
theorem maps : ∀ t : Fin cfg0.N, win0_0.index t = ![t.val, 0] ∧ win0_1.index t = ![t.val, 0] :=
  (by decide +kernel : ∀ t : Fin grid0.N, _)

/-- The accumulated product at a row and a column is the reference's sum over all the rows, at the slab that holds it. -/
theorem element (c : Dev nD) (t0 t1 : Fin cfg0.N) (e0 : t0.val = 0) (e1 : t1.val = 1) (j : S4x256x1024.Idx)
    (k : S1024x1024.Idx) (hk0 : (k 0 : ℕ) = (j 0 : ℕ) * 256 + (j 1 : ℕ)) (hk1 : (k 1 : ℕ) = (j 2 : ℕ)) :
    k0_pay3 (F := Ideal) (iblk m c 0 t1) (iblk m c 1 t1) (k0_pay2 (F := Ideal) (iblk m c 0 t0) (iblk m c 1 t0)) k
      = val_main_v7 (F := Ideal) (m ((c : Thread nD τ).loc main_arg0)) (m ((c : Thread nD τ).loc main_arg1)) j := by
  pointwise [k0_pay3, k0_pay2, k0_pay1, val_main_v7, val_main_v6, val_main_v5, val_main_v4, val_main_v3, val_main_v1]
  refine Eq.trans ?_ (Fin.sum_univ_add (a := 2048) (b := 2048) _).symm
  refine congrArg₂ (· + ·) (Finset.sum_congr rfl fun q _ => ?_) (Finset.sum_congr rfl fun q _ => ?_)
  · rw [mul_comm]
    blk_point [iblk, V, maps t0]
    all_goals (rw [e0]; show 0 * 2048 + (q : ℕ) = (q : ℕ); omega)
  · rw [mul_comm]
    blk_point [iblk, V, maps t1]
    all_goals (rw [e1]; show 1 * 2048 + (q : ℕ) = 2048 + (q : ℕ); omega)

/-- What the accumulated state holds after the two steps, at an element of the result block. -/
theorem state (c : Dev nD) (h0 : 0 < cfg0.N) (h1 : 1 < cfg0.N) (j : S4x256x1024.Idx) (k : S1024x1024.Idx)
    (hk0 : (k 0 : ℕ) = (j 0 : ℕ) * 256 + (j 1 : ℕ)) (hk1 : (k 1 : ℕ) = (j 2 : ℕ)) :
    (Value.stAt0 m c 1 h1 (Value.stAt0 m c 0 h0 Value.junk0)).1 j
      = k0_pay3 (F := Ideal) (iblk m c 0 ⟨1, h1⟩) (iblk m c 1 ⟨1, h1⟩)
          (k0_pay2 (F := Ideal) (iblk m c 0 ⟨0, h0⟩) (iblk m c 1 ⟨0, h0⟩)) k := by
  rw [Value.stAt0_B m c ⟨1, h1⟩ _ (by show ¬ 1 % 2 = 0; omega) (by show 1 % 2 = 1; omega) (by show 1 % 2 = 1; omega),
    Value.stAt0_A m c ⟨0, h0⟩ _ (by show 0 % 2 = 0; omega) (by show ¬ 0 % 2 = 1; omega) (by show ¬ 0 % 2 = 1; omega)]
  dsimp only
  rw [first]
  exact second c _ _ _ _ _ _ _ _ _ _ _ _ _ _ _ j k hk0 hk1

end Cert.KernelSqIdeal.Wg

end
-- ==== Proof.Wg.SqFinal.lean ====
/- The square weight gradient's result array after the run, as the reference's composed term. -/
module

public import proofs.«01_k».proof.Proof.Gen.KernelSqIdeal.Value
public import proofs.«01_k».proof.Proof.Gen.ReferenceSqIdeal.Read
public import proofs.«01_k».proof.Proof.Wg.Sq

@[expose] public section

noncomputable section

namespace Cert.KernelSqIdeal.Wg

open Cert.KernelSqIdeal Cert.KernelSqIdeal.Gen Idealize.ShloMosaic Idealize.ShloMosaic.TcCoe Idealize.SL.Sem
open Idealize.ShloMosaic.Pipeline (Dat)
open Cert.ReferenceSqIdeal.Read

variable (m : (ℓ : Loc nD τ sig) → Buf (Elt Ideal) ℓ)

/-- Two steps of an accumulation, the first a reset. -/
theorem two {α : Type} {N : ℕ} (a : (n : ℕ) → n < N → α) (g : (n : ℕ) → n < N → α → α) (h : 0 + 1 < N) (h0 : 0 < N)
    (h1 : 1 < N) : Pipeline.accAt a g 0 1 h = g 1 h1 (a 0 h0) := rfl

/-- The result array after the run is the reference's term of the arguments. -/
theorem final (c : Dev nD) : Value.G2 m c
    = val_main_v7 (F := Ideal) (m ((c : Thread nD τ).loc main_arg0)) (m ((c : Thread nD τ).loc main_arg1)) := by
  have h0 : 0 < cfg0.N := lt_of_lt_of_eq (by decide) N_0.symm
  have h1 : 1 < cfg0.N := lt_of_lt_of_eq (by decide) N_0.symm
  rw [Value.G2_last, two _ _ _ h0 h1]
  funext j
  have hj0 : (j 0 : ℕ) < 4 := (j 0).isLt
  have hj1 : (j 1 : ℕ) < 256 := (j 1).isLt
  have hj2 : (j 2 : ℕ) < 1024 := (j 2).isLt
  obtain ⟨k, hk0, hk1⟩ : ∃ k : S1024x1024.Idx, (k 0 : ℕ) = (j 0 : ℕ) * 256 + (j 1 : ℕ) ∧ (k 1 : ℕ) = (j 2 : ℕ) :=
    ⟨ix2 ⟨(j 0 : ℕ) * 256 + (j 1 : ℕ), by omega⟩ ⟨(j 2 : ℕ), hj2⟩, by rfl, by rfl⟩
  refine (state m c h0 h1 j k hk0 hk1).trans ?_
  exact (element m c ⟨0, h0⟩ ⟨1, h1⟩ rfl rfl j k hk0 hk1)

end Cert.KernelSqIdeal.Wg

end
-- ==== Proof.Wg.Win.lean ====
/- The column-sharded weight gradient `xᵀ · ct` of the convolution's input projection (the call `wg_conv_w_in`), accumulated over two steps: what each grid point stores, and the result
   array after the run as the reference's composed term. -/
module

public import proofs.«01_k».proof.Proof.Gen.KernelWinIdeal.Value
public import proofs.«01_k».proof.Proof.Gen.ReferenceWinIdeal.Read
public import Idealize.ShloMosaic.Lib.Pipeline.ValueKit

@[expose] public section

noncomputable section

namespace Cert.KernelWinIdeal.Wg

open Cert.KernelWinIdeal Cert.KernelWinIdeal.Gen Idealize.ShloMosaic Idealize.ShloMosaic.TcCoe Idealize.SL.Sem
open Idealize.ShloMosaic.Pipeline (Dat)
open Cert.ReferenceWinIdeal.Read

variable (m : (ℓ : Loc nD τ sig) → Buf (Elt Ideal) ℓ)

theorem zero2 : (![0, 0] : Fin 2 → ℕ) = fun _ => 0 := by funext a; fin_cases a <;> rfl
theorem zero3 : (![0, 0, 0] : Fin 3 → ℕ) = fun _ => 0 := by funext a; fin_cases a <;> rfl

/-- The first step leaves the product of its two blocks in the accumulator. -/
theorem first (c : Dev nD) (i : grid0.Coords) (a3 : Memref sig .tc .vmem S2048x1024 .f32) (h3 : a3.IsWhole)
    (a4 : Memref sig .tc .vmem S2048x1024 .bf16) (h4 : a4.IsWhole) (a5 : Memref sig .tc .vmem S2x1024x512 .bf16)
    (h5 : a5.IsWhole) (a6 : Memref sig .tc .vmem S1024x1024 .f32) (h6 : a6.IsWhole) (hc0 : cond0_0 i)
    (hc1 : ¬cond0_1 i) (hc2 : ¬cond0_2 i) (x : Vec Ideal S2048x1024 .f32) (y : Vec Ideal S2048x1024 .bf16) :
    sout0_A_0 c i a3 h3 a4 h4 a5 h5 a6 h6 hc0 hc1 hc2 x y = k0_pay2 x y := by
  unfold sout0_A_0
  rw [View.read_writes_junk_eq_canon]
  unfold kernelRun0_A
  dsimp only
  sl_unfold_words
  rw [View.canon_unit_zero (S := S1024x1024) zero2]
  simp only [View.readAt_eq_ld, h3.read_unread, h4.read_unread, View.ld_unit_zero (S := S2048x1024) zero2]

/-- Reading a slab of a buffer that was written whole reads the slab of what was written. -/
theorem slab (v : View sig .tc .vmem S1024x1024 .f32) (Z : Vec Ideal S1024x1024 .f32) (o : ℕ)
    (h : ∀ a, (![0, o] : Fin 2 → ℕ) a + (![1024, 512] : Fin 2 → ℕ) a ≤ S1024x1024.size a)
    (h' : ∀ a, (![0, 0] : Fin 2 → ℕ) a + (![1024, 1024] : Fin 2 → ℕ) a ≤ S1024x1024.size a) :
    v.readCov (Val := Elt Ideal) [⟨Rect.unit ![0, 0] ![1024, 1024] h', Z⟩] (Rect.unit (s := S1024x1024) ![0, o] ![1024, 512] h).toLoadRect
      = View.ld Z (Rect.unit (s := S1024x1024) ![0, o] ![1024, 512] h) := by
  rw [View.readCov_eq_canon']
  funext j
  exact congrFun (View.canon_unit_zero (S := S1024x1024) zero2 h' Z) _

/-- The second step stores the accumulated product, its columns cut into two slabs. -/
theorem second (c : Dev nD) (i : grid0.Coords) (a3 : Memref sig .tc .vmem S2048x1024 .f32) (h3 : a3.IsWhole)
    (a4 : Memref sig .tc .vmem S2048x1024 .bf16) (h4 : a4.IsWhole) (a5 : Memref sig .tc .vmem S2x1024x512 .bf16)
    (h5 : a5.IsWhole) (a6 : Memref sig .tc .vmem S1024x1024 .f32) (h6 : a6.IsWhole) (hc0 : ¬cond0_0 i)
    (hc1 : cond0_1 i) (hc2 : cond0_2 i) (x : Vec Ideal S2048x1024 .f32) (y : Vec Ideal S2048x1024 .bf16) (acc : Vec Ideal S1024x1024 .f32)
    (j : S2x1024x512.Idx) (k : S1024x1024.Idx) (hk0 : (k 0 : ℕ) = (j 1 : ℕ)) (hk1 : (k 1 : ℕ) = (j 0 : ℕ) * 512 + (j 2 : ℕ)) :
    out0_B_2 c i a3 h3 a4 h4 a5 h5 a6 h6 hc0 hc1 hc2 x y acc j = k0_pay3 x y acc k := by
  unfold out0_B_2
  rw [View.read_writes_junk_eq_canon]
  unfold kernelRun0_B
  dsimp only
  sl_unfold_words
  simp only [View.readAt_eq_ld, h3.read_unread, h4.read_unread, h6.read_unread, View.ld_unit_zero (S := S2048x1024) zero2, View.ld_unit_zero (S := S1024x1024) zero2]
  canon_tiles z hz
  all_goals
    rw [slab]
    generalize k0_pay3 x y acc = Z
    pointwise [k0_pay4, k0_pay5]
    refine congrArg Z (funext fun b => Fin.ext ?_)
    fin_cases b
    · simp [Rect.unit]; omega
    · simp [Rect.unit]; omega

/-- The index maps at a point: the rows of its step, the columns and the slabs of its pair of points. -/
theorem maps : ∀ t : Fin cfg0.N, win0_0.index t = ![t.val % 2, 0] ∧ win0_1.index t = ![t.val % 2, t.val / 2]
    ∧ win0_2.index t = ![t.val / 2, 0, 0] :=
  (by decide +kernel : ∀ t : Fin grid0.N, _)

/-- The accumulated product of a pair of points is the reference's sum over all the rows, at the place the block gives it. -/
theorem element (c : Dev nD) (t0 t1 : Fin cfg0.N) (e0 : t0.val % 2 = 0) (e1 : t1.val % 2 = 1) (e : t0.val / 2 = t1.val / 2)
    (j : S2x1024x512.Idx) (k : S1024x1024.Idx) (hk0 : (k 0 : ℕ) = (j 1 : ℕ)) (hk1 : (k 1 : ℕ) = (j 0 : ℕ) * 512 + (j 2 : ℕ))
    (i : S4x1024x512.Idx) (hi0 : (i 0 : ℕ) = t1.val / 2 * 2 + (j 0 : ℕ)) (hi1 : (i 1 : ℕ) = (j 1 : ℕ)) (hi2 : (i 2 : ℕ) = (j 2 : ℕ)) :
    k0_pay3 (F := Ideal) (iblk m c 0 t1) (iblk m c 1 t1) (k0_pay2 (F := Ideal) (iblk m c 0 t0) (iblk m c 1 t0)) k
      = val_main_v7 (F := Ideal) (m ((c : Thread nD τ).loc main_arg0)) (m ((c : Thread nD τ).loc main_arg1)) i := by
  pointwise [k0_pay3, k0_pay2, k0_pay1, val_main_v7, val_main_v6, val_main_v5, val_main_v4, val_main_v3, val_main_v2, val_main_v1, val_main_v0]
  refine Eq.trans ?_ (Fin.sum_univ_add (a := 2048) (b := 2048) _).symm
  refine congrArg₂ (· + ·) (Finset.sum_congr rfl fun q _ => ?_) (Finset.sum_congr rfl fun q _ => ?_)
  · rw [mul_comm]
    blk_point [iblk, V, maps t0]
    all_goals first
      | (rw [e0]; show 0 * 2048 + (q : ℕ) = (q : ℕ); omega)
      | omega
  · rw [mul_comm]
    blk_point [iblk, V, maps t1]
    all_goals first
      | (rw [e1]; show 1 * 2048 + (q : ℕ) = 2048 + (q : ℕ); omega)
      | omega

/-- The result array after the run is the reference's term of the arguments. -/
theorem final (c : Dev nD) : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  have h1 := (flush0_2 t).mp hf
  have hN : t.val < 4 := lt_of_lt_of_eq t.isLt N_0
  blk_simp
  rw [after0_2, outsAt0_B m c t (by omega) h1 h1]
  have hp : t.val - 1 < cfg0.N := lt_of_lt_of_eq (by omega) N_0.symm
  have hA := outsAt0_A m c ⟨t.val - 1, hp⟩ (by show (t.val - 1) % 2 = 0; omega) (by show ¬ (t.val - 1) % 2 = 1; omega) (by show ¬ (t.val - 1) % 2 = 1; omega)
  dsimp only at hA ⊢
  rw [hA]
  dsimp only
  rw [first]
  have hj0 : (y 0 : ℕ) < 2 := (y 0).isLt
  have hj1 : (y 1 : ℕ) < 1024 := (y 1).isLt
  have hj2 : (y 2 : ℕ) < 512 := (y 2).isLt
  obtain ⟨k, hk0, hk1⟩ : ∃ k : S1024x1024.Idx, (k 0 : ℕ) = (y 1 : ℕ) ∧ (k 1 : ℕ) = (y 0 : ℕ) * 512 + (y 2 : ℕ) :=
    ⟨ix2 ⟨(y 1 : ℕ), hj1⟩ ⟨(y 0 : ℕ) * 512 + (y 2 : ℕ), by omega⟩, by rfl, by rfl⟩
  refine (second c _ _ _ _ _ _ _ _ _ _ _ _ _ _ _ y k hk0 hk1).trans ?_
  refine element m c ⟨t.val - 1, hp⟩ t (by show (t.val - 1) % 2 = 0; omega) h1 (by show (t.val - 1) / 2 = t.val / 2; omega) y k hk0 hk1 _ ?_ ?_ ?_
  all_goals (blk_simp [maps t] <;> try omega)

end Cert.KernelWinIdeal.Wg

end
-- ==== Proof.Wg.Kv.lean ====
/- The narrow row-sharded weight gradient `xᵀ · ct` (the call `wg_kv`), accumulated over two steps: what each grid point stores, and the result
   array after the run as the reference's composed term. -/
module

public import proofs.«01_k».proof.Proof.Gen.KernelKvIdeal.Value
public import proofs.«01_k».proof.Proof.Gen.ReferenceKvIdeal.Read
public import Idealize.ShloMosaic.Lib.Pipeline.ValueKit

@[expose] public section

noncomputable section

namespace Cert.KernelKvIdeal.Wg

open Cert.KernelKvIdeal Cert.KernelKvIdeal.Gen Idealize.ShloMosaic Idealize.ShloMosaic.TcCoe Idealize.SL.Sem
open Idealize.ShloMosaic.Pipeline (Dat)
open Cert.ReferenceKvIdeal.Read

variable (m : (ℓ : Loc nD τ sig) → Buf (Elt Ideal) ℓ)

theorem zero2 : (![0, 0] : Fin 2 → ℕ) = fun _ => 0 := by funext a; fin_cases a <;> rfl
theorem zero3 : (![0, 0, 0] : Fin 3 → ℕ) = fun _ => 0 := by funext a; fin_cases a <;> rfl

/-- The first step leaves the product of its two blocks in the accumulator. -/
theorem first (c : Dev nD) (i : grid0.Coords) (a3 : Memref sig .tc .vmem S2048x1024 .bf16) (h3 : a3.IsWhole)
    (a4 : Memref sig .tc .vmem S2048x256 .bf16) (h4 : a4.IsWhole) (a5 : Memref sig .tc .vmem S4x256x256 .bf16)
    (h5 : a5.IsWhole) (a6 : Memref sig .tc .vmem S1024x256 .f32) (h6 : a6.IsWhole) (hc0 : cond0_0 i)
    (hc1 : ¬cond0_1 i) (hc2 : ¬cond0_2 i) (x : Vec Ideal S2048x1024 .bf16) (y : Vec Ideal S2048x256 .bf16) :
    sout0_A_0 c i a3 h3 a4 h4 a5 h5 a6 h6 hc0 hc1 hc2 x y = k0_pay2 x y := by
  unfold sout0_A_0
  rw [View.read_writes_junk_eq_canon]
  unfold kernelRun0_A
  dsimp only
  sl_unfold_words
  rw [View.canon_unit_zero (S := S1024x256) zero2]
  simp only [View.readAt_eq_ld, h3.read_unread, h4.read_unread, View.ld_unit_zero (S := S2048x1024) zero2, View.ld_unit_zero (S := S2048x256) zero2]

/-- Reading a slab of a buffer that was written whole reads the slab of what was written. -/
theorem slab (v : View sig .tc .vmem S1024x256 .f32) (Z : Vec Ideal S1024x256 .f32) (o : ℕ)
    (h : ∀ a, (![o, 0] : Fin 2 → ℕ) a + (![256, 256] : Fin 2 → ℕ) a ≤ S1024x256.size a)
    (h' : ∀ a, (![0, 0] : Fin 2 → ℕ) a + (![1024, 256] : Fin 2 → ℕ) a ≤ S1024x256.size a) :
    v.readCov (Val := Elt Ideal) [⟨Rect.unit ![0, 0] ![1024, 256] h', Z⟩] (Rect.unit (s := S1024x256) ![o, 0] ![256, 256] h).toLoadRect
      = View.ld Z (Rect.unit (s := S1024x256) ![o, 0] ![256, 256] h) := by
  rw [View.readCov_eq_canon']
  funext j
  exact congrFun (View.canon_unit_zero (S := S1024x256) zero2 h' Z) _

/-- The second step stores the accumulated product, its rows cut into four slabs. -/
theorem second (c : Dev nD) (i : grid0.Coords) (a3 : Memref sig .tc .vmem S2048x1024 .bf16) (h3 : a3.IsWhole)
    (a4 : Memref sig .tc .vmem S2048x256 .bf16) (h4 : a4.IsWhole) (a5 : Memref sig .tc .vmem S4x256x256 .bf16)
    (h5 : a5.IsWhole) (a6 : Memref sig .tc .vmem S1024x256 .f32) (h6 : a6.IsWhole) (hc0 : ¬cond0_0 i)
    (hc1 : cond0_1 i) (hc2 : cond0_2 i) (x : Vec Ideal S2048x1024 .bf16) (y : Vec Ideal S2048x256 .bf16) (acc : Vec Ideal S1024x256 .f32)
    (j : S4x256x256.Idx) (k : S1024x256.Idx) (hk0 : (k 0 : ℕ) = (j 0 : ℕ) * 256 + (j 1 : ℕ)) (hk1 : (k 1 : ℕ) = (j 2 : ℕ)) :
    out0_B_2 c i a3 h3 a4 h4 a5 h5 a6 h6 hc0 hc1 hc2 x y acc j = k0_pay3 x y acc k := by
  unfold out0_B_2
  rw [View.read_writes_junk_eq_canon]
  unfold kernelRun0_B
  dsimp only
  sl_unfold_words
  simp only [View.readAt_eq_ld, h3.read_unread, h4.read_unread, h6.read_unread, View.ld_unit_zero (S := S2048x1024) zero2, View.ld_unit_zero (S := S2048x256) zero2, View.ld_unit_zero (S := S1024x256) zero2]
  canon_tiles z hz
  all_goals
    rw [slab]
    generalize k0_pay3 x y acc = Z
    pointwise [k0_pay4, k0_pay5, k0_pay6, k0_pay7]
    refine congrArg Z (funext fun b => Fin.ext ?_)
    fin_cases b
    · simp [Rect.unit]; omega
    · simp [Rect.unit]; omega

/-- The index maps of the two operands at a step: the rows of that step. -/
theorem maps : ∀ t : Fin cfg0.N, win0_0.index t = ![t.val, 0] ∧ win0_1.index t = ![t.val, 0] :=
  (by decide +kernel : ∀ t : Fin grid0.N, _)

/-- The accumulated product at a row and a column is the reference's sum over all the rows, at the slab that holds it. -/
theorem element (c : Dev nD) (t0 t1 : Fin cfg0.N) (e0 : t0.val = 0) (e1 : t1.val = 1) (j : S4x256x256.Idx)
    (k : S1024x256.Idx) (hk0 : (k 0 : ℕ) = (j 0 : ℕ) * 256 + (j 1 : ℕ)) (hk1 : (k 1 : ℕ) = (j 2 : ℕ)) :
    k0_pay3 (F := Ideal) (iblk m c 0 t1) (iblk m c 1 t1) (k0_pay2 (F := Ideal) (iblk m c 0 t0) (iblk m c 1 t0)) k
      = val_main_v7 (F := Ideal) (m ((c : Thread nD τ).loc main_arg0)) (m ((c : Thread nD τ).loc main_arg1)) j := by
  pointwise [k0_pay3, k0_pay2, k0_pay1, val_main_v7, val_main_v6, val_main_v5, val_main_v4, val_main_v3, val_main_v1]
  refine Eq.trans ?_ (Fin.sum_univ_add (a := 2048) (b := 2048) _).symm
  refine congrArg₂ (· + ·) (Finset.sum_congr rfl fun q _ => ?_) (Finset.sum_congr rfl fun q _ => ?_)
  · rw [mul_comm]
    blk_point [iblk, V, maps t0]
    all_goals (rw [e0]; show 0 * 2048 + (q : ℕ) = (q : ℕ); omega)
  · rw [mul_comm]
    blk_point [iblk, V, maps t1]
    all_goals (rw [e1]; show 1 * 2048 + (q : ℕ) = 2048 + (q : ℕ); omega)

/-- What the accumulated state holds after the two steps, at an element of the result block. -/
theorem state (c : Dev nD) (h0 : 0 < cfg0.N) (h1 : 1 < cfg0.N) (j : S4x256x256.Idx) (k : S1024x256.Idx)
    (hk0 : (k 0 : ℕ) = (j 0 : ℕ) * 256 + (j 1 : ℕ)) (hk1 : (k 1 : ℕ) = (j 2 : ℕ)) :
    (Value.stAt0 m c 1 h1 (Value.stAt0 m c 0 h0 Value.junk0)).1 j
      = k0_pay3 (F := Ideal) (iblk m c 0 ⟨1, h1⟩) (iblk m c 1 ⟨1, h1⟩)
          (k0_pay2 (F := Ideal) (iblk m c 0 ⟨0, h0⟩) (iblk m c 1 ⟨0, h0⟩)) k := by
  rw [Value.stAt0_B m c ⟨1, h1⟩ _ (by show ¬ 1 % 2 = 0; omega) (by show 1 % 2 = 1; omega) (by show 1 % 2 = 1; omega),
    Value.stAt0_A m c ⟨0, h0⟩ _ (by show 0 % 2 = 0; omega) (by show ¬ 0 % 2 = 1; omega) (by show ¬ 0 % 2 = 1; omega)]
  dsimp only
  rw [first]
  exact second c _ _ _ _ _ _ _ _ _ _ _ _ _ _ _ j k hk0 hk1

end Cert.KernelKvIdeal.Wg

end
-- ==== Proof.Wg.KvFinal.lean ====
/- The narrow weight gradient's result array after the run, as the reference's composed term. -/
module

public import proofs.«01_k».proof.Proof.Gen.KernelKvIdeal.Value
public import proofs.«01_k».proof.Proof.Gen.ReferenceKvIdeal.Read
public import proofs.«01_k».proof.Proof.Wg.Kv

@[expose] public section

noncomputable section

namespace Cert.KernelKvIdeal.Wg

open Cert.KernelKvIdeal Cert.KernelKvIdeal.Gen Idealize.ShloMosaic Idealize.ShloMosaic.TcCoe Idealize.SL.Sem
open Idealize.ShloMosaic.Pipeline (Dat)
open Cert.ReferenceKvIdeal.Read

variable (m : (ℓ : Loc nD τ sig) → Buf (Elt Ideal) ℓ)

/-- Two steps of an accumulation, the first a reset. -/
theorem two {α : Type} {N : ℕ} (a : (n : ℕ) → n < N → α) (g : (n : ℕ) → n < N → α → α) (h : 0 + 1 < N) (h0 : 0 < N)
    (h1 : 1 < N) : Pipeline.accAt a g 0 1 h = g 1 h1 (a 0 h0) := rfl

/-- The result array after the run is the reference's term of the arguments. -/
theorem final (c : Dev nD) : Value.G2 m c
    = val_main_v7 (F := Ideal) (m ((c : Thread nD τ).loc main_arg0)) (m ((c : Thread nD τ).loc main_arg1)) := by
  have h0 : 0 < cfg0.N := lt_of_lt_of_eq (by decide) N_0.symm
  have h1 : 1 < cfg0.N := lt_of_lt_of_eq (by decide) N_0.symm
  rw [Value.G2_last, two _ _ _ h0 h1]
  funext j
  have hj0 : (j 0 : ℕ) < 4 := (j 0).isLt
  have hj1 : (j 1 : ℕ) < 256 := (j 1).isLt
  have hj2 : (j 2 : ℕ) < 256 := (j 2).isLt
  obtain ⟨k, hk0, hk1⟩ : ∃ k : S1024x256.Idx, (k 0 : ℕ) = (j 0 : ℕ) * 256 + (j 1 : ℕ) ∧ (k 1 : ℕ) = (j 2 : ℕ) :=
    ⟨ix2 ⟨(j 0 : ℕ) * 256 + (j 1 : ℕ), by omega⟩ ⟨(j 2 : ℕ), hj2⟩, by rfl, by rfl⟩
  refine (state m c h0 h1 j k hk0 hk1).trans ?_
  exact (element m c ⟨0, h0⟩ ⟨1, h1⟩ rfl rfl j k hk0 hk1)

end Cert.KernelKvIdeal.Wg

end
-- ==== Proof.Wg.Proj.lean ====
/- The column-sharded weight gradient `pᵀ · ct` of the per-layer input's projection (the call `wg_ple_w_proj`), accumulated over two steps: what each grid point stores, and the result
   array after the run as the reference's composed term. -/
module

public import proofs.«01_k».proof.Proof.Gen.KernelProjIdeal.Value
public import proofs.«01_k».proof.Proof.Gen.ReferenceProjIdeal.Read
public import Idealize.ShloMosaic.Lib.Pipeline.ValueKit

@[expose] public section

noncomputable section

namespace Cert.KernelProjIdeal.Wg

open Cert.KernelProjIdeal Cert.KernelProjIdeal.Gen Idealize.ShloMosaic Idealize.ShloMosaic.TcCoe Idealize.SL.Sem
open Idealize.ShloMosaic.Pipeline (Dat)
open Cert.ReferenceProjIdeal.Read

variable (m : (ℓ : Loc nD τ sig) → Buf (Elt Ideal) ℓ)

theorem zero2 : (![0, 0] : Fin 2 → ℕ) = fun _ => 0 := by funext a; fin_cases a <;> rfl
theorem zero3 : (![0, 0, 0] : Fin 3 → ℕ) = fun _ => 0 := by funext a; fin_cases a <;> rfl

/-- The first step leaves the product of its two blocks in the accumulator. -/
theorem first (c : Dev nD) (i : grid0.Coords) (a3 : Memref sig .tc .vmem S1x2048x256 .f32) (h3 : a3.IsWhole)
    (a4 : Memref sig .tc .vmem S2048x1024 .bf16) (h4 : a4.IsWhole) (a5 : Memref sig .tc .vmem S4x256x256 .bf16)
    (h5 : a5.IsWhole) (a6 : Memref sig .tc .vmem S256x1024 .f32) (h6 : a6.IsWhole) (hc0 : cond0_0 i)
    (hc1 : ¬cond0_1 i) (hc2 : ¬cond0_2 i) (x : Vec Ideal S1x2048x256 .f32) (y : Vec Ideal S2048x1024 .bf16) :
    sout0_A_0 c i a3 h3 a4 h4 a5 h5 a6 h6 hc0 hc1 hc2 x y = k0_pay2 x y := by
  unfold sout0_A_0
  rw [View.read_writes_junk_eq_canon]
  unfold kernelRun0_A
  dsimp only
  sl_unfold_words
  rw [View.canon_unit_zero (S := S256x1024) zero2]
  simp only [View.readAt_eq_ld, h3.read_unread, h4.read_unread, View.ld_unit_zero (S := S2048x1024) zero2, View.ld_unit_zero (S := S1x2048x256) zero3]

/-- Reading a slab of a buffer that was written whole reads the slab of what was written. -/
theorem slab (v : View sig .tc .vmem S256x1024 .f32) (Z : Vec Ideal S256x1024 .f32) (o : ℕ)
    (h : ∀ a, (![0, o] : Fin 2 → ℕ) a + (![256, 256] : Fin 2 → ℕ) a ≤ S256x1024.size a)
    (h' : ∀ a, (![0, 0] : Fin 2 → ℕ) a + (![256, 1024] : Fin 2 → ℕ) a ≤ S256x1024.size a) :
    v.readCov (Val := Elt Ideal) [⟨Rect.unit ![0, 0] ![256, 1024] h', Z⟩] (Rect.unit (s := S256x1024) ![0, o] ![256, 256] h).toLoadRect
      = View.ld Z (Rect.unit (s := S256x1024) ![0, o] ![256, 256] h) := by
  rw [View.readCov_eq_canon']
  funext j
  exact congrFun (View.canon_unit_zero (S := S256x1024) zero2 h' Z) _

/-- The second step stores the accumulated product, its columns cut into four slabs. -/
theorem second (c : Dev nD) (i : grid0.Coords) (a3 : Memref sig .tc .vmem S1x2048x256 .f32) (h3 : a3.IsWhole)
    (a4 : Memref sig .tc .vmem S2048x1024 .bf16) (h4 : a4.IsWhole) (a5 : Memref sig .tc .vmem S4x256x256 .bf16)
    (h5 : a5.IsWhole) (a6 : Memref sig .tc .vmem S256x1024 .f32) (h6 : a6.IsWhole) (hc0 : ¬cond0_0 i)
    (hc1 : cond0_1 i) (hc2 : cond0_2 i) (x : Vec Ideal S1x2048x256 .f32) (y : Vec Ideal S2048x1024 .bf16) (acc : Vec Ideal S256x1024 .f32)
    (j : S4x256x256.Idx) (k : S256x1024.Idx) (hk0 : (k 0 : ℕ) = (j 1 : ℕ)) (hk1 : (k 1 : ℕ) = (j 0 : ℕ) * 256 + (j 2 : ℕ)) :
    out0_B_2 c i a3 h3 a4 h4 a5 h5 a6 h6 hc0 hc1 hc2 x y acc j = k0_pay3 x y acc k := by
  unfold out0_B_2
  rw [View.read_writes_junk_eq_canon]
  unfold kernelRun0_B
  dsimp only
  sl_unfold_words
  simp only [View.readAt_eq_ld, h3.read_unread, h4.read_unread, h6.read_unread, View.ld_unit_zero (S := S2048x1024) zero2, View.ld_unit_zero (S := S1x2048x256) zero3, View.ld_unit_zero (S := S256x1024) zero2]
  canon_tiles z hz
  all_goals
    rw [slab]
    generalize k0_pay3 x y acc = Z
    pointwise [k0_pay4, k0_pay5, k0_pay6, k0_pay7]
    refine congrArg Z (funext fun b => Fin.ext ?_)
    fin_cases b
    · simp [Rect.unit]; omega
    · simp [Rect.unit]; omega

/-- The index maps of the two operands at a step: the rows of that step. -/
theorem maps : ∀ t : Fin cfg0.N, win0_0.index t = ![0, t.val, 0] ∧ win0_1.index t = ![t.val, 0] :=
  (by decide +kernel : ∀ t : Fin grid0.N, _)

/-- The accumulated product at a row and a column is the reference's sum over all the rows, at the slab that holds it. -/
theorem element (c : Dev nD) (t0 t1 : Fin cfg0.N) (e0 : t0.val = 0) (e1 : t1.val = 1) (j : S4x256x256.Idx)
    (k : S256x1024.Idx) (hk0 : (k 0 : ℕ) = (j 1 : ℕ)) (hk1 : (k 1 : ℕ) = (j 0 : ℕ) * 256 + (j 2 : ℕ)) :
    k0_pay3 (F := Ideal) (iblk m c 0 t1) (iblk m c 1 t1) (k0_pay2 (F := Ideal) (iblk m c 0 t0) (iblk m c 1 t0)) k
      = val_main_v9 (F := Ideal) (m ((c : Thread nD τ).loc main_arg0)) (m ((c : Thread nD τ).loc main_arg1)) j := by
  pointwise [k0_pay3, k0_pay2, k0_pay1, val_main_v9, val_main_v8, val_main_v7, val_main_v6, val_main_v5, val_main_v3, val_main_v2, val_main_v1, val_main_v0]
  refine Eq.trans ?_ (Fin.sum_univ_add (a := 2048) (b := 2048) _).symm
  refine congrArg₂ (· + ·) (Finset.sum_congr rfl fun q _ => ?_) (Finset.sum_congr rfl fun q _ => ?_)
  · rw [mul_comm]
    blk_point [iblk, V, maps t0]
    all_goals (rw [e0]; show 0 * 2048 + (q : ℕ) = (q : ℕ); omega)
  · rw [mul_comm]
    blk_point [iblk, V, maps t1]
    all_goals (rw [e1]; show 1 * 2048 + (q : ℕ) = 2048 + (q : ℕ); omega)

/-- What the accumulated state holds after the two steps, at an element of the result block. -/
theorem state (c : Dev nD) (h0 : 0 < cfg0.N) (h1 : 1 < cfg0.N) (j : S4x256x256.Idx) (k : S256x1024.Idx)
    (hk0 : (k 0 : ℕ) = (j 1 : ℕ)) (hk1 : (k 1 : ℕ) = (j 0 : ℕ) * 256 + (j 2 : ℕ)) :
    (Value.stAt0 m c 1 h1 (Value.stAt0 m c 0 h0 Value.junk0)).1 j
      = k0_pay3 (F := Ideal) (iblk m c 0 ⟨1, h1⟩) (iblk m c 1 ⟨1, h1⟩)
          (k0_pay2 (F := Ideal) (iblk m c 0 ⟨0, h0⟩) (iblk m c 1 ⟨0, h0⟩)) k := by
  rw [Value.stAt0_B m c ⟨1, h1⟩ _ (by show ¬ 1 % 2 = 0; omega) (by show 1 % 2 = 1; omega) (by show 1 % 2 = 1; omega),
    Value.stAt0_A m c ⟨0, h0⟩ _ (by show 0 % 2 = 0; omega) (by show ¬ 0 % 2 = 1; omega) (by show ¬ 0 % 2 = 1; omega)]
  dsimp only
  rw [first]
  exact second c _ _ _ _ _ _ _ _ _ _ _ _ _ _ _ j k hk0 hk1

end Cert.KernelProjIdeal.Wg

end
-- ==== Proof.Wg.ProjFinal.lean ====
/- The projection's weight gradient's result array after the run, as the reference's composed term. -/
module

public import proofs.«01_k».proof.Proof.Gen.KernelProjIdeal.Value
public import proofs.«01_k».proof.Proof.Gen.ReferenceProjIdeal.Read
public import proofs.«01_k».proof.Proof.Wg.Proj

@[expose] public section

noncomputable section

namespace Cert.KernelProjIdeal.Wg

open Cert.KernelProjIdeal Cert.KernelProjIdeal.Gen Idealize.ShloMosaic Idealize.ShloMosaic.TcCoe Idealize.SL.Sem
open Idealize.ShloMosaic.Pipeline (Dat)
open Cert.ReferenceProjIdeal.Read

variable (m : (ℓ : Loc nD τ sig) → Buf (Elt Ideal) ℓ)

/-- Two steps of an accumulation, the first a reset. -/
theorem two {α : Type} {N : ℕ} (a : (n : ℕ) → n < N → α) (g : (n : ℕ) → n < N → α → α) (h : 0 + 1 < N) (h0 : 0 < N)
    (h1 : 1 < N) : Pipeline.accAt a g 0 1 h = g 1 h1 (a 0 h0) := rfl

/-- The result array after the run is the reference's term of the arguments. -/
theorem final (c : Dev nD) : Value.G2 m c
    = val_main_v9 (F := Ideal) (m ((c : Thread nD τ).loc main_arg0)) (m ((c : Thread nD τ).loc main_arg1)) := by
  have h0 : 0 < cfg0.N := lt_of_lt_of_eq (by decide) N_0.symm
  have h1 : 1 < cfg0.N := lt_of_lt_of_eq (by decide) N_0.symm
  rw [Value.G2_last, two _ _ _ h0 h1]
  funext j
  have hj0 : (j 0 : ℕ) < 4 := (j 0).isLt
  have hj1 : (j 1 : ℕ) < 256 := (j 1).isLt
  have hj2 : (j 2 : ℕ) < 256 := (j 2).isLt
  obtain ⟨k, hk0, hk1⟩ : ∃ k : S256x1024.Idx, (k 0 : ℕ) = (j 1 : ℕ) ∧ (k 1 : ℕ) = (j 0 : ℕ) * 256 + (j 2 : ℕ) :=
    ⟨ix2 ⟨(j 1 : ℕ), hj1⟩ ⟨(j 0 : ℕ) * 256 + (j 2 : ℕ), by omega⟩, by rfl, by rfl⟩
  refine (state m c h0 h1 j k hk0 hk1).trans ?_
  exact (element m c ⟨0, h0⟩ ⟨1, h1⟩ rfl rfl j k hk0 hk1)

end Cert.KernelProjIdeal.Wg

end
-- ==== Proof.Wg.Claims.lean ====
/- The value claims of the weight gradients: the kernel's result is the gradient of the product, exactly. -/
module

public import proofs.«01_k».proof.Defs
public import proofs.«01_k».proof.Proof.Wg.Up
public import proofs.«01_k».proof.Proof.Wg.Down
public import proofs.«01_k».proof.Proof.Wg.SqFinal
public import proofs.«01_k».proof.Proof.Wg.Win
public import proofs.«01_k».proof.Proof.Wg.KvFinal
public import proofs.«01_k».proof.Proof.Wg.ProjFinal

@[expose] public section

noncomputable section

namespace Cert.Wg

open Idealize.ShloMosaic Idealize.ShloMosaic.TcCoe Idealize.SL.Sem

/-- The up-projection weight gradient: both programs end with the reference's term of the arguments. -/
theorem up : Cert.algebraic_KernelUpIdeal_ReferenceUpIdeal := by
  intro m g m' g' _ he
  refine ⟨fun c => Cert.ReferenceUpIdeal.Read.val_main_v8 (F := Ideal) (m ((c.tc : Thread Cert.KernelUpIdeal.nD Cert.KernelUpIdeal.τ).loc Cert.KernelUpIdeal.main_arg0))
      (m ((c.tc : Thread Cert.KernelUpIdeal.nD Cert.KernelUpIdeal.τ).loc Cert.KernelUpIdeal.main_arg1)),
    (θ_run _ _ _).mono (fun r h c => ⟨(h c).1.trans (Cert.KernelUpIdeal.Wg.final m c), (h c).2⟩) (Cert.KernelUpIdeal.Value.run_blocks m g),
    (θ_run _ _ _).mono (fun r h c => ⟨(h c).1.trans ?_, (h c).2⟩) (Cert.ReferenceUpIdeal.Value.run (F := Ideal) m' g')⟩
  rw [(he c).1, (he c).2]
  exact Cert.ReferenceUpIdeal.Read.val_main_v8_eq (F := Ideal) _ _

/-- The down-projection weight gradient: both programs end with the reference's term of the arguments. -/
theorem down : Cert.algebraic_KernelDownIdeal_ReferenceDownIdeal := by
  intro m g m' g' _ he
  refine ⟨fun c => Cert.ReferenceDownIdeal.Read.val_main_v7 (F := Ideal) (m ((c.tc : Thread Cert.KernelDownIdeal.nD Cert.KernelDownIdeal.τ).loc Cert.KernelDownIdeal.main_arg0))
      (m ((c.tc : Thread Cert.KernelDownIdeal.nD Cert.KernelDownIdeal.τ).loc Cert.KernelDownIdeal.main_arg1)),
    (θ_run _ _ _).mono (fun r h c => ⟨(h c).1.trans (Cert.KernelDownIdeal.Wg.final m c), (h c).2⟩) (Cert.KernelDownIdeal.Value.run_blocks m g),
    (θ_run _ _ _).mono (fun r h c => ⟨(h c).1.trans ?_, (h c).2⟩) (Cert.ReferenceDownIdeal.Value.run (F := Ideal) m' g')⟩
  rw [(he c).1, (he c).2]
  exact Cert.ReferenceDownIdeal.Read.val_main_v7_eq (F := Ideal) _ _

/-- The square weight gradient: both programs end with the reference's term of the arguments. -/
theorem sq : Cert.algebraic_KernelSqIdeal_ReferenceSqIdeal := by
  intro m g m' g' _ he
  refine ⟨fun c => Cert.ReferenceSqIdeal.Read.val_main_v7 (F := Ideal) (m ((c.tc : Thread Cert.KernelSqIdeal.nD Cert.KernelSqIdeal.τ).loc Cert.KernelSqIdeal.main_arg0))
      (m ((c.tc : Thread Cert.KernelSqIdeal.nD Cert.KernelSqIdeal.τ).loc Cert.KernelSqIdeal.main_arg1)),
    (θ_run _ _ _).mono (fun r h c => ⟨(h c).1.trans (Cert.KernelSqIdeal.Wg.final m c), (h c).2⟩) (Cert.KernelSqIdeal.Value.run m g),
    (θ_run _ _ _).mono (fun r h c => ⟨(h c).1.trans ?_, (h c).2⟩) (Cert.ReferenceSqIdeal.Value.run (F := Ideal) m' g')⟩
  rw [(he c).1, (he c).2]
  exact Cert.ReferenceSqIdeal.Read.val_main_v7_eq (F := Ideal) _ _

/-- The convolution input projection's weight gradient: both programs end with the reference's term of the arguments. -/
theorem win : Cert.algebraic_KernelWinIdeal_ReferenceWinIdeal := by
  intro m g m' g' _ he
  refine ⟨fun c => Cert.ReferenceWinIdeal.Read.val_main_v7 (F := Ideal) (m ((c.tc : Thread Cert.KernelWinIdeal.nD Cert.KernelWinIdeal.τ).loc Cert.KernelWinIdeal.main_arg0))
      (m ((c.tc : Thread Cert.KernelWinIdeal.nD Cert.KernelWinIdeal.τ).loc Cert.KernelWinIdeal.main_arg1)),
    (θ_run _ _ _).mono (fun r h c => ⟨(h c).1.trans (Cert.KernelWinIdeal.Wg.final m c), (h c).2⟩) (Cert.KernelWinIdeal.Value.run_blocks m g),
    (θ_run _ _ _).mono (fun r h c => ⟨(h c).1.trans ?_, (h c).2⟩) (Cert.ReferenceWinIdeal.Value.run (F := Ideal) m' g')⟩
  rw [(he c).1, (he c).2]
  exact Cert.ReferenceWinIdeal.Read.val_main_v7_eq (F := Ideal) _ _

/-- The key and value projections' weight gradient: both programs end with the reference's term of the arguments. -/
theorem kv : Cert.algebraic_KernelKvIdeal_ReferenceKvIdeal := by
  intro m g m' g' _ he
  refine ⟨fun c => Cert.ReferenceKvIdeal.Read.val_main_v7 (F := Ideal) (m ((c.tc : Thread Cert.KernelKvIdeal.nD Cert.KernelKvIdeal.τ).loc Cert.KernelKvIdeal.main_arg0))
      (m ((c.tc : Thread Cert.KernelKvIdeal.nD Cert.KernelKvIdeal.τ).loc Cert.KernelKvIdeal.main_arg1)),
    (θ_run _ _ _).mono (fun r h c => ⟨(h c).1.trans (Cert.KernelKvIdeal.Wg.final m c), (h c).2⟩) (Cert.KernelKvIdeal.Value.run m g),
    (θ_run _ _ _).mono (fun r h c => ⟨(h c).1.trans ?_, (h c).2⟩) (Cert.ReferenceKvIdeal.Value.run (F := Ideal) m' g')⟩
  rw [(he c).1, (he c).2]
  exact Cert.ReferenceKvIdeal.Read.val_main_v7_eq (F := Ideal) _ _

/-- The per-layer input projection's weight gradient: both programs end with the reference's term of the arguments. -/
theorem proj : Cert.algebraic_KernelProjIdeal_ReferenceProjIdeal := by
  intro m g m' g' _ he
  refine ⟨fun c => Cert.ReferenceProjIdeal.Read.val_main_v9 (F := Ideal) (m ((c.tc : Thread Cert.KernelProjIdeal.nD Cert.KernelProjIdeal.τ).loc Cert.KernelProjIdeal.main_arg0))
      (m ((c.tc : Thread Cert.KernelProjIdeal.nD Cert.KernelProjIdeal.τ).loc Cert.KernelProjIdeal.main_arg1)),
    (θ_run _ _ _).mono (fun r h c => ⟨(h c).1.trans (Cert.KernelProjIdeal.Wg.final m c), (h c).2⟩) (Cert.KernelProjIdeal.Value.run m g),
    (θ_run _ _ _).mono (fun r h c => ⟨(h c).1.trans ?_, (h c).2⟩) (Cert.ReferenceProjIdeal.Value.run (F := Ideal) m' g')⟩
  rw [(he c).1, (he c).2]
  exact Cert.ReferenceProjIdeal.Read.val_main_v9_eq (F := Ideal) _ _

end Cert.Wg

end
-- ==== Proof.Mlp.Ff.lean ====
/- The up projection and its squared ReLU (the call `mlp_up_fwd`): the two result arrays after the run as the
   reference's composed terms, the activation and its derivative. -/
module

public import proofs.«01_k».proof.Proof.Gen.KernelFfIdeal.Value
public import proofs.«01_k».proof.Proof.Gen.ReferenceFfIdeal.Read
public import Idealize.ShloMosaic.Lib.Pipeline.ValueKit

@[expose] public section

noncomputable section

namespace Cert.KernelFfIdeal.Mlp

open Cert.KernelFfIdeal Cert.KernelFfIdeal.Gen Idealize.ShloMosaic Idealize.ShloMosaic.TcCoe Idealize.SL.Sem
open Idealize.ShloMosaic.Pipeline (Dat)
open Cert.ReferenceFfIdeal.Read

variable (m : (ℓ : Loc nD τ sig) → Buf (Elt Ideal) ℓ)

/-- The index maps at a grid point: its rows of the input and of the two results, the whole of the weights. -/
theorem maps : ∀ t : Fin cfg0.N, win0_0.index t = ![t.val, 0] ∧ win0_1.index t = ![0, 0, 0]
    ∧ win0_2.index t = ![t.val, 0] ∧ win0_3.index t = ![t.val, 0] :=
  (by decide +kernel : ∀ t : Fin grid0.N, _)

/-- The activation's array after the run is the reference's term of the arguments. -/
theorem final2 (c : Dev nD) : (dats m 0 c).arrAt 2 cfg0.N
    = val_main_v12 (F := Ideal) (m ((c : Thread nD τ).loc main_arg0)) (m ((c : Thread nD τ).loc main_arg1)) := by
  refine (dats m 0 c).arrAt_eq_of_covers 2 _ (by decide +kernel) fun t _ y => ?_
  blk_simp
  rw [after0_2]
  unfold out0_2
  canon_tiles z hz
  all_goals (
    pointwise [k0_pay14, k0_pay13, k0_pay11, k0_pay10, k0_pay8, k0_pay7, k0_pay5, k0_pay4, k0_pay2, k0_pay1, val_main_v12, val_main_v9, val_main_v5, val_main_v4, val_main_v3, val_main_v2, val_main_v1, val_main_v0, val_main_call0_v0, val_main_call0_cst])
  all_goals
    have hs : ∀ {n : ℕ} {f g : Fin n → EReal}, (∀ q, f q = g q) → max (∑ q, f q) 0 * max (∑ q, f q) 0 = max (∑ q, g q) 0 * max (∑ q, g q) 0 :=
      fun h => by rw [Finset.sum_congr rfl fun q _ => h q]
    refine hs fun q => ?_
    blk_point [iblk, V, maps t]

/-- The derivative's array after the run is the reference's term of the arguments. -/
theorem final3 (c : Dev nD) : (dats m 0 c).arrAt 3 cfg0.N
    = val_main_v17 (F := Ideal) (m ((c : Thread nD τ).loc main_arg0)) (m ((c : Thread nD τ).loc main_arg1)) := by
  refine (dats m 0 c).arrAt_eq_of_covers 3 _ (by decide +kernel) fun t _ y => ?_
  blk_simp
  rw [after0_3]
  unfold out0_3
  canon_tiles z hz
  all_goals (
    pointwise [k0_pay14, k0_pay13, k0_pay12, k0_pay10, k0_pay9, k0_pay7, k0_pay6, k0_pay4, k0_pay3, k0_pay1, val_main_v17, val_main_v16, val_main_v15, val_main_v14, val_main_v13, val_main_v11, val_main_v10, val_main_v7, val_main_v6, val_main_v5, val_main_v4, val_main_v3, val_main_v2, val_main_v1, val_main_v0, val_main_call0_v0, val_main_call0_cst, val_main_cst, val_main_cst_1, val_main_cst_2, val_main_cst_3])
  all_goals
    have hs : ∀ {k a b : EReal}, a = b → k * max a 0 = if 0 < b then k * max b 0 else 0 := by
      rintro k a _ rfl
      split_ifs with h
      · rfl
      · rw [max_eq_right (not_lt.mp h), mul_zero]
    refine hs (Finset.sum_congr rfl fun q _ => ?_)
    blk_point [iblk, V, maps t]

end Cert.KernelFfIdeal.Mlp

end
-- ==== Proof.Mlp.Ln.lean ====
/- The down projection, the residual and the layer normalisation (the call `mlp_down_fwd`): the five result arrays
   after the run as the reference's composed terms. -/
module

public import proofs.«01_k».proof.Proof.Gen.KernelLnIdeal.Value
public import proofs.«01_k».proof.Proof.Gen.ReferenceLnIdeal.Read
public import Idealize.ShloMosaic.Lib.Pipeline.ValueKit

@[expose] public section

noncomputable section

namespace Cert.KernelLnIdeal.Mlp

open Cert.KernelLnIdeal Cert.KernelLnIdeal.Gen Idealize.ShloMosaic Idealize.ShloMosaic.TcCoe Idealize.SL.Sem
open Idealize.ShloMosaic.Pipeline (Dat)
open Cert.ReferenceLnIdeal.Read

variable (m : (ℓ : Loc nD τ sig) → Buf (Elt Ideal) ℓ)

theorem zero2 : (![0, 0] : Fin 2 → ℕ) = fun _ => 0 := by funext a; fin_cases a <;> rfl
theorem zero3 : (![0, 0, 0] : Fin 3 → ℕ) = fun _ => 0 := by funext a; fin_cases a <;> rfl

/-- The index maps at a grid point: its rows of the activations, the residual and the results, the whole of the rest. -/
theorem maps : ∀ t : Fin cfg0.N, win0_0.index t = ![t.val, 0] ∧ win0_1.index t = ![0, 0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

/-- The sum before the normalisation, at a row of a block, is the reference's at the row the block gives it. -/
theorem pre (c : Dev nD) (t : Fin cfg0.N) (a : Fin 512) (b : Fin 1024) (r : Fin 4096) (hr : (r : ℕ) = t.val * 512 + (a : ℕ)) :
    k0_pay2 (F := Ideal) (iblk m c 0 t) (iblk m c 1 t) (iblk m c 2 t) (ix2 a b)
      = val_main_v6 (F := Ideal) (m ((c : Thread nD τ).loc main_arg0)) (m ((c : Thread nD τ).loc main_arg1))
          (m ((c : Thread nD τ).loc main_arg2)) (ix2 r b) := by
  pointwise [k0_pay2, val_main_v6, val_main_v5, val_main_v4, val_main_v3, val_main_v2, val_main_v1, val_main_v0, val_main_cst]
  refine congrArg₂ (· + ·) (congrArg (_ * ·) ?_) (Finset.sum_congr rfl fun q _ => ?_)
  · blk_point [iblk, V, maps t]
  · blk_point [iblk, V, maps t]

/-- The same at an index of the block. -/
theorem preAt (c : Dev nD) (t : Fin cfg0.N) (i : S512x1024.Idx) (k : S4096x1024.Idx) (h0 : (k 0 : ℕ) = t.val * 512 + (i 0 : ℕ)) (h1 : (k 1 : ℕ) = (i 1 : ℕ)) :
    k0_pay2 (F := Ideal) (iblk m c 0 t) (iblk m c 1 t) (iblk m c 2 t) i
      = val_main_v6 (F := Ideal) (m ((c : Thread nD τ).loc main_arg0)) (m ((c : Thread nD τ).loc main_arg1))
          (m ((c : Thread nD τ).loc main_arg2)) k := by
  rw [eq_ix2 i, eq_ix2 k, show k 1 = i 1 from Fin.ext h1]
  exact pre m c t _ _ _ h0

/-- The sums' array after the run is the reference's term of the arguments. -/
theorem final5 (c : Dev nD) : (dats m 0 c).arrAt 5 cfg0.N
    = val_main_v6 (F := Ideal) (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]
  unfold out0_5
  rw [View.canon_unit_zero (S := S512x1024) zero2]
  simp only [View.ld_unit_zero (S := S512x1024) zero2, View.ld_unit_zero (S := S512x4096) zero2, View.ld_unit_zero (S := S4x1024x1024) zero3, View.ld_unit_zero (S := S1x1024) zero2]
  have h0 : ((((cfg0.win 5).blk t).view.emb y 0 : Fin 4096) : ℕ) = t.val * 512 + (y 0 : ℕ) := by blk_simp [maps t]
  exact preAt m c t y _ h0 (by blk_simp [maps t])

/-- The means' array after the run is the reference's term of the arguments. -/
theorem final6 (c : Dev nD) : (dats m 0 c).arrAt 6 cfg0.N
    = val_main_v32 (F := Ideal) (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]
  unfold out0_6
  rw [View.canon_unit_zero (S := S512x1) zero2]
  simp only [View.ld_unit_zero (S := S512x1024) zero2, View.ld_unit_zero (S := S512x4096) zero2, View.ld_unit_zero (S := S4x1024x1024) zero3, View.ld_unit_zero (S := S1x1024) zero2]
  have h0 : ((((cfg0.win 6).blk t).view.emb y 0 : Fin 4096) : ℕ) = t.val * 512 + (y 0 : ℕ) := by blk_simp [maps t]
  have e : ∀ b : Fin 1024, k0_pay2 (F := Ideal) (iblk m c 0 t) (iblk m c 1 t) (iblk m c 2 t) (ix2 (y 0) b) = _ := fun b => pre m c t (y 0) b _ h0
  blk_simp at e
  pointwise [k0_pay3, val_main_v32, val_main_v31, val_main_cst_6, val_main_v30, val_main_v29, val_main_cst_5]
  simp only [e]

/-- The reciprocal deviations' array after the run is the reference's term of the arguments. -/
theorem final7 (c : Dev nD) : (dats m 0 c).arrAt 7 cfg0.N
    = val_main_v42 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  unfold out0_7
  rw [View.canon_unit_zero (S := S512x1) zero2]
  simp only [View.ld_unit_zero (S := S512x1024) zero2, View.ld_unit_zero (S := S512x4096) zero2, View.ld_unit_zero (S := S4x1024x1024) zero3, View.ld_unit_zero (S := S1x1024) zero2]
  have h0 : ((((cfg0.win 7).blk t).view.emb y 0 : Fin 4096) : ℕ) = t.val * 512 + (y 0 : ℕ) := by blk_simp [maps t]
  have e : ∀ b : Fin 1024, k0_pay2 (F := Ideal) (iblk m c 0 t) (iblk m c 1 t) (iblk m c 2 t) (ix2 (y 0) b) = _ := fun b => pre m c t (y 0) b _ h0
  blk_simp at e
  pointwise [k0_pay5, k0_pay4, k0_pay3, val_main_v42, val_main_v41, val_main_v40, val_main_cst_9, val_main_v39, val_main_v38, val_main_cst_8, val_main_v37, val_main_v36, val_main_cst_7, val_main_v35, val_main_v34, val_main_v33, val_main_v32, val_main_v31, val_main_cst_6, val_main_v30, val_main_v29, val_main_cst_5]
  simp only [e]

/-- The normalised rows' array after the run is the reference's term of the arguments. -/
theorem final8 (c : Dev nD) : (dats m 0 c).arrAt 8 cfg0.N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8]
  unfold out0_8 k0_pay7
  rw [View.canon_unit_zero (S := S512x1024) zero2]
  simp only [View.ld_unit_zero (S := S512x1024) zero2, View.ld_unit_zero (S := S512x4096) zero2, View.ld_unit_zero (S := S4x1024x1024) zero3, View.ld_unit_zero (S := S1x1024) zero2]
  have h0 : ((((cfg0.win 8).blk t).view.emb y 0 : Fin 4096) : ℕ) = t.val * 512 + (y 0 : ℕ) := by blk_simp [maps t]
  have e : ∀ b : Fin 1024, k0_pay2 (F := Ideal) (iblk m c 0 t) (iblk m c 1 t) (iblk m c 2 t) (ix2 (y 0) b) = _ := fun b => pre m c t (y 0) b _ h0
  blk_simp at e
  have e' : k0_pay2 (F := Ideal) (iblk m c 0 t) (iblk m c 1 t) (iblk m c 2 t) y = _ := preAt m c t y _ h0 (by blk_simp [maps t])
  blk_simp at e'
  pointwise [k0_pay6, k0_pay5, k0_pay4, k0_pay3, val_main_v28, val_main_v27, val_main_v26, val_main_v25, val_main_v24, val_main_v23, val_main_v22, val_main_v21, val_main_v20, val_main_cst_4, val_main_v19, val_main_v18, val_main_v17, val_main_v16, val_main_cst_3, val_main_v15, val_main_v14, val_main_v13, val_main_v12, val_main_v11, val_main_v10, val_main_v9, val_main_cst_1, val_main_v8, val_main_v7, val_main_cst_0, val_main_cst_2]
  simp only [e, e']
  have hs : ∀ {x u u' v v' : EReal}, u = u' → v = v' → x * u + v = x * u' + v' := by rintro _ _ _ _ _ rfl rfl; rfl
  refine hs ?_ ?_
  · blk_point [iblk, V, maps t]
  · blk_point [iblk, V, maps t]

/-- The array of the normalised rows in bf16 after the run is the reference's term of the arguments. -/
theorem final9 (c : Dev nD) : (dats m 0 c).arrAt 9 cfg0.N
    = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9]
  unfold out0_9 k0_pay7
  rw [View.canon_unit_zero (S := S512x1024) zero2]
  simp only [View.ld_unit_zero (S := S512x1024) zero2, View.ld_unit_zero (S := S512x4096) zero2, View.ld_unit_zero (S := S4x1024x1024) zero3, View.ld_unit_zero (S := S1x1024) zero2]
  have h0 : ((((cfg0.win 9).blk t).view.emb y 0 : Fin 4096) : ℕ) = t.val * 512 + (y 0 : ℕ) := by blk_simp [maps t]
  have e : ∀ b : Fin 1024, k0_pay2 (F := Ideal) (iblk m c 0 t) (iblk m c 1 t) (iblk m c 2 t) (ix2 (y 0) b) = _ := fun b => pre m c t (y 0) b _ h0
  blk_simp at e
  have e' : k0_pay2 (F := Ideal) (iblk m c 0 t) (iblk m c 1 t) (iblk m c 2 t) y = _ := preAt m c t y _ h0 (by blk_simp [maps t])
  blk_simp at e'
  pointwise [k0_pay1, k0_pay6, k0_pay5, k0_pay4, k0_pay3, val_main_v43, val_main_v28, val_main_v27, val_main_v26, val_main_v25, val_main_v24, val_main_v23, val_main_v22, val_main_v21, val_main_v20, val_main_cst_4, val_main_v19, val_main_v18, val_main_v17, val_main_v16, val_main_cst_3, val_main_v15, val_main_v14, val_main_v13, val_main_v12, val_main_v11, val_main_v10, val_main_v9, val_main_cst_1, val_main_v8, val_main_v7, val_main_cst_0, val_main_cst_2]
  simp only [e, e']
  have hs : ∀ {x u u' v v' : EReal}, u = u' → v = v' → x * u + v = x * u' + v' := by rintro _ _ _ _ _ rfl rfl; rfl
  refine hs ?_ ?_
  · blk_point [iblk, V, maps t]
  · blk_point [iblk, V, maps t]

end Cert.KernelLnIdeal.Mlp

end
-- ==== Proof.Mlp.MbRun.lean ====
/- What one grid point of the call stores in each result block. -/
module

public import proofs.«01_k».proof.Proof.Gen.KernelMbIdeal.Value
public import Idealize.ShloMosaic.Lib.Pipeline.ValueKit

@[expose] public section

noncomputable section

namespace Cert.KernelMbIdeal.Mlp

open Cert.KernelMbIdeal Cert.KernelMbIdeal.Gen Idealize.ShloMosaic Idealize.ShloMosaic.TcCoe Idealize.SL.Sem

theorem zero2 : (![0, 0] : Fin 2 → ℕ) = fun _ => 0 := by funext a; fin_cases a <;> rfl
theorem zero3 : (![0, 0, 0] : Fin 3 → ℕ) = fun _ => 0 := by funext a; fin_cases a <;> rfl

/-- The first point stores the gradient of the sum. -/
theorem first7 (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S512x1 .f32) (harg3 : arg3.IsWhole)
    (arg4 : Memref sig .tc .vmem S512x1 .f32) (harg4 : arg4.IsWhole)
    (arg5 : Memref sig .tc .vmem S1x1024 .f32) (harg5 : arg5.IsWhole)
    (arg6 : Memref sig .tc .vmem S512x4096 .bf16) (harg6 : arg6.IsWhole)
    (arg7 : Memref sig .tc .vmem S4x1024x1024 .bf16) (harg7 : arg7.IsWhole)
    (arg8 : Memref sig .tc .vmem S512x1024 .f32) (harg8 : arg8.IsWhole)
    (arg9 : Memref sig .tc .vmem S512x1024 .bf16) (harg9 : arg9.IsWhole)
    (arg10 : Memref sig .tc .vmem S512x4096 .bf16) (harg10 : arg10.IsWhole)
    (arg11 : Memref sig .tc .vmem S1x1024 .f32) (harg11 : arg11.IsWhole)
    (arg12 : Memref sig .tc .vmem S1x1024 .f32) (harg12 : arg12.IsWhole)
    (hc0 : cond0_0 i) (hc1 : ¬cond0_1 i) (hc2 : cond0_2 i) (hc3 : ¬cond0_3 i)
    (x0 : Vec Ideal S512x1024 .f32) (x1 : Vec Ideal S512x1024 .f32) (x2 : Vec Ideal S512x1 .f32) (x3 : Vec Ideal S512x1 .f32) (x4 : Vec Ideal S1x1024 .f32) (x5 : Vec Ideal S512x4096 .bf16) (x6 : Vec Ideal S4x1024x1024 .bf16) :
    out0_A_7 (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6
      = k0_pay5 x0 x1 x4 x2 x3 := by
  unfold out0_A_7
  rw [View.read_writes_junk_eq_canon]
  unfold kernelRun0_A
  dsimp only
  sl_unfold_words
  rw [View.canon_unit_zero (S := S512x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) zero2, View.ld_unit_zero (S := S512x1) zero2, View.ld_unit_zero (S := S1x1024) zero2]

/-- The first point stores the same in the narrow format. -/
theorem first8 (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S512x1 .f32) (harg3 : arg3.IsWhole)
    (arg4 : Memref sig .tc .vmem S512x1 .f32) (harg4 : arg4.IsWhole)
    (arg5 : Memref sig .tc .vmem S1x1024 .f32) (harg5 : arg5.IsWhole)
    (arg6 : Memref sig .tc .vmem S512x4096 .bf16) (harg6 : arg6.IsWhole)
    (arg7 : Memref sig .tc .vmem S4x1024x1024 .bf16) (harg7 : arg7.IsWhole)
    (arg8 : Memref sig .tc .vmem S512x1024 .f32) (harg8 : arg8.IsWhole)
    (arg9 : Memref sig .tc .vmem S512x1024 .bf16) (harg9 : arg9.IsWhole)
    (arg10 : Memref sig .tc .vmem S512x4096 .bf16) (harg10 : arg10.IsWhole)
    (arg11 : Memref sig .tc .vmem S1x1024 .f32) (harg11 : arg11.IsWhole)
    (arg12 : Memref sig .tc .vmem S1x1024 .f32) (harg12 : arg12.IsWhole)
    (hc0 : cond0_0 i) (hc1 : ¬cond0_1 i) (hc2 : cond0_2 i) (hc3 : ¬cond0_3 i)
    (x0 : Vec Ideal S512x1024 .f32) (x1 : Vec Ideal S512x1024 .f32) (x2 : Vec Ideal S512x1 .f32) (x3 : Vec Ideal S512x1 .f32) (x4 : Vec Ideal S1x1024 .f32) (x5 : Vec Ideal S512x4096 .bf16) (x6 : Vec Ideal S4x1024x1024 .bf16) :
    out0_A_8 (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6
      = k0_pay10 (k0_pay5 x0 x1 x4 x2 x3) := by
  unfold out0_A_8
  rw [View.read_writes_junk_eq_canon]
  unfold kernelRun0_A
  dsimp only
  sl_unfold_words
  rw [View.canon_unit_zero (S := S512x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) zero2, View.ld_unit_zero (S := S512x1) zero2, View.ld_unit_zero (S := S1x1024) zero2]

/-- The first point stores the gain's gradient over the block's rows. -/
theorem first10 (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S512x1 .f32) (harg3 : arg3.IsWhole)
    (arg4 : Memref sig .tc .vmem S512x1 .f32) (harg4 : arg4.IsWhole)
    (arg5 : Memref sig .tc .vmem S1x1024 .f32) (harg5 : arg5.IsWhole)
    (arg6 : Memref sig .tc .vmem S512x4096 .bf16) (harg6 : arg6.IsWhole)
    (arg7 : Memref sig .tc .vmem S4x1024x1024 .bf16) (harg7 : arg7.IsWhole)
    (arg8 : Memref sig .tc .vmem S512x1024 .f32) (harg8 : arg8.IsWhole)
    (arg9 : Memref sig .tc .vmem S512x1024 .bf16) (harg9 : arg9.IsWhole)
    (arg10 : Memref sig .tc .vmem S512x4096 .bf16) (harg10 : arg10.IsWhole)
    (arg11 : Memref sig .tc .vmem S1x1024 .f32) (harg11 : arg11.IsWhole)
    (arg12 : Memref sig .tc .vmem S1x1024 .f32) (harg12 : arg12.IsWhole)
    (hc0 : cond0_0 i) (hc1 : ¬cond0_1 i) (hc2 : cond0_2 i) (hc3 : ¬cond0_3 i)
    (x0 : Vec Ideal S512x1024 .f32) (x1 : Vec Ideal S512x1024 .f32) (x2 : Vec Ideal S512x1 .f32) (x3 : Vec Ideal S512x1 .f32) (x4 : Vec Ideal S1x1024 .f32) (x5 : Vec Ideal S512x4096 .bf16) (x6 : Vec Ideal S4x1024x1024 .bf16) :
    out0_A_10 (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6
      = k0_pay6 x0 x1 x2 x3 := by
  unfold out0_A_10
  rw [View.read_writes_junk_eq_canon]
  unfold kernelRun0_A
  dsimp only
  sl_unfold_words
  rw [View.canon_unit_zero (S := S1x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) zero2, View.ld_unit_zero (S := S512x1) zero2, View.ld_unit_zero (S := S1x1024) zero2]

/-- The first point stores the bias's gradient over the block's rows. -/
theorem first11 (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S512x1 .f32) (harg3 : arg3.IsWhole)
    (arg4 : Memref sig .tc .vmem S512x1 .f32) (harg4 : arg4.IsWhole)
    (arg5 : Memref sig .tc .vmem S1x1024 .f32) (harg5 : arg5.IsWhole)
    (arg6 : Memref sig .tc .vmem S512x4096 .bf16) (harg6 : arg6.IsWhole)
    (arg7 : Memref sig .tc .vmem S4x1024x1024 .bf16) (harg7 : arg7.IsWhole)
    (arg8 : Memref sig .tc .vmem S512x1024 .f32) (harg8 : arg8.IsWhole)
    (arg9 : Memref sig .tc .vmem S512x1024 .bf16) (harg9 : arg9.IsWhole)
    (arg10 : Memref sig .tc .vmem S512x4096 .bf16) (harg10 : arg10.IsWhole)
    (arg11 : Memref sig .tc .vmem S1x1024 .f32) (harg11 : arg11.IsWhole)
    (arg12 : Memref sig .tc .vmem S1x1024 .f32) (harg12 : arg12.IsWhole)
    (hc0 : cond0_0 i) (hc1 : ¬cond0_1 i) (hc2 : cond0_2 i) (hc3 : ¬cond0_3 i)
    (x0 : Vec Ideal S512x1024 .f32) (x1 : Vec Ideal S512x1024 .f32) (x2 : Vec Ideal S512x1 .f32) (x3 : Vec Ideal S512x1 .f32) (x4 : Vec Ideal S1x1024 .f32) (x5 : Vec Ideal S512x4096 .bf16) (x6 : Vec Ideal S4x1024x1024 .bf16) :
    out0_A_11 (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6
      = k0_pay7 x0 := by
  unfold out0_A_11
  rw [View.read_writes_junk_eq_canon]
  unfold kernelRun0_A
  dsimp only
  sl_unfold_words
  rw [View.canon_unit_zero (S := S1x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) zero2, View.ld_unit_zero (S := S512x1) zero2, View.ld_unit_zero (S := S1x1024) zero2]

/-- A later point stores the gradient of the sum. -/
theorem later7 (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S512x1 .f32) (harg3 : arg3.IsWhole)
    (arg4 : Memref sig .tc .vmem S512x1 .f32) (harg4 : arg4.IsWhole)
    (arg5 : Memref sig .tc .vmem S1x1024 .f32) (harg5 : arg5.IsWhole)
    (arg6 : Memref sig .tc .vmem S512x4096 .bf16) (harg6 : arg6.IsWhole)
    (arg7 : Memref sig .tc .vmem S4x1024x1024 .bf16) (harg7 : arg7.IsWhole)
    (arg8 : Memref sig .tc .vmem S512x1024 .f32) (harg8 : arg8.IsWhole)
    (arg9 : Memref sig .tc .vmem S512x1024 .bf16) (harg9 : arg9.IsWhole)
    (arg10 : Memref sig .tc .vmem S512x4096 .bf16) (harg10 : arg10.IsWhole)
    (arg11 : Memref sig .tc .vmem S1x1024 .f32) (harg11 : arg11.IsWhole)
    (arg12 : Memref sig .tc .vmem S1x1024 .f32) (harg12 : arg12.IsWhole)
    (hc0 : ¬cond0_0 i) (hc1 : cond0_1 i) (hc2 : ¬cond0_2 i) (hc3 : cond0_3 i)
    (x0 : Vec Ideal S512x1024 .f32) (x1 : Vec Ideal S512x1024 .f32) (x2 : Vec Ideal S512x1 .f32) (x3 : Vec Ideal S512x1 .f32) (x4 : Vec Ideal S1x1024 .f32) (x5 : Vec Ideal S512x4096 .bf16) (x6 : Vec Ideal S4x1024x1024 .bf16) (xo10 : Vec Ideal S1x1024 .f32) (xo11 : Vec Ideal S1x1024 .f32) :
    out0_B_7 (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo10 xo11
      = k0_pay5 x0 x1 x4 x2 x3 := by
  unfold out0_B_7
  rw [View.read_writes_junk_eq_canon]
  unfold kernelRun0_B
  dsimp only
  sl_unfold_words
  rw [View.canon_unit_zero (S := S512x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) zero2, View.ld_unit_zero (S := S512x1) zero2, View.ld_unit_zero (S := S1x1024) zero2]

/-- A later point stores the same in the narrow format. -/
theorem later8 (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S512x1 .f32) (harg3 : arg3.IsWhole)
    (arg4 : Memref sig .tc .vmem S512x1 .f32) (harg4 : arg4.IsWhole)
    (arg5 : Memref sig .tc .vmem S1x1024 .f32) (harg5 : arg5.IsWhole)
    (arg6 : Memref sig .tc .vmem S512x4096 .bf16) (harg6 : arg6.IsWhole)
    (arg7 : Memref sig .tc .vmem S4x1024x1024 .bf16) (harg7 : arg7.IsWhole)
    (arg8 : Memref sig .tc .vmem S512x1024 .f32) (harg8 : arg8.IsWhole)
    (arg9 : Memref sig .tc .vmem S512x1024 .bf16) (harg9 : arg9.IsWhole)
    (arg10 : Memref sig .tc .vmem S512x4096 .bf16) (harg10 : arg10.IsWhole)
    (arg11 : Memref sig .tc .vmem S1x1024 .f32) (harg11 : arg11.IsWhole)
    (arg12 : Memref sig .tc .vmem S1x1024 .f32) (harg12 : arg12.IsWhole)
    (hc0 : ¬cond0_0 i) (hc1 : cond0_1 i) (hc2 : ¬cond0_2 i) (hc3 : cond0_3 i)
    (x0 : Vec Ideal S512x1024 .f32) (x1 : Vec Ideal S512x1024 .f32) (x2 : Vec Ideal S512x1 .f32) (x3 : Vec Ideal S512x1 .f32) (x4 : Vec Ideal S1x1024 .f32) (x5 : Vec Ideal S512x4096 .bf16) (x6 : Vec Ideal S4x1024x1024 .bf16) (xo10 : Vec Ideal S1x1024 .f32) (xo11 : Vec Ideal S1x1024 .f32) :
    out0_B_8 (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo10 xo11
      = k0_pay10 (k0_pay5 x0 x1 x4 x2 x3) := by
  unfold out0_B_8
  rw [View.read_writes_junk_eq_canon]
  unfold kernelRun0_B
  dsimp only
  sl_unfold_words
  rw [View.canon_unit_zero (S := S512x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) zero2, View.ld_unit_zero (S := S512x1) zero2, View.ld_unit_zero (S := S1x1024) zero2]

/-- A later point stores the gain's gradient over the block's rows, added to what it finds. -/
theorem later10 (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S512x1 .f32) (harg3 : arg3.IsWhole)
    (arg4 : Memref sig .tc .vmem S512x1 .f32) (harg4 : arg4.IsWhole)
    (arg5 : Memref sig .tc .vmem S1x1024 .f32) (harg5 : arg5.IsWhole)
    (arg6 : Memref sig .tc .vmem S512x4096 .bf16) (harg6 : arg6.IsWhole)
    (arg7 : Memref sig .tc .vmem S4x1024x1024 .bf16) (harg7 : arg7.IsWhole)
    (arg8 : Memref sig .tc .vmem S512x1024 .f32) (harg8 : arg8.IsWhole)
    (arg9 : Memref sig .tc .vmem S512x1024 .bf16) (harg9 : arg9.IsWhole)
    (arg10 : Memref sig .tc .vmem S512x4096 .bf16) (harg10 : arg10.IsWhole)
    (arg11 : Memref sig .tc .vmem S1x1024 .f32) (harg11 : arg11.IsWhole)
    (arg12 : Memref sig .tc .vmem S1x1024 .f32) (harg12 : arg12.IsWhole)
    (hc0 : ¬cond0_0 i) (hc1 : cond0_1 i) (hc2 : ¬cond0_2 i) (hc3 : cond0_3 i)
    (x0 : Vec Ideal S512x1024 .f32) (x1 : Vec Ideal S512x1024 .f32) (x2 : Vec Ideal S512x1 .f32) (x3 : Vec Ideal S512x1 .f32) (x4 : Vec Ideal S1x1024 .f32) (x5 : Vec Ideal S512x4096 .bf16) (x6 : Vec Ideal S4x1024x1024 .bf16) (xo10 : Vec Ideal S1x1024 .f32) (xo11 : Vec Ideal S1x1024 .f32) :
    out0_B_10 (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo10 xo11
      = k0_pay8 (k0_pay6 x0 x1 x2 x3) xo10 := by
  unfold out0_B_10
  rw [View.read_writes_junk_eq_canon]
  unfold kernelRun0_B
  dsimp only
  sl_unfold_words
  rw [View.canon_unit_zero (S := S1x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) zero2, View.ld_unit_zero (S := S512x1) zero2, View.ld_unit_zero (S := S1x1024) zero2]

/-- A later point stores the bias's gradient over the block's rows, added to what it finds. -/
theorem later11 (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S512x1 .f32) (harg3 : arg3.IsWhole)
    (arg4 : Memref sig .tc .vmem S512x1 .f32) (harg4 : arg4.IsWhole)
    (arg5 : Memref sig .tc .vmem S1x1024 .f32) (harg5 : arg5.IsWhole)
    (arg6 : Memref sig .tc .vmem S512x4096 .bf16) (harg6 : arg6.IsWhole)
    (arg7 : Memref sig .tc .vmem S4x1024x1024 .bf16) (harg7 : arg7.IsWhole)
    (arg8 : Memref sig .tc .vmem S512x1024 .f32) (harg8 : arg8.IsWhole)
    (arg9 : Memref sig .tc .vmem S512x1024 .bf16) (harg9 : arg9.IsWhole)
    (arg10 : Memref sig .tc .vmem S512x4096 .bf16) (harg10 : arg10.IsWhole)
    (arg11 : Memref sig .tc .vmem S1x1024 .f32) (harg11 : arg11.IsWhole)
    (arg12 : Memref sig .tc .vmem S1x1024 .f32) (harg12 : arg12.IsWhole)
    (hc0 : ¬cond0_0 i) (hc1 : cond0_1 i) (hc2 : ¬cond0_2 i) (hc3 : cond0_3 i)
    (x0 : Vec Ideal S512x1024 .f32) (x1 : Vec Ideal S512x1024 .f32) (x2 : Vec Ideal S512x1 .f32) (x3 : Vec Ideal S512x1 .f32) (x4 : Vec Ideal S1x1024 .f32) (x5 : Vec Ideal S512x4096 .bf16) (x6 : Vec Ideal S4x1024x1024 .bf16) (xo10 : Vec Ideal S1x1024 .f32) (xo11 : Vec Ideal S1x1024 .f32) :
    out0_B_11 (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo10 xo11
      = k0_pay9 (k0_pay7 x0) xo11 := by
  unfold out0_B_11
  rw [View.read_writes_junk_eq_canon]
  unfold kernelRun0_B
  dsimp only
  sl_unfold_words
  rw [View.canon_unit_zero (S := S1x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) zero2, View.ld_unit_zero (S := S512x1) zero2, View.ld_unit_zero (S := S1x1024) zero2]

end Cert.KernelMbIdeal.Mlp

end
-- ==== Proof.Mlp.MbHid.lean ====
/- What one grid point of the call stores in the block of the hidden gradient. -/
module

public import proofs.«01_k».proof.Proof.Gen.KernelMbIdeal.Value
public import proofs.«01_k».proof.Proof.Mlp.MbRun
public import Idealize.ShloMosaic.Lib.Pipeline.ValueKit

@[expose] public section

noncomputable section

namespace Cert.KernelMbIdeal.Mlp

open Cert.KernelMbIdeal Cert.KernelMbIdeal.Gen Idealize.ShloMosaic Idealize.ShloMosaic.TcCoe Idealize.SL.Sem

/-- The hidden row's gradient at an element: the sum's gradient against a row of the shard that holds the column, times the slope. -/
def hidden (Z : FVec Ideal S512x1024 .f32) (x5 : Vec Ideal S512x4096 .bf16) (x6 : Vec Ideal S4x1024x1024 .bf16) (y : S512x4096.Idx) : EReal :=
  (∑ q : Fin 1024, Z (ix2 (y 0) q) * x6 (ix3 ⟨(y 1 : ℕ) / 1024, by have := (y 1).isLt; show _ < 4; have h : (y 1 : ℕ) < 4096 := this; omega⟩ ⟨(y 1 : ℕ) % 1024, Nat.mod_lt _ (by norm_num)⟩ q)) * x5 y

/-- A stored piece, the columns of one shard, is that gradient. -/
theorem hidden_piece (Z : FVec Ideal S512x1024 .f32) (x5 : Vec Ideal S512x4096 .bf16) (x6 : Vec Ideal S4x1024x1024 .bf16) (y : S512x4096.Idx)
    (s : Fin 4) (z0 : Fin 512) (z1 : Fin 1024) (w : Fin 4096) (h0 : (y 0 : ℕ) = (z0 : ℕ)) (h1 : (y 1 : ℕ) = (s : ℕ) * 1024 + (z1 : ℕ)) (hw : (w : ℕ) = (y 1 : ℕ)) :
    (∑ q : Fin 1024, Z (ix2 z0 q) * x6 (ix3 s z1 q)) * x5 (ix2 z0 w) = hidden Z x5 x6 y := by
  unfold hidden
  have e0 : z0 = y 0 := Fin.ext h0.symm
  have e1 : w = y 1 := Fin.ext hw
  have es : s = ⟨(y 1 : ℕ) / 1024, by have h : (y 1 : ℕ) < 4096 := (y 1).isLt; show _ < 4; omega⟩ := Fin.ext (by show (s : ℕ) = (y 1 : ℕ) / 1024; omega)
  have ez : z1 = ⟨(y 1 : ℕ) % 1024, Nat.mod_lt _ (by norm_num)⟩ := Fin.ext (by show (z1 : ℕ) = (y 1 : ℕ) % 1024; omega)
  subst e0 e1
  exact congrArg₂ (· * ·) (Finset.sum_congr rfl fun q _ => congrArg₂ (fun (s : Fin 4) (z : Fin 1024) => Z (ix2 (y 0) q) * x6 (ix3 s z q)) es ez) (congrArg x5 (eq_ix2 y).symm)

/-- The first point stores the hidden rows' gradient. -/
theorem first9 (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S512x1 .f32) (harg3 : arg3.IsWhole)
    (arg4 : Memref sig .tc .vmem S512x1 .f32) (harg4 : arg4.IsWhole)
    (arg5 : Memref sig .tc .vmem S1x1024 .f32) (harg5 : arg5.IsWhole)
    (arg6 : Memref sig .tc .vmem S512x4096 .bf16) (harg6 : arg6.IsWhole)
    (arg7 : Memref sig .tc .vmem S4x1024x1024 .bf16) (harg7 : arg7.IsWhole)
    (arg8 : Memref sig .tc .vmem S512x1024 .f32) (harg8 : arg8.IsWhole)
    (arg9 : Memref sig .tc .vmem S512x1024 .bf16) (harg9 : arg9.IsWhole)
    (arg10 : Memref sig .tc .vmem S512x4096 .bf16) (harg10 : arg10.IsWhole)
    (arg11 : Memref sig .tc .vmem S1x1024 .f32) (harg11 : arg11.IsWhole)
    (arg12 : Memref sig .tc .vmem S1x1024 .f32) (harg12 : arg12.IsWhole)
    (hc0 : cond0_0 i) (hc1 : ¬cond0_1 i) (hc2 : cond0_2 i) (hc3 : ¬cond0_3 i)
    (x0 : Vec Ideal S512x1024 .f32) (x1 : Vec Ideal S512x1024 .f32) (x2 : Vec Ideal S512x1 .f32) (x3 : Vec Ideal S512x1 .f32) (x4 : Vec Ideal S1x1024 .f32) (x5 : Vec Ideal S512x4096 .bf16) (x6 : Vec Ideal S4x1024x1024 .bf16) (y : S512x4096.Idx) :
    out0_A_9 (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 y
      = hidden (k0_pay5 x0 x1 x4 x2 x3) x5 x6 y := by
  unfold out0_A_9
  rw [View.read_writes_junk_eq_canon]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) zero2, View.ld_unit_zero (S := S512x1) zero2, View.ld_unit_zero (S := S1x1024) zero2]
  generalize k0_pay5 x0 x1 x4 x2 x3 = Z
  canon_tiles z hz
  all_goals pointwise [k0_pay11, k0_pay12, k0_pay1, k0_pay2, k0_pay10]
  · exact hidden_piece Z x5 x6 y 3 (z 0) (z 1) _ hz0 (by rw [hz1]; rfl) (by rw [hz1])
  · exact hidden_piece Z x5 x6 y 2 (z 0) (z 1) _ hz0 (by rw [hz1]; rfl) (by rw [hz1])
  · exact hidden_piece Z x5 x6 y 1 (z 0) (z 1) _ hz0 (by rw [hz1]; rfl) (by rw [hz1])
  · exact hidden_piece Z x5 x6 y 0 (z 0) (z 1) _ hz0 (by rw [hz1]; show _ = 0 * 1024 + _; omega) (by rw [hz1])

/-- A later point stores the hidden rows' gradient. -/
theorem later9 (c : Dev nD) (i : grid0.Coords)
    (arg1 : Memref sig .tc .vmem S512x1024 .f32) (harg1 : arg1.IsWhole)
    (arg2 : Memref sig .tc .vmem S512x1024 .f32) (harg2 : arg2.IsWhole)
    (arg3 : Memref sig .tc .vmem S512x1 .f32) (harg3 : arg3.IsWhole)
    (arg4 : Memref sig .tc .vmem S512x1 .f32) (harg4 : arg4.IsWhole)
    (arg5 : Memref sig .tc .vmem S1x1024 .f32) (harg5 : arg5.IsWhole)
    (arg6 : Memref sig .tc .vmem S512x4096 .bf16) (harg6 : arg6.IsWhole)
    (arg7 : Memref sig .tc .vmem S4x1024x1024 .bf16) (harg7 : arg7.IsWhole)
    (arg8 : Memref sig .tc .vmem S512x1024 .f32) (harg8 : arg8.IsWhole)
    (arg9 : Memref sig .tc .vmem S512x1024 .bf16) (harg9 : arg9.IsWhole)
    (arg10 : Memref sig .tc .vmem S512x4096 .bf16) (harg10 : arg10.IsWhole)
    (arg11 : Memref sig .tc .vmem S1x1024 .f32) (harg11 : arg11.IsWhole)
    (arg12 : Memref sig .tc .vmem S1x1024 .f32) (harg12 : arg12.IsWhole)
    (hc0 : ¬cond0_0 i) (hc1 : cond0_1 i) (hc2 : ¬cond0_2 i) (hc3 : cond0_3 i)
    (x0 : Vec Ideal S512x1024 .f32) (x1 : Vec Ideal S512x1024 .f32) (x2 : Vec Ideal S512x1 .f32) (x3 : Vec Ideal S512x1 .f32) (x4 : Vec Ideal S1x1024 .f32) (x5 : Vec Ideal S512x4096 .bf16) (x6 : Vec Ideal S4x1024x1024 .bf16) (xo10 : Vec Ideal S1x1024 .f32) (xo11 : Vec Ideal S1x1024 .f32) (y : S512x4096.Idx) :
    out0_B_9 (F := Ideal) c i arg1 harg1 arg2 harg2 arg3 harg3 arg4 harg4 arg5 harg5 arg6 harg6 arg7 harg7 arg8 harg8 arg9 harg9 arg10 harg10 arg11 harg11 arg12 harg12 hc0 hc1 hc2 hc3 x0 x1 x2 x3 x4 x5 x6 xo10 xo11 y
      = hidden (k0_pay5 x0 x1 x4 x2 x3) x5 x6 y := by
  unfold out0_B_9
  rw [View.read_writes_junk_eq_canon]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, View.ld_unit_zero (S := S512x1024) zero2, View.ld_unit_zero (S := S512x1) zero2, View.ld_unit_zero (S := S1x1024) zero2]
  generalize k0_pay5 x0 x1 x4 x2 x3 = Z
  canon_tiles z hz
  all_goals pointwise [k0_pay11, k0_pay12, k0_pay1, k0_pay2, k0_pay10]
  · exact hidden_piece Z x5 x6 y 3 (z 0) (z 1) _ hz0 (by rw [hz1]; rfl) (by rw [hz1])
  · exact hidden_piece Z x5 x6 y 2 (z 0) (z 1) _ hz0 (by rw [hz1]; rfl) (by rw [hz1])
  · exact hidden_piece Z x5 x6 y 1 (z 0) (z 1) _ hz0 (by rw [hz1]; rfl) (by rw [hz1])
  · exact hidden_piece Z x5 x6 y 0 (z 0) (z 1) _ hz0 (by rw [hz1]; show _ = 0 * 1024 + _; omega) (by rw [hz1])

end Cert.KernelMbIdeal.Mlp

end
-- ==== Proof.Mlp.MbBlk.lean ====
/- The blocks of a grid point: which rows of which argument they hold, the prepared arrays as the reference's terms. -/
module

public import proofs.«01_k».proof.Proof.Gen.KernelMbIdeal.Value
public import proofs.«01_k».proof.Proof.Gen.ReferenceMbIdeal.Read
public import Idealize.ShloMosaic.Lib.Pipeline.ValueKit

@[expose] public section

noncomputable section

namespace Cert.KernelMbIdeal.Mlp

open Cert.KernelMbIdeal Cert.KernelMbIdeal.Gen Idealize.ShloMosaic Idealize.ShloMosaic.TcCoe Idealize.SL.Sem
open Cert.ReferenceMbIdeal.Read

variable (m : (ℓ : Loc nD τ sig) → Buf (Elt Ideal) ℓ)

/-- The index maps at a grid point: its rows of the row arrays, the whole of the rest. -/
theorem maps : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0, 0]
    ∧ win0_7.index t = ![t.val, 0] ∧ win0_8.index t = ![t.val, 0] ∧ win0_9.index t = ![t.val, 0] ∧ win0_10.index t = ![0, 0] ∧ win0_11.index t = ![0, 0] :=
  (by decide +kernel : ∀ t : Fin grid0.N, _)

/-- The arrays the host prepares, and the arguments it leaves. -/
theorem V_arg0 (c : Dev nD) : V m c main_arg0 = m ((c : Thread nD τ).loc main_arg0) := by
  unfold_abbrev_sides
  after_results <;> rfl

theorem V_arg1 (c : Dev nD) : V m c main_arg1 = m ((c : Thread nD τ).loc main_arg1) := by
  unfold_abbrev_sides
  after_results <;> rfl

theorem V_arg2 (c : Dev nD) : V m c main_arg2 = m ((c : Thread nD τ).loc main_arg2) := by
  unfold_abbrev_sides
  after_results <;> rfl

theorem V_arg4 (c : Dev nD) : V m c main_arg4 = m ((c : Thread nD τ).loc main_arg4) := by
  unfold_abbrev_sides
  after_results <;> rfl

theorem V_mean (c : Dev nD) : V m c main_v8 = val_main_v4 (F := Ideal) (m ((c : Thread nD τ).loc main_arg1)) := by
  unfold_abbrev_sides
  after_results <;> rfl

theorem V_scale (c : Dev nD) : V m c main_v18 = val_main_v18 (F := Ideal) (m ((c : Thread nD τ).loc main_arg1)) := by
  unfold_abbrev_sides
  after_results <;> rfl

theorem V_slope (c : Dev nD) : V m c main_v4 = truncf (F := Ideal) .bf16 (val_main_v66 (F := Ideal) (m ((c : Thread nD τ).loc main_arg3))) bitsLt_bf16_f32 := by
  unfold_abbrev_sides
  after_results <;> rfl

/-- A block's entry is the array's at the row the block gives it. -/
theorem b0 (c : Dev nD) (t : Fin cfg0.N) (a : Fin 512) (q : Fin 1024) (r : Fin 4096) (hr : (r : ℕ) = t.val * 512 + (a : ℕ)) :
    iblk m c 0 t (ix2 a q) = m ((c : Thread nD τ).loc main_arg0) (ix2 r q) := by
  refine Eq.trans (b := V m c main_arg0 (ix2 r q)) ?_ (congrFun (V_arg0 m c) _)
  blk_point [iblk, maps t]

theorem b1 (c : Dev nD) (t : Fin cfg0.N) (a : Fin 512) (q : Fin 1024) (r : Fin 4096) (hr : (r : ℕ) = t.val * 512 + (a : ℕ)) :
    iblk m c 1 t (ix2 a q) = m ((c : Thread nD τ).loc main_arg1) (ix2 r q) := by
  refine Eq.trans (b := V m c main_arg1 (ix2 r q)) ?_ (congrFun (V_arg1 m c) _)
  blk_point [iblk, maps t]

theorem b2 (c : Dev nD) (t : Fin cfg0.N) (a : Fin 512) (r : Fin 4096) (hr : (r : ℕ) = t.val * 512 + (a : ℕ)) :
    iblk m c 2 t (ix2 a 0) = val_main_v4 (F := Ideal) (m ((c : Thread nD τ).loc main_arg1)) (ix2 r 0) := by
  refine Eq.trans (b := V m c main_v8 (ix2 r 0)) ?_ (congrFun (V_mean m c) _)
  blk_point [iblk, maps t]

theorem b3 (c : Dev nD) (t : Fin cfg0.N) (a : Fin 512) (r : Fin 4096) (hr : (r : ℕ) = t.val * 512 + (a : ℕ)) :
    iblk m c 3 t (ix2 a 0) = val_main_v18 (F := Ideal) (m ((c : Thread nD τ).loc main_arg1)) (ix2 r 0) := by
  refine Eq.trans (b := V m c main_v18 (ix2 r 0)) ?_ (congrFun (V_scale m c) _)
  blk_point [iblk, maps t]

theorem b4 (c : Dev nD) (t : Fin cfg0.N) (q : Fin 1024)  :
    iblk m c 4 t (ix2 0 q) = m ((c : Thread nD τ).loc main_arg2) (ix2 0 q) := by
  refine Eq.trans (b := V m c main_arg2 (ix2 0 q)) ?_ (congrFun (V_arg2 m c) _)
  blk_point [iblk, maps t]

theorem b5 (c : Dev nD) (t : Fin cfg0.N) (a : Fin 512) (q : Fin 4096) (r : Fin 4096) (hr : (r : ℕ) = t.val * 512 + (a : ℕ)) :
    iblk m c 5 t (ix2 a q) = truncf (F := Ideal) .bf16 (val_main_v66 (F := Ideal) (m ((c : Thread nD τ).loc main_arg3))) bitsLt_bf16_f32 (ix2 r q) := by
  refine Eq.trans (b := V m c main_v4 (ix2 r q)) ?_ (congrFun (V_slope m c) _)
  blk_point [iblk, maps t]

theorem b6 (c : Dev nD) (t : Fin cfg0.N) (i : Fin 4) (a q : Fin 1024)  :
    iblk m c 6 t (ix3 i a q) = m ((c : Thread nD τ).loc main_arg4) (ix3 i a q) := by
  refine Eq.trans (b := V m c main_arg4 (ix3 i a q)) ?_ (congrFun (V_arg4 m c) _)
  blk_point [iblk, maps t]

end Cert.KernelMbIdeal.Mlp

end
-- ==== Proof.Mlp.Row.lean ====
/- One row of a layer normalisation differentiated: the closed form and jax's order of the chain rule, over the reals. -/
module

public import proofs.«01_k».proof.Proof.Gen.ReferenceMbIdeal.Read
public import Idealize.ShloMosaic.Lib.Pipeline.ValueKit

@[expose] public section

noncomputable section

namespace Cert.Mlp

open Idealize.ShloMosaic

/-- A finite sum of reals, read in the extended reals. -/
theorem sum_real {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The row's length, the shift of its variance and jax's two factors, as reals. -/
theorem c1024 : Ideal.ofBits .f32 1149239296#32 = ((1024 : ℝ) : EReal) := by
  simp [Ideal.ofBits, Ideal.ieee]
  norm_num
  rw [← EReal.coe_mul]
  norm_num

theorem cshift : Ideal.ofBits .f32 925353388#32 = ((10995116 / 2 ^ 40 : ℝ) : EReal) := by
  simp [Ideal.ofBits, Ideal.ieee]
  norm_num
  rw [← EReal.coe_mul]
  norm_num

theorem chalf : Ideal.ofBits .f32 3204448256#32 = ((-(1 / 2) : ℝ) : EReal) := by
  simp [Ideal.ofBits, Ideal.ieee]
  norm_num
  rw [← EReal.coe_mul]
  norm_num

theorem ctwo : Ideal.ofBits .f32 1073741824#32 = ((2 : ℝ) : EReal) := by
  simp [Ideal.ofBits, Ideal.ieee]
  norm_num
  rw [← EReal.coe_mul]
  norm_num

/-- A row's mean. -/
def mean (x : Fin 1024 → ℝ) : ℝ := (∑ q, x q) * (1 / 1024)

/-- A row's shifted variance. -/
def spread (x : Fin 1024 → ℝ) : ℝ := (∑ q, (x q - mean x) * (x q - mean x)) * (1 / 1024) + 10995116 / 2 ^ 40

/-- A row's reciprocal deviation. -/
def scale (x : Fin 1024 → ℝ) : ℝ := (Real.sqrt (spread x))⁻¹

/-- The gradient of a row before its normalisation, given the gradient `d` of the normalised row. -/
def grad (x d : Fin 1024 → ℝ) (k : Fin 1024) : ℝ :=
  scale x * (d k - (∑ q, d q) * (1 / 1024) - (x k - mean x) * scale x * ((∑ q, d q * ((x q - mean x) * scale x)) * (1 / 1024)))

theorem spread_pos (x : Fin 1024 → ℝ) : 0 < spread x := by
  unfold spread
  have : 0 ≤ ∑ q, (x q - mean x) * (x q - mean x) := Finset.sum_nonneg fun q _ => mul_self_nonneg _
  positivity

theorem scale_sq (x : Fin 1024 → ℝ) : scale x * scale x * spread x = 1 := by
  have h := spread_pos x
  have hs : Real.sqrt (spread x) ≠ 0 := (Real.sqrt_pos.mpr h).ne'
  unfold scale
  conv_lhs => rw [← Real.mul_self_sqrt h.le]
  rw [Real.sqrt_mul_self (Real.sqrt_nonneg _)]
  field_simp

/-- The deviations of a row sum to zero. -/
theorem dev_sum (x : Fin 1024 → ℝ) : ∑ q, (x q - mean x) = 0 := by
  rw [Finset.sum_sub_distrib, Finset.sum_const, Finset.card_univ, Fintype.card_fin, nsmul_eq_mul]
  unfold mean
  push_cast
  ring

/-- jax's order: through the product with the scale, through the root of the variance, and through the mean. -/
theorem grad_jax (x d : Fin 1024 → ℝ) (k : Fin 1024) :
    d k * scale x + (∑ q, (x q - mean x) * d q) * (-(1 / 2) * (scale x * (1 / spread x))) * (1 / 1024) * (2 * (x k - mean x))
      + (∑ q, -(d q * scale x) + ∑ q, -((∑ q, (x q - mean x) * d q) * (-(1 / 2) * (scale x * (1 / spread x))) * (1 / 1024) * (2 * (x q - mean x)))) * (1 / 1024)
      = grad x d k := by
  have h1 : (1 : ℝ) / spread x = scale x * scale x := by
    have := scale_sq x
    have hp := (spread_pos x).ne'
    field_simp
    linarith
  have h2 : ∀ C : ℝ, ∑ q, -(C * (2 * (x q - mean x))) = 0 := fun C => by
    rw [Finset.sum_neg_distrib, ← Finset.mul_sum, ← Finset.mul_sum, dev_sum, mul_zero, mul_zero, neg_zero]
  have h3 : ∑ q, d q * ((x q - mean x) * scale x) = (∑ q, (x q - mean x) * d q) * scale x := by
    rw [Finset.sum_mul]
    exact Finset.sum_congr rfl fun q _ => by ring
  have h4 : ∑ q, -(d q * scale x) = -((∑ q, d q) * scale x) := by
    rw [Finset.sum_neg_distrib, Finset.sum_mul]
  rw [h2, h4, h1]
  unfold grad
  rw [h3]
  ring

/-- The row's mean of real entries, as the programs compute it. -/
theorem mean_eq (x : Fin 1024 → EReal) (X : Fin 1024 → ℝ) (hx : ∀ q, x q = (X q : EReal)) :
    Ideal.div (∑ q, x q) (Ideal.ofBits .f32 1149239296#32) = ((mean X : ℝ) : EReal) := by
  rw [c1024, Ideal.div_coe (by norm_num), Finset.sum_congr rfl fun q _ => hx q, ← sum_real, ← EReal.coe_mul]
  rfl

/-- The row's shifted variance, as the programs compute it. -/
theorem spread_eq (x : Fin 1024 → EReal) (X : Fin 1024 → ℝ) (hx : ∀ q, x q = (X q : EReal)) :
    Ideal.div (∑ q, (x q - ((mean X : ℝ) : EReal)) * (x q - ((mean X : ℝ) : EReal))) (Ideal.ofBits .f32 1149239296#32)
        + Ideal.ofBits .f32 925353388#32 = ((spread X : ℝ) : EReal) := by
  rw [c1024, cshift, Ideal.div_coe (by norm_num), Finset.sum_congr rfl fun q _ => by rw [hx q, ← EReal.coe_sub, ← EReal.coe_mul],
    ← sum_real, ← EReal.coe_mul, ← EReal.coe_add]
  rfl

/-- The row's reciprocal deviation. -/
theorem scale_eq (X : Fin 1024 → ℝ) : Ideal.rsqrt ((spread X : ℝ) : EReal) = ((scale X : ℝ) : EReal) := by
  rw [Ideal.rsqrt_coe, if_neg (not_lt.2 (spread_pos X).le), if_neg (spread_pos X).ne']
  rfl

/-- The closed form, as the kernel computes it. -/
theorem grad_closed (x d : Fin 1024 → EReal) (mu rs : EReal) (X D : Fin 1024 → ℝ) (hx : ∀ q, x q = (X q : EReal)) (hd : ∀ q, d q = (D q : EReal))
    (hm : mu = ((mean X : ℝ) : EReal)) (hr : rs = ((scale X : ℝ) : EReal)) (k : Fin 1024) :
    rs * (d k - Ideal.div (∑ q, d q) (Ideal.ofBits .f32 1149239296#32)
        - (x k - mu) * rs * Ideal.div (∑ q, d q * ((x q - mu) * rs)) (Ideal.ofBits .f32 1149239296#32)) = ((grad X D k : ℝ) : EReal) := by
  subst hm hr
  simp only [hx, hd, c1024]
  rw [Ideal.div_coe (by norm_num), Ideal.div_coe (by norm_num)]
  simp only [← EReal.coe_sub, ← EReal.coe_mul, ← sum_real]
  rfl

/-- jax's form, as the reference computes it. -/
theorem grad_chain (x d : Fin 1024 → EReal) (mu rs v : EReal) (X D : Fin 1024 → ℝ) (hx : ∀ q, x q = (X q : EReal)) (hd : ∀ q, d q = (D q : EReal))
    (hm : mu = ((mean X : ℝ) : EReal)) (hr : rs = ((scale X : ℝ) : EReal)) (hv : v = ((spread X : ℝ) : EReal))
    (p q : Fin 1024 → EReal) (hp : ∀ k, p k = d k * rs)
    (hq : ∀ k, q k = (∑ _y : Fin 1, Ideal.div ((∑ j, (x j - mu) * d j) * (Ideal.ofBits .f32 3204448256#32 * Ideal.div rs v)) (Ideal.ofBits .f32 1149239296#32))
      * (Ideal.ofBits .f32 1073741824#32 * (x k - mu))) (k : Fin 1024) :
    p k + q k + ∑ _y : Fin 1, Ideal.div (∑ j, -p j + ∑ j, -q j) (Ideal.ofBits .f32 1149239296#32) = ((grad X D k : ℝ) : EReal) := by
  have hp' : ∀ k, p k = ((D k * scale X : ℝ) : EReal) := fun k => by rw [hp, hd, hr, EReal.coe_mul]
  have hq' : ∀ k, q k = (((∑ j, (X j - mean X) * D j) * (-(1 / 2) * (scale X * (1 / spread X))) * (1 / 1024) * (2 * (X k - mean X)) : ℝ) : EReal) := fun k => by
    rw [hq, Fin.sum_univ_one, c1024, chalf, ctwo, hm, hr, hv, Ideal.div_coe (spread_pos X).ne', Ideal.div_coe (by norm_num)]
    simp only [hx, hd]
    simp only [← EReal.coe_sub, ← EReal.coe_mul, ← sum_real]
  rw [Fin.sum_univ_one, c1024, Ideal.div_coe (by norm_num)]
  simp only [hp', hq']
  simp only [← EReal.coe_neg, ← sum_real, ← EReal.coe_add, ← EReal.coe_mul]
  exact congrArg _ (grad_jax X D k)

/-- A sum with an infinite term and none at the bottom is infinite. -/
theorem sum_top (f : Fin 1024 → EReal) (h : ∀ q, f q ≠ ⊥) (j : Fin 1024) (hj : f j = ⊤) : ∑ q, f q = ⊤ := by
  have hr : ∀ s : Finset (Fin 1024), ∑ q ∈ s, f q ≠ ⊥ := fun s => by
    classical
    induction s using Finset.induction_on with
    | empty => simp
    | insert a s ha ih =>
      rw [Finset.sum_insert ha]
      intro e
      rcases EReal.add_eq_bot_iff.mp e with e | e
      · exact h a e
      · exact ih e
  rw [← Finset.add_sum_erase _ _ (Finset.mem_univ j), hj]
  exact EReal.top_add_of_ne_bot (hr _)

/-- A sum with a term at the bottom is at the bottom. -/
theorem sum_bot (f : Fin 1024 → EReal) (j : Fin 1024) (hj : f j = ⊥) : ∑ q, f q = ⊥ := by
  rw [← Finset.add_sum_erase _ _ (Finset.mem_univ j), hj, EReal.bot_add]

/-- The shifted variance of a row with an entry that is no real is infinite. -/
theorem spread_top (x : Fin 1024 → EReal) (h : ¬∀ q, x q = ((EReal.toReal (x q) : ℝ) : EReal)) (mu : EReal)
    (hm : mu = Ideal.div (∑ q, x q) (Ideal.ofBits .f32 1149239296#32)) :
    Ideal.div (∑ q, (x q - mu) * (x q - mu)) (Ideal.ofBits .f32 1149239296#32) + Ideal.ofBits .f32 925353388#32 = ⊤ := by
  have hd : ∀ q, (x q - mu) * (x q - mu) = ⊤ := by
    rw [c1024, Ideal.div_coe (by norm_num)] at hm
    by_cases hb : ∃ j, x j = ⊥
    · obtain ⟨j, hj⟩ := hb
      rw [sum_bot x j hj, EReal.bot_mul_coe_of_pos (by norm_num)] at hm
      intro q
      rw [hm]
      induction x q with
      | bot => simp
      | coe r => simp
      | top => simp
    · push Not at hb
      obtain ⟨j, hj⟩ : ∃ j, x j = ⊤ := by
        by_contra hn
        push Not at hn
        exact h fun q => (EReal.coe_toReal (hn q) (hb q)).symm
      rw [sum_top x hb j hj, EReal.top_mul_coe_of_pos (by norm_num)] at hm
      intro q
      rw [hm]
      induction x q with
      | bot => simp
      | coe r => simp
      | top => simp
  rw [Finset.sum_congr rfl fun q _ => hd q, sum_top (fun _ => ⊤) (fun _ => by simp) 0 rfl, c1024, cshift, Ideal.div_coe (by norm_num),
    EReal.top_mul_coe_of_pos (by norm_num), EReal.top_add_coe]

/-- At such a row the closed form is zero. -/
theorem grad_closed_zero (x d : Fin 1024 → EReal) (mu rs : EReal) (hr : rs = 0) (k : Fin 1024) :
    rs * (d k - Ideal.div (∑ q, d q) (Ideal.ofBits .f32 1149239296#32)
        - (x k - mu) * rs * Ideal.div (∑ q, d q * ((x q - mu) * rs)) (Ideal.ofBits .f32 1149239296#32)) = 0 := by
  rw [hr, zero_mul]

/-- At such a row jax's form is zero. -/
theorem grad_chain_zero (x d : Fin 1024 → EReal) (mu rs v : EReal) (hr : rs = 0)
    (p q : Fin 1024 → EReal) (hp : ∀ k, p k = d k * rs)
    (hq : ∀ k, q k = (∑ _y : Fin 1, Ideal.div ((∑ j, (x j - mu) * d j) * (Ideal.ofBits .f32 3204448256#32 * Ideal.div rs v)) (Ideal.ofBits .f32 1149239296#32))
      * (Ideal.ofBits .f32 1073741824#32 * (x k - mu))) (hv : v = ⊤) (k : Fin 1024) :
    p k + q k + ∑ _y : Fin 1, Ideal.div (∑ j, -p j + ∑ j, -q j) (Ideal.ofBits .f32 1149239296#32) = 0 := by
  have h0 : Ideal.div 0 ⊤ = 0 := by simp [Ideal.div]
  have hc : Ideal.div 0 (Ideal.ofBits .f32 1149239296#32) = 0 := by rw [c1024, Ideal.div_coe (by norm_num), zero_mul]
  have hp' : ∀ k, p k = 0 := fun k => by rw [hp, hr, mul_zero]
  have hq' : ∀ k, q k = 0 := fun k => by rw [hq, Fin.sum_univ_one, hr, hv, h0, mul_zero, mul_zero, hc, zero_mul]
  rw [Fin.sum_univ_one]
  simp only [hp', hq', neg_zero, Finset.sum_const_zero, add_zero, hc]

end Cert.Mlp

end
-- ==== Proof.Mlp.MbRef.lean ====
/- The differentiated layer normalisation of the reference, at finite arguments, in reals. -/
module

public import proofs.«01_k».proof.Proof.Gen.ReferenceMbIdeal.Read
public import proofs.«01_k».proof.Proof.Mlp.Row
public import Idealize.ShloMosaic.Lib.Pipeline.ValueKit

@[expose] public section

noncomputable section

namespace Cert.ReferenceMbIdeal.Mlp

open Cert.ReferenceMbIdeal Idealize.ShloMosaic Idealize.SL.Sem
open Cert.ReferenceMbIdeal.Read
open Cert.Mlp (mean spread scale grad)

variable (x0 x1 : (⟨S4096x1024, .f32⟩ : BufTy).Contents (Elt Ideal)) (x2 : (⟨S1x1024, .f32⟩ : BufTy).Contents (Elt Ideal))

/-- The mean of row `r`. -/
theorem v4 (r : Fin 4096) (X : Fin 1024 → ℝ) (hx : ∀ q, x1 (ix2 r q) = (X q : EReal)) :
    val_main_v4 (F := Ideal) x1 (ix2 r 0) = ((mean X : ℝ) : EReal) := by
  pointwise [val_main_v4, val_main_v3, val_main_v2, val_main_v1, val_main_cst_0, val_main_cst_1]
  exact Cert.Mlp.mean_eq _ X hx

/-- The shifted variance of row `r`. -/
theorem v17 (r : Fin 4096) (X : Fin 1024 → ℝ) (hx : ∀ q, x1 (ix2 r q) = (X q : EReal)) :
    val_main_v17 (F := Ideal) x1 (ix2 r 0) = ((spread X : ℝ) : EReal) := by
  pointwise [val_main_v17, val_main_v16, val_main_cst_5, val_main_v13, val_main_v12, val_main_cst_4, val_main_v11, val_main_v10, val_main_cst_3, val_main_v7, val_main_v6, val_main_v5]
  rw [v4 x1 r X hx]
  exact Cert.Mlp.spread_eq _ X hx

/-- The reciprocal deviation of row `r`. -/
theorem v18 (r : Fin 4096) (X : Fin 1024 → ℝ) (hx : ∀ q, x1 (ix2 r q) = (X q : EReal)) :
    val_main_v18 (F := Ideal) x1 (ix2 r 0) = ((scale X : ℝ) : EReal) := by
  pointwise [val_main_v18]
  rw [v17 x1 r X hx]
  exact Cert.Mlp.scale_eq X

/-- The gradient of the sum before the normalisation, at row `r` and column `k`. -/
theorem v59 (r : Fin 4096) (X D : Fin 1024 → ℝ) (hx : ∀ q, x1 (ix2 r q) = (X q : EReal)) (hd : ∀ q, x0 (ix2 r q) * x2 (ix2 0 q) = (D q : EReal)) (k : Fin 1024) :
    val_main_v59 (F := Ideal) x0 x1 x2 (ix2 r k) = ((grad X D k : ℝ) : EReal) := by
  refine Eq.trans ?_ (Cert.Mlp.grad_chain (fun q => x1 (ix2 r q)) (fun q => x0 (ix2 r q) * x2 (ix2 0 q)) (val_main_v4 (F := Ideal) x1 (ix2 r 0))
    (val_main_v18 (F := Ideal) x1 (ix2 r 0)) (val_main_v17 (F := Ideal) x1 (ix2 r 0)) X D hx hd (v4 x1 r X hx) (v18 x1 r X hx) (v17 x1 r X hx)
    (fun k => val_main_v40 (F := Ideal) x0 x1 x2 (ix2 r k)) (fun k => val_main_v49 (F := Ideal) x0 x1 x2 (ix2 r k)) (fun k => ?_) (fun k => ?_) k)
  · pointwise [val_main_v59, val_main_v53, val_main_v58, val_main_v57, val_main_v56, val_main_v54, val_main_v55, val_main_cst_14, val_main_cst_13, val_main_cst_15, val_main_v44, val_main_v52, val_main_v51, val_main_v50, val_main_v43, val_main_v42, val_main_cst_10]
  · pointwise [val_main_v40, val_main_v39, val_main_v35, val_main_v34, val_main_v28]
  · pointwise [val_main_v49, val_main_v48, val_main_v47, val_main_v46, val_main_v41, val_main_v38, val_main_v37, val_main_v36, val_main_v35, val_main_v9, val_main_v8, val_main_cst_2, val_main_v21,val_main_v19, val_main_v20, val_main_cst_6, val_main_cst_9, val_main_v34, val_main_v28, val_main_v45, val_main_cst_11, val_main_cst_12, val_main_v15, val_main_v14, val_main_v6, val_main_v5]
    simp only [Fin.sum_univ_one]

/-- The shifted variance of a row with an entry that is no real is infinite, and its reciprocal deviation zero. -/
theorem v17_top (r : Fin 4096) (hx : ¬∀ q, x1 (ix2 r q) = ((EReal.toReal (x1 (ix2 r q)) : ℝ) : EReal)) :
    val_main_v17 (F := Ideal) x1 (ix2 r 0) = ⊤ := by
  pointwise [val_main_v17, val_main_v16, val_main_cst_5, val_main_v13, val_main_v12, val_main_cst_4, val_main_v11, val_main_v10, val_main_cst_3, val_main_v7, val_main_v6, val_main_v5]
  refine Cert.Mlp.spread_top (fun q => x1 (ix2 r q)) hx _ ?_
  pointwise [val_main_v4, val_main_v3, val_main_v2, val_main_v1, val_main_cst_0, val_main_cst_1]

theorem v18_zero (r : Fin 4096) (hx : ¬∀ q, x1 (ix2 r q) = ((EReal.toReal (x1 (ix2 r q)) : ℝ) : EReal)) :
    val_main_v18 (F := Ideal) x1 (ix2 r 0) = 0 := by
  pointwise [val_main_v18]
  rw [v17_top x1 r hx, Ideal.rsqrt_top]

/-- At such a row the gradient of the sum is zero. -/
theorem v59_zero (r : Fin 4096) (hx : ¬∀ q, x1 (ix2 r q) = ((EReal.toReal (x1 (ix2 r q)) : ℝ) : EReal)) (k : Fin 1024) :
    val_main_v59 (F := Ideal) x0 x1 x2 (ix2 r k) = 0 := by
  refine Eq.trans ?_ (Cert.Mlp.grad_chain_zero (fun q => x1 (ix2 r q)) (fun q => x0 (ix2 r q) * x2 (ix2 0 q)) (val_main_v4 (F := Ideal) x1 (ix2 r 0))
    (val_main_v18 (F := Ideal) x1 (ix2 r 0)) (val_main_v17 (F := Ideal) x1 (ix2 r 0)) (v18_zero x1 r hx)
    (fun k => val_main_v40 (F := Ideal) x0 x1 x2 (ix2 r k)) (fun k => val_main_v49 (F := Ideal) x0 x1 x2 (ix2 r k)) (fun k => ?_) (fun k => ?_) (v17_top x1 r hx) k)
  · pointwise [val_main_v59, val_main_v53, val_main_v58, val_main_v57, val_main_v56, val_main_v54, val_main_v55, val_main_cst_14, val_main_cst_13, val_main_cst_15, val_main_v44, val_main_v52, val_main_v51, val_main_v50, val_main_v43, val_main_v42, val_main_cst_10]
  · pointwise [val_main_v40, val_main_v39, val_main_v35, val_main_v34, val_main_v28]
  · pointwise [val_main_v49, val_main_v48, val_main_v47, val_main_v46, val_main_v41, val_main_v38, val_main_v37, val_main_v36, val_main_v35, val_main_v9, val_main_v8, val_main_cst_2, val_main_v21,val_main_v19, val_main_v20, val_main_cst_6, val_main_cst_9, val_main_v34, val_main_v28, val_main_v45, val_main_cst_11, val_main_cst_12, val_main_v15, val_main_v14, val_main_v6, val_main_v5]
    simp only [Fin.sum_univ_one]

/-- The closed form of the gradient of the sum, at any row. -/
theorem v59_closed (r : Fin 4096) (D : Fin 1024 → ℝ) (hd : ∀ q, x0 (ix2 r q) * x2 (ix2 0 q) = (D q : EReal)) (k : Fin 1024) :
    val_main_v59 (F := Ideal) x0 x1 x2 (ix2 r k) = val_main_v18 (F := Ideal) x1 (ix2 r 0) * (x0 (ix2 r k) * x2 (ix2 0 k) - Ideal.div (∑ q, x0 (ix2 r q) * x2 (ix2 0 q)) (Ideal.ofBits .f32 1149239296#32)
        - (x1 (ix2 r k) - val_main_v4 (F := Ideal) x1 (ix2 r 0)) * val_main_v18 (F := Ideal) x1 (ix2 r 0) * Ideal.div (∑ q, x0 (ix2 r q) * x2 (ix2 0 q) * ((x1 (ix2 r q) - val_main_v4 (F := Ideal) x1 (ix2 r 0)) * val_main_v18 (F := Ideal) x1 (ix2 r 0))) (Ideal.ofBits .f32 1149239296#32)) := by
  by_cases hx : ∀ q, x1 (ix2 r q) = ((EReal.toReal (x1 (ix2 r q)) : ℝ) : EReal)
  · rw [v59 x0 x1 x2 r _ D hx hd k]
    exact (Cert.Mlp.grad_closed (fun q => x1 (ix2 r q)) (fun q => x0 (ix2 r q) * x2 (ix2 0 q)) _ _ _ _ hx hd (v4 x1 r _ hx) (v18 x1 r _ hx) k).symm
  · rw [v59_zero x0 x1 x2 r hx k]
    exact (Cert.Mlp.grad_closed_zero (fun q => x1 (ix2 r q)) (fun q => x0 (ix2 r q) * x2 (ix2 0 q)) _ _ (v18_zero x1 r hx) k).symm

end Cert.ReferenceMbIdeal.Mlp

end
-- ==== Proof.Mlp.MbVal.lean ====
/- The results of the call at finite arguments: each array after the run is the reference's term of the arguments. -/
module

public import proofs.«01_k».proof.Proof.Mlp.MbRun
public import proofs.«01_k».proof.Proof.Mlp.MbHid
public import proofs.«01_k».proof.Proof.Mlp.MbBlk
public import proofs.«01_k».proof.Proof.Mlp.MbRef

@[expose] public section

noncomputable section

namespace Cert.KernelMbIdeal.Mlp

open Cert.KernelMbIdeal Cert.KernelMbIdeal.Gen Idealize.ShloMosaic Idealize.ShloMosaic.TcCoe Idealize.SL.Sem
open Idealize.ShloMosaic.Pipeline (Dat)
open Cert.ReferenceMbIdeal.Read

variable (m : (ℓ : Loc nD τ sig) → Buf (Elt Ideal) ℓ)

/-- The incoming gradient and the gain are real at every element. -/
def Real2 (c : Dev nD) : Prop :=
  (∀ r q, m ((c : Thread nD τ).loc main_arg0) (ix2 r q) = ((EReal.toReal (m ((c : Thread nD τ).loc main_arg0) (ix2 r q)) : ℝ) : EReal))
  ∧ (∀ q, m ((c : Thread nD τ).loc main_arg2) (ix2 0 q) = ((EReal.toReal (m ((c : Thread nD τ).loc main_arg2) (ix2 0 q)) : ℝ) : EReal))

/-- The incoming gradient and the gain, element by element. -/
abbrev dyAt (c : Dev nD) (r : Fin 4096) (q : Fin 1024) : EReal := m ((c : Thread nD τ).loc main_arg0) (ix2 r q)
abbrev gainAt (c : Dev nD) (q : Fin 1024) : EReal := m ((c : Thread nD τ).loc main_arg2) (ix2 0 q)

/-- The sum's gradient in a block is the reference's at the block's row. -/
theorem dsum (c : Dev nD) (hf : Real2 m c) (t : Fin cfg0.N) (a : Fin 512) (k : Fin 1024) (r : Fin 4096) (hr : (r : ℕ) = t.val * 512 + (a : ℕ)) :
    k0_pay5 (F := Ideal) (iblk m c 0 t) (iblk m c 1 t) (iblk m c 4 t) (iblk m c 2 t) (iblk m c 3 t) (ix2 a k)
      = val_main_v59 (F := Ideal) (m ((c : Thread nD τ).loc main_arg0)) (m ((c : Thread nD τ).loc main_arg1)) (m ((c : Thread nD τ).loc main_arg2)) (ix2 r k) := by
  obtain ⟨h0, h2⟩ := hf
  have hd : ∀ q, dyAt m c r q * gainAt m c q = ((EReal.toReal (dyAt m c r q) * EReal.toReal (gainAt m c q) : ℝ) : EReal) := fun q => by
    rw [EReal.coe_mul]
    exact congrArg₂ (· * ·) (h0 r q) (h2 q)
  refine Eq.trans ?_ (Cert.ReferenceMbIdeal.Mlp.v59_closed _ _ _ r _ hd k).symm
  pointwise [k0_pay5, k0_pay4, k0_pay3]
  simp only [b0 m c t _ _ r hr, b1 m c t _ _ r hr, b2 m c t _ r hr, b3 m c t _ r hr, b4 m c t]

/-- The same at an index of the block. -/
theorem dsumAt (c : Dev nD) (hf : Real2 m c) (t : Fin cfg0.N) (i : S512x1024.Idx) (k : S4096x1024.Idx) (h0 : (k 0 : ℕ) = t.val * 512 + (i 0 : ℕ)) (h1 : (k 1 : ℕ) = (i 1 : ℕ)) :
    k0_pay5 (F := Ideal) (iblk m c 0 t) (iblk m c 1 t) (iblk m c 4 t) (iblk m c 2 t) (iblk m c 3 t) i
      = val_main_v59 (F := Ideal) (m ((c : Thread nD τ).loc main_arg0)) (m ((c : Thread nD τ).loc main_arg1)) (m ((c : Thread nD τ).loc main_arg2)) k := by
  rw [eq_ix2 i, eq_ix2 k, show k 1 = i 1 from Fin.ext h1]
  exact dsum m c hf t _ _ _ h0

/-- What a point leaves in the first three result blocks. -/
theorem left7 (c : Dev nD) (t : Fin cfg0.N) : (outsAt0 m c t.val t.isLt).1
    = k0_pay5 (F := Ideal) (iblk m c 0 t) (iblk m c 1 t) (iblk m c 4 t) (iblk m c 2 t) (iblk m c 3 t) := by
  have hN : t.val < 8 := lt_of_lt_of_eq t.isLt N_0
  by_cases h : t.val % 8 = 0
  · rw [outsAt0_A m c t h (by omega) h (by omega)]
    dsimp only
    rw [first7]
  · rw [outsAt0_B m c t h (by omega) h (by omega)]
    dsimp only
    rw [later7]

theorem left8 (c : Dev nD) (t : Fin cfg0.N) : (outsAt0 m c t.val t.isLt).2.1
    = k0_pay10 (F := Ideal) (k0_pay5 (F := Ideal) (iblk m c 0 t) (iblk m c 1 t) (iblk m c 4 t) (iblk m c 2 t) (iblk m c 3 t)) := by
  have hN : t.val < 8 := lt_of_lt_of_eq t.isLt N_0
  by_cases h : t.val % 8 = 0
  · rw [outsAt0_A m c t h (by omega) h (by omega)]
    dsimp only
    rw [first8]
  · rw [outsAt0_B m c t h (by omega) h (by omega)]
    dsimp only
    rw [later8]

theorem left9 (c : Dev nD) (t : Fin cfg0.N) (y : S512x4096.Idx) : (outsAt0 m c t.val t.isLt).2.2.1 y
    = hidden (k0_pay5 (F := Ideal) (iblk m c 0 t) (iblk m c 1 t) (iblk m c 4 t) (iblk m c 2 t) (iblk m c 3 t)) (iblk m c 5 t) (iblk m c 6 t) y := by
  have hN : t.val < 8 := lt_of_lt_of_eq t.isLt N_0
  by_cases h : t.val % 8 = 0
  · rw [outsAt0_A m c t h (by omega) h (by omega)]
    dsimp only
    rw [first9]
  · rw [outsAt0_B m c t h (by omega) h (by omega)]
    dsimp only
    rw [later9]

/-- The sum's gradient after the run is the reference's term of the arguments. -/
theorem final7 (c : Dev nD) (hf : Real2 m c) : (dats m 0 c).arrAt 7 cfg0.N
    = val_main_v59 (F := Ideal) (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7, left7]
  exact dsumAt m c hf t y _ (by blk_simp [maps t]) (by blk_simp [maps t])

/-- Its array in the narrow format. -/
theorem final8 (c : Dev nD) (hf : Real2 m c) : (dats m 0 c).arrAt 8 cfg0.N
    = val_main_v74 (F := Ideal) (m ((c : Thread nD τ).loc main_arg0)) (m ((c : Thread nD τ).loc main_arg1)) (m ((c : Thread nD τ).loc main_arg2)) := by
  refine (dats m 0 c).arrAt_eq_of_covers 8 _ (by decide +kernel) fun t _ y => ?_
  blk_simp
  rw [after0_8, left8]
  exact dsumAt m c hf t y _ (by blk_simp [maps t]) (by blk_simp [maps t])

/-- The hidden rows' gradient after the run is the reference's term of the arguments. -/
theorem final9 (c : Dev nD) (hf : Real2 m c) : (dats m 0 c).arrAt 9 cfg0.N
    = val_main_v75 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 9 _ (by decide +kernel) fun t _ y => ?_
  blk_simp
  rw [after0_9, left9]
  have h0 : ((((cfg0.win 9).blk t).view.emb y 0 : Fin 4096) : ℕ) = t.val * 512 + (y 0 : ℕ) := by blk_simp [maps t]
  have h1 : ((((cfg0.win 9).blk t).view.emb y 1 : Fin 4096) : ℕ) = (y 1 : ℕ) := by blk_simp [maps t]
  generalize ((cfg0.win 9).blk t).view.emb y = k at h0 h1 ⊢
  obtain ⟨r, w, rfl⟩ : ∃ (r w : Fin 4096), k = ix2 r w := ⟨_, _, eq_ix2 k⟩
  unfold hidden
  pointwise [val_main_v75, val_main_v73, val_main_v72, val_main_cst_19, val_main_v71, val_main_v70, val_main_v68, val_main_v67, val_main_v66, val_main_v65, val_main_cst_18, val_main_v62, val_main_v61, val_main_cst_16, val_main_v60, val_main_call0_v0, val_main_call0_cst]
  have h0' : (r : ℕ) = t.val * 512 + (y 0 : ℕ) := h0
  have h1' : (w : ℕ) = (y 1 : ℕ) := h1
  have hy : y = (ix2 (y 0) w : S512x4096.Idx) := (eq_ix2 y).trans (congrArg (ix2 (y 0)) (Fin.ext h1'.symm))
  have hs : ∀ {a b s k h : EReal}, a = b → s = k * max h 0 → a * s = if 0 < h then b * (k * max h 0) else 0 := by
    rintro a _ _ k h rfl rfl
    split_ifs with hp
    · rfl
    · rw [max_eq_right (not_lt.mp hp), mul_zero, mul_zero]
  refine hs (Finset.sum_congr rfl fun q _ => congrArg₂ (· * ·) (dsum m c hf t (y 0) q r h0') ((b6 m c t _ _ q).trans ?_)) ?_
  · exact congrArg₂ (fun (s : Fin 4) (z : Fin 1024) => m ((c : Thread nD τ).loc main_arg4) (ix3 s z q))
      (Fin.ext (by show (y 1 : ℕ) / 1024 = (w : ℕ) / 1024; rw [h1'])) (Fin.ext (by show (y 1 : ℕ) % 1024 = (w : ℕ) % 1024; rw [h1']))
  · refine (congrArg (iblk m c 5 t) hy).trans ((b5 m c t (y 0) w r h0').trans ?_)
    pointwise [val_main_v66, val_main_v65, val_main_cst_18, val_main_v60, val_main_call0_v0, val_main_call0_cst]

end Cert.KernelMbIdeal.Mlp

end
-- ==== Proof.Mlp.MbAcc.lean ====
/- The gain's and the bias's gradients: a point's rows are added to what the points before left. -/
module

public import proofs.«01_k».proof.Proof.Mlp.MbRun
public import proofs.«01_k».proof.Proof.Mlp.MbBlk

@[expose] public section

noncomputable section

namespace Cert.KernelMbIdeal.Mlp

open Cert.KernelMbIdeal Cert.KernelMbIdeal.Gen Idealize.ShloMosaic Idealize.ShloMosaic.TcCoe Idealize.SL.Sem
open Idealize.ShloMosaic.Pipeline (Dat)
open Cert.ReferenceMbIdeal.Read

variable (m : (ℓ : Loc nD τ sig) → Buf (Elt Ideal) ℓ)

/-- A sum over the rows is a sum over the blocks of the sums over their rows. -/
theorem sum_rows (f : Fin 4096 → EReal) : ∑ s : Fin 8, ∑ a : Fin 512, f ⟨(s : ℕ) * 512 + (a : ℕ), by omega⟩ = ∑ r, f r := by
  rw [← Equiv.sum_comp (finProdFinEquiv (m := 8) (n := 512)) f, Fintype.sum_prod_type]
  refine Finset.sum_congr rfl fun s _ => Finset.sum_congr rfl fun a _ => congrArg f (Fin.ext ?_)
  show (s : ℕ) * 512 + (a : ℕ) = (a : ℕ) + 512 * (s : ℕ)
  omega

/-- A later point's gradient of the gain is what was there and the point's own. -/
theorem add10 (x z : FVec Ideal S1x1024 .f32) (y : S1x1024.Idx) : k0_pay8 (F := Ideal) x z y = z y + x y := by
  pointwise [k0_pay8]

/-- A later point's gradient of the bias is what was there and the point's own. -/
theorem add11 (x z : FVec Ideal S1x1024 .f32) (y : S1x1024.Idx) : k0_pay9 (F := Ideal) x z y = z y + x y := by
  pointwise [k0_pay9]

/-- What a point adds to the gain's gradient. -/
def part10 (c : Dev nD) (b : Fin 1024) (s : ℕ) : EReal :=
  if h : s < cfg0.N then k0_pay6 (F := Ideal) (iblk m c 0 ⟨s, h⟩) (iblk m c 1 ⟨s, h⟩) (iblk m c 2 ⟨s, h⟩) (iblk m c 3 ⟨s, h⟩) (ix2 0 b) else 0

/-- What a point adds, of the point. -/
theorem part10_at (c : Dev nD) (b : Fin 1024) (t : Fin cfg0.N) (s : ℕ) (h : t.val = s) : part10 m c b s = k0_pay6 (F := Ideal) (iblk m c 0 t) (iblk m c 1 t) (iblk m c 2 t) (iblk m c 3 t) (ix2 0 b) :=
  h ▸ dif_pos t.isLt

/-- After a point the gain's gradient holds the sum over the points so far. -/
theorem acc10 (c : Dev nD) (b : Fin 1024) : ∀ (n : ℕ) (t : Fin cfg0.N), t.val = n → (outsAt0 m c t.val t.isLt).2.2.2.1 (ix2 0 b) = ∑ s ∈ Finset.range (n + 1), part10 m c b s
  | 0, t, h => by
    rw [outsAt0_A m c t (by omega) (by omega) (by omega) (by omega), Finset.sum_range_one, part10_at m c b t 0 h]
    dsimp only
    rw [first10]
  | n + 1, t, h => by
    have hN : t.val < 8 := lt_of_lt_of_eq t.isLt N_0
    rw [outsAt0_B m c t (by omega) (by omega) (by omega) (by omega), Finset.sum_range_succ, part10_at m c b t (n + 1) h]
    dsimp only
    rw [later10, add10]
    have e := acc10 c b n ⟨t.val - 1, Nat.lt_of_le_of_lt (Nat.sub_le _ _) t.isLt⟩ (by show t.val - 1 = n; omega)
    exact congrArg (· + _) e

/-- What a point adds to the bias's gradient. -/
def part11 (c : Dev nD) (b : Fin 1024) (s : ℕ) : EReal :=
  if h : s < cfg0.N then k0_pay7 (F := Ideal) (iblk m c 0 ⟨s, h⟩) (ix2 0 b) else 0

/-- What a point adds, of the point. -/
theorem part11_at (c : Dev nD) (b : Fin 1024) (t : Fin cfg0.N) (s : ℕ) (h : t.val = s) : part11 m c b s = k0_pay7 (F := Ideal) (iblk m c 0 t) (ix2 0 b) :=
  h ▸ dif_pos t.isLt

/-- After a point the bias's gradient holds the sum over the points so far. -/
theorem acc11 (c : Dev nD) (b : Fin 1024) : ∀ (n : ℕ) (t : Fin cfg0.N), t.val = n → (outsAt0 m c t.val t.isLt).2.2.2.2 (ix2 0 b) = ∑ s ∈ Finset.range (n + 1), part11 m c b s
  | 0, t, h => by
    rw [outsAt0_A m c t (by omega) (by omega) (by omega) (by omega), Finset.sum_range_one, part11_at m c b t 0 h]
    dsimp only
    rw [first11]
  | n + 1, t, h => by
    have hN : t.val < 8 := lt_of_lt_of_eq t.isLt N_0
    rw [outsAt0_B m c t (by omega) (by omega) (by omega) (by omega), Finset.sum_range_succ, part11_at m c b t (n + 1) h]
    dsimp only
    rw [later11, add11]
    have e := acc11 c b n ⟨t.val - 1, Nat.lt_of_le_of_lt (Nat.sub_le _ _) t.isLt⟩ (by show t.val - 1 = n; omega)
    exact congrArg (· + _) e

/-- The gain's gradient summed over the points is the reference's. -/
theorem sum10 (c : Dev nD) (z : Fin 1) (b : Fin 1024) : ∑ s ∈ Finset.range (7 + 1), part10 m c b s
    = val_main_v33 (F := Ideal) (m ((c : Thread nD τ).loc main_arg0)) (m ((c : Thread nD τ).loc main_arg1)) (ix2 z b) := by
  rw [Finset.sum_range]
  pointwise [val_main_v33, val_main_v32, val_main_cst_8, val_main_v31, val_main_v28, val_main_v23, val_main_v22, val_main_v15, val_main_v14]
  refine Eq.trans ?_ (sum_rows _)
  refine Finset.sum_congr rfl fun s _ => ?_
  obtain ⟨t, ht⟩ : ∃ t : Fin cfg0.N, t.val = s.val := ⟨⟨s.val, lt_of_lt_of_eq s.isLt N_0.symm⟩, rfl⟩
  rw [part10_at m c b t s ht]
  pointwise [k0_pay6, k0_pay4, k0_pay3]
  refine Finset.sum_congr rfl fun a _ => ?_
  have hr : (s : ℕ) * 512 + (a : ℕ) = t.val * 512 + (a : ℕ) := by rw [ht]
  rw [mul_comm, b0 m c t a b ⟨(s : ℕ) * 512 + (a : ℕ), by omega⟩ hr, b1 m c t a b ⟨(s : ℕ) * 512 + (a : ℕ), by omega⟩ hr,
    b2 m c t a ⟨(s : ℕ) * 512 + (a : ℕ), by omega⟩ hr, b3 m c t a ⟨(s : ℕ) * 512 + (a : ℕ), by omega⟩ hr]

/-- The bias's gradient summed over the points is the reference's. -/
theorem sum11 (c : Dev nD) (z : Fin 1) (b : Fin 1024) : ∑ s ∈ Finset.range (7 + 1), part11 m c b s
    = val_main_v30 (F := Ideal) (m ((c : Thread nD τ).loc main_arg0)) (ix2 z b) := by
  rw [Finset.sum_range]
  pointwise [val_main_v30, val_main_v29, val_main_cst_7]
  refine Eq.trans ?_ (sum_rows _)
  refine Finset.sum_congr rfl fun s _ => ?_
  obtain ⟨t, ht⟩ : ∃ t : Fin cfg0.N, t.val = s.val := ⟨⟨s.val, lt_of_lt_of_eq s.isLt N_0.symm⟩, rfl⟩
  rw [part11_at m c b t s ht]
  pointwise [k0_pay7]
  exact Finset.sum_congr rfl fun a _ => b0 m c t a b _ (by show (s : ℕ) * 512 + (a : ℕ) = t.val * 512 + (a : ℕ); rw [ht])

/-- The gain's gradient leaves after the last point. -/
theorem last10 : ∀ t : Fin cfg0.N, (cfg0.win 10).flush t = true → t.val = 7 := by decide +kernel

/-- The gain's gradient after the run is the reference's term of the arguments. -/
theorem final10 (c : Dev nD) : (dats m 0 c).arrAt 10 cfg0.N
    = val_main_v33 (F := Ideal) (m ((c : Thread nD τ).loc main_arg0)) (m ((c : Thread nD τ).loc main_arg1)) := by
  refine (dats m 0 c).arrAt_eq_of_covers 10 _ (by decide +kernel) fun t ht y => ?_
  have h7 : t.val = 7 := last10 t ht
  blk_simp
  rw [after0_10]
  have h1 : ((((cfg0.win 10).blk t).view.emb y 1 : Fin 1024) : ℕ) = (y 1 : ℕ) := by blk_simp [maps t]
  generalize ((cfg0.win 10).blk t).view.emb y = k at h1 ⊢
  obtain ⟨z, b, rfl⟩ : ∃ (z : Fin 1) (b : Fin 1024), k = ix2 z b := ⟨_, _, eq_ix2 k⟩
  have hy : y = (ix2 0 b : S1x1024.Idx) := (eq_ix2 y).trans (congrArg₂ ix2 (Subsingleton.elim _ _) (Fin.ext h1.symm))
  refine (congrArg (outsAt0 m c t.val t.isLt).2.2.2.1 hy).trans ?_
  refine (acc10 m c b 7 t h7).trans (sum10 m c z b)

/-- The bias's gradient leaves after the last point. -/
theorem last11 : ∀ t : Fin cfg0.N, (cfg0.win 11).flush t = true → t.val = 7 := by decide +kernel

/-- The bias's gradient after the run is the reference's term of the arguments. -/
theorem final11 (c : Dev nD) : (dats m 0 c).arrAt 11 cfg0.N
    = val_main_v30 (F := Ideal) (m ((c : Thread nD τ).loc main_arg0)) := by
  refine (dats m 0 c).arrAt_eq_of_covers 11 _ (by decide +kernel) fun t ht y => ?_
  have h7 : t.val = 7 := last11 t ht
  blk_simp
  rw [after0_11]
  have h1 : ((((cfg0.win 11).blk t).view.emb y 1 : Fin 1024) : ℕ) = (y 1 : ℕ) := by blk_simp [maps t]
  generalize ((cfg0.win 11).blk t).view.emb y = k at h1 ⊢
  obtain ⟨z, b, rfl⟩ : ∃ (z : Fin 1) (b : Fin 1024), k = ix2 z b := ⟨_, _, eq_ix2 k⟩
  have hy : y = (ix2 0 b : S1x1024.Idx) := (eq_ix2 y).trans (congrArg₂ ix2 (Subsingleton.elim _ _) (Fin.ext h1.symm))
  refine (congrArg (outsAt0 m c t.val t.isLt).2.2.2.2 hy).trans ?_
  refine (acc11 m c b 7 t h7).trans (sum11 m c z b)

end Cert.KernelMbIdeal.Mlp

end
-- ==== Proof.Mlp.McRun.lean ====
/- What one grid point of the call stores in each result block. -/
module

public import proofs.«01_k».proof.Proof.Gen.KernelMcIdeal.Value
public import Idealize.ShloMosaic.Lib.Pipeline.ValueKit

@[expose] public section

noncomputable section

namespace Cert.KernelMcIdeal.Mlp

open Cert.KernelMcIdeal Cert.KernelMcIdeal.Gen Idealize.ShloMosaic Idealize.ShloMosaic.TcCoe Idealize.SL.Sem

theorem zero2 : (![0, 0] : Fin 2 → ℕ) = fun _ => 0 := by funext a; fin_cases a <;> rfl
theorem zero3 : (![0, 0, 0] : Fin 3 → ℕ) = fun _ => 0 := by funext a; fin_cases a <;> rfl

/-- The incoming gradient of the sum: the residual's, scaled, and the hidden rows' against the shards. -/
def summed (x0 : Vec Ideal S512x1024 .f32) (x1 : Vec Ideal S512x4096 .bf16) (x2 : Vec Ideal S4x1024x1024 .bf16) : FVec Ideal S512x1024 .f32 := fun y =>
  Ideal.ofBits .f32 1068827891#32 * x0 y + ∑ s : Fin 4, ∑ q : Fin 1024, x1 (ix2 (y 0) ⟨(s : ℕ) * 1024 + (q : ℕ), by omega⟩) * x2 (ix3 s (y 1) q)

/-- The stored sum is that gradient. -/
theorem summed_eq (x0 : Vec Ideal S512x1024 .f32) (x1 : Vec Ideal S512x4096 .bf16) (x2 : Vec Ideal S4x1024x1024 .bf16) :
    k0_pay5 (F := Ideal) x0 (View.ld x1 (Rect.unit ![0, 0] ![512, 1024] inb_S512x4096_S512x1024_0_0))
        (View.ld x2 (Rect.unit ![0, 0, 0] ![1, 1024, 1024] inb_S4x1024x1024_S1x1024x1024_0_0_0))
        (View.ld x1 (Rect.unit ![0, 1024] ![512, 1024] inb_S512x4096_S512x1024_0_1024))
        (View.ld x2 (Rect.unit ![1, 0, 0] ![1, 1024, 1024] inb_S4x1024x1024_S1x1024x1024_1_0_0))
        (View.ld x1 (Rect.unit ![0, 2048] ![512, 1024] inb_S512x4096_S512x1024_0_2048))
        (View.ld x2 (Rect.unit ![2, 0, 0] ![1, 1024, 1024] inb_S4x1024x1024_S1x1024x1024_2_0_0))
        (View.ld x1 (Rect.unit ![0, 3072] ![512, 1024] inb_S512x4096_S512x1024_0_3072))
        (View.ld x2 (Rect.unit ![3, 0, 0] ![1, 1024, 1024] inb_S4x1024x1024_S1x1024x1024_3_0_0)) = summed x0 x1 x2 := by
  funext y
  obtain ⟨a, k, rfl⟩ : ∃ (a : Fin 512) (k : Fin 1024), y = ix2 a k := ⟨_, _, eq_ix2 y⟩
  unfold summed
  rw [Fin.sum_univ_four]
  pointwise [k0_pay5]
  simp only [add_assoc]

/-- The first point stores the gradient of the sum. -/
theorem first8 (c : Dev nD) (i : grid0.Coords)
    (arg1 : Memref sig .tc .vmem S512x1024 .f32) (harg1 : arg1.IsWhole)
    (arg2 : Memref sig .tc .vmem S512x4096 .bf16) (harg2 : arg2.IsWhole)
    (arg3 : Memref sig .tc .vmem S4x1024x1024 .bf16) (harg3 : arg3.IsWhole)
    (arg4 : Memref sig .tc .vmem S512x1024 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S1x1024 .f32) (harg7 : arg7.IsWhole)
    (arg8 : Memref sig .tc .vmem S4x256x1024 .bf16) (harg8 : arg8.IsWhole)
    (arg9 : Memref sig .tc .vmem S512x1024 .f32) (harg9 : arg9.IsWhole)
    (arg10 : Memref sig .tc .vmem S512x1024 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1x1024 .f32) (harg14 : arg14.IsWhole)
    (hc0 : cond0_0 i) (hc1 : ¬cond0_1 i) (hc2 : cond0_2 i) (hc3 : ¬cond0_3 i) (hc4 : cond0_4 i) (hc5 : ¬cond0_5 i)
    (x0 : Vec Ideal S512x1024 .f32) (x1 : Vec Ideal S512x4096 .bf16) (x2 : Vec Ideal S4x1024x1024 .bf16) (x3 : Vec Ideal S512x1024 .f32) (x4 : Vec Ideal S512x1 .f32) (x5 : Vec Ideal S512x1 .f32) (x6 : Vec Ideal S1x1024 .f32) (x7 : Vec Ideal S4x256x1024 .bf16) :
    out0_A_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6 x7
      = k0_pay8 (summed x0 x1 x2) x3 x6 x4 x5 := by
  unfold out0_A_8
  rw [View.read_writes_junk_eq_canon]
  unfold kernelRun0_A
  dsimp only
  sl_unfold_words
  rw [View.canon_unit_zero (S := S512x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) zero2, View.ld_unit_zero (S := S512x1) zero2, View.ld_unit_zero (S := S1x1024) zero2, View.ld_unit_zero (S := S4x256x1024) zero3]
  rw [summed_eq]

/-- The first point stores the same in the narrow format. -/
theorem first9 (c : Dev nD) (i : grid0.Coords)
    (arg1 : Memref sig .tc .vmem S512x1024 .f32) (harg1 : arg1.IsWhole)
    (arg2 : Memref sig .tc .vmem S512x4096 .bf16) (harg2 : arg2.IsWhole)
    (arg3 : Memref sig .tc .vmem S4x1024x1024 .bf16) (harg3 : arg3.IsWhole)
    (arg4 : Memref sig .tc .vmem S512x1024 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S1x1024 .f32) (harg7 : arg7.IsWhole)
    (arg8 : Memref sig .tc .vmem S4x256x1024 .bf16) (harg8 : arg8.IsWhole)
    (arg9 : Memref sig .tc .vmem S512x1024 .f32) (harg9 : arg9.IsWhole)
    (arg10 : Memref sig .tc .vmem S512x1024 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1x1024 .f32) (harg14 : arg14.IsWhole)
    (hc0 : cond0_0 i) (hc1 : ¬cond0_1 i) (hc2 : cond0_2 i) (hc3 : ¬cond0_3 i) (hc4 : cond0_4 i) (hc5 : ¬cond0_5 i)
    (x0 : Vec Ideal S512x1024 .f32) (x1 : Vec Ideal S512x4096 .bf16) (x2 : Vec Ideal S4x1024x1024 .bf16) (x3 : Vec Ideal S512x1024 .f32) (x4 : Vec Ideal S512x1 .f32) (x5 : Vec Ideal S512x1 .f32) (x6 : Vec Ideal S1x1024 .f32) (x7 : Vec Ideal S4x256x1024 .bf16) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6 x7
      = k0_pay3 (k0_pay8 (summed x0 x1 x2) x3 x6 x4 x5) := by
  unfold out0_A_9
  rw [View.read_writes_junk_eq_canon]
  unfold kernelRun0_A
  dsimp only
  sl_unfold_words
  rw [View.canon_unit_zero (S := S512x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) zero2, View.ld_unit_zero (S := S512x1) zero2, View.ld_unit_zero (S := S1x1024) zero2, View.ld_unit_zero (S := S4x256x1024) zero3]
  rw [summed_eq]

/-- The first point stores the mixed rows' gradient. -/
theorem first10 (c : Dev nD) (i : grid0.Coords)
    (arg1 : Memref sig .tc .vmem S512x1024 .f32) (harg1 : arg1.IsWhole)
    (arg2 : Memref sig .tc .vmem S512x4096 .bf16) (harg2 : arg2.IsWhole)
    (arg3 : Memref sig .tc .vmem S4x1024x1024 .bf16) (harg3 : arg3.IsWhole)
    (arg4 : Memref sig .tc .vmem S512x1024 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S1x1024 .f32) (harg7 : arg7.IsWhole)
    (arg8 : Memref sig .tc .vmem S4x256x1024 .bf16) (harg8 : arg8.IsWhole)
    (arg9 : Memref sig .tc .vmem S512x1024 .f32) (harg9 : arg9.IsWhole)
    (arg10 : Memref sig .tc .vmem S512x1024 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1x1024 .f32) (harg14 : arg14.IsWhole)
    (hc0 : cond0_0 i) (hc1 : ¬cond0_1 i) (hc2 : cond0_2 i) (hc3 : ¬cond0_3 i) (hc4 : cond0_4 i) (hc5 : ¬cond0_5 i)
    (x0 : Vec Ideal S512x1024 .f32) (x1 : Vec Ideal S512x4096 .bf16) (x2 : Vec Ideal S4x1024x1024 .bf16) (x3 : Vec Ideal S512x1024 .f32) (x4 : Vec Ideal S512x1 .f32) (x5 : Vec Ideal S512x1 .f32) (x6 : Vec Ideal S1x1024 .f32) (x7 : Vec Ideal S4x256x1024 .bf16) :
    out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6 x7
      = k0_pay4 (k0_pay8 (summed x0 x1 x2) x3 x6 x4 x5) x7 := by
  unfold out0_A_10
  rw [View.read_writes_junk_eq_canon]
  unfold kernelRun0_A
  dsimp only
  sl_unfold_words
  rw [View.canon_unit_zero (S := S512x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) zero2, View.ld_unit_zero (S := S512x1) zero2, View.ld_unit_zero (S := S1x1024) zero2, View.ld_unit_zero (S := S4x256x1024) zero3]
  rw [summed_eq]

/-- The first point stores the gain's gradient over the block's rows. -/
theorem first11 (c : Dev nD) (i : grid0.Coords)
    (arg1 : Memref sig .tc .vmem S512x1024 .f32) (harg1 : arg1.IsWhole)
    (arg2 : Memref sig .tc .vmem S512x4096 .bf16) (harg2 : arg2.IsWhole)
    (arg3 : Memref sig .tc .vmem S4x1024x1024 .bf16) (harg3 : arg3.IsWhole)
    (arg4 : Memref sig .tc .vmem S512x1024 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S1x1024 .f32) (harg7 : arg7.IsWhole)
    (arg8 : Memref sig .tc .vmem S4x256x1024 .bf16) (harg8 : arg8.IsWhole)
    (arg9 : Memref sig .tc .vmem S512x1024 .f32) (harg9 : arg9.IsWhole)
    (arg10 : Memref sig .tc .vmem S512x1024 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1x1024 .f32) (harg14 : arg14.IsWhole)
    (hc0 : cond0_0 i) (hc1 : ¬cond0_1 i) (hc2 : cond0_2 i) (hc3 : ¬cond0_3 i) (hc4 : cond0_4 i) (hc5 : ¬cond0_5 i)
    (x0 : Vec Ideal S512x1024 .f32) (x1 : Vec Ideal S512x4096 .bf16) (x2 : Vec Ideal S4x1024x1024 .bf16) (x3 : Vec Ideal S512x1024 .f32) (x4 : Vec Ideal S512x1 .f32) (x5 : Vec Ideal S512x1 .f32) (x6 : Vec Ideal S1x1024 .f32) (x7 : Vec Ideal S4x256x1024 .bf16) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6 x7
      = k0_pay9 (summed x0 x1 x2) x3 x4 x5 := by
  unfold out0_A_11
  rw [View.read_writes_junk_eq_canon]
  unfold kernelRun0_A
  dsimp only
  sl_unfold_words
  rw [View.canon_unit_zero (S := S1x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) zero2, View.ld_unit_zero (S := S512x1) zero2, View.ld_unit_zero (S := S1x1024) zero2, View.ld_unit_zero (S := S4x256x1024) zero3]
  rw [summed_eq]

/-- The first point stores the bias's gradient over the block's rows. -/
theorem first12 (c : Dev nD) (i : grid0.Coords)
    (arg1 : Memref sig .tc .vmem S512x1024 .f32) (harg1 : arg1.IsWhole)
    (arg2 : Memref sig .tc .vmem S512x4096 .bf16) (harg2 : arg2.IsWhole)
    (arg3 : Memref sig .tc .vmem S4x1024x1024 .bf16) (harg3 : arg3.IsWhole)
    (arg4 : Memref sig .tc .vmem S512x1024 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S1x1024 .f32) (harg7 : arg7.IsWhole)
    (arg8 : Memref sig .tc .vmem S4x256x1024 .bf16) (harg8 : arg8.IsWhole)
    (arg9 : Memref sig .tc .vmem S512x1024 .f32) (harg9 : arg9.IsWhole)
    (arg10 : Memref sig .tc .vmem S512x1024 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1x1024 .f32) (harg14 : arg14.IsWhole)
    (hc0 : cond0_0 i) (hc1 : ¬cond0_1 i) (hc2 : cond0_2 i) (hc3 : ¬cond0_3 i) (hc4 : cond0_4 i) (hc5 : ¬cond0_5 i)
    (x0 : Vec Ideal S512x1024 .f32) (x1 : Vec Ideal S512x4096 .bf16) (x2 : Vec Ideal S4x1024x1024 .bf16) (x3 : Vec Ideal S512x1024 .f32) (x4 : Vec Ideal S512x1 .f32) (x5 : Vec Ideal S512x1 .f32) (x6 : Vec Ideal S1x1024 .f32) (x7 : Vec Ideal S4x256x1024 .bf16) :
    out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6 x7
      = k0_pay10 (summed x0 x1 x2) := by
  unfold out0_A_12
  rw [View.read_writes_junk_eq_canon]
  unfold kernelRun0_A
  dsimp only
  sl_unfold_words
  rw [View.canon_unit_zero (S := S1x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) zero2, View.ld_unit_zero (S := S512x1) zero2, View.ld_unit_zero (S := S1x1024) zero2, View.ld_unit_zero (S := S4x256x1024) zero3]
  rw [summed_eq]

/-- The first point stores the offset's gradient over the block's rows. -/
theorem first13 (c : Dev nD) (i : grid0.Coords)
    (arg1 : Memref sig .tc .vmem S512x1024 .f32) (harg1 : arg1.IsWhole)
    (arg2 : Memref sig .tc .vmem S512x4096 .bf16) (harg2 : arg2.IsWhole)
    (arg3 : Memref sig .tc .vmem S4x1024x1024 .bf16) (harg3 : arg3.IsWhole)
    (arg4 : Memref sig .tc .vmem S512x1024 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S1x1024 .f32) (harg7 : arg7.IsWhole)
    (arg8 : Memref sig .tc .vmem S4x256x1024 .bf16) (harg8 : arg8.IsWhole)
    (arg9 : Memref sig .tc .vmem S512x1024 .f32) (harg9 : arg9.IsWhole)
    (arg10 : Memref sig .tc .vmem S512x1024 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1x1024 .f32) (harg14 : arg14.IsWhole)
    (hc0 : cond0_0 i) (hc1 : ¬cond0_1 i) (hc2 : cond0_2 i) (hc3 : ¬cond0_3 i) (hc4 : cond0_4 i) (hc5 : ¬cond0_5 i)
    (x0 : Vec Ideal S512x1024 .f32) (x1 : Vec Ideal S512x4096 .bf16) (x2 : Vec Ideal S4x1024x1024 .bf16) (x3 : Vec Ideal S512x1024 .f32) (x4 : Vec Ideal S512x1 .f32) (x5 : Vec Ideal S512x1 .f32) (x6 : Vec Ideal S1x1024 .f32) (x7 : Vec Ideal S4x256x1024 .bf16) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6 x7
      = k0_pay1 (k0_pay8 (summed x0 x1 x2) x3 x6 x4 x5) := by
  unfold out0_A_13
  rw [View.read_writes_junk_eq_canon]
  unfold kernelRun0_A
  dsimp only
  sl_unfold_words
  rw [View.canon_unit_zero (S := S1x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) zero2, View.ld_unit_zero (S := S512x1) zero2, View.ld_unit_zero (S := S1x1024) zero2, View.ld_unit_zero (S := S4x256x1024) zero3]
  rw [summed_eq]

/-- A later point stores the gradient of the sum. -/
theorem later8 (c : Dev nD) (i : grid0.Coords)
    (arg1 : Memref sig .tc .vmem S512x1024 .f32) (harg1 : arg1.IsWhole)
    (arg2 : Memref sig .tc .vmem S512x4096 .bf16) (harg2 : arg2.IsWhole)
    (arg3 : Memref sig .tc .vmem S4x1024x1024 .bf16) (harg3 : arg3.IsWhole)
    (arg4 : Memref sig .tc .vmem S512x1024 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S1x1024 .f32) (harg7 : arg7.IsWhole)
    (arg8 : Memref sig .tc .vmem S4x256x1024 .bf16) (harg8 : arg8.IsWhole)
    (arg9 : Memref sig .tc .vmem S512x1024 .f32) (harg9 : arg9.IsWhole)
    (arg10 : Memref sig .tc .vmem S512x1024 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1x1024 .f32) (harg14 : arg14.IsWhole)
    (hc0 : ¬cond0_0 i) (hc1 : cond0_1 i) (hc2 : ¬cond0_2 i) (hc3 : cond0_3 i) (hc4 : ¬cond0_4 i) (hc5 : cond0_5 i)
    (x0 : Vec Ideal S512x1024 .f32) (x1 : Vec Ideal S512x4096 .bf16) (x2 : Vec Ideal S4x1024x1024 .bf16) (x3 : Vec Ideal S512x1024 .f32) (x4 : Vec Ideal S512x1 .f32) (x5 : Vec Ideal S512x1 .f32) (x6 : Vec Ideal S1x1024 .f32) (x7 : Vec Ideal S4x256x1024 .bf16) (xo11 : Vec Ideal S1x1024 .f32) (xo12 : Vec Ideal S1x1024 .f32) (xo13 : Vec Ideal S1x1024 .f32) :
    out0_B_8 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6 x7 xo11 xo12 xo13
      = k0_pay8 (summed x0 x1 x2) x3 x6 x4 x5 := by
  unfold out0_B_8
  rw [View.read_writes_junk_eq_canon]
  unfold kernelRun0_B
  dsimp only
  sl_unfold_words
  rw [View.canon_unit_zero (S := S512x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) zero2, View.ld_unit_zero (S := S512x1) zero2, View.ld_unit_zero (S := S1x1024) zero2, View.ld_unit_zero (S := S4x256x1024) zero3]
  rw [summed_eq]

/-- A later point stores the same in the narrow format. -/
theorem later9 (c : Dev nD) (i : grid0.Coords)
    (arg1 : Memref sig .tc .vmem S512x1024 .f32) (harg1 : arg1.IsWhole)
    (arg2 : Memref sig .tc .vmem S512x4096 .bf16) (harg2 : arg2.IsWhole)
    (arg3 : Memref sig .tc .vmem S4x1024x1024 .bf16) (harg3 : arg3.IsWhole)
    (arg4 : Memref sig .tc .vmem S512x1024 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S1x1024 .f32) (harg7 : arg7.IsWhole)
    (arg8 : Memref sig .tc .vmem S4x256x1024 .bf16) (harg8 : arg8.IsWhole)
    (arg9 : Memref sig .tc .vmem S512x1024 .f32) (harg9 : arg9.IsWhole)
    (arg10 : Memref sig .tc .vmem S512x1024 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1x1024 .f32) (harg14 : arg14.IsWhole)
    (hc0 : ¬cond0_0 i) (hc1 : cond0_1 i) (hc2 : ¬cond0_2 i) (hc3 : cond0_3 i) (hc4 : ¬cond0_4 i) (hc5 : cond0_5 i)
    (x0 : Vec Ideal S512x1024 .f32) (x1 : Vec Ideal S512x4096 .bf16) (x2 : Vec Ideal S4x1024x1024 .bf16) (x3 : Vec Ideal S512x1024 .f32) (x4 : Vec Ideal S512x1 .f32) (x5 : Vec Ideal S512x1 .f32) (x6 : Vec Ideal S1x1024 .f32) (x7 : Vec Ideal S4x256x1024 .bf16) (xo11 : Vec Ideal S1x1024 .f32) (xo12 : Vec Ideal S1x1024 .f32) (xo13 : Vec Ideal S1x1024 .f32) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6 x7 xo11 xo12 xo13
      = k0_pay3 (k0_pay8 (summed x0 x1 x2) x3 x6 x4 x5) := by
  unfold out0_B_9
  rw [View.read_writes_junk_eq_canon]
  unfold kernelRun0_B
  dsimp only
  sl_unfold_words
  rw [View.canon_unit_zero (S := S512x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) zero2, View.ld_unit_zero (S := S512x1) zero2, View.ld_unit_zero (S := S1x1024) zero2, View.ld_unit_zero (S := S4x256x1024) zero3]
  rw [summed_eq]

/-- A later point stores the mixed rows' gradient. -/
theorem later10 (c : Dev nD) (i : grid0.Coords)
    (arg1 : Memref sig .tc .vmem S512x1024 .f32) (harg1 : arg1.IsWhole)
    (arg2 : Memref sig .tc .vmem S512x4096 .bf16) (harg2 : arg2.IsWhole)
    (arg3 : Memref sig .tc .vmem S4x1024x1024 .bf16) (harg3 : arg3.IsWhole)
    (arg4 : Memref sig .tc .vmem S512x1024 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S1x1024 .f32) (harg7 : arg7.IsWhole)
    (arg8 : Memref sig .tc .vmem S4x256x1024 .bf16) (harg8 : arg8.IsWhole)
    (arg9 : Memref sig .tc .vmem S512x1024 .f32) (harg9 : arg9.IsWhole)
    (arg10 : Memref sig .tc .vmem S512x1024 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1x1024 .f32) (harg14 : arg14.IsWhole)
    (hc0 : ¬cond0_0 i) (hc1 : cond0_1 i) (hc2 : ¬cond0_2 i) (hc3 : cond0_3 i) (hc4 : ¬cond0_4 i) (hc5 : cond0_5 i)
    (x0 : Vec Ideal S512x1024 .f32) (x1 : Vec Ideal S512x4096 .bf16) (x2 : Vec Ideal S4x1024x1024 .bf16) (x3 : Vec Ideal S512x1024 .f32) (x4 : Vec Ideal S512x1 .f32) (x5 : Vec Ideal S512x1 .f32) (x6 : Vec Ideal S1x1024 .f32) (x7 : Vec Ideal S4x256x1024 .bf16) (xo11 : Vec Ideal S1x1024 .f32) (xo12 : Vec Ideal S1x1024 .f32) (xo13 : Vec Ideal S1x1024 .f32) :
    out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6 x7 xo11 xo12 xo13
      = k0_pay4 (k0_pay8 (summed x0 x1 x2) x3 x6 x4 x5) x7 := by
  unfold out0_B_10
  rw [View.read_writes_junk_eq_canon]
  unfold kernelRun0_B
  dsimp only
  sl_unfold_words
  rw [View.canon_unit_zero (S := S512x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) zero2, View.ld_unit_zero (S := S512x1) zero2, View.ld_unit_zero (S := S1x1024) zero2, View.ld_unit_zero (S := S4x256x1024) zero3]
  rw [summed_eq]

/-- A later point stores the gain's gradient over the block's rows, added to what it finds. -/
theorem later11 (c : Dev nD) (i : grid0.Coords)
    (arg1 : Memref sig .tc .vmem S512x1024 .f32) (harg1 : arg1.IsWhole)
    (arg2 : Memref sig .tc .vmem S512x4096 .bf16) (harg2 : arg2.IsWhole)
    (arg3 : Memref sig .tc .vmem S4x1024x1024 .bf16) (harg3 : arg3.IsWhole)
    (arg4 : Memref sig .tc .vmem S512x1024 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S1x1024 .f32) (harg7 : arg7.IsWhole)
    (arg8 : Memref sig .tc .vmem S4x256x1024 .bf16) (harg8 : arg8.IsWhole)
    (arg9 : Memref sig .tc .vmem S512x1024 .f32) (harg9 : arg9.IsWhole)
    (arg10 : Memref sig .tc .vmem S512x1024 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1x1024 .f32) (harg14 : arg14.IsWhole)
    (hc0 : ¬cond0_0 i) (hc1 : cond0_1 i) (hc2 : ¬cond0_2 i) (hc3 : cond0_3 i) (hc4 : ¬cond0_4 i) (hc5 : cond0_5 i)
    (x0 : Vec Ideal S512x1024 .f32) (x1 : Vec Ideal S512x4096 .bf16) (x2 : Vec Ideal S4x1024x1024 .bf16) (x3 : Vec Ideal S512x1024 .f32) (x4 : Vec Ideal S512x1 .f32) (x5 : Vec Ideal S512x1 .f32) (x6 : Vec Ideal S1x1024 .f32) (x7 : Vec Ideal S4x256x1024 .bf16) (xo11 : Vec Ideal S1x1024 .f32) (xo12 : Vec Ideal S1x1024 .f32) (xo13 : Vec Ideal S1x1024 .f32) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6 x7 xo11 xo12 xo13
      = k0_pay11 (summed x0 x1 x2) x3 x4 x5 xo11 := by
  unfold out0_B_11
  rw [View.read_writes_junk_eq_canon]
  unfold kernelRun0_B
  dsimp only
  sl_unfold_words
  rw [View.canon_unit_zero (S := S1x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) zero2, View.ld_unit_zero (S := S512x1) zero2, View.ld_unit_zero (S := S1x1024) zero2, View.ld_unit_zero (S := S4x256x1024) zero3]
  rw [summed_eq]

/-- A later point stores the bias's gradient over the block's rows, added to what it finds. -/
theorem later12 (c : Dev nD) (i : grid0.Coords)
    (arg1 : Memref sig .tc .vmem S512x1024 .f32) (harg1 : arg1.IsWhole)
    (arg2 : Memref sig .tc .vmem S512x4096 .bf16) (harg2 : arg2.IsWhole)
    (arg3 : Memref sig .tc .vmem S4x1024x1024 .bf16) (harg3 : arg3.IsWhole)
    (arg4 : Memref sig .tc .vmem S512x1024 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S1x1024 .f32) (harg7 : arg7.IsWhole)
    (arg8 : Memref sig .tc .vmem S4x256x1024 .bf16) (harg8 : arg8.IsWhole)
    (arg9 : Memref sig .tc .vmem S512x1024 .f32) (harg9 : arg9.IsWhole)
    (arg10 : Memref sig .tc .vmem S512x1024 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1x1024 .f32) (harg14 : arg14.IsWhole)
    (hc0 : ¬cond0_0 i) (hc1 : cond0_1 i) (hc2 : ¬cond0_2 i) (hc3 : cond0_3 i) (hc4 : ¬cond0_4 i) (hc5 : cond0_5 i)
    (x0 : Vec Ideal S512x1024 .f32) (x1 : Vec Ideal S512x4096 .bf16) (x2 : Vec Ideal S4x1024x1024 .bf16) (x3 : Vec Ideal S512x1024 .f32) (x4 : Vec Ideal S512x1 .f32) (x5 : Vec Ideal S512x1 .f32) (x6 : Vec Ideal S1x1024 .f32) (x7 : Vec Ideal S4x256x1024 .bf16) (xo11 : Vec Ideal S1x1024 .f32) (xo12 : Vec Ideal S1x1024 .f32) (xo13 : Vec Ideal S1x1024 .f32) :
    out0_B_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6 x7 xo11 xo12 xo13
      = k0_pay12 (summed x0 x1 x2) xo12 := by
  unfold out0_B_12
  rw [View.read_writes_junk_eq_canon]
  unfold kernelRun0_B
  dsimp only
  sl_unfold_words
  rw [View.canon_unit_zero (S := S1x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) zero2, View.ld_unit_zero (S := S512x1) zero2, View.ld_unit_zero (S := S1x1024) zero2, View.ld_unit_zero (S := S4x256x1024) zero3]
  rw [summed_eq]

/-- A later point stores the offset's gradient over the block's rows, added to what it finds. -/
theorem later13 (c : Dev nD) (i : grid0.Coords)
    (arg1 : Memref sig .tc .vmem S512x1024 .f32) (harg1 : arg1.IsWhole)
    (arg2 : Memref sig .tc .vmem S512x4096 .bf16) (harg2 : arg2.IsWhole)
    (arg3 : Memref sig .tc .vmem S4x1024x1024 .bf16) (harg3 : arg3.IsWhole)
    (arg4 : Memref sig .tc .vmem S512x1024 .f32) (harg4 : arg4.IsWhole)
    (arg5 : Memref sig .tc .vmem S512x1 .f32) (harg5 : arg5.IsWhole)
    (arg6 : Memref sig .tc .vmem S512x1 .f32) (harg6 : arg6.IsWhole)
    (arg7 : Memref sig .tc .vmem S1x1024 .f32) (harg7 : arg7.IsWhole)
    (arg8 : Memref sig .tc .vmem S4x256x1024 .bf16) (harg8 : arg8.IsWhole)
    (arg9 : Memref sig .tc .vmem S512x1024 .f32) (harg9 : arg9.IsWhole)
    (arg10 : Memref sig .tc .vmem S512x1024 .bf16) (harg10 : arg10.IsWhole)
    (arg11 : Memref sig .tc .vmem S512x1024 .bf16) (harg11 : arg11.IsWhole)
    (arg12 : Memref sig .tc .vmem S1x1024 .f32) (harg12 : arg12.IsWhole)
    (arg13 : Memref sig .tc .vmem S1x1024 .f32) (harg13 : arg13.IsWhole)
    (arg14 : Memref sig .tc .vmem S1x1024 .f32) (harg14 : arg14.IsWhole)
    (hc0 : ¬cond0_0 i) (hc1 : cond0_1 i) (hc2 : ¬cond0_2 i) (hc3 : cond0_3 i) (hc4 : ¬cond0_4 i) (hc5 : cond0_5 i)
    (x0 : Vec Ideal S512x1024 .f32) (x1 : Vec Ideal S512x4096 .bf16) (x2 : Vec Ideal S4x1024x1024 .bf16) (x3 : Vec Ideal S512x1024 .f32) (x4 : Vec Ideal S512x1 .f32) (x5 : Vec Ideal S512x1 .f32) (x6 : Vec Ideal S1x1024 .f32) (x7 : Vec Ideal S4x256x1024 .bf16) (xo11 : Vec Ideal S1x1024 .f32) (xo12 : Vec Ideal S1x1024 .f32) (xo13 : Vec Ideal S1x1024 .f32) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 hc0 hc1 hc2 hc3 hc4 hc5 x0 x1 x2 x3 x4 x5 x6 x7 xo11 xo12 xo13
      = k0_pay2 (k0_pay8 (summed x0 x1 x2) x3 x6 x4 x5) xo13 := by
  unfold out0_B_13
  rw [View.read_writes_junk_eq_canon]
  unfold kernelRun0_B
  dsimp only
  sl_unfold_words
  rw [View.canon_unit_zero (S := S1x1024) zero2]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) zero2, View.ld_unit_zero (S := S512x1) zero2, View.ld_unit_zero (S := S1x1024) zero2, View.ld_unit_zero (S := S4x256x1024) zero3]
  rw [summed_eq]

end Cert.KernelMcIdeal.Mlp

end
-- ==== Proof.Mlp.McBlk.lean ====
/- The blocks of a grid point: which rows of which argument they hold, the prepared arrays as the reference's terms. -/
module

public import proofs.«01_k».proof.Proof.Gen.KernelMcIdeal.Value
public import proofs.«01_k».proof.Proof.Gen.ReferenceMcIdeal.Read
public import Idealize.ShloMosaic.Lib.Pipeline.ValueKit

@[expose] public section

noncomputable section

namespace Cert.KernelMcIdeal.Mlp

open Cert.KernelMcIdeal Cert.KernelMcIdeal.Gen Idealize.ShloMosaic Idealize.ShloMosaic.TcCoe Idealize.SL.Sem
open Cert.ReferenceMcIdeal.Read

variable (m : (ℓ : Loc nD τ sig) → Buf (Elt Ideal) ℓ)

/-- The index maps at a grid point: its rows of the row arrays, the whole of the rest. -/
theorem maps : ∀ t : Fin cfg0.N, win0_0.index t = ![t.val, 0] ∧ win0_1.index t = ![t.val, 0] ∧ win0_2.index t = ![0, 0, 0]
    ∧ win0_3.index t = ![t.val, 0] ∧ win0_4.index t = ![t.val, 0] ∧ win0_5.index t = ![t.val, 0] ∧ win0_6.index t = ![0, 0] ∧ win0_7.index t = ![0, 0, 0]
    ∧ win0_8.index t = ![t.val, 0] ∧ win0_9.index t = ![t.val, 0] ∧ win0_10.index t = ![t.val, 0] ∧ win0_11.index t = ![0, 0] ∧ win0_12.index t = ![0, 0] ∧ win0_13.index t = ![0, 0] :=
  (by decide +kernel : ∀ t : Fin grid0.N, _)

/-- The arrays the host prepares, and the arguments it leaves. -/
theorem V_arg0 (c : Dev nD) : V m c main_arg0 = m ((c : Thread nD τ).loc main_arg0) := by
  unfold_abbrev_sides
  after_results <;> rfl

theorem V_arg1 (c : Dev nD) : V m c main_arg1 = m ((c : Thread nD τ).loc main_arg1) := by
  unfold_abbrev_sides
  after_results <;> rfl

theorem V_arg2 (c : Dev nD) : V m c main_arg2 = m ((c : Thread nD τ).loc main_arg2) := by
  unfold_abbrev_sides
  after_results <;> rfl

theorem V_arg3 (c : Dev nD) : V m c main_arg3 = m ((c : Thread nD τ).loc main_arg3) := by
  unfold_abbrev_sides
  after_results <;> rfl

theorem V_arg4 (c : Dev nD) : V m c main_arg4 = m ((c : Thread nD τ).loc main_arg4) := by
  unfold_abbrev_sides
  after_results <;> rfl

theorem V_arg5 (c : Dev nD) : V m c main_arg5 = m ((c : Thread nD τ).loc main_arg5) := by
  unfold_abbrev_sides
  after_results <;> rfl

theorem V_mean (c : Dev nD) : V m c main_v3 = val_main_v16 (F := Ideal) (m ((c : Thread nD τ).loc main_arg3)) := by
  unfold_abbrev_sides
  after_results <;> rfl

theorem V_scale (c : Dev nD) : V m c main_v13 = val_main_v30 (F := Ideal) (m ((c : Thread nD τ).loc main_arg3)) := by
  unfold_abbrev_sides
  after_results <;> rfl

/-- A block's entry is the array's at the row the block gives it. -/
theorem b0 (c : Dev nD) (t : Fin cfg0.N) (a : Fin 512) (q : Fin 1024) (r : Fin 4096) (hr : (r : ℕ) = t.val * 512 + (a : ℕ)) :
    iblk m c 0 t (ix2 a q) = m ((c : Thread nD τ).loc main_arg0) (ix2 r q) := by
  refine Eq.trans (b := V m c main_arg0 (ix2 r q)) ?_ (congrFun (V_arg0 m c) _)
  blk_point [iblk, maps t]

theorem b1 (c : Dev nD) (t : Fin cfg0.N) (a : Fin 512) (q : Fin 4096) (r : Fin 4096) (hr : (r : ℕ) = t.val * 512 + (a : ℕ)) :
    iblk m c 1 t (ix2 a q) = m ((c : Thread nD τ).loc main_arg1) (ix2 r q) := by
  refine Eq.trans (b := V m c main_arg1 (ix2 r q)) ?_ (congrFun (V_arg1 m c) _)
  blk_point [iblk, maps t]

theorem b2 (c : Dev nD) (t : Fin cfg0.N) (i : Fin 4) (a q : Fin 1024) :
    iblk m c 2 t (ix3 i a q) = m ((c : Thread nD τ).loc main_arg2) (ix3 i a q) := by
  refine Eq.trans (b := V m c main_arg2 (ix3 i a q)) ?_ (congrFun (V_arg2 m c) _)
  blk_point [iblk, maps t]

theorem b3 (c : Dev nD) (t : Fin cfg0.N) (a : Fin 512) (q : Fin 1024) (r : Fin 4096) (hr : (r : ℕ) = t.val * 512 + (a : ℕ)) :
    iblk m c 3 t (ix2 a q) = m ((c : Thread nD τ).loc main_arg3) (ix2 r q) := by
  refine Eq.trans (b := V m c main_arg3 (ix2 r q)) ?_ (congrFun (V_arg3 m c) _)
  blk_point [iblk, maps t]

theorem b4 (c : Dev nD) (t : Fin cfg0.N) (a : Fin 512) (r : Fin 4096) (hr : (r : ℕ) = t.val * 512 + (a : ℕ)) :
    iblk m c 4 t (ix2 a 0) = val_main_v16 (F := Ideal) (m ((c : Thread nD τ).loc main_arg3)) (ix2 r 0) := by
  refine Eq.trans (b := V m c main_v3 (ix2 r 0)) ?_ (congrFun (V_mean m c) _)
  blk_point [iblk, maps t]

theorem b5 (c : Dev nD) (t : Fin cfg0.N) (a : Fin 512) (r : Fin 4096) (hr : (r : ℕ) = t.val * 512 + (a : ℕ)) :
    iblk m c 5 t (ix2 a 0) = val_main_v30 (F := Ideal) (m ((c : Thread nD τ).loc main_arg3)) (ix2 r 0) := by
  refine Eq.trans (b := V m c main_v13 (ix2 r 0)) ?_ (congrFun (V_scale m c) _)
  blk_point [iblk, maps t]

theorem b6 (c : Dev nD) (t : Fin cfg0.N) (q : Fin 1024) :
    iblk m c 6 t (ix2 0 q) = m ((c : Thread nD τ).loc main_arg4) (ix2 0 q) := by
  refine Eq.trans (b := V m c main_arg4 (ix2 0 q)) ?_ (congrFun (V_arg4 m c) _)
  blk_point [iblk, maps t]

theorem b7 (c : Dev nD) (t : Fin cfg0.N) (i : Fin 4) (a : Fin 256) (q : Fin 1024) :
    iblk m c 7 t (ix3 i a q) = m ((c : Thread nD τ).loc main_arg5) (ix3 i a q) := by
  refine Eq.trans (b := V m c main_arg5 (ix3 i a q)) ?_ (congrFun (V_arg5 m c) _)
  blk_point [iblk, maps t]

end Cert.KernelMcIdeal.Mlp

end
-- ==== Proof.Mlp.McRef.lean ====
/- The differentiated layer normalisation of the reference, at finite arguments, in reals. -/
module

public import proofs.«01_k».proof.Proof.Gen.ReferenceMcIdeal.Read
public import proofs.«01_k».proof.Proof.Mlp.Row
public import Idealize.ShloMosaic.Lib.Pipeline.ValueKit

@[expose] public section

noncomputable section

namespace Cert.ReferenceMcIdeal.Mlp

open Cert.ReferenceMcIdeal Idealize.ShloMosaic Idealize.SL.Sem
open Cert.ReferenceMcIdeal.Read
open Cert.Mlp (mean spread scale grad)

variable (x0 x3 : (⟨S4096x1024, .f32⟩ : BufTy).Contents (Elt Ideal)) (x1 : (⟨S4096x4096, .bf16⟩ : BufTy).Contents (Elt Ideal))
  (x2 : (⟨S4x1024x1024, .bf16⟩ : BufTy).Contents (Elt Ideal)) (x4 : (⟨S1x1024, .f32⟩ : BufTy).Contents (Elt Ideal))

/-- A sum over the hidden columns is a sum over the shards of the sums over their columns. -/
theorem sum_cols (f : Fin 4096 → EReal) : ∑ j, f j = ∑ s : Fin 4, ∑ q : Fin 1024, f ⟨(s : ℕ) * 1024 + (q : ℕ), by omega⟩ := by
  rw [← Equiv.sum_comp (finProdFinEquiv (m := 4) (n := 1024)) f, Fintype.sum_prod_type]
  refine Finset.sum_congr rfl fun s _ => Finset.sum_congr rfl fun q _ => congrArg f (Fin.ext ?_)
  show (q : ℕ) + 1024 * (s : ℕ) = (s : ℕ) * 1024 + (q : ℕ)
  omega

/-- The incoming gradient of the normalised row, shard by shard. -/
theorem v11 (r : Fin 4096) (k : Fin 1024) : val_main_v11 (F := Ideal) x0 x1 x2 (ix2 r k)
    = Ideal.ofBits .f32 1068827891#32 * x0 (ix2 r k) + ∑ s : Fin 4, ∑ q : Fin 1024, x1 (ix2 r ⟨(s : ℕ) * 1024 + (q : ℕ), by omega⟩) * x2 (ix3 s k q) := by
  pointwise [val_main_v11, val_main_v10, val_main_v9, val_main_cst_1, val_main_v8, val_main_v7, val_main_v2, val_main_v1, val_main_v0]
  rw [sum_cols, add_comm]
  refine congrArg₂ (· + ·) rfl (Finset.sum_congr rfl fun s _ => Finset.sum_congr rfl fun q _ => congrArg₂ (· * ·) rfl ?_)
  exact congrArg₂ (fun (s : Fin 4) (z : Fin 1024) => x2 (ix3 s k z)) (Fin.ext (by show ((s : ℕ) * 1024 + (q : ℕ)) / 1024 = (s : ℕ); omega))
    (Fin.ext (by show ((s : ℕ) * 1024 + (q : ℕ)) % 1024 = (q : ℕ); omega))

/-- The mean of row `r`. -/
theorem v16 (r : Fin 4096) (X : Fin 1024 → ℝ) (hx : ∀ q, x3 (ix2 r q) = (X q : EReal)) :
    val_main_v16 (F := Ideal) x3 (ix2 r 0) = ((mean X : ℝ) : EReal) := by
  pointwise [val_main_v16, val_main_v15, val_main_v14, val_main_v13, val_main_cst_3, val_main_cst_4]
  exact Cert.Mlp.mean_eq _ X hx

/-- The shifted variance of row `r`. -/
theorem v29 (r : Fin 4096) (X : Fin 1024 → ℝ) (hx : ∀ q, x3 (ix2 r q) = (X q : EReal)) :
    val_main_v29 (F := Ideal) x3 (ix2 r 0) = ((spread X : ℝ) : EReal) := by
  pointwise [val_main_v29, val_main_v28, val_main_cst_8, val_main_v25, val_main_v24, val_main_cst_7, val_main_v23, val_main_v22, val_main_cst_6, val_main_v19, val_main_v18, val_main_v17]
  rw [v16 x3 r X hx]
  exact Cert.Mlp.spread_eq _ X hx

/-- The reciprocal deviation of row `r`. -/
theorem v30 (r : Fin 4096) (X : Fin 1024 → ℝ) (hx : ∀ q, x3 (ix2 r q) = (X q : EReal)) :
    val_main_v30 (F := Ideal) x3 (ix2 r 0) = ((scale X : ℝ) : EReal) := by
  pointwise [val_main_v30]
  rw [v29 x3 r X hx]
  exact Cert.Mlp.scale_eq X

/-- The gradient of the sum before the normalisation, at row `r` and column `k`. -/
theorem v70 (r : Fin 4096) (X D : Fin 1024 → ℝ) (hx : ∀ q, x3 (ix2 r q) = (X q : EReal))
    (hd : ∀ q, val_main_v11 (F := Ideal) x0 x1 x2 (ix2 r q) * x4 (ix2 0 q) = (D q : EReal)) (k : Fin 1024) :
    val_main_v70 (F := Ideal) x0 x1 x2 x3 x4 (ix2 r k) = ((grad X D k : ℝ) : EReal) := by
  refine Eq.trans ?_ (Cert.Mlp.grad_chain (fun q => x3 (ix2 r q)) (fun q => val_main_v11 (F := Ideal) x0 x1 x2 (ix2 r q) * x4 (ix2 0 q)) (val_main_v16 (F := Ideal) x3 (ix2 r 0))
    (val_main_v30 (F := Ideal) x3 (ix2 r 0)) (val_main_v29 (F := Ideal) x3 (ix2 r 0)) X D hx hd (v16 x3 r X hx) (v30 x3 r X hx) (v29 x3 r X hx)
    (fun k => val_main_v51 (F := Ideal) x0 x1 x2 x3 x4 (ix2 r k)) (fun k => val_main_v60 (F := Ideal) x0 x1 x2 x3 x4 (ix2 r k)) (fun k => ?_) (fun k => ?_) k)
  · pointwise [val_main_v70, val_main_v64, val_main_v69, val_main_v68, val_main_cst_18, val_main_v67, val_main_v66, val_main_cst_17, val_main_v65, val_main_v55, val_main_v54, val_main_v53, val_main_cst_13, val_main_v63, val_main_v62, val_main_v61, val_main_cst_16]
  · pointwise [val_main_v51, val_main_v50, val_main_v46, val_main_v45]
  · pointwise [val_main_v60, val_main_v59, val_main_v58, val_main_cst_15, val_main_v57, val_main_v56, val_main_cst_14, val_main_v52, val_main_v49, val_main_v48, val_main_cst_12, val_main_v47, val_main_v46, val_main_v45, val_main_v27, val_main_v26, val_main_v33, val_main_v32, val_main_cst_9, val_main_v31, val_main_v21, val_main_v20, val_main_cst_5, val_main_v18, val_main_v17]
    simp only [Fin.sum_univ_one]

/-- The shifted variance of a row with an entry that is no real is infinite, and its reciprocal deviation zero. -/
theorem v29_top (r : Fin 4096) (hx : ¬∀ q, x3 (ix2 r q) = ((EReal.toReal (x3 (ix2 r q)) : ℝ) : EReal)) :
    val_main_v29 (F := Ideal) x3 (ix2 r 0) = ⊤ := by
  pointwise [val_main_v29, val_main_v28, val_main_cst_8, val_main_v25, val_main_v24, val_main_cst_7, val_main_v23, val_main_v22, val_main_cst_6, val_main_v19, val_main_v18, val_main_v17]
  refine Cert.Mlp.spread_top (fun q => x3 (ix2 r q)) hx _ ?_
  pointwise [val_main_v16, val_main_v15, val_main_v14, val_main_v13, val_main_cst_3, val_main_cst_4]

theorem v30_zero (r : Fin 4096) (hx : ¬∀ q, x3 (ix2 r q) = ((EReal.toReal (x3 (ix2 r q)) : ℝ) : EReal)) :
    val_main_v30 (F := Ideal) x3 (ix2 r 0) = 0 := by
  pointwise [val_main_v30]
  rw [v29_top x3 r hx, Ideal.rsqrt_top]

/-- At such a row the gradient of the sum is zero. -/
theorem v70_zero (r : Fin 4096) (hx : ¬∀ q, x3 (ix2 r q) = ((EReal.toReal (x3 (ix2 r q)) : ℝ) : EReal)) (k : Fin 1024) :
    val_main_v70 (F := Ideal) x0 x1 x2 x3 x4 (ix2 r k) = 0 := by
  refine Eq.trans ?_ (Cert.Mlp.grad_chain_zero (fun q => x3 (ix2 r q)) (fun q => val_main_v11 (F := Ideal) x0 x1 x2 (ix2 r q) * x4 (ix2 0 q)) (val_main_v16 (F := Ideal) x3 (ix2 r 0))
    (val_main_v30 (F := Ideal) x3 (ix2 r 0)) (val_main_v29 (F := Ideal) x3 (ix2 r 0)) (v30_zero x3 r hx)
    (fun k => val_main_v51 (F := Ideal) x0 x1 x2 x3 x4 (ix2 r k)) (fun k => val_main_v60 (F := Ideal) x0 x1 x2 x3 x4 (ix2 r k)) (fun k => ?_) (fun k => ?_) (v29_top x3 r hx) k)
  · pointwise [val_main_v70, val_main_v64, val_main_v69, val_main_v68, val_main_cst_18, val_main_v67, val_main_v66, val_main_cst_17, val_main_v65, val_main_v55, val_main_v54, val_main_v53, val_main_cst_13, val_main_v63, val_main_v62, val_main_v61, val_main_cst_16]
  · pointwise [val_main_v51, val_main_v50, val_main_v46, val_main_v45]
  · pointwise [val_main_v60, val_main_v59, val_main_v58, val_main_cst_15, val_main_v57, val_main_v56, val_main_cst_14, val_main_v52, val_main_v49, val_main_v48, val_main_cst_12, val_main_v47, val_main_v46, val_main_v45, val_main_v27, val_main_v26, val_main_v33, val_main_v32, val_main_cst_9, val_main_v31, val_main_v21, val_main_v20, val_main_cst_5, val_main_v18, val_main_v17]
    simp only [Fin.sum_univ_one]

/-- The closed form of the gradient of the sum, at any row. -/
theorem v70_closed (r : Fin 4096) (D : Fin 1024 → ℝ) (hd : ∀ q, val_main_v11 (F := Ideal) x0 x1 x2 (ix2 r q) * x4 (ix2 0 q) = (D q : EReal)) (k : Fin 1024) :
    val_main_v70 (F := Ideal) x0 x1 x2 x3 x4 (ix2 r k) = val_main_v30 (F := Ideal) x3 (ix2 r 0) * (val_main_v11 (F := Ideal) x0 x1 x2 (ix2 r k) * x4 (ix2 0 k) - Ideal.div (∑ q, val_main_v11 (F := Ideal) x0 x1 x2 (ix2 r q) * x4 (ix2 0 q)) (Ideal.ofBits .f32 1149239296#32)
        - (x3 (ix2 r k) - val_main_v16 (F := Ideal) x3 (ix2 r 0)) * val_main_v30 (F := Ideal) x3 (ix2 r 0) * Ideal.div (∑ q, val_main_v11 (F := Ideal) x0 x1 x2 (ix2 r q) * x4 (ix2 0 q) * ((x3 (ix2 r q) - val_main_v16 (F := Ideal) x3 (ix2 r 0)) * val_main_v30 (F := Ideal) x3 (ix2 r 0))) (Ideal.ofBits .f32 1149239296#32)) := by
  by_cases hx : ∀ q, x3 (ix2 r q) = ((EReal.toReal (x3 (ix2 r q)) : ℝ) : EReal)
  · rw [v70 _ _ _ _ _ r _ D hx hd k]
    exact (Cert.Mlp.grad_closed (fun q => x3 (ix2 r q)) (fun q => val_main_v11 (F := Ideal) x0 x1 x2 (ix2 r q) * x4 (ix2 0 q)) _ _ _ _ hx hd (v16 x3 r _ hx) (v30 x3 r _ hx) k).symm
  · rw [v70_zero _ _ _ _ _ r hx k]
    exact (Cert.Mlp.grad_closed_zero (fun q => x3 (ix2 r q)) (fun q => val_main_v11 (F := Ideal) x0 x1 x2 (ix2 r q) * x4 (ix2 0 q)) _ _ (v30_zero x3 r hx) k).symm

end Cert.ReferenceMcIdeal.Mlp

end
-- ==== Proof.Mlp.McVal.lean ====
/- The results of the call at finite arguments: each array after the run is the reference's term of the arguments. -/
module

public import proofs.«01_k».proof.Proof.Mlp.McRun
public import proofs.«01_k».proof.Proof.Mlp.McBlk
public import proofs.«01_k».proof.Proof.Mlp.McRef

@[expose] public section

noncomputable section

namespace Cert.KernelMcIdeal.Mlp

open Cert.KernelMcIdeal Cert.KernelMcIdeal.Gen Idealize.ShloMosaic Idealize.ShloMosaic.TcCoe Idealize.SL.Sem
open Idealize.ShloMosaic.Pipeline (Dat)
open Cert.ReferenceMcIdeal.Read

variable (m : (ℓ : Loc nD τ sig) → Buf (Elt Ideal) ℓ)

/-- An extended real that is a real. -/
def IsReal (x : EReal) : Prop := x = ((EReal.toReal x : ℝ) : EReal)

theorem IsReal.of (r : ℝ) : IsReal (r : EReal) := rfl

theorem IsReal.add {x y : EReal} (hx : IsReal x) (hy : IsReal y) : IsReal (x + y) := by
  rw [hx, hy, ← EReal.coe_add]
  exact .of _

theorem IsReal.mul {x y : EReal} (hx : IsReal x) (hy : IsReal y) : IsReal (x * y) := by
  rw [hx, hy, ← EReal.coe_mul]
  exact .of _

theorem IsReal.sum {ι : Type} (s : Finset ι) (f : ι → EReal) (h : ∀ i, IsReal (f i)) : IsReal (∑ i ∈ s, f i) := by
  rw [Finset.sum_congr rfl fun i _ => h i, ← Cert.Mlp.sum_real]
  exact .of _

/-- The residual's factor is real. -/
theorem IsReal.factor : IsReal (Ideal.ofBits .f32 1068827891#32) := by
  unfold IsReal
  simp [Ideal.ofBits, Ideal.ieee]
  norm_num
  rw [← EReal.coe_mul, EReal.toReal_coe]

/-- The incoming gradients, the weights and the gain are real at every element. -/
def Real4 (c : Dev nD) : Prop :=
  (∀ r q, IsReal (m ((c : Thread nD τ).loc main_arg0) (ix2 r q))) ∧ (∀ r q, IsReal (m ((c : Thread nD τ).loc main_arg1) (ix2 r q)))
  ∧ (∀ i a q, IsReal (m ((c : Thread nD τ).loc main_arg2) (ix3 i a q)))
  ∧ (∀ q, IsReal (m ((c : Thread nD τ).loc main_arg4) (ix2 0 q)))

/-- The normalised row's gradient and the gain, element by element. -/
abbrev dyAt (c : Dev nD) (r : Fin 4096) (q : Fin 1024) : EReal := val_main_v11 (F := Ideal) (m ((c : Thread nD τ).loc main_arg0)) (m ((c : Thread nD τ).loc main_arg1)) (m ((c : Thread nD τ).loc main_arg2)) (ix2 r q)
abbrev gainAt (c : Dev nD) (q : Fin 1024) : EReal := m ((c : Thread nD τ).loc main_arg4) (ix2 0 q)

/-- The normalised row's gradient in a block is the reference's at the block's row. -/
theorem inc (c : Dev nD) (t : Fin cfg0.N) (a : Fin 512) (k : Fin 1024) (r : Fin 4096) (hr : (r : ℕ) = t.val * 512 + (a : ℕ)) :
    summed (iblk m c 0 t) (iblk m c 1 t) (iblk m c 2 t) (ix2 a k) = dyAt m c r k := by
  refine Eq.trans ?_ (Cert.ReferenceMcIdeal.Mlp.v11 _ _ _ r k).symm
  unfold summed
  exact congrArg₂ (fun u v : EReal => Ideal.ofBits .f32 1068827891#32 * u + v) (b0 m c t a k r hr)
    (Finset.sum_congr rfl fun s _ => Finset.sum_congr rfl fun q _ => congrArg₂ (fun u v : EReal => u * v) (b1 m c t a _ r hr) (b2 m c t s k q))

/-- It is real. -/
theorem dy_real (c : Dev nD) (hf : Real4 m c) (r : Fin 4096) (k : Fin 1024) : IsReal (dyAt m c r k) := by
  obtain ⟨h0, h1, h2, -⟩ := hf
  unfold dyAt
  rw [Cert.ReferenceMcIdeal.Mlp.v11]
  exact (IsReal.factor.mul (h0 _ _)).add (IsReal.sum _ _ fun s => IsReal.sum _ _ fun q => (h1 _ _).mul (h2 _ _ _))

/-- The sum's gradient in a block is the reference's at the block's row. -/
theorem dsum (c : Dev nD) (hf : Real4 m c) (t : Fin cfg0.N) (a : Fin 512) (k : Fin 1024) (r : Fin 4096) (hr : (r : ℕ) = t.val * 512 + (a : ℕ)) :
    k0_pay8 (F := Ideal) (summed (iblk m c 0 t) (iblk m c 1 t) (iblk m c 2 t)) (iblk m c 3 t) (iblk m c 6 t) (iblk m c 4 t) (iblk m c 5 t) (ix2 a k)
      = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r k) := by
  have hd : ∀ q, dyAt m c r q * gainAt m c q = ((EReal.toReal (dyAt m c r q * gainAt m c q) : ℝ) : EReal) := fun q =>
    (dy_real m c hf r q).mul (hf.2.2.2 q)
  refine Eq.trans ?_ (Cert.ReferenceMcIdeal.Mlp.v70_closed _ _ _ _ _ r _ hd k).symm
  have hi := inc m c t a
  generalize summed (iblk m c 0 t) (iblk m c 1 t) (iblk m c 2 t) = Y at hi ⊢
  pointwise [k0_pay8, k0_pay7, k0_pay6]
  simp only [fun k => hi k r hr, b3 m c t _ _ r hr, b4 m c t _ r hr, b5 m c t _ r hr, b6 m c t]

/-- The same at an index of the block. -/
theorem dsumAt (c : Dev nD) (hf : Real4 m c) (t : Fin cfg0.N) (i : S512x1024.Idx) (k : S4096x1024.Idx) (h0 : (k 0 : ℕ) = t.val * 512 + (i 0 : ℕ)) (h1 : (k 1 : ℕ) = (i 1 : ℕ)) :
    k0_pay8 (F := Ideal) (summed (iblk m c 0 t) (iblk m c 1 t) (iblk m c 2 t)) (iblk m c 3 t) (iblk m c 6 t) (iblk m c 4 t) (iblk m c 5 t) i
      = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) k := by
  rw [eq_ix2 i, eq_ix2 k, show k 1 = i 1 from Fin.ext h1]
  exact dsum m c hf t _ _ _ h0

/-- What a point leaves in the first three result blocks. -/
theorem left8 (c : Dev nD) (t : Fin cfg0.N) : (outsAt0 m c t.val t.isLt).1
    = k0_pay8 (F := Ideal) (summed (iblk m c 0 t) (iblk m c 1 t) (iblk m c 2 t)) (iblk m c 3 t) (iblk m c 6 t) (iblk m c 4 t) (iblk m c 5 t) := by
  have hN : t.val < 8 := lt_of_lt_of_eq t.isLt N_0
  by_cases h : t.val % 8 = 0
  · rw [outsAt0_A m c t h (by omega) h (by omega) h (by omega)]
    dsimp only
    rw [first8]
  · rw [outsAt0_B m c t h (by omega) h (by omega) h (by omega)]
    dsimp only
    rw [later8]

theorem left9 (c : Dev nD) (t : Fin cfg0.N) : (outsAt0 m c t.val t.isLt).2.1
    = k0_pay3 (F := Ideal) (k0_pay8 (F := Ideal) (summed (iblk m c 0 t) (iblk m c 1 t) (iblk m c 2 t)) (iblk m c 3 t) (iblk m c 6 t) (iblk m c 4 t) (iblk m c 5 t)) := by
  have hN : t.val < 8 := lt_of_lt_of_eq t.isLt N_0
  by_cases h : t.val % 8 = 0
  · rw [outsAt0_A m c t h (by omega) h (by omega) h (by omega)]
    dsimp only
    rw [first9]
  · rw [outsAt0_B m c t h (by omega) h (by omega) h (by omega)]
    dsimp only
    rw [later9]

theorem left10 (c : Dev nD) (t : Fin cfg0.N) : (outsAt0 m c t.val t.isLt).2.2.1
    = k0_pay4 (F := Ideal) (k0_pay8 (F := Ideal) (summed (iblk m c 0 t) (iblk m c 1 t) (iblk m c 2 t)) (iblk m c 3 t) (iblk m c 6 t) (iblk m c 4 t) (iblk m c 5 t)) (iblk m c 7 t) := by
  have hN : t.val < 8 := lt_of_lt_of_eq t.isLt N_0
  by_cases h : t.val % 8 = 0
  · rw [outsAt0_A m c t h (by omega) h (by omega) h (by omega)]
    dsimp only
    rw [first10]
  · rw [outsAt0_B m c t h (by omega) h (by omega) h (by omega)]
    dsimp only
    rw [later10]

/-- The sum's gradient after the run is the reference's term of the arguments. -/
theorem final8 (c : Dev nD) (hf : Real4 m c) : (dats m 0 c).arrAt 8 cfg0.N
    = val_main_v70 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t _ y => ?_
  blk_simp
  rw [after0_8, left8]
  exact dsumAt m c hf t y _ (by blk_simp [maps t]) (by blk_simp [maps t])

/-- Its array in the narrow format. -/
theorem final9 (c : Dev nD) (hf : Real4 m c) : (dats m 0 c).arrAt 9 cfg0.N
    = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t _ y => ?_
  blk_simp
  rw [after0_9, left9]
  exact dsumAt m c hf t y _ (by blk_simp [maps t]) (by blk_simp [maps t])

/-- The mixed rows' gradient in a block is the reference's at the block's row. -/
theorem dmix (c : Dev nD) (hf : Real4 m c) (t : Fin cfg0.N) (a : Fin 512) (w : Fin 1024) (r : Fin 4096) (hr : (r : ℕ) = t.val * 512 + (a : ℕ)) :
    k0_pay4 (F := Ideal) (k0_pay8 (F := Ideal) (summed (iblk m c 0 t) (iblk m c 1 t) (iblk m c 2 t)) (iblk m c 3 t) (iblk m c 6 t) (iblk m c 4 t) (iblk m c 5 t)) (iblk m c 7 t) (ix2 a w)
      = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 r w) := by
  have hz := fun q => dsum m c hf t a q r hr
  generalize k0_pay8 (F := Ideal) (summed (iblk m c 0 t) (iblk m c 1 t) (iblk m c 2 t)) (iblk m c 3 t) (iblk m c 6 t) (iblk m c 4 t) (iblk m c 5 t) = Z at hz ⊢
  pointwise [k0_pay4, k0_pay3, val_main_v82, val_main_v80, val_main_v74, val_main_v73]
  refine Finset.sum_congr rfl fun q _ => congrArg₂ (· * ·) (hz q) ?_
  exact b7 m c t _ _ q

/-- The mixed rows' gradient after the run is the reference's term of the arguments. -/
theorem final10 (c : Dev nD) (hf : Real4 m c) : (dats m 0 c).arrAt 10 cfg0.N
    = val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t _ y => ?_
  blk_simp
  rw [after0_10, left10]
  have h0 : ((((cfg0.win 10).blk t).view.emb y 0 : Fin 4096) : ℕ) = t.val * 512 + (y 0 : ℕ) := by blk_simp [maps t]
  have h1 : ((((cfg0.win 10).blk t).view.emb y 1 : Fin 1024) : ℕ) = (y 1 : ℕ) := by blk_simp [maps t]
  generalize ((cfg0.win 10).blk t).view.emb y = k at h0 h1 ⊢
  obtain ⟨r, w, rfl⟩ : ∃ (r : Fin 4096) (w : Fin 1024), k = ix2 r w := ⟨_, _, eq_ix2 k⟩
  have h0' : (r : ℕ) = t.val * 512 + (y 0 : ℕ) := h0
  have h1' : (w : ℕ) = (y 1 : ℕ) := h1
  have hy : y = (ix2 (y 0) w : S512x1024.Idx) := (eq_ix2 y).trans (congrArg (ix2 (y 0)) (Fin.ext h1'.symm))
  exact (congrArg _ hy).trans (dmix m c hf t (y 0) w r h0')

end Cert.KernelMcIdeal.Mlp

end
-- ==== Proof.Mlp.McAcc.lean ====
/- The gain's and the bias's gradients: a point's rows are added to what the points before left. -/
module

public import proofs.«01_k».proof.Proof.Mlp.McVal

@[expose] public section

noncomputable section

namespace Cert.KernelMcIdeal.Mlp

open Cert.KernelMcIdeal Cert.KernelMcIdeal.Gen Idealize.ShloMosaic Idealize.ShloMosaic.TcCoe Idealize.SL.Sem
open Idealize.ShloMosaic.Pipeline (Dat)
open Cert.ReferenceMcIdeal.Read

variable (m : (ℓ : Loc nD τ sig) → Buf (Elt Ideal) ℓ)

/-- A sum over the rows is a sum over the blocks of the sums over their rows. -/
theorem sum_rows (f : Fin 4096 → EReal) : ∑ s : Fin 8, ∑ a : Fin 512, f ⟨(s : ℕ) * 512 + (a : ℕ), by omega⟩ = ∑ r, f r := by
  rw [← Equiv.sum_comp (finProdFinEquiv (m := 8) (n := 512)) f, Fintype.sum_prod_type]
  refine Finset.sum_congr rfl fun s _ => Finset.sum_congr rfl fun a _ => congrArg f (Fin.ext ?_)
  show (s : ℕ) * 512 + (a : ℕ) = (a : ℕ) + 512 * (s : ℕ)
  omega

/-- A later point's gradient of the gain is what was there and the point's own. -/
theorem add11 (w x : FVec Ideal S512x1024 .f32) (u v : Vec Ideal S512x1 .f32) (z : FVec Ideal S1x1024 .f32) (y : S1x1024.Idx) :
    k0_pay11 (F := Ideal) w x u v z y = z y + k0_pay9 (F := Ideal) w x u v y := by
  unfold k0_pay11
  generalize k0_pay9 (F := Ideal) w x u v = k
  pointwise []

/-- A later point's gradient of the bias is what was there and the point's own. -/
theorem add12 (w : FVec Ideal S512x1024 .f32) (z : FVec Ideal S1x1024 .f32) (y : S1x1024.Idx) : k0_pay12 (F := Ideal) w z y = z y + k0_pay10 (F := Ideal) w y := by
  unfold k0_pay12
  generalize k0_pay10 (F := Ideal) w = k
  pointwise []

/-- A later point's gradient of the offset is what was there and the point's own. -/
theorem add13 (w : FVec Ideal S512x1024 .f32) (z : FVec Ideal S1x1024 .f32) (y : S1x1024.Idx) : k0_pay2 (F := Ideal) w z y = z y + k0_pay1 (F := Ideal) w y := by
  unfold k0_pay2
  generalize k0_pay1 (F := Ideal) w = k
  pointwise []

/-- What a point adds to the gain's gradient. -/
def part11 (c : Dev nD) (b : Fin 1024) (s : ℕ) : EReal :=
  if h : s < cfg0.N then k0_pay9 (F := Ideal) (summed (iblk m c 0 ⟨s, h⟩) (iblk m c 1 ⟨s, h⟩) (iblk m c 2 ⟨s, h⟩)) (iblk m c 3 ⟨s, h⟩) (iblk m c 4 ⟨s, h⟩) (iblk m c 5 ⟨s, h⟩) (ix2 0 b) else 0

/-- What a point adds, of the point. -/
theorem part11_at (c : Dev nD) (b : Fin 1024) (t : Fin cfg0.N) (s : ℕ) (h : t.val = s) : part11 m c b s = k0_pay9 (F := Ideal) (summed (iblk m c 0 t) (iblk m c 1 t) (iblk m c 2 t)) (iblk m c 3 t) (iblk m c 4 t) (iblk m c 5 t) (ix2 0 b) :=
  h ▸ dif_pos t.isLt

/-- After a point the gain's gradient holds the sum over the points so far. -/
theorem acc11 (c : Dev nD) (b : Fin 1024) : ∀ (n : ℕ) (t : Fin cfg0.N), t.val = n → (outsAt0 m c t.val t.isLt).2.2.2.1 (ix2 0 b) = ∑ s ∈ Finset.range (n + 1), part11 m c b s
  | 0, t, h => by
    rw [outsAt0_A m c t (by omega) (by omega) (by omega) (by omega) (by omega) (by omega), Finset.sum_range_one, part11_at m c b t 0 h]
    dsimp only
    rw [first11]
  | n + 1, t, h => by
    have hN : t.val < 8 := lt_of_lt_of_eq t.isLt N_0
    rw [outsAt0_B m c t (by omega) (by omega) (by omega) (by omega) (by omega) (by omega), Finset.sum_range_succ, part11_at m c b t (n + 1) h]
    dsimp only
    rw [later11, add11]
    have e := acc11 c b n ⟨t.val - 1, Nat.lt_of_le_of_lt (Nat.sub_le _ _) t.isLt⟩ (by show t.val - 1 = n; omega)
    exact congrArg (· + _) e

/-- What a point adds to the bias's gradient. -/
def part12 (c : Dev nD) (b : Fin 1024) (s : ℕ) : EReal :=
  if h : s < cfg0.N then k0_pay10 (F := Ideal) (summed (iblk m c 0 ⟨s, h⟩) (iblk m c 1 ⟨s, h⟩) (iblk m c 2 ⟨s, h⟩)) (ix2 0 b) else 0

/-- What a point adds, of the point. -/
theorem part12_at (c : Dev nD) (b : Fin 1024) (t : Fin cfg0.N) (s : ℕ) (h : t.val = s) : part12 m c b s = k0_pay10 (F := Ideal) (summed (iblk m c 0 t) (iblk m c 1 t) (iblk m c 2 t)) (ix2 0 b) :=
  h ▸ dif_pos t.isLt

/-- After a point the bias's gradient holds the sum over the points so far. -/
theorem acc12 (c : Dev nD) (b : Fin 1024) : ∀ (n : ℕ) (t : Fin cfg0.N), t.val = n → (outsAt0 m c t.val t.isLt).2.2.2.2.1 (ix2 0 b) = ∑ s ∈ Finset.range (n + 1), part12 m c b s
  | 0, t, h => by
    rw [outsAt0_A m c t (by omega) (by omega) (by omega) (by omega) (by omega) (by omega), Finset.sum_range_one, part12_at m c b t 0 h]
    dsimp only
    rw [first12]
  | n + 1, t, h => by
    have hN : t.val < 8 := lt_of_lt_of_eq t.isLt N_0
    rw [outsAt0_B m c t (by omega) (by omega) (by omega) (by omega) (by omega) (by omega), Finset.sum_range_succ, part12_at m c b t (n + 1) h]
    dsimp only
    rw [later12, add12]
    have e := acc12 c b n ⟨t.val - 1, Nat.lt_of_le_of_lt (Nat.sub_le _ _) t.isLt⟩ (by show t.val - 1 = n; omega)
    exact congrArg (· + _) e

/-- What a point adds to the offset's gradient. -/
def part13 (c : Dev nD) (b : Fin 1024) (s : ℕ) : EReal :=
  if h : s < cfg0.N then k0_pay1 (F := Ideal) (k0_pay8 (F := Ideal) (summed (iblk m c 0 ⟨s, h⟩) (iblk m c 1 ⟨s, h⟩) (iblk m c 2 ⟨s, h⟩)) (iblk m c 3 ⟨s, h⟩) (iblk m c 6 ⟨s, h⟩) (iblk m c 4 ⟨s, h⟩) (iblk m c 5 ⟨s, h⟩)) (ix2 0 b) else 0

/-- What a point adds, of the point. -/
theorem part13_at (c : Dev nD) (b : Fin 1024) (t : Fin cfg0.N) (s : ℕ) (h : t.val = s) : part13 m c b s = k0_pay1 (F := Ideal) (k0_pay8 (F := Ideal) (summed (iblk m c 0 t) (iblk m c 1 t) (iblk m c 2 t)) (iblk m c 3 t) (iblk m c 6 t) (iblk m c 4 t) (iblk m c 5 t)) (ix2 0 b) :=
  h ▸ dif_pos t.isLt

/-- After a point the offset's gradient holds the sum over the points so far. -/
theorem acc13 (c : Dev nD) (b : Fin 1024) : ∀ (n : ℕ) (t : Fin cfg0.N), t.val = n → (outsAt0 m c t.val t.isLt).2.2.2.2.2 (ix2 0 b) = ∑ s ∈ Finset.range (n + 1), part13 m c b s
  | 0, t, h => by
    rw [outsAt0_A m c t (by omega) (by omega) (by omega) (by omega) (by omega) (by omega), Finset.sum_range_one, part13_at m c b t 0 h]
    dsimp only
    rw [first13]
  | n + 1, t, h => by
    have hN : t.val < 8 := lt_of_lt_of_eq t.isLt N_0
    rw [outsAt0_B m c t (by omega) (by omega) (by omega) (by omega) (by omega) (by omega), Finset.sum_range_succ, part13_at m c b t (n + 1) h]
    dsimp only
    rw [later13, add13]
    have e := acc13 c b n ⟨t.val - 1, Nat.lt_of_le_of_lt (Nat.sub_le _ _) t.isLt⟩ (by show t.val - 1 = n; omega)
    exact congrArg (· + _) e

/-- The gain's gradient summed over the points is the reference's. -/
theorem sum11 (c : Dev nD) (z : Fin 1) (b : Fin 1024) : ∑ s ∈ Finset.range (7 + 1), part11 m c b s
    = val_main_v44 (F := Ideal) (m ((c : Thread nD τ).loc main_arg0)) (m ((c : Thread nD τ).loc main_arg1)) (m ((c : Thread nD τ).loc main_arg2)) (m ((c : Thread nD τ).loc main_arg3)) (ix2 z b) := by
  rw [Finset.sum_range]
  pointwise [val_main_v44, val_main_v43, val_main_cst_11, val_main_v42, val_main_v35, val_main_v34, val_main_v27, val_main_v26]
  refine Eq.trans ?_ (sum_rows _)
  refine Finset.sum_congr rfl fun s _ => ?_
  obtain ⟨t, ht⟩ : ∃ t : Fin cfg0.N, t.val = s.val := ⟨⟨s.val, lt_of_lt_of_eq s.isLt N_0.symm⟩, rfl⟩
  have hr : ∀ a : Fin 512, (s : ℕ) * 512 + (a : ℕ) = t.val * 512 + (a : ℕ) := fun a => by rw [ht]
  rw [part11_at m c b t s ht]
  have hi := fun a r => inc m c t a b r
  generalize summed (iblk m c 0 t) (iblk m c 1 t) (iblk m c 2 t) = Y at hi ⊢
  pointwise [k0_pay9, k0_pay7, k0_pay6]
  refine Finset.sum_congr rfl fun a _ => ?_
  rw [mul_comm, hi a ⟨(s : ℕ) * 512 + (a : ℕ), by omega⟩ (hr a), b3 m c t a b ⟨(s : ℕ) * 512 + (a : ℕ), by omega⟩ (hr a),
    b4 m c t a ⟨(s : ℕ) * 512 + (a : ℕ), by omega⟩ (hr a), b5 m c t a ⟨(s : ℕ) * 512 + (a : ℕ), by omega⟩ (hr a)]

/-- The bias's gradient summed over the points is the reference's. -/
theorem sum12 (c : Dev nD) (z : Fin 1) (b : Fin 1024) : ∑ s ∈ Finset.range (7 + 1), part12 m c b s
    = val_main_v41 (F := Ideal) (m ((c : Thread nD τ).loc main_arg0)) (m ((c : Thread nD τ).loc main_arg1)) (m ((c : Thread nD τ).loc main_arg2)) (ix2 z b) := by
  rw [Finset.sum_range]
  pointwise [val_main_v41, val_main_v40, val_main_cst_10]
  refine Eq.trans ?_ (sum_rows _)
  refine Finset.sum_congr rfl fun s _ => ?_
  obtain ⟨t, ht⟩ : ∃ t : Fin cfg0.N, t.val = s.val := ⟨⟨s.val, lt_of_lt_of_eq s.isLt N_0.symm⟩, rfl⟩
  have hr : ∀ a : Fin 512, (s : ℕ) * 512 + (a : ℕ) = t.val * 512 + (a : ℕ) := fun a => by rw [ht]
  rw [part12_at m c b t s ht]
  have hi := fun a r => inc m c t a b r
  generalize summed (iblk m c 0 t) (iblk m c 1 t) (iblk m c 2 t) = Y at hi ⊢
  pointwise [k0_pay10]
  exact Finset.sum_congr rfl fun a _ => hi a _ (hr a)

/-- The offset's gradient summed over the points is the reference's. -/
theorem sum13 (c : Dev nD) (hf : Real4 m c) (z : Fin 1) (b : Fin 1024) : ∑ s ∈ Finset.range (7 + 1), part13 m c b s
    = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 z b) := by
  rw [Finset.sum_range]
  pointwise [val_main_v79, val_main_v78, val_main_cst_21]
  refine Eq.trans ?_ (sum_rows _)
  refine Finset.sum_congr rfl fun s _ => ?_
  obtain ⟨t, ht⟩ : ∃ t : Fin cfg0.N, t.val = s.val := ⟨⟨s.val, lt_of_lt_of_eq s.isLt N_0.symm⟩, rfl⟩
  have hr : ∀ a : Fin 512, (s : ℕ) * 512 + (a : ℕ) = t.val * 512 + (a : ℕ) := fun a => by rw [ht]
  rw [part13_at m c b t s ht]
  have hi := fun a r => dsum m c hf t a b r
  generalize k0_pay8 (F := Ideal) (summed (iblk m c 0 t) (iblk m c 1 t) (iblk m c 2 t)) (iblk m c 3 t) (iblk m c 6 t) (iblk m c 4 t) (iblk m c 5 t) = Y at hi ⊢
  pointwise [k0_pay1]
  exact Finset.sum_congr rfl fun a _ => hi a _ (hr a)

/-- The gain's gradient leaves after the last point. -/
theorem last11 : ∀ t : Fin cfg0.N, (cfg0.win 11).flush t = true → t.val = 7 := by decide +kernel

/-- The gain's gradient after the run is the reference's term of the arguments. -/
theorem final11 (c : Dev nD) : (dats m 0 c).arrAt 11 cfg0.N
    = val_main_v44 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 11 _ (by decide +kernel) fun t ht y => ?_
  have h7 : t.val = 7 := last11 t ht
  blk_simp
  rw [after0_11]
  have h1 : ((((cfg0.win 11).blk t).view.emb y 1 : Fin 1024) : ℕ) = (y 1 : ℕ) := by blk_simp [maps t]
  generalize ((cfg0.win 11).blk t).view.emb y = k at h1 ⊢
  obtain ⟨z, b, rfl⟩ : ∃ (z : Fin 1) (b : Fin 1024), k = ix2 z b := ⟨_, _, eq_ix2 k⟩
  have hy : y = (ix2 0 b : S1x1024.Idx) := (eq_ix2 y).trans (congrArg₂ ix2 (Subsingleton.elim _ _) (Fin.ext h1.symm))
  refine (congrArg (outsAt0 m c t.val t.isLt).2.2.2.1 hy).trans ?_
  exact (acc11 m c b 7 t h7).trans (sum11 m c z b)

/-- The bias's gradient leaves after the last point. -/
theorem last12 : ∀ t : Fin cfg0.N, (cfg0.win 12).flush t = true → t.val = 7 := by decide +kernel

/-- The bias's gradient after the run is the reference's term of the arguments. -/
theorem final12 (c : Dev nD) : (dats m 0 c).arrAt 12 cfg0.N
    = val_main_v41 (F := Ideal) (m ((c : Thread nD τ).loc main_arg0)) (m ((c : Thread nD τ).loc main_arg1)) (m ((c : Thread nD τ).loc main_arg2)) := by
  refine (dats m 0 c).arrAt_eq_of_covers 12 _ (by decide +kernel) fun t ht y => ?_
  have h7 : t.val = 7 := last12 t ht
  blk_simp
  rw [after0_12]
  have h1 : ((((cfg0.win 12).blk t).view.emb y 1 : Fin 1024) : ℕ) = (y 1 : ℕ) := by blk_simp [maps t]
  generalize ((cfg0.win 12).blk t).view.emb y = k at h1 ⊢
  obtain ⟨z, b, rfl⟩ : ∃ (z : Fin 1) (b : Fin 1024), k = ix2 z b := ⟨_, _, eq_ix2 k⟩
  have hy : y = (ix2 0 b : S1x1024.Idx) := (eq_ix2 y).trans (congrArg₂ ix2 (Subsingleton.elim _ _) (Fin.ext h1.symm))
  refine (congrArg (outsAt0 m c t.val t.isLt).2.2.2.2.1 hy).trans ?_
  exact (acc12 m c b 7 t h7).trans (sum12 m c z b)

/-- The offset's gradient leaves after the last point. -/
theorem last13 : ∀ t : Fin cfg0.N, (cfg0.win 13).flush t = true → t.val = 7 := by decide +kernel

/-- The offset's gradient after the run is the reference's term of the arguments. -/
theorem final13 (c : Dev nD) (hf : Real4 m c) : (dats m 0 c).arrAt 13 cfg0.N
    = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 13 _ (by decide +kernel) fun t ht y => ?_
  have h7 : t.val = 7 := last13 t ht
  blk_simp
  rw [after0_13]
  have h1 : ((((cfg0.win 13).blk t).view.emb y 1 : Fin 1024) : ℕ) = (y 1 : ℕ) := by blk_simp [maps t]
  generalize ((cfg0.win 13).blk t).view.emb y = k at h1 ⊢
  obtain ⟨z, b, rfl⟩ : ∃ (z : Fin 1) (b : Fin 1024), k = ix2 z b := ⟨_, _, eq_ix2 k⟩
  have hy : y = (ix2 0 b : S1x1024.Idx) := (eq_ix2 y).trans (congrArg₂ ix2 (Subsingleton.elim _ _) (Fin.ext h1.symm))
  refine (congrArg (outsAt0 m c t.val t.isLt).2.2.2.2.2 hy).trans ?_
  exact (acc13 m c b 7 t h7).trans (sum13 m c hf z b)

end Cert.KernelMcIdeal.Mlp

end
-- ==== Proof.Mlp.Claims.lean ====
/- The value claims of the multi-layer perceptron's calls: the kernel's results are the layer's, exactly. -/
module

public import proofs.«01_k».proof.Defs
public import proofs.«01_k».proof.Proof.Mlp.Ff
public import proofs.«01_k».proof.Proof.Mlp.Ln
public import proofs.«01_k».proof.Proof.Gen.Pre_finite_mb
public import proofs.«01_k».proof.Proof.Mlp.MbVal
public import proofs.«01_k».proof.Proof.Mlp.MbAcc
public import proofs.«01_k».proof.Proof.Gen.Pre_finite_mc
public import proofs.«01_k».proof.Proof.Mlp.McVal
public import proofs.«01_k».proof.Proof.Mlp.McAcc
public import Idealize.ShloMosaic.Lib.ReduceAll

@[expose] public section

noncomputable section

namespace Cert.Mlp

open Idealize.ShloMosaic Idealize.ShloMosaic.TcCoe Idealize.SL.Sem

/-- The layer's first half: the squared activation and its derivative are the reference's terms of the arguments. -/
theorem ff : Cert.algebraic_KernelFfIdeal_ReferenceFfIdeal := by
  intro m g m' g' _ he
  refine ⟨fun c => Cert.ReferenceFfIdeal.Read.val_main_v12 (F := Ideal) (m ((c.tc : Thread Cert.KernelFfIdeal.nD Cert.KernelFfIdeal.τ).loc Cert.KernelFfIdeal.main_arg0))
      (m ((c.tc : Thread Cert.KernelFfIdeal.nD Cert.KernelFfIdeal.τ).loc Cert.KernelFfIdeal.main_arg1)),
    fun c => Cert.ReferenceFfIdeal.Read.val_main_v17 (F := Ideal) (m ((c.tc : Thread Cert.KernelFfIdeal.nD Cert.KernelFfIdeal.τ).loc Cert.KernelFfIdeal.main_arg0))
      (m ((c.tc : Thread Cert.KernelFfIdeal.nD Cert.KernelFfIdeal.τ).loc Cert.KernelFfIdeal.main_arg1)),
    (θ_run _ _ _).mono (fun r h c => ⟨(h c).1.trans (Cert.KernelFfIdeal.Mlp.final2 m c),
      (h c).2.1.trans (Cert.KernelFfIdeal.Mlp.final3 m c),
      (h c).2.2⟩) (Cert.KernelFfIdeal.Value.run_blocks m g),
    (θ_run _ _ _).mono (fun r h c => ⟨(h c).1.trans ?_, (h c).2.1.trans ?_, (h c).2.2⟩) (Cert.ReferenceFfIdeal.Value.run (F := Ideal) m' g')⟩
  all_goals obtain ⟨e0, e1⟩ := he c
  · rw [e0, e1]
    exact Cert.ReferenceFfIdeal.Read.val_main_v12_eq (F := Ideal) _ _
  · rw [e0, e1]
    exact Cert.ReferenceFfIdeal.Read.val_main_v17_eq (F := Ideal) _ _

/-- The layer's second half: the row before its normalization, its statistics and the normalized row are the reference's terms of the arguments. -/
theorem ln : Cert.algebraic_KernelLnIdeal_ReferenceLnIdeal := by
  intro m g m' g' _ he
  refine ⟨fun c => Cert.ReferenceLnIdeal.Read.val_main_v6 (F := Ideal) (m ((c.tc : Thread Cert.KernelLnIdeal.nD Cert.KernelLnIdeal.τ).loc Cert.KernelLnIdeal.main_arg0))
      (m ((c.tc : Thread Cert.KernelLnIdeal.nD Cert.KernelLnIdeal.τ).loc Cert.KernelLnIdeal.main_arg1))
      (m ((c.tc : Thread Cert.KernelLnIdeal.nD Cert.KernelLnIdeal.τ).loc Cert.KernelLnIdeal.main_arg2)),
    fun c => Cert.ReferenceLnIdeal.Read.val_main_v32 (F := Ideal) (m ((c.tc : Thread Cert.KernelLnIdeal.nD Cert.KernelLnIdeal.τ).loc Cert.KernelLnIdeal.main_arg0))
      (m ((c.tc : Thread Cert.KernelLnIdeal.nD Cert.KernelLnIdeal.τ).loc Cert.KernelLnIdeal.main_arg1))
      (m ((c.tc : Thread Cert.KernelLnIdeal.nD Cert.KernelLnIdeal.τ).loc Cert.KernelLnIdeal.main_arg2)),
    fun c => Cert.ReferenceLnIdeal.Read.val_main_v42 (F := Ideal) (m ((c.tc : Thread Cert.KernelLnIdeal.nD Cert.KernelLnIdeal.τ).loc Cert.KernelLnIdeal.main_arg0))
      (m ((c.tc : Thread Cert.KernelLnIdeal.nD Cert.KernelLnIdeal.τ).loc Cert.KernelLnIdeal.main_arg1))
      (m ((c.tc : Thread Cert.KernelLnIdeal.nD Cert.KernelLnIdeal.τ).loc Cert.KernelLnIdeal.main_arg2)),
    fun c => Cert.ReferenceLnIdeal.Read.val_main_v28 (F := Ideal) (m ((c.tc : Thread Cert.KernelLnIdeal.nD Cert.KernelLnIdeal.τ).loc Cert.KernelLnIdeal.main_arg0))
      (m ((c.tc : Thread Cert.KernelLnIdeal.nD Cert.KernelLnIdeal.τ).loc Cert.KernelLnIdeal.main_arg1))
      (m ((c.tc : Thread Cert.KernelLnIdeal.nD Cert.KernelLnIdeal.τ).loc Cert.KernelLnIdeal.main_arg2))
      (m ((c.tc : Thread Cert.KernelLnIdeal.nD Cert.KernelLnIdeal.τ).loc Cert.KernelLnIdeal.main_arg3))
      (m ((c.tc : Thread Cert.KernelLnIdeal.nD Cert.KernelLnIdeal.τ).loc Cert.KernelLnIdeal.main_arg4)),
    fun c => Cert.ReferenceLnIdeal.Read.val_main_v43 (F := Ideal) (m ((c.tc : Thread Cert.KernelLnIdeal.nD Cert.KernelLnIdeal.τ).loc Cert.KernelLnIdeal.main_arg0))
      (m ((c.tc : Thread Cert.KernelLnIdeal.nD Cert.KernelLnIdeal.τ).loc Cert.KernelLnIdeal.main_arg1))
      (m ((c.tc : Thread Cert.KernelLnIdeal.nD Cert.KernelLnIdeal.τ).loc Cert.KernelLnIdeal.main_arg2))
      (m ((c.tc : Thread Cert.KernelLnIdeal.nD Cert.KernelLnIdeal.τ).loc Cert.KernelLnIdeal.main_arg3))
      (m ((c.tc : Thread Cert.KernelLnIdeal.nD Cert.KernelLnIdeal.τ).loc Cert.KernelLnIdeal.main_arg4)),
    (θ_run _ _ _).mono (fun r h c => ⟨(h c).1.trans (Cert.KernelLnIdeal.Mlp.final5 m c),
      (h c).2.1.trans (Cert.KernelLnIdeal.Mlp.final6 m c),
      (h c).2.2.1.trans (Cert.KernelLnIdeal.Mlp.final7 m c),
      (h c).2.2.2.1.trans (Cert.KernelLnIdeal.Mlp.final8 m c),
      (h c).2.2.2.2.1.trans (Cert.KernelLnIdeal.Mlp.final9 m c),
      (h c).2.2.2.2.2⟩) (Cert.KernelLnIdeal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.ReferenceLnIdeal.Value.run (F := Ideal) m' g')⟩
  all_goals obtain ⟨e0, e1, e2, e3, e4⟩ := he c
  · rw [e0, e1, e2]
    exact Cert.ReferenceLnIdeal.Read.val_main_v6_eq (F := Ideal) _ _ _
  · rw [e0, e1, e2]
    exact Cert.ReferenceLnIdeal.Read.val_main_v32_eq (F := Ideal) _ _ _
  · rw [e0, e1, e2]
    exact Cert.ReferenceLnIdeal.Read.val_main_v42_eq (F := Ideal) _ _ _
  · rw [e0, e1, e2, e3, e4]
    exact Cert.ReferenceLnIdeal.Read.val_main_v28_eq (F := Ideal) _ _ _ _ _
  · rw [e0, e1, e2, e3, e4]
    exact Cert.ReferenceLnIdeal.Read.val_main_v43_eq (F := Ideal) _ _ _ _ _

/-- A number whose magnitude is below the top is real. -/
theorem real_of (x : EReal) (h : max x (-x) < ⊤) : x = ((x.toReal : ℝ) : EReal) := by
  rcases x with _ | _ | x
  · exact absurd (le_max_right _ _) (not_le.2 h)
  · exact absurd (le_max_left _ _) (not_le.2 h)
  · rfl

/-- The word of a comparison with infinity says the magnitude is below the top. -/
theorem real_of_word (x : EReal) (h : Ideal.cmp .olt (max x (-x)) (Ideal.ofBits .f32 2139095040#32) = 1#1) : x = ((x.toReal : ℝ) : EReal) := by
  refine real_of x ?_
  by_contra hn
  rw [show Ideal.ofBits .f32 2139095040#32 = (⊤ : EReal) from by simp [Ideal.ofBits, Ideal.ieee]] at h
  simp [Ideal.cmp, hn] at h

open Cert.Pre_finite_mb in
/-- The arguments the precondition names are real at every element. -/
theorem mb_real (x0 x1 : FVec Ideal S4096x1024 .f32) (x2 : FVec Ideal S1x1024 .f32) (x3 : FVec Ideal S4096x4096 .f32) (x4 : FVec Ideal S4x1024x1024 .bf16)
    (h : Cert.Pre_finite_mb.fn (F := Ideal) x0 x1 x2 x3 x4 = fun _ => 1#1) :
    (∀ r q, x0 (ix2 r q) = ((EReal.toReal (x0 (ix2 r q)) : ℝ) : EReal))
      ∧ (∀ q, x2 (ix2 0 q) = ((EReal.toReal (x2 (ix2 0 q)) : ℝ) : EReal)) := by
  have h0 := congrFun h ix0
  unfold Cert.Pre_finite_mb.fn at h0
  obtain ⟨e0, e2⟩ := IntOp.andi_eq_one.1 h0
  haveI : Subsingleton S_.Idx := ⟨fun a b => funext fun i => i.elim0⟩
  exact ⟨fun r q => real_of_word _ (Host.reduce_andi_all _ _ _ _ _ e0 (ix2 r q)),
    fun q => real_of_word _ (Host.reduce_andi_all _ _ _ _ _ e2 (ix2 0 q))⟩

/-- The layer's second half run backward: at finite arguments the sum's gradient, its rounded copy, the hidden layer's gradient, the gain's gradient and the bias's gradient are the reference's terms of the arguments. -/
theorem mb : Cert.algebraic_KernelMbIdeal_ReferenceMbIdeal_pre_finite_mb := by
  intro m g m' g' hp he
  have hf : ∀ c, Cert.KernelMbIdeal.Mlp.Real2 m c := fun c => mb_real _ _ _ _ _ (hp c)
  refine ⟨fun c => Cert.ReferenceMbIdeal.Read.val_main_v59 (F := Ideal) (m ((c.tc : Thread Cert.KernelMbIdeal.nD Cert.KernelMbIdeal.τ).loc Cert.KernelMbIdeal.main_arg0))
      (m ((c.tc : Thread Cert.KernelMbIdeal.nD Cert.KernelMbIdeal.τ).loc Cert.KernelMbIdeal.main_arg1))
      (m ((c.tc : Thread Cert.KernelMbIdeal.nD Cert.KernelMbIdeal.τ).loc Cert.KernelMbIdeal.main_arg2)),
    fun c => Cert.ReferenceMbIdeal.Read.val_main_v74 (F := Ideal) (m ((c.tc : Thread Cert.KernelMbIdeal.nD Cert.KernelMbIdeal.τ).loc Cert.KernelMbIdeal.main_arg0))
      (m ((c.tc : Thread Cert.KernelMbIdeal.nD Cert.KernelMbIdeal.τ).loc Cert.KernelMbIdeal.main_arg1))
      (m ((c.tc : Thread Cert.KernelMbIdeal.nD Cert.KernelMbIdeal.τ).loc Cert.KernelMbIdeal.main_arg2)),
    fun c => Cert.ReferenceMbIdeal.Read.val_main_v75 (F := Ideal) (m ((c.tc : Thread Cert.KernelMbIdeal.nD Cert.KernelMbIdeal.τ).loc Cert.KernelMbIdeal.main_arg0))
      (m ((c.tc : Thread Cert.KernelMbIdeal.nD Cert.KernelMbIdeal.τ).loc Cert.KernelMbIdeal.main_arg1))
      (m ((c.tc : Thread Cert.KernelMbIdeal.nD Cert.KernelMbIdeal.τ).loc Cert.KernelMbIdeal.main_arg2))
      (m ((c.tc : Thread Cert.KernelMbIdeal.nD Cert.KernelMbIdeal.τ).loc Cert.KernelMbIdeal.main_arg3))
      (m ((c.tc : Thread Cert.KernelMbIdeal.nD Cert.KernelMbIdeal.τ).loc Cert.KernelMbIdeal.main_arg4)),
    fun c => Cert.ReferenceMbIdeal.Read.val_main_v33 (F := Ideal) (m ((c.tc : Thread Cert.KernelMbIdeal.nD Cert.KernelMbIdeal.τ).loc Cert.KernelMbIdeal.main_arg0))
      (m ((c.tc : Thread Cert.KernelMbIdeal.nD Cert.KernelMbIdeal.τ).loc Cert.KernelMbIdeal.main_arg1)),
    fun c => Cert.ReferenceMbIdeal.Read.val_main_v30 (F := Ideal) (m ((c.tc : Thread Cert.KernelMbIdeal.nD Cert.KernelMbIdeal.τ).loc Cert.KernelMbIdeal.main_arg0)),
    (θ_run _ _ _).mono (fun r h c => ⟨(h c).1.trans (Cert.KernelMbIdeal.Mlp.final7 m c (hf c)),
      (h c).2.1.trans (Cert.KernelMbIdeal.Mlp.final8 m c (hf c)),
      (h c).2.2.1.trans (Cert.KernelMbIdeal.Mlp.final9 m c (hf c)),
      (h c).2.2.2.1.trans (Cert.KernelMbIdeal.Mlp.final10 m c),
      (h c).2.2.2.2.1.trans (Cert.KernelMbIdeal.Mlp.final11 m c),
      (h c).2.2.2.2.2⟩) (Cert.KernelMbIdeal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2⟩) (Cert.ReferenceMbIdeal.Value.run (F := Ideal) m' g')⟩
  all_goals obtain ⟨e0, e1, e2, e3, e4⟩ := he c
  · rw [Cert.ReferenceMbIdeal.Read.val_main_v59_eq (F := Ideal) m' c, e0, e1, e2]
  · rw [Cert.ReferenceMbIdeal.Read.val_main_v74_eq (F := Ideal) m' c, e0, e1, e2]
  · rw [Cert.ReferenceMbIdeal.Read.val_main_v75_eq (F := Ideal) m' c, e0, e1, e2, e3, e4]
  · rw [e0, e1]
    exact Cert.ReferenceMbIdeal.Read.val_main_v33_eq (F := Ideal) _ _
  · rw [e0]
    exact Cert.ReferenceMbIdeal.Read.val_main_v30_eq (F := Ideal) _

open Cert.Pre_finite_mc Cert.KernelMcIdeal.Mlp in
/-- The arguments the precondition names are real at every element. -/
theorem mc_real (x0 : FVec Ideal S4096x1024 .f32) (x1 : FVec Ideal S4096x4096 .bf16) (x2 : FVec Ideal S4x1024x1024 .bf16) (x3 : FVec Ideal S4096x1024 .f32) (x4 : FVec Ideal S1x1024 .f32)
    (x5 : FVec Ideal S4x256x1024 .bf16) (h : Cert.Pre_finite_mc.fn (F := Ideal) x0 x1 x2 x3 x4 x5 = fun _ => 1#1) :
    (∀ r q, IsReal (x0 (ix2 r q))) ∧ (∀ r q, IsReal (x1 (ix2 r q))) ∧ (∀ i a q, IsReal (x2 (ix3 i a q)))
      ∧ (∀ q, IsReal (x4 (ix2 0 q))) := by
  have h0 := congrFun h ix0
  unfold Cert.Pre_finite_mc.fn at h0
  obtain ⟨h0, e4⟩ := IntOp.andi_eq_one.1 h0
  obtain ⟨h0, e2⟩ := IntOp.andi_eq_one.1 h0
  obtain ⟨e0, e1⟩ := IntOp.andi_eq_one.1 h0
  haveI : Subsingleton S_.Idx := ⟨fun a b => funext fun i => i.elim0⟩
  exact ⟨fun r q => real_of_word _ (Host.reduce_andi_all _ _ _ _ _ e0 (ix2 r q)),
    fun r q => real_of_word _ (Host.reduce_andi_all _ _ _ _ _ e1 (ix2 r q)),
    fun i a q => real_of_word _ (Host.reduce_andi_all _ _ _ _ _ e2 (ix3 i a q)),
    fun q => real_of_word _ (Host.reduce_andi_all _ _ _ _ _ e4 (ix2 0 q))⟩

/-- The layer's first half run backward: at finite arguments the sum's gradient, its rounded copy, the mixed rows' gradient and the gradients of the gain, the bias and the offset are the reference's terms of the arguments. -/
theorem mc : Cert.algebraic_KernelMcIdeal_ReferenceMcIdeal_pre_finite_mc := by
  intro m g m' g' hp he
  have hf : ∀ c, Cert.KernelMcIdeal.Mlp.Real4 m c := fun c => mc_real _ _ _ _ _ _ (hp c)
  refine ⟨fun c => Cert.ReferenceMcIdeal.Read.val_main_v70 (F := Ideal) (m ((c.tc : Thread Cert.KernelMcIdeal.nD Cert.KernelMcIdeal.τ).loc Cert.KernelMcIdeal.main_arg0))
      (m ((c.tc : Thread Cert.KernelMcIdeal.nD Cert.KernelMcIdeal.τ).loc Cert.KernelMcIdeal.main_arg1))
      (m ((c.tc : Thread Cert.KernelMcIdeal.nD Cert.KernelMcIdeal.τ).loc Cert.KernelMcIdeal.main_arg2))
      (m ((c.tc : Thread Cert.KernelMcIdeal.nD Cert.KernelMcIdeal.τ).loc Cert.KernelMcIdeal.main_arg3))
      (m ((c.tc : Thread Cert.KernelMcIdeal.nD Cert.KernelMcIdeal.τ).loc Cert.KernelMcIdeal.main_arg4)),
    fun c => Cert.ReferenceMcIdeal.Read.val_main_v81 (F := Ideal) (m ((c.tc : Thread Cert.KernelMcIdeal.nD Cert.KernelMcIdeal.τ).loc Cert.KernelMcIdeal.main_arg0))
      (m ((c.tc : Thread Cert.KernelMcIdeal.nD Cert.KernelMcIdeal.τ).loc Cert.KernelMcIdeal.main_arg1))
      (m ((c.tc : Thread Cert.KernelMcIdeal.nD Cert.KernelMcIdeal.τ).loc Cert.KernelMcIdeal.main_arg2))
      (m ((c.tc : Thread Cert.KernelMcIdeal.nD Cert.KernelMcIdeal.τ).loc Cert.KernelMcIdeal.main_arg3))
      (m ((c.tc : Thread Cert.KernelMcIdeal.nD Cert.KernelMcIdeal.τ).loc Cert.KernelMcIdeal.main_arg4)),
    fun c => Cert.ReferenceMcIdeal.Read.val_main_v82 (F := Ideal) (m ((c.tc : Thread Cert.KernelMcIdeal.nD Cert.KernelMcIdeal.τ).loc Cert.KernelMcIdeal.main_arg0))
      (m ((c.tc : Thread Cert.KernelMcIdeal.nD Cert.KernelMcIdeal.τ).loc Cert.KernelMcIdeal.main_arg1))
      (m ((c.tc : Thread Cert.KernelMcIdeal.nD Cert.KernelMcIdeal.τ).loc Cert.KernelMcIdeal.main_arg2))
      (m ((c.tc : Thread Cert.KernelMcIdeal.nD Cert.KernelMcIdeal.τ).loc Cert.KernelMcIdeal.main_arg3))
      (m ((c.tc : Thread Cert.KernelMcIdeal.nD Cert.KernelMcIdeal.τ).loc Cert.KernelMcIdeal.main_arg4))
      (m ((c.tc : Thread Cert.KernelMcIdeal.nD Cert.KernelMcIdeal.τ).loc Cert.KernelMcIdeal.main_arg5)),
    fun c => Cert.ReferenceMcIdeal.Read.val_main_v44 (F := Ideal) (m ((c.tc : Thread Cert.KernelMcIdeal.nD Cert.KernelMcIdeal.τ).loc Cert.KernelMcIdeal.main_arg0))
      (m ((c.tc : Thread Cert.KernelMcIdeal.nD Cert.KernelMcIdeal.τ).loc Cert.KernelMcIdeal.main_arg1))
      (m ((c.tc : Thread Cert.KernelMcIdeal.nD Cert.KernelMcIdeal.τ).loc Cert.KernelMcIdeal.main_arg2))
      (m ((c.tc : Thread Cert.KernelMcIdeal.nD Cert.KernelMcIdeal.τ).loc Cert.KernelMcIdeal.main_arg3)),
    fun c => Cert.ReferenceMcIdeal.Read.val_main_v41 (F := Ideal) (m ((c.tc : Thread Cert.KernelMcIdeal.nD Cert.KernelMcIdeal.τ).loc Cert.KernelMcIdeal.main_arg0))
      (m ((c.tc : Thread Cert.KernelMcIdeal.nD Cert.KernelMcIdeal.τ).loc Cert.KernelMcIdeal.main_arg1))
      (m ((c.tc : Thread Cert.KernelMcIdeal.nD Cert.KernelMcIdeal.τ).loc Cert.KernelMcIdeal.main_arg2)),
    fun c => Cert.ReferenceMcIdeal.Read.val_main_v79 (F := Ideal) (m ((c.tc : Thread Cert.KernelMcIdeal.nD Cert.KernelMcIdeal.τ).loc Cert.KernelMcIdeal.main_arg0))
      (m ((c.tc : Thread Cert.KernelMcIdeal.nD Cert.KernelMcIdeal.τ).loc Cert.KernelMcIdeal.main_arg1))
      (m ((c.tc : Thread Cert.KernelMcIdeal.nD Cert.KernelMcIdeal.τ).loc Cert.KernelMcIdeal.main_arg2))
      (m ((c.tc : Thread Cert.KernelMcIdeal.nD Cert.KernelMcIdeal.τ).loc Cert.KernelMcIdeal.main_arg3))
      (m ((c.tc : Thread Cert.KernelMcIdeal.nD Cert.KernelMcIdeal.τ).loc Cert.KernelMcIdeal.main_arg4)),
    (θ_run _ _ _).mono (fun r h c => ⟨(h c).1.trans (Cert.KernelMcIdeal.Mlp.final8 m c (hf c)),
      (h c).2.1.trans (Cert.KernelMcIdeal.Mlp.final9 m c (hf c)),
      (h c).2.2.1.trans (Cert.KernelMcIdeal.Mlp.final10 m c (hf c)),
      (h c).2.2.2.1.trans (Cert.KernelMcIdeal.Mlp.final11 m c),
      (h c).2.2.2.2.1.trans (Cert.KernelMcIdeal.Mlp.final12 m c),
      (h c).2.2.2.2.2.1.trans (Cert.KernelMcIdeal.Mlp.final13 m c (hf c)),
      (h c).2.2.2.2.2.2⟩) (Cert.KernelMcIdeal.Value.run_blocks m g),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.ReferenceMcIdeal.Value.run (F := Ideal) m' g')⟩
  all_goals obtain ⟨e0, e1, e2, e3, e4, e5⟩ := he c
  · rw [Cert.ReferenceMcIdeal.Read.val_main_v70_eq (F := Ideal) m' c, e0, e1, e2, e3, e4]
  · rw [Cert.ReferenceMcIdeal.Read.val_main_v81_eq (F := Ideal) m' c, e0, e1, e2, e3, e4]
  · rw [Cert.ReferenceMcIdeal.Read.val_main_v82_eq (F := Ideal) m' c, e0, e1, e2, e3, e4, e5]
  · rw [e0, e1, e2, e3]
    exact Cert.ReferenceMcIdeal.Read.val_main_v44_eq (F := Ideal) _ _ _ _
  · rw [e0, e1, e2]
    exact Cert.ReferenceMcIdeal.Read.val_main_v41_eq (F := Ideal) _ _ _
  · rw [Cert.ReferenceMcIdeal.Read.val_main_v79_eq (F := Ideal) m' c, e0, e1, e2, e3, e4]

end Cert.Mlp

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.AttnW.State
public import proofs.«01_k».proof.Proof.Attn.State
public import proofs.«01_k».proof.Proof.Attn.Alg
public import proofs.«01_k».proof.Proof.Wg.Claims
public import proofs.«01_k».proof.Proof.Gen.KernelUp.Frame
public import proofs.«01_k».proof.Proof.Gen.KernelUpIdeal.Frame
public import proofs.«01_k».proof.Proof.Gen.ReferenceUpIdeal.Run
public import proofs.«01_k».proof.Proof.Gen.ReferenceUpIdeal.Read
public import proofs.«01_k».proof.Proof.Gen.KernelUpIdeal.Value
public import proofs.«01_k».proof.Proof.Gen.KernelDown.Frame
public import proofs.«01_k».proof.Proof.Gen.KernelDownIdeal.Frame
public import proofs.«01_k».proof.Proof.Gen.ReferenceDownIdeal.Run
public import proofs.«01_k».proof.Proof.Gen.ReferenceDownIdeal.Read
public import proofs.«01_k».proof.Proof.Gen.KernelDownIdeal.Value
public import proofs.«01_k».proof.Proof.Gen.KernelSq.Frame
public import proofs.«01_k».proof.Proof.Gen.KernelSqIdeal.Frame
public import proofs.«01_k».proof.Proof.Gen.ReferenceSqIdeal.Run
public import proofs.«01_k».proof.Proof.Gen.ReferenceSqIdeal.Read
public import proofs.«01_k».proof.Proof.Gen.KernelSqIdeal.Value
public import proofs.«01_k».proof.Proof.Gen.KernelWin.Frame
public import proofs.«01_k».proof.Proof.Gen.KernelWinIdeal.Frame
public import proofs.«01_k».proof.Proof.Gen.KernelWinIdeal.Value
public import proofs.«01_k».proof.Proof.Gen.ReferenceWinIdeal.Run
public import proofs.«01_k».proof.Proof.Gen.ReferenceWinIdeal.Read
public import proofs.«01_k».proof.Proof.Gen.KernelKv.Frame
public import proofs.«01_k».proof.Proof.Gen.KernelKvIdeal.Frame
public import proofs.«01_k».proof.Proof.Gen.KernelKvIdeal.Value
public import proofs.«01_k».proof.Proof.Gen.ReferenceKvIdeal.Run
public import proofs.«01_k».proof.Proof.Gen.ReferenceKvIdeal.Read
public import proofs.«01_k».proof.Proof.Gen.KernelProj.Frame
public import proofs.«01_k».proof.Proof.Gen.KernelProjIdeal.Frame
public import proofs.«01_k».proof.Proof.Gen.KernelProjIdeal.Value
public import proofs.«01_k».proof.Proof.Gen.ReferenceProjIdeal.Run
public import proofs.«01_k».proof.Proof.Gen.ReferenceProjIdeal.Read
public import Idealize.ShloMosaic.Adequacy
public import Idealize.ShloMosaic.Init
public import proofs.«01_k».proof.Proof.Gen.KernelFf
public import proofs.«01_k».proof.Proof.Gen.KernelFf.Frame
public import proofs.«01_k».proof.Proof.Gen.KernelFfIdeal
public import proofs.«01_k».proof.Proof.Gen.KernelFfIdeal.Frame
public import proofs.«01_k».proof.Proof.Gen.KernelFfIdeal.Value
public import proofs.«01_k».proof.Proof.Gen.ReferenceFfIdeal
public import proofs.«01_k».proof.Proof.Gen.ReferenceFfIdeal.Run
public import proofs.«01_k».proof.Proof.Gen.ReferenceFfIdeal.Read
public import proofs.«01_k».proof.Proof.Gen.KernelLn
public import proofs.«01_k».proof.Proof.Gen.KernelLn.Frame
public import proofs.«01_k».proof.Proof.Gen.KernelLnIdeal
public import proofs.«01_k».proof.Proof.Gen.KernelLnIdeal.Frame
public import proofs.«01_k».proof.Proof.Gen.KernelLnIdeal.Value
public import proofs.«01_k».proof.Proof.Gen.ReferenceLnIdeal
public import proofs.«01_k».proof.Proof.Gen.ReferenceLnIdeal.Run
public import proofs.«01_k».proof.Proof.Gen.ReferenceLnIdeal.Read
public import proofs.«01_k».proof.Proof.Gen.KernelMb
public import proofs.«01_k».proof.Proof.Gen.KernelMb.Frame
public import proofs.«01_k».proof.Proof.Gen.KernelMbIdeal
public import proofs.«01_k».proof.Proof.Gen.KernelMbIdeal.Frame
public import proofs.«01_k».proof.Proof.Gen.KernelMbIdeal.Value
public import proofs.«01_k».proof.Proof.Gen.ReferenceMbIdeal
public import proofs.«01_k».proof.Proof.Gen.ReferenceMbIdeal.Run
public import proofs.«01_k».proof.Proof.Gen.ReferenceMbIdeal.Read
public import proofs.«01_k».proof.Proof.Gen.Pre_finite_mb
public import proofs.«01_k».proof.Proof.Gen.KernelMc
public import proofs.«01_k».proof.Proof.Gen.KernelMc.Frame
public import proofs.«01_k».proof.Proof.Gen.KernelMcIdeal
public import proofs.«01_k».proof.Proof.Gen.KernelMcIdeal.Frame
public import proofs.«01_k».proof.Proof.Gen.KernelMcIdeal.Value
public import proofs.«01_k».proof.Proof.Gen.ReferenceMcIdeal
public import proofs.«01_k».proof.Proof.Gen.ReferenceMcIdeal.Run
public import proofs.«01_k».proof.Proof.Gen.ReferenceMcIdeal.Read
public import proofs.«01_k».proof.Proof.Gen.Pre_finite_mc
public import proofs.«01_k».proof.Proof.Mlp.Claims

@[expose] public section

noncomputable section

namespace Cert.Proof

open Idealize.ShloMosaic Idealize.SL.Sem Cert.Kernel

/-- Every frame; that the idealized attention kernel is the kernel with its mask value read as −∞ and, at finite arguments,
    its four results are the differentiated attention's, exactly; and that each weight gradient's result is the
    differentiated product's, exactly, at any arguments; and that each
    result of the perceptron's calls is reference.py's lines' (or their derivative's, at finite arguments), exactly. -/
theorem claim : Cert.Claim := ⟨Cert.Kernel.Gen.facts, Cert.KernelIdeal.Gen.facts, Cert.ReferenceIdeal.Gen.facts, Cert.KernelUp.Gen.facts, Cert.KernelUpIdeal.Gen.facts, Cert.ReferenceUpIdeal.Gen.facts, Cert.KernelDown.Gen.facts, Cert.KernelDownIdeal.Gen.facts, Cert.ReferenceDownIdeal.Gen.facts, Cert.KernelSq.Gen.facts, Cert.KernelSqIdeal.Gen.facts, Cert.ReferenceSqIdeal.Gen.facts, Cert.KernelWin.Gen.facts, Cert.KernelWinIdeal.Gen.facts, Cert.ReferenceWinIdeal.Gen.facts, Cert.KernelKv.Gen.facts, Cert.KernelKvIdeal.Gen.facts, Cert.ReferenceKvIdeal.Gen.facts, Cert.KernelProj.Gen.facts, Cert.KernelProjIdeal.Gen.facts, Cert.ReferenceProjIdeal.Gen.facts, Cert.KernelFf.Gen.facts, Cert.KernelFfIdeal.Gen.facts, Cert.ReferenceFfIdeal.Gen.facts, Cert.KernelLn.Gen.facts, Cert.KernelLnIdeal.Gen.facts, Cert.ReferenceLnIdeal.Gen.facts, Cert.KernelMb.Gen.facts, Cert.KernelMbIdeal.Gen.facts, Cert.ReferenceMbIdeal.Gen.facts, Cert.KernelMc.Gen.facts, Cert.KernelMcIdeal.Gen.facts, Cert.ReferenceMcIdeal.Gen.facts, Cert.Pre_finite.Gen.facts, Cert.Pre_finite_mb.Gen.facts, Cert.Pre_finite_mc.Gen.facts,
  fun m ρ _ => Cert.Kernel.Attn.frame_main m ρ, fun m ρ _ => Cert.KernelIdeal.Attn.frame_main m ρ, fun m ρ _ => Cert.KernelIdeal.Attn.frame_main m ρ,
  fun m ρ _ => (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ),
  fun m ρ _ => (θ_run Cert.ReferenceIdeal.defs _ _).mono
    (fun r h => ⟨fun c => (h c).2.2.2.2, Idealize.ShloMosaic.sem_eq_zero_of_no_sems (by decide) r.2⟩)
    (Cert.ReferenceIdeal.Value.run (F := Ideal) m ρ),
  fun m ρ _ => Cert.KernelUp.Gen.frame m ρ, fun m ρ _ => Cert.KernelUpIdeal.Gen.frame m ρ,
  fun m ρ _ => (θ_run Cert.ReferenceUpIdeal.defs _ _).mono
    (fun r h => ⟨fun c => (h c).2, Idealize.ShloMosaic.sem_eq_zero_of_no_sems (by decide) r.2⟩)
    (Cert.ReferenceUpIdeal.Value.run (F := Ideal) m ρ),
  fun m ρ _ => Cert.KernelDown.Gen.frame m ρ, fun m ρ _ => Cert.KernelDownIdeal.Gen.frame m ρ,
  fun m ρ _ => (θ_run Cert.ReferenceDownIdeal.defs _ _).mono
    (fun r h => ⟨fun c => (h c).2, Idealize.ShloMosaic.sem_eq_zero_of_no_sems (by decide) r.2⟩)
    (Cert.ReferenceDownIdeal.Value.run (F := Ideal) m ρ),
  fun m ρ _ => Cert.KernelSq.Gen.frame m ρ, fun m ρ _ => Cert.KernelSqIdeal.Gen.frame m ρ,
  fun m ρ _ => (θ_run Cert.ReferenceSqIdeal.defs _ _).mono
    (fun r h => ⟨fun c => (h c).2, Idealize.ShloMosaic.sem_eq_zero_of_no_sems (by decide) r.2⟩)
    (Cert.ReferenceSqIdeal.Value.run (F := Ideal) m ρ),
  fun m ρ _ => Cert.KernelWin.Gen.frame m ρ, fun m ρ _ => Cert.KernelWinIdeal.Gen.frame m ρ,
  fun m ρ _ => (θ_run Cert.ReferenceWinIdeal.defs _ _).mono
    (fun r h => ⟨fun c => (h c).2, Idealize.ShloMosaic.sem_eq_zero_of_no_sems (by decide) r.2⟩)
    (Cert.ReferenceWinIdeal.Value.run (F := Ideal) m ρ),
  fun m ρ _ => Cert.KernelKv.Gen.frame m ρ, fun m ρ _ => Cert.KernelKvIdeal.Gen.frame m ρ,
  fun m ρ _ => (θ_run Cert.ReferenceKvIdeal.defs _ _).mono
    (fun r h => ⟨fun c => (h c).2, Idealize.ShloMosaic.sem_eq_zero_of_no_sems (by decide) r.2⟩)
    (Cert.ReferenceKvIdeal.Value.run (F := Ideal) m ρ),
  fun m ρ _ => Cert.KernelProj.Gen.frame m ρ, fun m ρ _ => Cert.KernelProjIdeal.Gen.frame m ρ,
  fun m ρ _ => (θ_run Cert.ReferenceProjIdeal.defs _ _).mono
    (fun r h => ⟨fun c => (h c).2, Idealize.ShloMosaic.sem_eq_zero_of_no_sems (by decide) r.2⟩)
    (Cert.ReferenceProjIdeal.Value.run (F := Ideal) m ρ),
  fun m ρ _ => Cert.KernelFf.Gen.frame m ρ, fun m ρ _ => Cert.KernelFfIdeal.Gen.frame m ρ,
  fun m ρ _ => (θ_run Cert.ReferenceFfIdeal.defs _ _).mono
    (fun r h => ⟨fun c => (h c).2.2, Idealize.ShloMosaic.sem_eq_zero_of_no_sems (by decide) r.2⟩)
    (Cert.ReferenceFfIdeal.Value.run (F := Ideal) m ρ),
  fun m ρ _ => Cert.KernelLn.Gen.frame m ρ, fun m ρ _ => Cert.KernelLnIdeal.Gen.frame m ρ,
  fun m ρ _ => (θ_run Cert.ReferenceLnIdeal.defs _ _).mono
    (fun r h => ⟨fun c => (h c).2.2.2.2.2, Idealize.ShloMosaic.sem_eq_zero_of_no_sems (by decide) r.2⟩)
    (Cert.ReferenceLnIdeal.Value.run (F := Ideal) m ρ),
  fun m ρ _ => Cert.KernelMb.Gen.frame m ρ, fun m ρ _ => Cert.KernelMbIdeal.Gen.frame m ρ, fun m ρ _ => Cert.KernelMbIdeal.Gen.frame m ρ,
  fun m ρ _ => (θ_run Cert.ReferenceMbIdeal.defs _ _).mono
    (fun r h => ⟨fun c => (h c).2.2.2.2.2, Idealize.ShloMosaic.sem_eq_zero_of_no_sems (by decide) r.2⟩)
    (Cert.ReferenceMbIdeal.Value.run (F := Ideal) m ρ),
  fun m ρ _ => (θ_run Cert.ReferenceMbIdeal.defs _ _).mono
    (fun r h => ⟨fun c => (h c).2.2.2.2.2, Idealize.ShloMosaic.sem_eq_zero_of_no_sems (by decide) r.2⟩)
    (Cert.ReferenceMbIdeal.Value.run (F := Ideal) m ρ),
  fun m ρ _ => Cert.KernelMc.Gen.frame m ρ, fun m ρ _ => Cert.KernelMcIdeal.Gen.frame m ρ, fun m ρ _ => Cert.KernelMcIdeal.Gen.frame m ρ,
  fun m ρ _ => (θ_run Cert.ReferenceMcIdeal.defs _ _).mono
    (fun r h => ⟨fun c => (h c).2.2.2.2.2.2, Idealize.ShloMosaic.sem_eq_zero_of_no_sems (by decide) r.2⟩)
    (Cert.ReferenceMcIdeal.Value.run (F := Ideal) m ρ),
  fun m ρ _ => (θ_run Cert.ReferenceMcIdeal.defs _ _).mono
    (fun r h => ⟨fun c => (h c).2.2.2.2.2.2, Idealize.ShloMosaic.sem_eq_zero_of_no_sems (by decide) r.2⟩)
    (Cert.ReferenceMcIdeal.Value.run (F := Ideal) m ρ),
  IdealRules.named_const.statement Cert.KernelIdeal.κ "mask" .f32 0xF149F2CA#32 ⊥ rfl,
  Cert.Attn.algebraic, trivial, Cert.Wg.up, trivial, Cert.Wg.down, trivial, Cert.Wg.sq, trivial, Cert.Wg.win, trivial, Cert.Wg.kv,
  trivial, Cert.Wg.proj,
  trivial, Cert.Mlp.ff, trivial, Cert.Mlp.ln, trivial, Cert.Mlp.mb, trivial, Cert.Mlp.mc⟩

end Cert.Proof

end
